-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16384x2048 : Shape := ⟨2, ![16384, 2048]⟩
abbrev S4x4096x4096 : Shape := ⟨3, ![4, 4096, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S2x512x2048 : Shape := ⟨3, ![2, 512, 2048]⟩
abbrev S2 : Shape := ⟨1, ![2]⟩
abbrev S2x512x1024 : Shape := ⟨3, ![2, 512, 1024]⟩
abbrev S3x2048x1024 : Shape := ⟨3, ![3, 2048, 1024]⟩
abbrev S3 : Shape := ⟨1, ![3]⟩
abbrev S2x512x4096 : Shape := ⟨3, ![2, 512, 4096]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩
abbrev S1x2048x1024 : Shape := ⟨3, ![1, 2048, 1024]⟩
abbrev S2048x1024 : Shape := ⟨2, ![2048, 1024]⟩
abbrev S1x512x4096 : Shape := ⟨3, ![1, 512, 4096]⟩
abbrev S512x4096 : Shape := ⟨2, ![512, 4096]⟩
abbrev S512 : Shape := ⟨1, ![512]⟩
abbrev S512x1 : Shape := ⟨2, ![512, 1]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4x4096x4096, .f32⟩
  | .hbm, ⟨3, _⟩ => ⟨S4096x4096, .f32⟩
  | .hbm, ⟨4, _⟩ => ⟨S4096, .f32⟩
  | .hbm, ⟨5, _⟩ => ⟨S16384x4096, .f32⟩
  | .hbm, ⟨6, _⟩ => ⟨S4096x4096, .bf16⟩
  | .hbm, ⟨7, _⟩ => ⟨S1x4096, .f32⟩
  | .hbm, ⟨8, _⟩ => ⟨S16384x4096, .f32⟩
  | .local _ .vmem, ⟨0, _⟩ => ⟨S2x512x2048, .bf16⟩
  | .local _ .vmem, ⟨1, _⟩ => ⟨S2x512x2048, .bf16⟩
  | .local _ .vmem, ⟨2, _⟩ => ⟨S2x512x1024, .f32⟩
  | .local _ .vmem, ⟨3, _⟩ => ⟨S3x2048x1024, .bf16⟩
  | .local _ .vmem, ⟨4, _⟩ => ⟨S3x2048x1024, .bf16⟩
  | .local _ .vmem, ⟨5, _⟩ => ⟨S1x4096, .f32⟩
  | .local _ .vmem, ⟨6, _⟩ => ⟨S2x512x4096, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped11 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_38_r0 : BitVec 32 := 0#32
  let c2_i32_r0 : BitVec 32 := 2#32
  let v42_r0 : BitVec 32 := Scalar.remui c0_i32_38_r0 c2_i32_r0
  ![v42_r0.toNat]
def k0_off2 : Fin 3 → Nat :=
  let c0_i32_38_r0 : BitVec 32 := 0#32
  let c2_i32_r0 : BitVec 32 := 2#32
  let v42_r0 : BitVec 32 := Scalar.remui c0_i32_38_r0 c2_i32_r0
  let c0_i32_39_r0 : BitVec 32 := 0#32
  let c0_i32_40_r0 : BitVec 32 := 0#32
  ![v42_r0.toNat, 0, 0]
def k0_off3 : Fin 3 → Nat :=
  let c0_i32_53_r0 : BitVec 32 := 0#32
  let c2_i32_54_r0 : BitVec 32 := 2#32
  let v56_r0 : BitVec 32 := Scalar.remui c0_i32_53_r0 c2_i32_54_r0
  let c0_i32_55_r0 : BitVec 32 := 0#32
  let c0_i32_56_r0 : BitVec 32 := 0#32
  ![v56_r0.toNat, 0, 0]
def k0_off4 : Fin 1 → Nat :=
  let c0_i32_61_r0 : BitVec 32 := 0#32
  let c3_i32_62_r0 : BitVec 32 := 3#32
  let v63_r0 : BitVec 32 := Scalar.remui c0_i32_61_r0 c3_i32_62_r0
  ![v63_r0.toNat]
def k0_off5 : Fin 3 → Nat :=
  let c0_i32_61_r0 : BitVec 32 := 0#32
  let c3_i32_62_r0 : BitVec 32 := 3#32
  let v63_r0 : BitVec 32 := Scalar.remui c0_i32_61_r0 c3_i32_62_r0
  let c0_i32_63_r0 : BitVec 32 := 0#32
  let c0_i32_64_r0 : BitVec 32 := 0#32
  ![v63_r0.toNat, 0, 0]
def k0_cond1 : BitVec 1 :=
  let true_77_r0 : BitVec 1 := 1#1
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c4_i32_r0 : BitVec 32 := 4#32
  let v15_r0 : BitVec 1 := Scalar.cmpi .eq v14_r0 c4_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_76_r0 : BitVec 32 := 0#32
  let v77_r0 : BitVec 1 := Scalar.cmpi .ne v21_r0 c0_i32_76_r0
  let v78_r0 : BitVec 1 := Scalar.andi true_77_r0 v77_r0
  let true_78_r0 : BitVec 1 := 1#1
  let v79_r0 : BitVec 1 := Scalar.andi v78_r0 true_78_r0
  let v80_r0 : BitVec 32 := Scalar.extui v79_r0
  let c0_i32_79_r0 : BitVec 32 := 0#32
  let v81_r0 : BitVec 1 := Scalar.cmpi .ne v80_r0 c0_i32_79_r0
  v81_r0

def k0_off6 : Fin 1 → Nat :=
  let c0_i32_67_r0 : BitVec 32 := 0#32
  let c1_i32_68_r0 : BitVec 32 := 1#32
  let v69_r0 : BitVec 32 := Scalar.addi c0_i32_67_r0 c1_i32_68_r0
  let c3_i32_149_r0 : BitVec 32 := 3#32
  let v150_r0 : BitVec 32 := Scalar.remui v69_r0 c3_i32_149_r0
  ![v150_r0.toNat]
def k0_off7 : Fin 3 → Nat :=
  let c0_i32_67_r0 : BitVec 32 := 0#32
  let c1_i32_68_r0 : BitVec 32 := 1#32
  let v69_r0 : BitVec 32 := Scalar.addi c0_i32_67_r0 c1_i32_68_r0
  let c3_i32_149_r0 : BitVec 32 := 3#32
  let v150_r0 : BitVec 32 := Scalar.remui v69_r0 c3_i32_149_r0
  let c0_i32_150_r0 : BitVec 32 := 0#32
  let c0_i32_151_r0 : BitVec 32 := 0#32
  ![v150_r0.toNat, 0, 0]
def k0_off8 : Fin 2 → Nat :=
  let c0_i32_152_r0 : BitVec 32 := 0#32
  let c1024_i32_r0 : BitVec 32 := 1024#32
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c4_i32_r0 : BitVec 32 := 4#32
  let v15_r0 : BitVec 1 := Scalar.cmpi .eq v14_r0 c4_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let v151_r0 : BitVec 32 := Scalar.muli c1024_i32_r0 v21_r0
  ![0, v151_r0.toNat]
def k0_cond2 : BitVec 1 :=
  let true_82_r0 : BitVec 1 := 1#1
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c4_i32_r0 : BitVec 32 := 4#32
  let v15_r0 : BitVec 1 := Scalar.cmpi .eq v14_r0 c4_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_81_r0 : BitVec 32 := 0#32
  let v84_r0 : BitVec 1 := Scalar.cmpi .ne v21_r0 c0_i32_81_r0
  let v85_r0 : BitVec 1 := Scalar.andi true_82_r0 v84_r0
  let true_83_r0 : BitVec 1 := 1#1
  let v86_r0 : BitVec 1 := Scalar.andi v85_r0 true_83_r0
  let v87_r0 : BitVec 32 := Scalar.extui v86_r0
  let c0_i32_84_r0 : BitVec 32 := 0#32
  let v88_r0 : BitVec 1 := Scalar.cmpi .ne v87_r0 c0_i32_84_r0
  v88_r0

def k0_off9 : Fin 1 → Nat :=
  let c0_i32_74_r0 : BitVec 32 := 0#32
  let c1_i32_75_r0 : BitVec 32 := 1#32
  let v76_r0 : BitVec 32 := Scalar.addi c0_i32_74_r0 c1_i32_75_r0
  let c3_i32_149_r0 : BitVec 32 := 3#32
  let v150_r0 : BitVec 32 := Scalar.remui v76_r0 c3_i32_149_r0
  ![v150_r0.toNat]
def k0_off10 : Fin 3 → Nat :=
  let c0_i32_74_r0 : BitVec 32 := 0#32
  let c1_i32_75_r0 : BitVec 32 := 1#32
  let v76_r0 : BitVec 32 := Scalar.addi c0_i32_74_r0 c1_i32_75_r0
  let c3_i32_149_r0 : BitVec 32 := 3#32
  let v150_r0 : BitVec 32 := Scalar.remui v76_r0 c3_i32_149_r0
  let c0_i32_150_r0 : BitVec 32 := 0#32
  let c0_i32_151_r0 : BitVec 32 := 0#32
  ![v150_r0.toNat, 0, 0]
def k0_off11 : Fin 2 → Nat :=
  let c2048_i32_152_r0 : BitVec 32 := 2048#32
  let c1024_i32_r0 : BitVec 32 := 1024#32
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c4_i32_r0 : BitVec 32 := 4#32
  let v15_r0 : BitVec 1 := Scalar.cmpi .eq v14_r0 c4_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let v151_r0 : BitVec 32 := Scalar.muli c1024_i32_r0 v21_r0
  ![2048, v151_r0.toNat]
@[reducible] def k0_t1_loop : Scf.Loop 32 :=
  let c0_i32_97_r0 : BitVec 32 := 0#32
  let c128_i32_r0 : BitVec 32 := 128#32
  let v91_r0 : BitVec 32 := Scalar.addi c0_i32_97_r0 c128_i32_r0
  let c1_i32_98_r0 : BitVec 32 := 1#32
  ⟨c0_i32_97_r0, v91_r0, c1_i32_98_r0⟩
def k0_off12 (arg8_r0 : BitVec 32) : Fin 1 → Nat :=
  let c2_i32_297_r0 : BitVec 32 := 2#32
  let v429_r0 : BitVec 32 := Scalar.remui arg8_r0 c2_i32_297_r0
  ![v429_r0.toNat]
def k0_cond3 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c1_i32_165_r0 : BitVec 32 := 1#32
  let v168_r0 : BitVec 32 := Scalar.addi arg21_r0 c1_i32_165_r0
  let v169_r0 : BitVec 32 := Scalar.select v166_r0 v168_r0 arg21_r0
  let c32_i32_166_r0 : BitVec 32 := 32#32
  let v170_r0 : BitVec 1 := Scalar.cmpi .eq v169_r0 c32_i32_166_r0
  let c0_i32_167_r0 : BitVec 32 := 0#32
  let v171_r0 : BitVec 32 := Scalar.select v170_r0 c0_i32_167_r0 v169_r0
  let c0_i32_168_r0 : BitVec 32 := 0#32
  let v172_r0 : BitVec 32 := Scalar.addi v171_r0 c0_i32_168_r0
  let v194_r0 : BitVec 1 := Scalar.cmpi .ne v152_r0 v172_r0
  let c0_i32_97_r0 : BitVec 32 := 0#32
  let c1_i32_98_r0 : BitVec 32 := 1#32
  let arg7_r0 : BitVec 32 := Scf.iv c0_i32_97_r0 c1_i32_98_r0 k0_t1
  let c127_i32_188_r0 : BitVec 32 := 127#32
  let v195_r0 : BitVec 1 := Scalar.cmpi .sge arg7_r0 c127_i32_188_r0
  let true_189_r0 : BitVec 1 := 1#1
  let v196_r0 : BitVec 1 := Scalar.xori v195_r0 true_189_r0
  let v197_r0 : BitVec 1 := Scalar.andi v194_r0 v196_r0
  let true_190_r0 : BitVec 1 := 1#1
  let v198_r0 : BitVec 1 := Scalar.andi v197_r0 true_190_r0
  let v199_r0 : BitVec 32 := Scalar.extui v198_r0
  let c0_i32_191_r0 : BitVec 32 := 0#32
  let v200_r0 : BitVec 1 := Scalar.cmpi .ne v199_r0 c0_i32_191_r0
  v200_r0

def k0_off13 (arg8_r0 : BitVec 32) : Fin 3 → Nat :=
  let c2_i32_297_r0 : BitVec 32 := 2#32
  let v429_r0 : BitVec 32 := Scalar.remui arg8_r0 c2_i32_297_r0
  let c0_i32_299_r0 : BitVec 32 := 0#32
  let c0_i32_300_r0 : BitVec 32 := 0#32
  ![v429_r0.toNat, 0, 0]
def k0_off14 (arg21_r0 : BitVec 32) (arg22_r0 : BitVec 32) : Fin 2 → Nat :=
  let c512_i32_298_r0 : BitVec 32 := 512#32
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c1_i32_165_r0 : BitVec 32 := 1#32
  let v168_r0 : BitVec 32 := Scalar.addi arg21_r0 c1_i32_165_r0
  let v169_r0 : BitVec 32 := Scalar.select v166_r0 v168_r0 arg21_r0
  let c32_i32_166_r0 : BitVec 32 := 32#32
  let v170_r0 : BitVec 1 := Scalar.cmpi .eq v169_r0 c32_i32_166_r0
  let c0_i32_167_r0 : BitVec 32 := 0#32
  let v171_r0 : BitVec 32 := Scalar.select v170_r0 c0_i32_167_r0 v169_r0
  let c0_i32_168_r0 : BitVec 32 := 0#32
  let v172_r0 : BitVec 32 := Scalar.addi v171_r0 c0_i32_168_r0
  let v430_r0 : BitVec 32 := Scalar.muli c512_i32_298_r0 v172_r0
  let c0_i32_301_r0 : BitVec 32 := 0#32
  ![v430_r0.toNat, 0]
def k0_off15 (arg10_r0 : BitVec 32) : Fin 1 → Nat :=
  let c2_i32_297_r0 : BitVec 32 := 2#32
  let v429_r0 : BitVec 32 := Scalar.remui arg10_r0 c2_i32_297_r0
  ![v429_r0.toNat]
def k0_cond4 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c1_i32_165_r0 : BitVec 32 := 1#32
  let v168_r0 : BitVec 32 := Scalar.addi arg21_r0 c1_i32_165_r0
  let v169_r0 : BitVec 32 := Scalar.select v166_r0 v168_r0 arg21_r0
  let c32_i32_166_r0 : BitVec 32 := 32#32
  let v170_r0 : BitVec 1 := Scalar.cmpi .eq v169_r0 c32_i32_166_r0
  let c0_i32_167_r0 : BitVec 32 := 0#32
  let v171_r0 : BitVec 32 := Scalar.select v170_r0 c0_i32_167_r0 v169_r0
  let c0_i32_168_r0 : BitVec 32 := 0#32
  let v172_r0 : BitVec 32 := Scalar.addi v171_r0 c0_i32_168_r0
  let v204_r0 : BitVec 1 := Scalar.cmpi .ne v152_r0 v172_r0
  let c0_i32_97_r0 : BitVec 32 := 0#32
  let c1_i32_98_r0 : BitVec 32 := 1#32
  let arg7_r0 : BitVec 32 := Scf.iv c0_i32_97_r0 c1_i32_98_r0 k0_t1
  let c127_i32_194_r0 : BitVec 32 := 127#32
  let v205_r0 : BitVec 1 := Scalar.cmpi .sge arg7_r0 c127_i32_194_r0
  let true_195_r0 : BitVec 1 := 1#1
  let v206_r0 : BitVec 1 := Scalar.xori v205_r0 true_195_r0
  let v207_r0 : BitVec 1 := Scalar.andi v204_r0 v206_r0
  let true_196_r0 : BitVec 1 := 1#1
  let v208_r0 : BitVec 1 := Scalar.andi v207_r0 true_196_r0
  let v209_r0 : BitVec 32 := Scalar.extui v208_r0
  let c0_i32_197_r0 : BitVec 32 := 0#32
  let v210_r0 : BitVec 1 := Scalar.cmpi .ne v209_r0 c0_i32_197_r0
  v210_r0

def k0_off16 (arg10_r0 : BitVec 32) : Fin 3 → Nat :=
  let c2_i32_297_r0 : BitVec 32 := 2#32
  let v429_r0 : BitVec 32 := Scalar.remui arg10_r0 c2_i32_297_r0
  let c0_i32_299_r0 : BitVec 32 := 0#32
  let c0_i32_300_r0 : BitVec 32 := 0#32
  ![v429_r0.toNat, 0, 0]
def k0_off17 (arg21_r0 : BitVec 32) (arg22_r0 : BitVec 32) : Fin 2 → Nat :=
  let c512_i32_298_r0 : BitVec 32 := 512#32
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c1_i32_165_r0 : BitVec 32 := 1#32
  let v168_r0 : BitVec 32 := Scalar.addi arg21_r0 c1_i32_165_r0
  let v169_r0 : BitVec 32 := Scalar.select v166_r0 v168_r0 arg21_r0
  let c32_i32_166_r0 : BitVec 32 := 32#32
  let v170_r0 : BitVec 1 := Scalar.cmpi .eq v169_r0 c32_i32_166_r0
  let c0_i32_167_r0 : BitVec 32 := 0#32
  let v171_r0 : BitVec 32 := Scalar.select v170_r0 c0_i32_167_r0 v169_r0
  let c0_i32_168_r0 : BitVec 32 := 0#32
  let v172_r0 : BitVec 32 := Scalar.addi v171_r0 c0_i32_168_r0
  let v430_r0 : BitVec 32 := Scalar.muli c512_i32_298_r0 v172_r0
  let c0_i32_301_r0 : BitVec 32 := 0#32
  ![v430_r0.toNat, 0]
def k0_off18 (arg12_r0 : BitVec 32) : Fin 1 → Nat :=
  let c2_i32_297_r0 : BitVec 32 := 2#32
  let v429_r0 : BitVec 32 := Scalar.remui arg12_r0 c2_i32_297_r0
  ![v429_r0.toNat]
def k0_cond5 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c1_i32_165_r0 : BitVec 32 := 1#32
  let v168_r0 : BitVec 32 := Scalar.addi arg21_r0 c1_i32_165_r0
  let v169_r0 : BitVec 32 := Scalar.select v166_r0 v168_r0 arg21_r0
  let c32_i32_166_r0 : BitVec 32 := 32#32
  let v170_r0 : BitVec 1 := Scalar.cmpi .eq v169_r0 c32_i32_166_r0
  let c0_i32_167_r0 : BitVec 32 := 0#32
  let v171_r0 : BitVec 32 := Scalar.select v170_r0 c0_i32_167_r0 v169_r0
  let c0_i32_168_r0 : BitVec 32 := 0#32
  let v172_r0 : BitVec 32 := Scalar.addi v171_r0 c0_i32_168_r0
  let v214_r0 : BitVec 1 := Scalar.cmpi .ne v152_r0 v172_r0
  let c0_i32_151_r0 : BitVec 32 := 0#32
  let v153_r0 : BitVec 32 := Scalar.addi arg22_r0 c0_i32_151_r0
  let c0_i32_164_r0 : BitVec 32 := 0#32
  let v167_r0 : BitVec 32 := Scalar.select v166_r0 c0_i32_164_r0 v165_r0
  let c0_i32_169_r0 : BitVec 32 := 0#32
  let v173_r0 : BitVec 32 := Scalar.addi v167_r0 c0_i32_169_r0
  let v215_r0 : BitVec 1 := Scalar.cmpi .ne v153_r0 v173_r0
  let v216_r0 : BitVec 1 := Scalar.ori v214_r0 v215_r0
  let c0_i32_97_r0 : BitVec 32 := 0#32
  let c1_i32_98_r0 : BitVec 32 := 1#32
  let arg7_r0 : BitVec 32 := Scf.iv c0_i32_97_r0 c1_i32_98_r0 k0_t1
  let c127_i32_200_r0 : BitVec 32 := 127#32
  let v217_r0 : BitVec 1 := Scalar.cmpi .sge arg7_r0 c127_i32_200_r0
  let true_201_r0 : BitVec 1 := 1#1
  let v218_r0 : BitVec 1 := Scalar.xori v217_r0 true_201_r0
  let v219_r0 : BitVec 1 := Scalar.andi v216_r0 v218_r0
  let true_202_r0 : BitVec 1 := 1#1
  let v220_r0 : BitVec 1 := Scalar.andi v219_r0 true_202_r0
  let v221_r0 : BitVec 32 := Scalar.extui v220_r0
  let c0_i32_203_r0 : BitVec 32 := 0#32
  let v222_r0 : BitVec 1 := Scalar.cmpi .ne v221_r0 c0_i32_203_r0
  v222_r0

def k0_off19 (arg12_r0 : BitVec 32) : Fin 3 → Nat :=
  let c2_i32_297_r0 : BitVec 32 := 2#32
  let v429_r0 : BitVec 32 := Scalar.remui arg12_r0 c2_i32_297_r0
  let c0_i32_300_r0 : BitVec 32 := 0#32
  let c0_i32_301_r0 : BitVec 32 := 0#32
  ![v429_r0.toNat, 0, 0]
def k0_off20 (arg21_r0 : BitVec 32) (arg22_r0 : BitVec 32) : Fin 2 → Nat :=
  let c512_i32_298_r0 : BitVec 32 := 512#32
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c1_i32_165_r0 : BitVec 32 := 1#32
  let v168_r0 : BitVec 32 := Scalar.addi arg21_r0 c1_i32_165_r0
  let v169_r0 : BitVec 32 := Scalar.select v166_r0 v168_r0 arg21_r0
  let c32_i32_166_r0 : BitVec 32 := 32#32
  let v170_r0 : BitVec 1 := Scalar.cmpi .eq v169_r0 c32_i32_166_r0
  let c0_i32_167_r0 : BitVec 32 := 0#32
  let v171_r0 : BitVec 32 := Scalar.select v170_r0 c0_i32_167_r0 v169_r0
  let c0_i32_168_r0 : BitVec 32 := 0#32
  let v172_r0 : BitVec 32 := Scalar.addi v171_r0 c0_i32_168_r0
  let v430_r0 : BitVec 32 := Scalar.muli c512_i32_298_r0 v172_r0
  let c1024_i32_299_r0 : BitVec 32 := 1024#32
  let c0_i32_164_r0 : BitVec 32 := 0#32
  let v167_r0 : BitVec 32 := Scalar.select v166_r0 c0_i32_164_r0 v165_r0
  let c0_i32_169_r0 : BitVec 32 := 0#32
  let v173_r0 : BitVec 32 := Scalar.addi v167_r0 c0_i32_169_r0
  let v431_r0 : BitVec 32 := Scalar.muli c1024_i32_299_r0 v173_r0
  ![v430_r0.toNat, v431_r0.toNat]
def k0_off21 (arg14_r0 : BitVec 32) : Fin 1 → Nat :=
  let c3_i32_297_r0 : BitVec 32 := 3#32
  let v429_r0 : BitVec 32 := Scalar.remui arg14_r0 c3_i32_297_r0
  ![v429_r0.toNat]
def k0_cond6 (k0_t1 : Fin k0_t1_loop.trips) (arg22_r0 : BitVec 32) : BitVec 1 :=
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c0_i32_164_r0 : BitVec 32 := 0#32
  let v167_r0 : BitVec 32 := Scalar.select v166_r0 c0_i32_164_r0 v165_r0
  let c0_i32_169_r0 : BitVec 32 := 0#32
  let v173_r0 : BitVec 32 := Scalar.addi v167_r0 c0_i32_169_r0
  let true_171_r0 : BitVec 1 := 1#1
  let c1_i32_170_r0 : BitVec 32 := 1#32
  let v174_r0 : BitVec 32 := Scalar.addi v167_r0 c1_i32_170_r0
  let v175_r0 : BitVec 32 := Scalar.select true_171_r0 v174_r0 v167_r0
  let c4_i32_172_r0 : BitVec 32 := 4#32
  let v176_r0 : BitVec 1 := Scalar.cmpi .eq v175_r0 c4_i32_172_r0
  let c0_i32_173_r0 : BitVec 32 := 0#32
  let v177_r0 : BitVec 32 := Scalar.select v176_r0 c0_i32_173_r0 v175_r0
  let c0_i32_178_r0 : BitVec 32 := 0#32
  let v183_r0 : BitVec 32 := Scalar.addi v177_r0 c0_i32_178_r0
  let v226_r0 : BitVec 1 := Scalar.cmpi .ne v173_r0 v183_r0
  let c0_i32_97_r0 : BitVec 32 := 0#32
  let c1_i32_98_r0 : BitVec 32 := 1#32
  let arg7_r0 : BitVec 32 := Scf.iv c0_i32_97_r0 c1_i32_98_r0 k0_t1
  let c126_i32_r0 : BitVec 32 := 126#32
  let v227_r0 : BitVec 1 := Scalar.cmpi .sge arg7_r0 c126_i32_r0
  let true_206_r0 : BitVec 1 := 1#1
  let v228_r0 : BitVec 1 := Scalar.xori v227_r0 true_206_r0
  let v229_r0 : BitVec 1 := Scalar.andi v226_r0 v228_r0
  let true_207_r0 : BitVec 1 := 1#1
  let v230_r0 : BitVec 1 := Scalar.andi v229_r0 true_207_r0
  let v231_r0 : BitVec 32 := Scalar.extui v230_r0
  let c0_i32_208_r0 : BitVec 32 := 0#32
  let v232_r0 : BitVec 1 := Scalar.cmpi .ne v231_r0 c0_i32_208_r0
  v232_r0

def k0_off22 (arg14_r0 : BitVec 32) : Fin 3 → Nat :=
  let c3_i32_297_r0 : BitVec 32 := 3#32
  let v429_r0 : BitVec 32 := Scalar.remui arg14_r0 c3_i32_297_r0
  let c0_i32_299_r0 : BitVec 32 := 0#32
  let c0_i32_300_r0 : BitVec 32 := 0#32
  ![v429_r0.toNat, 0, 0]
def k0_off23 (arg22_r0 : BitVec 32) : Fin 2 → Nat :=
  let c0_i32_301_r0 : BitVec 32 := 0#32
  let c1024_i32_298_r0 : BitVec 32 := 1024#32
  let true_171_r0 : BitVec 1 := 1#1
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c0_i32_164_r0 : BitVec 32 := 0#32
  let v167_r0 : BitVec 32 := Scalar.select v166_r0 c0_i32_164_r0 v165_r0
  let c1_i32_170_r0 : BitVec 32 := 1#32
  let v174_r0 : BitVec 32 := Scalar.addi v167_r0 c1_i32_170_r0
  let v175_r0 : BitVec 32 := Scalar.select true_171_r0 v174_r0 v167_r0
  let c4_i32_172_r0 : BitVec 32 := 4#32
  let v176_r0 : BitVec 1 := Scalar.cmpi .eq v175_r0 c4_i32_172_r0
  let c0_i32_173_r0 : BitVec 32 := 0#32
  let v177_r0 : BitVec 32 := Scalar.select v176_r0 c0_i32_173_r0 v175_r0
  let c0_i32_178_r0 : BitVec 32 := 0#32
  let v183_r0 : BitVec 32 := Scalar.addi v177_r0 c0_i32_178_r0
  let v430_r0 : BitVec 32 := Scalar.muli c1024_i32_298_r0 v183_r0
  ![0, v430_r0.toNat]
def k0_off24 (arg16_r0 : BitVec 32) : Fin 1 → Nat :=
  let c3_i32_297_r0 : BitVec 32 := 3#32
  let v429_r0 : BitVec 32 := Scalar.remui arg16_r0 c3_i32_297_r0
  ![v429_r0.toNat]
def k0_cond7 (k0_t1 : Fin k0_t1_loop.trips) (arg22_r0 : BitVec 32) : BitVec 1 :=
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c0_i32_164_r0 : BitVec 32 := 0#32
  let v167_r0 : BitVec 32 := Scalar.select v166_r0 c0_i32_164_r0 v165_r0
  let c0_i32_169_r0 : BitVec 32 := 0#32
  let v173_r0 : BitVec 32 := Scalar.addi v167_r0 c0_i32_169_r0
  let true_171_r0 : BitVec 1 := 1#1
  let c1_i32_170_r0 : BitVec 32 := 1#32
  let v174_r0 : BitVec 32 := Scalar.addi v167_r0 c1_i32_170_r0
  let v175_r0 : BitVec 32 := Scalar.select true_171_r0 v174_r0 v167_r0
  let c4_i32_172_r0 : BitVec 32 := 4#32
  let v176_r0 : BitVec 1 := Scalar.cmpi .eq v175_r0 c4_i32_172_r0
  let c0_i32_173_r0 : BitVec 32 := 0#32
  let v177_r0 : BitVec 32 := Scalar.select v176_r0 c0_i32_173_r0 v175_r0
  let c0_i32_178_r0 : BitVec 32 := 0#32
  let v183_r0 : BitVec 32 := Scalar.addi v177_r0 c0_i32_178_r0
  let v236_r0 : BitVec 1 := Scalar.cmpi .ne v173_r0 v183_r0
  let c0_i32_97_r0 : BitVec 32 := 0#32
  let c1_i32_98_r0 : BitVec 32 := 1#32
  let arg7_r0 : BitVec 32 := Scf.iv c0_i32_97_r0 c1_i32_98_r0 k0_t1
  let c126_i32_211_r0 : BitVec 32 := 126#32
  let v237_r0 : BitVec 1 := Scalar.cmpi .sge arg7_r0 c126_i32_211_r0
  let true_212_r0 : BitVec 1 := 1#1
  let v238_r0 : BitVec 1 := Scalar.xori v237_r0 true_212_r0
  let v239_r0 : BitVec 1 := Scalar.andi v236_r0 v238_r0
  let true_213_r0 : BitVec 1 := 1#1
  let v240_r0 : BitVec 1 := Scalar.andi v239_r0 true_213_r0
  let v241_r0 : BitVec 32 := Scalar.extui v240_r0
  let c0_i32_214_r0 : BitVec 32 := 0#32
  let v242_r0 : BitVec 1 := Scalar.cmpi .ne v241_r0 c0_i32_214_r0
  v242_r0

def k0_off25 (arg16_r0 : BitVec 32) : Fin 3 → Nat :=
  let c3_i32_297_r0 : BitVec 32 := 3#32
  let v429_r0 : BitVec 32 := Scalar.remui arg16_r0 c3_i32_297_r0
  let c0_i32_299_r0 : BitVec 32 := 0#32
  let c0_i32_300_r0 : BitVec 32 := 0#32
  ![v429_r0.toNat, 0, 0]
def k0_off26 (arg22_r0 : BitVec 32) : Fin 2 → Nat :=
  let c2048_i32_301_r0 : BitVec 32 := 2048#32
  let c1024_i32_298_r0 : BitVec 32 := 1024#32
  let true_171_r0 : BitVec 1 := 1#1
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c0_i32_164_r0 : BitVec 32 := 0#32
  let v167_r0 : BitVec 32 := Scalar.select v166_r0 c0_i32_164_r0 v165_r0
  let c1_i32_170_r0 : BitVec 32 := 1#32
  let v174_r0 : BitVec 32 := Scalar.addi v167_r0 c1_i32_170_r0
  let v175_r0 : BitVec 32 := Scalar.select true_171_r0 v174_r0 v167_r0
  let c4_i32_172_r0 : BitVec 32 := 4#32
  let v176_r0 : BitVec 1 := Scalar.cmpi .eq v175_r0 c4_i32_172_r0
  let c0_i32_173_r0 : BitVec 32 := 0#32
  let v177_r0 : BitVec 32 := Scalar.select v176_r0 c0_i32_173_r0 v175_r0
  let c0_i32_178_r0 : BitVec 32 := 0#32
  let v183_r0 : BitVec 32 := Scalar.addi v177_r0 c0_i32_178_r0
  let v430_r0 : BitVec 32 := Scalar.muli c1024_i32_298_r0 v183_r0
  ![2048, v430_r0.toNat]
def k0_off27 (arg9_r0 : BitVec 32) : Fin 1 → Nat :=
  let c2_i32_298_r0 : BitVec 32 := 2#32
  let v430_r0 : BitVec 32 := Scalar.remui arg9_r0 c2_i32_298_r0
  ![v430_r0.toNat]
def k0_cond8 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_153_r0 : BitVec 1 := 1#1
  let c1_i32_152_r0 : BitVec 32 := 1#32
  let v154_r0 : BitVec 32 := Scalar.subi arg22_r0 c1_i32_152_r0
  let v155_r0 : BitVec 32 := Scalar.select true_153_r0 v154_r0 arg22_r0
  let c_m1_i32_154_r0 : BitVec 32 := 4294967295#32
  let v156_r0 : BitVec 1 := Scalar.cmpi .eq v155_r0 c_m1_i32_154_r0
  let c1_i32_156_r0 : BitVec 32 := 1#32
  let v158_r0 : BitVec 32 := Scalar.subi arg21_r0 c1_i32_156_r0
  let v159_r0 : BitVec 32 := Scalar.select v156_r0 v158_r0 arg21_r0
  let c_m1_i32_157_r0 : BitVec 32 := 4294967295#32
  let v160_r0 : BitVec 1 := Scalar.cmpi .eq v159_r0 c_m1_i32_157_r0
  let c31_i32_158_r0 : BitVec 32 := 31#32
  let v161_r0 : BitVec 32 := Scalar.select v160_r0 c31_i32_158_r0 v159_r0
  let c0_i32_159_r0 : BitVec 32 := 0#32
  let v162_r0 : BitVec 32 := Scalar.addi v161_r0 c0_i32_159_r0
  let v250_r0 : BitVec 1 := Scalar.cmpi .ne v152_r0 v162_r0
  let c0_i32_97_r0 : BitVec 32 := 0#32
  let c1_i32_98_r0 : BitVec 32 := 1#32
  let arg7_r0 : BitVec 32 := Scf.iv c0_i32_97_r0 c1_i32_98_r0 k0_t1
  let c0_i32_149_r0 : BitVec 32 := 0#32
  let v150_r0 : BitVec 1 := Scalar.cmpi .eq arg7_r0 c0_i32_149_r0
  let v251_r0 : BitVec 1 := Scalar.ori v250_r0 v150_r0
  let c0_i32_219_r0 : BitVec 32 := 0#32
  let v252_r0 : BitVec 1 := Scalar.cmpi .sge arg7_r0 c0_i32_219_r0
  let v253_r0 : BitVec 1 := Scalar.andi v251_r0 v252_r0
  let v254_r0 : BitVec 32 := Scalar.extui v253_r0
  let c0_i32_220_r0 : BitVec 32 := 0#32
  let v255_r0 : BitVec 1 := Scalar.cmpi .ne v254_r0 c0_i32_220_r0
  v255_r0

def k0_off28 (arg9_r0 : BitVec 32) : Fin 3 → Nat :=
  let c2_i32_298_r0 : BitVec 32 := 2#32
  let v430_r0 : BitVec 32 := Scalar.remui arg9_r0 c2_i32_298_r0
  let c0_i32_299_r0 : BitVec 32 := 0#32
  let c0_i32_300_r0 : BitVec 32 := 0#32
  ![v430_r0.toNat, 0, 0]
def k0_off29 (arg21_r0 : BitVec 32) : Fin 2 → Nat :=
  let c512_i32_297_r0 : BitVec 32 := 512#32
  let c0_i32_150_r0 : BitVec 32 := 0#32
  let v152_r0 : BitVec 32 := Scalar.addi arg21_r0 c0_i32_150_r0
  let v429_r0 : BitVec 32 := Scalar.muli c512_i32_297_r0 v152_r0
  let c0_i32_301_r0 : BitVec 32 := 0#32
  ![v429_r0.toNat, 0]
def k0_off30 (arg11_r0 : BitVec 32) : Fin 1 → Nat :=
  let c2_i32_298_r0 : BitVec 32 := 2#32
  let v430_r0 : BitVec 32 := Scalar.remui arg11_r0 c2_i32_298_r0
  ![v430_r0.toNat]
def k0_cond9 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_153_r0 : BitVec 1 := 1#1
  let c1_i32_152_r0 : BitVec 32 := 1#32
  let v154_r0 : BitVec 32 := Scalar.subi arg22_r0 c1_i32_152_r0
  let v155_r0 : BitVec 32 := Scalar.select true_153_r0 v154_r0 arg22_r0
  let c_m1_i32_154_r0 : BitVec 32 := 4294967295#32
  let v156_r0 : BitVec 1 := Scalar.cmpi .eq v155_r0 c_m1_i32_154_r0
  let c1_i32_156_r0 : BitVec 32 := 1#32
  let v158_r0 : BitVec 32 := Scalar.subi arg21_r0 c1_i32_156_r0
  let v159_r0 : BitVec 32 := Scalar.select v156_r0 v158_r0 arg21_r0
  let c_m1_i32_157_r0 : BitVec 32 := 4294967295#32
  let v160_r0 : BitVec 1 := Scalar.cmpi .eq v159_r0 c_m1_i32_157_r0
  let c31_i32_158_r0 : BitVec 32 := 31#32
  let v161_r0 : BitVec 32 := Scalar.select v160_r0 c31_i32_158_r0 v159_r0
  let c0_i32_159_r0 : BitVec 32 := 0#32
  let v162_r0 : BitVec 32 := Scalar.addi v161_r0 c0_i32_159_r0
  let v256_r0 : BitVec 1 := Scalar.cmpi .ne v152_r0 v162_r0
  let c0_i32_97_r0 : BitVec 32 := 0#32
  let c1_i32_98_r0 : BitVec 32 := 1#32
  let arg7_r0 : BitVec 32 := Scf.iv c0_i32_97_r0 c1_i32_98_r0 k0_t1
  let c0_i32_149_r0 : BitVec 32 := 0#32
  let v150_r0 : BitVec 1 := Scalar.cmpi .eq arg7_r0 c0_i32_149_r0
  let v257_r0 : BitVec 1 := Scalar.ori v256_r0 v150_r0
  let c0_i32_221_r0 : BitVec 32 := 0#32
  let v258_r0 : BitVec 1 := Scalar.cmpi .sge arg7_r0 c0_i32_221_r0
  let v259_r0 : BitVec 1 := Scalar.andi v257_r0 v258_r0
  let v260_r0 : BitVec 32 := Scalar.extui v259_r0
  let c0_i32_222_r0 : BitVec 32 := 0#32
  let v261_r0 : BitVec 1 := Scalar.cmpi .ne v260_r0 c0_i32_222_r0
  v261_r0

def k0_off31 (arg11_r0 : BitVec 32) : Fin 3 → Nat :=
  let c2_i32_298_r0 : BitVec 32 := 2#32
  let v430_r0 : BitVec 32 := Scalar.remui arg11_r0 c2_i32_298_r0
  let c0_i32_299_r0 : BitVec 32 := 0#32
  let c0_i32_300_r0 : BitVec 32 := 0#32
  ![v430_r0.toNat, 0, 0]
def k0_off32 (arg21_r0 : BitVec 32) : Fin 2 → Nat :=
  let c512_i32_297_r0 : BitVec 32 := 512#32
  let c0_i32_150_r0 : BitVec 32 := 0#32
  let v152_r0 : BitVec 32 := Scalar.addi arg21_r0 c0_i32_150_r0
  let v429_r0 : BitVec 32 := Scalar.muli c512_i32_297_r0 v152_r0
  let c0_i32_301_r0 : BitVec 32 := 0#32
  ![v429_r0.toNat, 0]
def k0_off33 (arg13_r0 : BitVec 32) : Fin 1 → Nat :=
  let c2_i32_299_r0 : BitVec 32 := 2#32
  let v431_r0 : BitVec 32 := Scalar.remui arg13_r0 c2_i32_299_r0
  ![v431_r0.toNat]
def k0_cond10 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_153_r0 : BitVec 1 := 1#1
  let c1_i32_152_r0 : BitVec 32 := 1#32
  let v154_r0 : BitVec 32 := Scalar.subi arg22_r0 c1_i32_152_r0
  let v155_r0 : BitVec 32 := Scalar.select true_153_r0 v154_r0 arg22_r0
  let c_m1_i32_154_r0 : BitVec 32 := 4294967295#32
  let v156_r0 : BitVec 1 := Scalar.cmpi .eq v155_r0 c_m1_i32_154_r0
  let c1_i32_156_r0 : BitVec 32 := 1#32
  let v158_r0 : BitVec 32 := Scalar.subi arg21_r0 c1_i32_156_r0
  let v159_r0 : BitVec 32 := Scalar.select v156_r0 v158_r0 arg21_r0
  let c_m1_i32_157_r0 : BitVec 32 := 4294967295#32
  let v160_r0 : BitVec 1 := Scalar.cmpi .eq v159_r0 c_m1_i32_157_r0
  let c31_i32_158_r0 : BitVec 32 := 31#32
  let v161_r0 : BitVec 32 := Scalar.select v160_r0 c31_i32_158_r0 v159_r0
  let c0_i32_159_r0 : BitVec 32 := 0#32
  let v162_r0 : BitVec 32 := Scalar.addi v161_r0 c0_i32_159_r0
  let v262_r0 : BitVec 1 := Scalar.cmpi .ne v152_r0 v162_r0
  let c0_i32_151_r0 : BitVec 32 := 0#32
  let v153_r0 : BitVec 32 := Scalar.addi arg22_r0 c0_i32_151_r0
  let c3_i32_155_r0 : BitVec 32 := 3#32
  let v157_r0 : BitVec 32 := Scalar.select v156_r0 c3_i32_155_r0 v155_r0
  let c0_i32_160_r0 : BitVec 32 := 0#32
  let v163_r0 : BitVec 32 := Scalar.addi v157_r0 c0_i32_160_r0
  let v263_r0 : BitVec 1 := Scalar.cmpi .ne v153_r0 v163_r0
  let v264_r0 : BitVec 1 := Scalar.ori v262_r0 v263_r0
  let c0_i32_97_r0 : BitVec 32 := 0#32
  let c1_i32_98_r0 : BitVec 32 := 1#32
  let arg7_r0 : BitVec 32 := Scf.iv c0_i32_97_r0 c1_i32_98_r0 k0_t1
  let c0_i32_149_r0 : BitVec 32 := 0#32
  let v150_r0 : BitVec 1 := Scalar.cmpi .eq arg7_r0 c0_i32_149_r0
  let v265_r0 : BitVec 1 := Scalar.ori v264_r0 v150_r0
  let c0_i32_223_r0 : BitVec 32 := 0#32
  let v266_r0 : BitVec 1 := Scalar.cmpi .sge arg7_r0 c0_i32_223_r0
  let v267_r0 : BitVec 1 := Scalar.andi v265_r0 v266_r0
  let v268_r0 : BitVec 32 := Scalar.extui v267_r0
  let c0_i32_224_r0 : BitVec 32 := 0#32
  let v269_r0 : BitVec 1 := Scalar.cmpi .ne v268_r0 c0_i32_224_r0
  v269_r0

def k0_off34 (arg13_r0 : BitVec 32) : Fin 3 → Nat :=
  let c2_i32_299_r0 : BitVec 32 := 2#32
  let v431_r0 : BitVec 32 := Scalar.remui arg13_r0 c2_i32_299_r0
  let c0_i32_300_r0 : BitVec 32 := 0#32
  let c0_i32_301_r0 : BitVec 32 := 0#32
  ![v431_r0.toNat, 0, 0]
def k0_off35 (arg21_r0 : BitVec 32) (arg22_r0 : BitVec 32) : Fin 2 → Nat :=
  let c512_i32_297_r0 : BitVec 32 := 512#32
  let c0_i32_150_r0 : BitVec 32 := 0#32
  let v152_r0 : BitVec 32 := Scalar.addi arg21_r0 c0_i32_150_r0
  let v429_r0 : BitVec 32 := Scalar.muli c512_i32_297_r0 v152_r0
  let c1024_i32_298_r0 : BitVec 32 := 1024#32
  let c0_i32_151_r0 : BitVec 32 := 0#32
  let v153_r0 : BitVec 32 := Scalar.addi arg22_r0 c0_i32_151_r0
  let v430_r0 : BitVec 32 := Scalar.muli c1024_i32_298_r0 v153_r0
  ![v429_r0.toNat, v430_r0.toNat]
def k0_off36 (arg15_r0 : BitVec 32) : Fin 1 → Nat :=
  let c3_i32_298_r0 : BitVec 32 := 3#32
  let v430_r0 : BitVec 32 := Scalar.remui arg15_r0 c3_i32_298_r0
  ![v430_r0.toNat]
def k0_cond11 (k0_t1 : Fin k0_t1_loop.trips) (arg22_r0 : BitVec 32) : BitVec 1 :=
  let c0_i32_151_r0 : BitVec 32 := 0#32
  let v153_r0 : BitVec 32 := Scalar.addi arg22_r0 c0_i32_151_r0
  let true_153_r0 : BitVec 1 := 1#1
  let c1_i32_152_r0 : BitVec 32 := 1#32
  let v154_r0 : BitVec 32 := Scalar.subi arg22_r0 c1_i32_152_r0
  let v155_r0 : BitVec 32 := Scalar.select true_153_r0 v154_r0 arg22_r0
  let c_m1_i32_154_r0 : BitVec 32 := 4294967295#32
  let v156_r0 : BitVec 1 := Scalar.cmpi .eq v155_r0 c_m1_i32_154_r0
  let c3_i32_155_r0 : BitVec 32 := 3#32
  let v157_r0 : BitVec 32 := Scalar.select v156_r0 c3_i32_155_r0 v155_r0
  let c0_i32_160_r0 : BitVec 32 := 0#32
  let v163_r0 : BitVec 32 := Scalar.addi v157_r0 c0_i32_160_r0
  let v270_r0 : BitVec 1 := Scalar.cmpi .ne v153_r0 v163_r0
  let c0_i32_97_r0 : BitVec 32 := 0#32
  let c1_i32_98_r0 : BitVec 32 := 1#32
  let arg7_r0 : BitVec 32 := Scf.iv c0_i32_97_r0 c1_i32_98_r0 k0_t1
  let c0_i32_149_r0 : BitVec 32 := 0#32
  let v150_r0 : BitVec 1 := Scalar.cmpi .eq arg7_r0 c0_i32_149_r0
  let v271_r0 : BitVec 1 := Scalar.ori v270_r0 v150_r0
  let c0_i32_225_r0 : BitVec 32 := 0#32
  let v272_r0 : BitVec 1 := Scalar.cmpi .sge arg7_r0 c0_i32_225_r0
  let v273_r0 : BitVec 1 := Scalar.andi v271_r0 v272_r0
  let v274_r0 : BitVec 32 := Scalar.extui v273_r0
  let c0_i32_226_r0 : BitVec 32 := 0#32
  let v275_r0 : BitVec 1 := Scalar.cmpi .ne v274_r0 c0_i32_226_r0
  v275_r0

def k0_off37 (arg15_r0 : BitVec 32) : Fin 3 → Nat :=
  let c3_i32_298_r0 : BitVec 32 := 3#32
  let v430_r0 : BitVec 32 := Scalar.remui arg15_r0 c3_i32_298_r0
  let c0_i32_299_r0 : BitVec 32 := 0#32
  let c0_i32_300_r0 : BitVec 32 := 0#32
  ![v430_r0.toNat, 0, 0]
def k0_off38 (arg22_r0 : BitVec 32) : Fin 2 → Nat :=
  let c0_i32_301_r0 : BitVec 32 := 0#32
  let c1024_i32_297_r0 : BitVec 32 := 1024#32
  let c0_i32_151_r0 : BitVec 32 := 0#32
  let v153_r0 : BitVec 32 := Scalar.addi arg22_r0 c0_i32_151_r0
  let v429_r0 : BitVec 32 := Scalar.muli c1024_i32_297_r0 v153_r0
  ![0, v429_r0.toNat]
def k0_off39 (arg17_r0 : BitVec 32) : Fin 1 → Nat :=
  let c3_i32_298_r0 : BitVec 32 := 3#32
  let v430_r0 : BitVec 32 := Scalar.remui arg17_r0 c3_i32_298_r0
  ![v430_r0.toNat]
def k0_cond12 (k0_t1 : Fin k0_t1_loop.trips) (arg22_r0 : BitVec 32) : BitVec 1 :=
  let c0_i32_151_r0 : BitVec 32 := 0#32
  let v153_r0 : BitVec 32 := Scalar.addi arg22_r0 c0_i32_151_r0
  let true_153_r0 : BitVec 1 := 1#1
  let c1_i32_152_r0 : BitVec 32 := 1#32
  let v154_r0 : BitVec 32 := Scalar.subi arg22_r0 c1_i32_152_r0
  let v155_r0 : BitVec 32 := Scalar.select true_153_r0 v154_r0 arg22_r0
  let c_m1_i32_154_r0 : BitVec 32 := 4294967295#32
  let v156_r0 : BitVec 1 := Scalar.cmpi .eq v155_r0 c_m1_i32_154_r0
  let c3_i32_155_r0 : BitVec 32 := 3#32
  let v157_r0 : BitVec 32 := Scalar.select v156_r0 c3_i32_155_r0 v155_r0
  let c0_i32_160_r0 : BitVec 32 := 0#32
  let v163_r0 : BitVec 32 := Scalar.addi v157_r0 c0_i32_160_r0
  let v276_r0 : BitVec 1 := Scalar.cmpi .ne v153_r0 v163_r0
  let c0_i32_97_r0 : BitVec 32 := 0#32
  let c1_i32_98_r0 : BitVec 32 := 1#32
  let arg7_r0 : BitVec 32 := Scf.iv c0_i32_97_r0 c1_i32_98_r0 k0_t1
  let c0_i32_149_r0 : BitVec 32 := 0#32
  let v150_r0 : BitVec 1 := Scalar.cmpi .eq arg7_r0 c0_i32_149_r0
  let v277_r0 : BitVec 1 := Scalar.ori v276_r0 v150_r0
  let c0_i32_227_r0 : BitVec 32 := 0#32
  let v278_r0 : BitVec 1 := Scalar.cmpi .sge arg7_r0 c0_i32_227_r0
  let v279_r0 : BitVec 1 := Scalar.andi v277_r0 v278_r0
  let v280_r0 : BitVec 32 := Scalar.extui v279_r0
  let c0_i32_228_r0 : BitVec 32 := 0#32
  let v281_r0 : BitVec 1 := Scalar.cmpi .ne v280_r0 c0_i32_228_r0
  v281_r0

def k0_off40 (arg17_r0 : BitVec 32) : Fin 3 → Nat :=
  let c3_i32_298_r0 : BitVec 32 := 3#32
  let v430_r0 : BitVec 32 := Scalar.remui arg17_r0 c3_i32_298_r0
  let c0_i32_299_r0 : BitVec 32 := 0#32
  let c0_i32_300_r0 : BitVec 32 := 0#32
  ![v430_r0.toNat, 0, 0]
def k0_off41 (arg22_r0 : BitVec 32) : Fin 2 → Nat :=
  let c2048_i32_301_r0 : BitVec 32 := 2048#32
  let c1024_i32_297_r0 : BitVec 32 := 1024#32
  let c0_i32_151_r0 : BitVec 32 := 0#32
  let v153_r0 : BitVec 32 := Scalar.addi arg22_r0 c0_i32_151_r0
  let v429_r0 : BitVec 32 := Scalar.muli c1024_i32_297_r0 v153_r0
  ![2048, v429_r0.toNat]
def k0_off42 (arg13_r0 : BitVec 32) : Fin 3 → Nat :=
  let c2_i32_233_r0 : BitVec 32 := 2#32
  let v290_r0 : BitVec 32 := Scalar.remui arg13_r0 c2_i32_233_r0
  let v294_r0 : Index := Scalar.indexCast v290_r0
  let c0_r0 : Index := 0#32
  let c0_237_r0 : Index := 0#32
  ![v294_r0.toNat, 0, 0]

def k0_chk2 (arg13_r0 : BitVec 32) : Prop :=
  (∀ a, (k0_off42 arg13_r0) a + S1x512x1024.size a ≤ S2x512x1024.size a)
theorem k0_off42_inb : ∀ (arg13_r0 : BitVec 32) (k0_hw2 : k0_chk2 arg13_r0), ∀ a, (k0_off42 arg13_r0) a + S1x512x1024.size a ≤ S2x512x1024.size a := fun arg13_r0 k0_hw2 => k0_hw2

def k0_off43 (arg9_r0 : BitVec 32) : Fin 3 → Nat :=
  let c2_i32_231_r0 : BitVec 32 := 2#32
  let v288_r0 : BitVec 32 := Scalar.remui arg9_r0 c2_i32_231_r0
  let v297_r0 : Index := Scalar.indexCast v288_r0
  let c0_238_r0 : Index := 0#32
  let c0_239_r0 : Index := 0#32
  ![v297_r0.toNat, 0, 0]

def k0_chk3 (arg9_r0 : BitVec 32) : Prop :=
  (∀ a, (k0_off43 arg9_r0) a + S1x512x2048.size a ≤ S2x512x2048.size a)
theorem k0_off43_inb : ∀ (arg9_r0 : BitVec 32) (k0_hw3 : k0_chk3 arg9_r0), ∀ a, (k0_off43 arg9_r0) a + S1x512x2048.size a ≤ S2x512x2048.size a := fun arg9_r0 k0_hw3 => k0_hw3

def k0_off44 (arg15_r0 : BitVec 32) : Fin 3 → Nat :=
  let c3_i32_234_r0 : BitVec 32 := 3#32
  let v291_r0 : BitVec 32 := Scalar.remui arg15_r0 c3_i32_234_r0
  let v300_r0 : Index := Scalar.indexCast v291_r0
  let c0_240_r0 : Index := 0#32
  let c0_241_r0 : Index := 0#32
  ![v300_r0.toNat, 0, 0]

def k0_chk4 (arg15_r0 : BitVec 32) : Prop :=
  (∀ a, (k0_off44 arg15_r0) a + S1x2048x1024.size a ≤ S3x2048x1024.size a)
theorem k0_off44_inb : ∀ (arg15_r0 : BitVec 32) (k0_hw4 : k0_chk4 arg15_r0), ∀ a, (k0_off44 arg15_r0) a + S1x2048x1024.size a ≤ S3x2048x1024.size a := fun arg15_r0 k0_hw4 => k0_hw4

def k0_off45 (arg11_r0 : BitVec 32) : Fin 3 → Nat :=
  let c2_i32_232_r0 : BitVec 32 := 2#32
  let v289_r0 : BitVec 32 := Scalar.remui arg11_r0 c2_i32_232_r0
  let v305_r0 : Index := Scalar.indexCast v289_r0
  let c0_242_r0 : Index := 0#32
  let c0_243_r0 : Index := 0#32
  ![v305_r0.toNat, 0, 0]

def k0_chk5 (arg11_r0 : BitVec 32) : Prop :=
  (∀ a, (k0_off45 arg11_r0) a + S1x512x2048.size a ≤ S2x512x2048.size a)
theorem k0_off45_inb : ∀ (arg11_r0 : BitVec 32) (k0_hw5 : k0_chk5 arg11_r0), ∀ a, (k0_off45 arg11_r0) a + S1x512x2048.size a ≤ S2x512x2048.size a := fun arg11_r0 k0_hw5 => k0_hw5

def k0_off46 (arg17_r0 : BitVec 32) : Fin 3 → Nat :=
  let c3_i32_235_r0 : BitVec 32 := 3#32
  let v292_r0 : BitVec 32 := Scalar.remui arg17_r0 c3_i32_235_r0
  let v308_r0 : Index := Scalar.indexCast v292_r0
  let c0_244_r0 : Index := 0#32
  let c0_245_r0 : Index := 0#32
  ![v308_r0.toNat, 0, 0]

def k0_chk6 (arg17_r0 : BitVec 32) : Prop :=
  (∀ a, (k0_off46 arg17_r0) a + S1x2048x1024.size a ≤ S3x2048x1024.size a)
theorem k0_off46_inb : ∀ (arg17_r0 : BitVec 32) (k0_hw6 : k0_chk6 arg17_r0), ∀ a, (k0_off46 arg17_r0) a + S1x2048x1024.size a ≤ S3x2048x1024.size a := fun arg17_r0 k0_hw6 => k0_hw6

def k0_mult1 (arg22_r0 : BitVec 32) : BitVec 32 :=
  let c0_i32_151_r0 : BitVec 32 := 0#32
  let v153_r0 : BitVec 32 := Scalar.addi arg22_r0 c0_i32_151_r0
  let c1024_i32_r0 : BitVec 32 := 1024#32
  let v313_r0 : BitVec 32 := Scalar.muli v153_r0 c1024_i32_r0
  v313_r0
def k0_off47 (arg19_r0 : BitVec 32) : Fin 3 → Nat :=
  let c2_i32_236_r0 : BitVec 32 := 2#32
  let v293_r0 : BitVec 32 := Scalar.remui arg19_r0 c2_i32_236_r0
  let c0_i32_247_r0 : BitVec 32 := 0#32
  let c0_i32_248_r0 : BitVec 32 := 0#32
  ![v293_r0.toNat, 0, 0]

def k0_chk7 (arg19_r0 : BitVec 32) : Prop :=
  (∀ a, (k0_off47 arg19_r0) a + S1x512x4096.size a ≤ S2x512x4096.size a)
theorem k0_off47_inb : ∀ (arg19_r0 : BitVec 32) (k0_hw7 : k0_chk7 arg19_r0), ∀ a, (k0_off47 arg19_r0) a + S1x512x4096.size a ≤ S2x512x4096.size a := fun arg19_r0 k0_hw7 => k0_hw7

def k0_off48 (arg22_r0 : BitVec 32) : Fin 2 → Nat :=
  let c0_249_r0 : Index := 0#32
  let c0_i32_151_r0 : BitVec 32 := 0#32
  let v153_r0 : BitVec 32 := Scalar.addi arg22_r0 c0_i32_151_r0
  let c1024_i32_r0 : BitVec 32 := 1024#32
  let v313_r0 : BitVec 32 := Scalar.muli v153_r0 c1024_i32_r0
  let v314_r0 : BitVec 32 := v313_r0
  let v317_r0 : Index := Scalar.indexCast v314_r0
  ![0, v317_r0.toNat]
def k0_off49 (arg19_r0 : BitVec 32) : Fin 3 → Nat :=
  let c2_i32_236_r0 : BitVec 32 := 2#32
  let v293_r0 : BitVec 32 := Scalar.remui arg19_r0 c2_i32_236_r0
  let c0_i32_297_r0 : BitVec 32 := 0#32
  let c0_i32_298_r0 : BitVec 32 := 0#32
  ![v293_r0.toNat, 0, 0]
def k0_cond14 (arg22_r0 : BitVec 32) : BitVec 1 :=
  let c0_i32_151_r0 : BitVec 32 := 0#32
  let v153_r0 : BitVec 32 := Scalar.addi arg22_r0 c0_i32_151_r0
  let c3_i32_250_r0 : BitVec 32 := 3#32
  let v319_r0 : BitVec 1 := Scalar.cmpi .eq v153_r0 c3_i32_250_r0
  let v320_r0 : BitVec 32 := Scalar.extui v319_r0
  let c0_i32_251_r0 : BitVec 32 := 0#32
  let v321_r0 : BitVec 1 := Scalar.cmpi .ne v320_r0 c0_i32_251_r0
  v321_r0

def k0_off50 (arg19_r0 : BitVec 32) : Fin 1 → Nat :=
  let c2_i32_297_r0 : BitVec 32 := 2#32
  let v429_r0 : BitVec 32 := Scalar.remui arg19_r0 c2_i32_297_r0
  ![v429_r0.toNat]
def k0_cond20 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_162_r0 : BitVec 1 := 1#1
  let c1_i32_161_r0 : BitVec 32 := 1#32
  let v164_r0 : BitVec 32 := Scalar.addi arg22_r0 c1_i32_161_r0
  let v165_r0 : BitVec 32 := Scalar.select true_162_r0 v164_r0 arg22_r0
  let c4_i32_163_r0 : BitVec 32 := 4#32
  let v166_r0 : BitVec 1 := Scalar.cmpi .eq v165_r0 c4_i32_163_r0
  let c1_i32_165_r0 : BitVec 32 := 1#32
  let v168_r0 : BitVec 32 := Scalar.addi arg21_r0 c1_i32_165_r0
  let v169_r0 : BitVec 32 := Scalar.select v166_r0 v168_r0 arg21_r0
  let c32_i32_166_r0 : BitVec 32 := 32#32
  let v170_r0 : BitVec 1 := Scalar.cmpi .eq v169_r0 c32_i32_166_r0
  let c0_i32_167_r0 : BitVec 32 := 0#32
  let v171_r0 : BitVec 32 := Scalar.select v170_r0 c0_i32_167_r0 v169_r0
  let c0_i32_168_r0 : BitVec 32 := 0#32
  let v172_r0 : BitVec 32 := Scalar.addi v171_r0 c0_i32_168_r0
  let v349_r0 : BitVec 1 := Scalar.cmpi .ne v152_r0 v172_r0
  let c0_i32_97_r0 : BitVec 32 := 0#32
  let c1_i32_98_r0 : BitVec 32 := 1#32
  let arg7_r0 : BitVec 32 := Scf.iv c0_i32_97_r0 c1_i32_98_r0 k0_t1
  let c127_i32_r0 : BitVec 32 := 127#32
  let v151_r0 : BitVec 1 := Scalar.cmpi .eq arg7_r0 c127_i32_r0
  let v350_r0 : BitVec 1 := Scalar.ori v349_r0 v151_r0
  let v351_r0 : BitVec 32 := Scalar.extui v350_r0
  let c0_i32_261_r0 : BitVec 32 := 0#32
  let v352_r0 : BitVec 1 := Scalar.cmpi .ne v351_r0 c0_i32_261_r0
  v352_r0

def k0_off51 (arg21_r0 : BitVec 32) : Fin 2 → Nat :=
  let c512_i32_298_r0 : BitVec 32 := 512#32
  let c0_i32_150_r0 : BitVec 32 := 0#32
  let v152_r0 : BitVec 32 := Scalar.addi arg21_r0 c0_i32_150_r0
  let v430_r0 : BitVec 32 := Scalar.muli c512_i32_298_r0 v152_r0
  let c0_i32_299_r0 : BitVec 32 := 0#32
  ![v430_r0.toNat, 0]
def k0_off52 (arg19_r0 : BitVec 32) : Fin 3 → Nat :=
  let c2_i32_297_r0 : BitVec 32 := 2#32
  let v429_r0 : BitVec 32 := Scalar.remui arg19_r0 c2_i32_297_r0
  let c0_i32_300_r0 : BitVec 32 := 0#32
  let c0_i32_301_r0 : BitVec 32 := 0#32
  ![v429_r0.toNat, 0, 0]
def k0_off53 (arg20_r0 : BitVec 32) : Fin 1 → Nat :=
  let c2_i32_297_r0 : BitVec 32 := 2#32
  let v429_r0 : BitVec 32 := Scalar.remui arg20_r0 c2_i32_297_r0
  ![v429_r0.toNat]
def k0_cond26 (k0_t1 : Fin k0_t1_loop.trips) (arg21_r0 : BitVec 32) (arg22_r0 : BitVec 32) : BitVec 1 :=
  let c0_i32_150_r0 : BitVec 32 := 0#32
  let v152_r0 : BitVec 32 := Scalar.addi arg21_r0 c0_i32_150_r0
  let true_153_r0 : BitVec 1 := 1#1
  let c1_i32_152_r0 : BitVec 32 := 1#32
  let v154_r0 : BitVec 32 := Scalar.subi arg22_r0 c1_i32_152_r0
  let v155_r0 : BitVec 32 := Scalar.select true_153_r0 v154_r0 arg22_r0
  let c_m1_i32_154_r0 : BitVec 32 := 4294967295#32
  let v156_r0 : BitVec 1 := Scalar.cmpi .eq v155_r0 c_m1_i32_154_r0
  let c1_i32_156_r0 : BitVec 32 := 1#32
  let v158_r0 : BitVec 32 := Scalar.subi arg21_r0 c1_i32_156_r0
  let v159_r0 : BitVec 32 := Scalar.select v156_r0 v158_r0 arg21_r0
  let c_m1_i32_157_r0 : BitVec 32 := 4294967295#32
  let v160_r0 : BitVec 1 := Scalar.cmpi .eq v159_r0 c_m1_i32_157_r0
  let c31_i32_158_r0 : BitVec 32 := 31#32
  let v161_r0 : BitVec 32 := Scalar.select v160_r0 c31_i32_158_r0 v159_r0
  let c0_i32_159_r0 : BitVec 32 := 0#32
  let v162_r0 : BitVec 32 := Scalar.addi v161_r0 c0_i32_159_r0
  let v388_r0 : BitVec 1 := Scalar.cmpi .ne v152_r0 v162_r0
  let c0_i32_97_r0 : BitVec 32 := 0#32
  let c1_i32_98_r0 : BitVec 32 := 1#32
  let arg7_r0 : BitVec 32 := Scf.iv c0_i32_97_r0 c1_i32_98_r0 k0_t1
  let c0_i32_149_r0 : BitVec 32 := 0#32
  let v150_r0 : BitVec 1 := Scalar.cmpi .eq arg7_r0 c0_i32_149_r0
  let true_279_r0 : BitVec 1 := 1#1
  let v389_r0 : BitVec 1 := Scalar.xori v150_r0 true_279_r0
  let v390_r0 : BitVec 1 := Scalar.andi v388_r0 v389_r0
  let v391_r0 : BitVec 32 := Scalar.extui v390_r0
  let c0_i32_280_r0 : BitVec 32 := 0#32
  let v392_r0 : BitVec 1 := Scalar.cmpi .ne v391_r0 c0_i32_280_r0
  v392_r0

def k0_off54 (arg21_r0 : BitVec 32) (arg22_r0 : BitVec 32) : Fin 2 → Nat :=
  let c512_i32_298_r0 : BitVec 32 := 512#32
  let true_153_r0 : BitVec 1 := 1#1
  let c1_i32_152_r0 : BitVec 32 := 1#32
  let v154_r0 : BitVec 32 := Scalar.subi arg22_r0 c1_i32_152_r0
  let v155_r0 : BitVec 32 := Scalar.select true_153_r0 v154_r0 arg22_r0
  let c_m1_i32_154_r0 : BitVec 32 := 4294967295#32
  let v156_r0 : BitVec 1 := Scalar.cmpi .eq v155_r0 c_m1_i32_154_r0
  let c1_i32_156_r0 : BitVec 32 := 1#32
  let v158_r0 : BitVec 32 := Scalar.subi arg21_r0 c1_i32_156_r0
  let v159_r0 : BitVec 32 := Scalar.select v156_r0 v158_r0 arg21_r0
  let c_m1_i32_157_r0 : BitVec 32 := 4294967295#32
  let v160_r0 : BitVec 1 := Scalar.cmpi .eq v159_r0 c_m1_i32_157_r0
  let c31_i32_158_r0 : BitVec 32 := 31#32
  let v161_r0 : BitVec 32 := Scalar.select v160_r0 c31_i32_158_r0 v159_r0
  let c0_i32_159_r0 : BitVec 32 := 0#32
  let v162_r0 : BitVec 32 := Scalar.addi v161_r0 c0_i32_159_r0
  let v430_r0 : BitVec 32 := Scalar.muli c512_i32_298_r0 v162_r0
  let c0_i32_299_r0 : BitVec 32 := 0#32
  ![v430_r0.toNat, 0]
def k0_off55 (arg20_r0 : BitVec 32) : Fin 3 → Nat :=
  let c2_i32_297_r0 : BitVec 32 := 2#32
  let v429_r0 : BitVec 32 := Scalar.remui arg20_r0 c2_i32_297_r0
  let c0_i32_300_r0 : BitVec 32 := 0#32
  let c0_i32_301_r0 : BitVec 32 := 0#32
  ![v429_r0.toNat, 0, 0]

def k0_chk1_0 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) : Prop :=
  (∀ (k0_h3 : k0_cond3 k0_t1 arg21_r0 arg22_r0 = 1#1), ∀ a, (k0_off12 arg8_r0) a + S1.size a ≤ S2.size a) ∧
  (∀ (k0_h3 : k0_cond3 k0_t1 arg21_r0 arg22_r0 = 1#1), ∀ a, (k0_off13 arg8_r0) a + S1x512x2048.size a ≤ S2x512x2048.size a) ∧
  (∀ (k0_h3 : k0_cond3 k0_t1 arg21_r0 arg22_r0 = 1#1), ∀ a, (k0_off14 arg21_r0 arg22_r0) a + S512x2048.size a ≤ S16384x2048.size a) ∧
  (∀ (k0_h3 : k0_cond3 k0_t1 arg21_r0 arg22_r0 = 1#1), ∀ (hinb : ∀ a, (k0_off14 arg21_r0 arg22_r0) a + S512x2048.size a ≤ S16384x2048.size a), (Rect.unit (s := S16384x2048) (k0_off14 arg21_r0 arg22_r0) S512x2048.size hinb).WholeWords (EltTy.packing .bf16)) ∧
  (∀ (k0_h3 : k0_cond3 k0_t1 arg21_r0 arg22_r0 = 1#1), ∀ (hinb : ∀ a, (k0_off13 arg8_r0) a + S1x512x2048.size a ≤ S2x512x2048.size a), (Rect.unit (s := S2x512x2048) (k0_off13 arg8_r0) S1x512x2048.size hinb).WholeWords (EltTy.packing .bf16)) ∧
  (∀ (k0_h4 : k0_cond4 k0_t1 arg21_r0 arg22_r0 = 1#1), ∀ a, (k0_off15 arg10_r0) a + S1.size a ≤ S2.size a) ∧
  (∀ (k0_h4 : k0_cond4 k0_t1 arg21_r0 arg22_r0 = 1#1), ∀ a, (k0_off16 arg10_r0) a + S1x512x2048.size a ≤ S2x512x2048.size a) ∧
  (∀ (k0_h4 : k0_cond4 k0_t1 arg21_r0 arg22_r0 = 1#1), ∀ a, (k0_off17 arg21_r0 arg22_r0) a + S512x2048.size a ≤ S16384x2048.size a) ∧
  (∀ (k0_h4 : k0_cond4 k0_t1 arg21_r0 arg22_r0 = 1#1), ∀ (hinb : ∀ a, (k0_off17 arg21_r0 arg22_r0) a + S512x2048.size a ≤ S16384x2048.size a), (Rect.unit (s := S16384x2048) (k0_off17 arg21_r0 arg22_r0) S512x2048.size hinb).WholeWords (EltTy.packing .bf16)) ∧
  (∀ (k0_h4 : k0_cond4 k0_t1 arg21_r0 arg22_r0 = 1#1), ∀ (hinb : ∀ a, (k0_off16 arg10_r0) a + S1x512x2048.size a ≤ S2x512x2048.size a), (Rect.unit (s := S2x512x2048) (k0_off16 arg10_r0) S1x512x2048.size hinb).WholeWords (EltTy.packing .bf16)) ∧
  (∀ (k0_h5 : k0_cond5 k0_t1 arg21_r0 arg22_r0 = 1#1), ∀ a, (k0_off18 arg12_r0) a + S1.size a ≤ S2.size a) ∧
  (∀ (k0_h5 : k0_cond5 k0_t1 arg21_r0 arg22_r0 = 1#1), ∀ a, (k0_off19 arg12_r0) a + S1x512x1024.size a ≤ S2x512x1024.size a) ∧
  (∀ (k0_h5 : k0_cond5 k0_t1 arg21_r0 arg22_r0 = 1#1), ∀ a, (k0_off20 arg21_r0 arg22_r0) a + S512x1024.size a ≤ S16384x4096.size a) ∧
  (∀ (k0_h6 : k0_cond6 k0_t1 arg22_r0 = 1#1), ∀ a, (k0_off21 arg14_r0) a + S1.size a ≤ S3.size a) ∧
  (∀ (k0_h6 : k0_cond6 k0_t1 arg22_r0 = 1#1), ∀ a, (k0_off22 arg14_r0) a + S1x2048x1024.size a ≤ S3x2048x1024.size a) ∧
  (∀ (k0_h6 : k0_cond6 k0_t1 arg22_r0 = 1#1), ∀ a, (k0_off23 arg22_r0) a + S2048x1024.size a ≤ S4096x4096.size a) ∧
  (∀ (k0_h6 : k0_cond6 k0_t1 arg22_r0 = 1#1), ∀ (hinb : ∀ a, (k0_off23 arg22_r0) a + S2048x1024.size a ≤ S4096x4096.size a), (Rect.unit (s := S4096x4096) (k0_off23 arg22_r0) S2048x1024.size hinb).WholeWords (EltTy.packing .bf16)) ∧
  (∀ (k0_h6 : k0_cond6 k0_t1 arg22_r0 = 1#1), ∀ (hinb : ∀ a, (k0_off22 arg14_r0) a + S1x2048x1024.size a ≤ S3x2048x1024.size a), (Rect.unit (s := S3x2048x1024) (k0_off22 arg14_r0) S1x2048x1024.size hinb).WholeWords (EltTy.packing .bf16)) ∧
  (∀ (k0_h7 : k0_cond7 k0_t1 arg22_r0 = 1#1), ∀ a, (k0_off24 arg16_r0) a + S1.size a ≤ S3.size a) ∧
  (∀ (k0_h7 : k0_cond7 k0_t1 arg22_r0 = 1#1), ∀ a, (k0_off25 arg16_r0) a + S1x2048x1024.size a ≤ S3x2048x1024.size a) ∧
  (∀ (k0_h7 : k0_cond7 k0_t1 arg22_r0 = 1#1), ∀ a, (k0_off26 arg22_r0) a + S2048x1024.size a ≤ S4096x4096.size a) ∧
  (∀ (k0_h7 : k0_cond7 k0_t1 arg22_r0 = 1#1), ∀ (hinb : ∀ a, (k0_off26 arg22_r0) a + S2048x1024.size a ≤ S4096x4096.size a), (Rect.unit (s := S4096x4096) (k0_off26 arg22_r0) S2048x1024.size hinb).WholeWords (EltTy.packing .bf16)) ∧
  (∀ (k0_h7 : k0_cond7 k0_t1 arg22_r0 = 1#1), ∀ (hinb : ∀ a, (k0_off25 arg16_r0) a + S1x2048x1024.size a ≤ S3x2048x1024.size a), (Rect.unit (s := S3x2048x1024) (k0_off25 arg16_r0) S1x2048x1024.size hinb).WholeWords (EltTy.packing .bf16)) ∧
  (∀ (k0_h8 : k0_cond8 k0_t1 arg21_r0 arg22_r0 = 1#1), ∀ a, (k0_off27 arg9_r0) a + S1.size a ≤ S2.size a) ∧
  (∀ (k0_h8 : k0_cond8 k0_t1 arg21_r0 arg22_r0 = 1#1), ∀ a, (k0_off28 arg9_r0) a + S1x512x2048.size a ≤ S2x512x2048.size a) ∧
  (∀ (k0_h8 : k0_cond8 k0_t1 arg21_r0 arg22_r0 = 1#1), ∀ a, (k0_off29 arg21_r0) a + S512x2048.size a ≤ S16384x2048.size a) ∧
  (∀ (k0_h8 : k0_cond8 k0_t1 arg21_r0 arg22_r0 = 1#1), ∀ (hinb : ∀ a, (k0_off29 arg21_r0) a + S512x2048.size a ≤ S16384x2048.size a), (Rect.unit (s := S16384x2048) (k0_off29 arg21_r0) S512x2048.size hinb).WholeWords (EltTy.packing .bf16)) ∧
  (∀ (k0_h8 : k0_cond8 k0_t1 arg21_r0 arg22_r0 = 1#1), ∀ (hinb : ∀ a, (k0_off28 arg9_r0) a + S1x512x2048.size a ≤ S2x512x2048.size a), (Rect.unit (s := S2x512x2048) (k0_off28 arg9_r0) S1x512x2048.size hinb).WholeWords (EltTy.packing .bf16)) ∧
  (∀ (k0_h9 : k0_cond9 k0_t1 arg21_r0 arg22_r0 = 1#1), ∀ a, (k0_off30 arg11_r0) a + S1.size a ≤ S2.size a) ∧
  (∀ (k0_h9 : k0_cond9 k0_t1 arg21_r0 arg22_r0 = 1#1), ∀ a, (k0_off31 arg11_r0) a + S1x512x2048.size a ≤ S2x512x2048.size a) ∧
  (∀ (k0_h9 : k0_cond9 k0_t1 arg21_r0 arg22_r0 = 1#1), ∀ a, (k0_off32 arg21_r0) a + S512x2048.size a ≤ S16384x2048.size a) ∧
  (∀ (k0_h9 : k0_cond9 k0_t1 arg21_r0 arg22_r0 = 1#1), ∀ (hinb : ∀ a, (k0_off32 arg21_r0) a + S512x2048.size a ≤ S16384x2048.size a), (Rect.unit (s := S16384x2048) (k0_off32 arg21_r0) S512x2048.size hinb).WholeWords (EltTy.packing .bf16))
def k0_chk1_1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) : Prop :=
  (∀ (k0_h9 : k0_cond9 k0_t1 arg21_r0 arg22_r0 = 1#1), ∀ (hinb : ∀ a, (k0_off31 arg11_r0) a + S1x512x2048.size a ≤ S2x512x2048.size a), (Rect.unit (s := S2x512x2048) (k0_off31 arg11_r0) S1x512x2048.size hinb).WholeWords (EltTy.packing .bf16)) ∧
  (∀ (k0_h10 : k0_cond10 k0_t1 arg21_r0 arg22_r0 = 1#1), ∀ a, (k0_off33 arg13_r0) a + S1.size a ≤ S2.size a) ∧
  (∀ (k0_h10 : k0_cond10 k0_t1 arg21_r0 arg22_r0 = 1#1), ∀ a, (k0_off34 arg13_r0) a + S1x512x1024.size a ≤ S2x512x1024.size a) ∧
  (∀ (k0_h10 : k0_cond10 k0_t1 arg21_r0 arg22_r0 = 1#1), ∀ a, (k0_off35 arg21_r0 arg22_r0) a + S512x1024.size a ≤ S16384x4096.size a) ∧
  (∀ (k0_h11 : k0_cond11 k0_t1 arg22_r0 = 1#1), ∀ a, (k0_off36 arg15_r0) a + S1.size a ≤ S3.size a) ∧
  (∀ (k0_h11 : k0_cond11 k0_t1 arg22_r0 = 1#1), ∀ a, (k0_off37 arg15_r0) a + S1x2048x1024.size a ≤ S3x2048x1024.size a) ∧
  (∀ (k0_h11 : k0_cond11 k0_t1 arg22_r0 = 1#1), ∀ a, (k0_off38 arg22_r0) a + S2048x1024.size a ≤ S4096x4096.size a) ∧
  (∀ (k0_h11 : k0_cond11 k0_t1 arg22_r0 = 1#1), ∀ (hinb : ∀ a, (k0_off38 arg22_r0) a + S2048x1024.size a ≤ S4096x4096.size a), (Rect.unit (s := S4096x4096) (k0_off38 arg22_r0) S2048x1024.size hinb).WholeWords (EltTy.packing .bf16)) ∧
  (∀ (k0_h11 : k0_cond11 k0_t1 arg22_r0 = 1#1), ∀ (hinb : ∀ a, (k0_off37 arg15_r0) a + S1x2048x1024.size a ≤ S3x2048x1024.size a), (Rect.unit (s := S3x2048x1024) (k0_off37 arg15_r0) S1x2048x1024.size hinb).WholeWords (EltTy.packing .bf16)) ∧
  (∀ (k0_h12 : k0_cond12 k0_t1 arg22_r0 = 1#1), ∀ a, (k0_off39 arg17_r0) a + S1.size a ≤ S3.size a) ∧
  (∀ (k0_h12 : k0_cond12 k0_t1 arg22_r0 = 1#1), ∀ a, (k0_off40 arg17_r0) a + S1x2048x1024.size a ≤ S3x2048x1024.size a) ∧
  (∀ (k0_h12 : k0_cond12 k0_t1 arg22_r0 = 1#1), ∀ a, (k0_off41 arg22_r0) a + S2048x1024.size a ≤ S4096x4096.size a) ∧
  (∀ (k0_h12 : k0_cond12 k0_t1 arg22_r0 = 1#1), ∀ (hinb : ∀ a, (k0_off41 arg22_r0) a + S2048x1024.size a ≤ S4096x4096.size a), (Rect.unit (s := S4096x4096) (k0_off41 arg22_r0) S2048x1024.size hinb).WholeWords (EltTy.packing .bf16)) ∧
  (∀ (k0_h12 : k0_cond12 k0_t1 arg22_r0 = 1#1), ∀ (hinb : ∀ a, (k0_off40 arg17_r0) a + S1x2048x1024.size a ≤ S3x2048x1024.size a), (Rect.unit (s := S3x2048x1024) (k0_off40 arg17_r0) S1x2048x1024.size hinb).WholeWords (EltTy.packing .bf16)) ∧
  (1024 ∣ (k0_mult1 arg22_r0).toNat) ∧
  (∀ a, (k0_off48 arg22_r0) a + S512x1024.size a ≤ S512x4096.size a) ∧
  (∀ (k0_h14 : k0_cond14 arg22_r0 = 1#1), ∀ a, (k0_off49 arg19_r0) a + S1x512x4096.size a ≤ S2x512x4096.size a) ∧
  (∀ (k0_h20 : k0_cond20 k0_t1 arg21_r0 arg22_r0 = 1#1), ∀ a, (k0_off50 arg19_r0) a + S1.size a ≤ S2.size a) ∧
  (∀ (k0_h20 : k0_cond20 k0_t1 arg21_r0 arg22_r0 = 1#1), ∀ a, (k0_off51 arg21_r0) a + S512x4096.size a ≤ S16384x4096.size a) ∧
  (∀ (k0_h20 : k0_cond20 k0_t1 arg21_r0 arg22_r0 = 1#1), ∀ a, (k0_off52 arg19_r0) a + S1x512x4096.size a ≤ S2x512x4096.size a) ∧
  (∀ (k0_h26 : k0_cond26 k0_t1 arg21_r0 arg22_r0 = 1#1), ∀ a, (k0_off53 arg20_r0) a + S1.size a ≤ S2.size a) ∧
  (∀ (k0_h26 : k0_cond26 k0_t1 arg21_r0 arg22_r0 = 1#1), ∀ a, (k0_off54 arg21_r0 arg22_r0) a + S512x4096.size a ≤ S16384x4096.size a) ∧
  (∀ (k0_h26 : k0_cond26 k0_t1 arg21_r0 arg22_r0 = 1#1), ∀ a, (k0_off55 arg20_r0) a + S1x512x4096.size a ≤ S2x512x4096.size a)
def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) : Prop :=
  k0_chk1_0 k0_t1 arg8_r0 arg9_r0 arg10_r0 arg11_r0 arg12_r0 arg13_r0 arg14_r0 arg15_r0 arg16_r0 arg17_r0 arg19_r0 arg20_r0 arg21_r0 arg22_r0 ∧
  k0_chk1_1 k0_t1 arg8_r0 arg9_r0 arg10_r0 arg11_r0 arg12_r0 arg13_r0 arg14_r0 arg15_r0 arg16_r0 arg17_r0 arg19_r0 arg20_r0 arg21_r0 arg22_r0
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h3 : k0_cond3 k0_t1 arg21_r0 arg22_r0 = 1#1), ∀ a, (k0_off12 arg8_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h3 => k0_hw1.1.1 k0_h3
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h3 : k0_cond3 k0_t1 arg21_r0 arg22_r0 = 1#1), ∀ a, (k0_off13 arg8_r0) a + S1x512x2048.size a ≤ S2x512x2048.size a := fun k0_t1 arg8_r0 arg9_r0 arg10_r0 arg11_r0 arg12_r0 arg13_r0 arg14_r0 arg15_r0 arg16_r0 arg17_r0 arg19_r0 arg20_r0 arg21_r0 arg22_r0 k0_hw1 k0_h3 => k0_hw1.1.2.1 k0_h3
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h3 : k0_cond3 k0_t1 arg21_r0 arg22_r0 = 1#1), ∀ a, (k0_off14 arg21_r0 arg22_r0) a + S512x2048.size a ≤ S16384x2048.size a := fun k0_t1 arg8_r0 arg9_r0 arg10_r0 arg11_r0 arg12_r0 arg13_r0 arg14_r0 arg15_r0 arg16_r0 arg17_r0 arg19_r0 arg20_r0 arg21_r0 arg22_r0 k0_hw1 k0_h3 => k0_hw1.1.2.2.1 k0_h3
theorem k0_off14_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h3 : k0_cond3 k0_t1 arg21_r0 arg22_r0 = 1#1), (Rect.unit (s := S16384x2048) (k0_off14 arg21_r0 arg22_r0) S512x2048.size (k0_off14_inb k0_t1 arg8_r0 arg9_r0 arg10_r0 arg11_r0 arg12_r0 arg13_r0 arg14_r0 arg15_r0 arg16_r0 arg17_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h3 => k0_hw1.1.2.2.2.1 k0_h3 (k0_off14_inb k0_t1 arg8_r0 arg9_r0 arg10_r0 arg11_r0 arg12_r0 arg13_r0 arg14_r0 arg15_r0 arg16_r0 arg17_r0 arg19_r0 arg20_r0 arg21_r0 arg22_r0 k0_hw1 k0_h3)
theorem k0_off13_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h3 : k0_cond3 k0_t1 arg21_r0 arg22_r0 = 1#1), (Rect.unit (s := S2x512x2048) (k0_off13 arg8_r0) S1x512x2048.size (k0_off13_inb k0_t1 arg8_r0 arg9_r0 arg10_r0 arg11_r0 arg12_r0 arg13_r0 arg14_r0 arg15_r0 arg16_r0 arg17_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h3 => k0_hw1.1.2.2.2.2.1 k0_h3 (k0_off13_inb k0_t1 arg8_r0 arg9_r0 arg10_r0 arg11_r0 arg12_r0 arg13_r0 arg14_r0 arg15_r0 arg16_r0 arg17_r0 arg19_r0 arg20_r0 arg21_r0 arg22_r0 k0_hw1 k0_h3)
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h4 : k0_cond4 k0_t1 arg21_r0 arg22_r0 = 1#1), ∀ a, (k0_off15 arg10_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h4 => k0_hw1.1.2.2.2.2.2.1 k0_h4
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h4 : k0_cond4 k0_t1 arg21_r0 arg22_r0 = 1#1), ∀ a, (k0_off16 arg10_r0) a + S1x512x2048.size a ≤ S2x512x2048.size a := fun k0_t1 arg8_r0 arg9_r0 arg10_r0 arg11_r0 arg12_r0 arg13_r0 arg14_r0 arg15_r0 arg16_r0 arg17_r0 arg19_r0 arg20_r0 arg21_r0 arg22_r0 k0_hw1 k0_h4 => k0_hw1.1.2.2.2.2.2.2.1 k0_h4
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h4 : k0_cond4 k0_t1 arg21_r0 arg22_r0 = 1#1), ∀ a, (k0_off17 arg21_r0 arg22_r0) a + S512x2048.size a ≤ S16384x2048.size a := fun k0_t1 arg8_r0 arg9_r0 arg10_r0 arg11_r0 arg12_r0 arg13_r0 arg14_r0 arg15_r0 arg16_r0 arg17_r0 arg19_r0 arg20_r0 arg21_r0 arg22_r0 k0_hw1 k0_h4 => k0_hw1.1.2.2.2.2.2.2.2.1 k0_h4
theorem k0_off17_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h4 : k0_cond4 k0_t1 arg21_r0 arg22_r0 = 1#1), (Rect.unit (s := S16384x2048) (k0_off17 arg21_r0 arg22_r0) S512x2048.size (k0_off17_inb k0_t1 arg8_r0 arg9_r0 arg10_r0 arg11_r0 arg12_r0 arg13_r0 arg14_r0 arg15_r0 arg16_r0 arg17_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h4 => k0_hw1.1.2.2.2.2.2.2.2.2.1 k0_h4 (k0_off17_inb k0_t1 arg8_r0 arg9_r0 arg10_r0 arg11_r0 arg12_r0 arg13_r0 arg14_r0 arg15_r0 arg16_r0 arg17_r0 arg19_r0 arg20_r0 arg21_r0 arg22_r0 k0_hw1 k0_h4)
theorem k0_off16_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h4 : k0_cond4 k0_t1 arg21_r0 arg22_r0 = 1#1), (Rect.unit (s := S2x512x2048) (k0_off16 arg10_r0) S1x512x2048.size (k0_off16_inb k0_t1 arg8_r0 arg9_r0 arg10_r0 arg11_r0 arg12_r0 arg13_r0 arg14_r0 arg15_r0 arg16_r0 arg17_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h4 => k0_hw1.1.2.2.2.2.2.2.2.2.2.1 k0_h4 (k0_off16_inb k0_t1 arg8_r0 arg9_r0 arg10_r0 arg11_r0 arg12_r0 arg13_r0 arg14_r0 arg15_r0 arg16_r0 arg17_r0 arg19_r0 arg20_r0 arg21_r0 arg22_r0 k0_hw1 k0_h4)
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h5 : k0_cond5 k0_t1 arg21_r0 arg22_r0 = 1#1), ∀ a, (k0_off18 arg12_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h5 => k0_hw1.1.2.2.2.2.2.2.2.2.2.2.1 k0_h5
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h5 : k0_cond5 k0_t1 arg21_r0 arg22_r0 = 1#1), ∀ a, (k0_off19 arg12_r0) a + S1x512x1024.size a ≤ S2x512x1024.size a := fun k0_t1 arg8_r0 arg9_r0 arg10_r0 arg11_r0 arg12_r0 arg13_r0 arg14_r0 arg15_r0 arg16_r0 arg17_r0 arg19_r0 arg20_r0 arg21_r0 arg22_r0 k0_hw1 k0_h5 => k0_hw1.1.2.2.2.2.2.2.2.2.2.2.2.1 k0_h5
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h5 : k0_cond5 k0_t1 arg21_r0 arg22_r0 = 1#1), ∀ a, (k0_off20 arg21_r0 arg22_r0) a + S512x1024.size a ≤ S16384x4096.size a := fun k0_t1 arg8_r0 arg9_r0 arg10_r0 arg11_r0 arg12_r0 arg13_r0 arg14_r0 arg15_r0 arg16_r0 arg17_r0 arg19_r0 arg20_r0 arg21_r0 arg22_r0 k0_hw1 k0_h5 => k0_hw1.1.2.2.2.2.2.2.2.2.2.2.2.2.1 k0_h5
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h6 : k0_cond6 k0_t1 arg22_r0 = 1#1), ∀ a, (k0_off21 arg14_r0) a + S1.size a ≤ S3.size a := fun k0_t1 arg8_r0 arg9_r0 arg10_r0 arg11_r0 arg12_r0 arg13_r0 arg14_r0 arg15_r0 arg16_r0 arg17_r0 arg19_r0 arg20_r0 arg21_r0 arg22_r0 k0_hw1 k0_h6 => k0_hw1.1.2.2.2.2.2.2.2.2.2.2.2.2.2.1 k0_h6
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h6 : k0_cond6 k0_t1 arg22_r0 = 1#1), ∀ a, (k0_off22 arg14_r0) a + S1x2048x1024.size a ≤ S3x2048x1024.size a := fun k0_t1 arg8_r0 arg9_r0 arg10_r0 arg11_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.1 k0_h6
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h6 : k0_cond6 k0_t1 arg22_r0 = 1#1), ∀ a, (k0_off23 arg22_r0) a + S2048x1024.size a ≤ S4096x4096.size a := fun k0_t1 arg8_r0 arg9_r0 arg10_r0 arg11_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.1 k0_h6
theorem k0_off23_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h6 : k0_cond6 k0_t1 arg22_r0 = 1#1), (Rect.unit (s := S4096x4096) (k0_off23 arg22_r0) S2048x1024.size (k0_off23_inb k0_t1 arg8_r0 arg9_r0 arg10_r0 arg11_r0 arg12_r0 arg13_r0 arg14_r0 arg15_r0 arg16_r0 arg17_r0 arg19_r0 arg20_r0 arg21_r0 arg22_r0 k0_hw1 k0_h6)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.2.1 k0_h6 (k0_off23_inb k0_t1 arg8_r0 arg9_r0 arg10_r0 arg11_r0 arg12_r0 arg13_r0 arg14_r0 arg15_r0 arg16_r0 arg17_r0 arg19_r0 arg20_r0 arg21_r0 arg22_r0 k0_hw1 k0_h6)
theorem k0_off22_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h6 : k0_cond6 k0_t1 arg22_r0 = 1#1), (Rect.unit (s := S3x2048x1024) (k0_off22 arg14_r0) S1x2048x1024.size (k0_off22_inb k0_t1 arg8_r0 arg9_r0 arg10_r0 arg11_r0 arg12_r0 arg13_r0 arg14_r0 arg15_r0 arg16_r0 arg17_r0 arg19_r0 arg20_r0 arg21_r0 arg22_r0 k0_hw1 k0_h6)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.2.2.1 k0_h6 (k0_off22_inb k0_t1 arg8_r0 arg9_r0 arg10_r0 arg11_r0 arg12_r0 arg13_r0 arg14_r0 arg15_r0 arg16_r0 arg17_r0 arg19_r0 arg20_r0 arg21_r0 arg22_r0 k0_hw1 k0_h6)
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h7 : k0_cond7 k0_t1 arg22_r0 = 1#1), ∀ a, (k0_off24 arg16_r0) a + S1.size a ≤ S3.size a := fun k0_t1 arg8_r0 arg9_r0 arg10_r0 arg11_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.1 k0_h7
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h7 : k0_cond7 k0_t1 arg22_r0 = 1#1), ∀ a, (k0_off25 arg16_r0) a + S1x2048x1024.size a ≤ S3x2048x1024.size a := fun k0_t1 arg8_r0 arg9_r0 arg10_r0 arg11_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.1 k0_h7
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h7 : k0_cond7 k0_t1 arg22_r0 = 1#1), ∀ a, (k0_off26 arg22_r0) a + S2048x1024.size a ≤ S4096x4096.size a := fun k0_t1 arg8_r0 arg9_r0 arg10_r0 arg11_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.1 k0_h7
theorem k0_off26_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h7 : k0_cond7 k0_t1 arg22_r0 = 1#1), (Rect.unit (s := S4096x4096) (k0_off26 arg22_r0) S2048x1024.size (k0_off26_inb k0_t1 arg8_r0 arg9_r0 arg10_r0 arg11_r0 arg12_r0 arg13_r0 arg14_r0 arg15_r0 arg16_r0 arg17_r0 arg19_r0 arg20_r0 arg21_r0 arg22_r0 k0_hw1 k0_h7)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.2.1 k0_h7 (k0_off26_inb k0_t1 arg8_r0 arg9_r0 arg10_r0 arg11_r0 arg12_r0 arg13_r0 arg14_r0 arg15_r0 arg16_r0 arg17_r0 arg19_r0 arg20_r0 arg21_r0 arg22_r0 k0_hw1 k0_h7)
theorem k0_off25_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h7 : k0_cond7 k0_t1 arg22_r0 = 1#1), (Rect.unit (s := S3x2048x1024) (k0_off25 arg16_r0) S1x2048x1024.size (k0_off25_inb k0_t1 arg8_r0 arg9_r0 arg10_r0 arg11_r0 arg12_r0 arg13_r0 arg14_r0 arg15_r0 arg16_r0 arg17_r0 arg19_r0 arg20_r0 arg21_r0 arg22_r0 k0_hw1 k0_h7)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.2.2.1 k0_h7 (k0_off25_inb k0_t1 arg8_r0 arg9_r0 arg10_r0 arg11_r0 arg12_r0 arg13_r0 arg14_r0 arg15_r0 arg16_r0 arg17_r0 arg19_r0 arg20_r0 arg21_r0 arg22_r0 k0_hw1 k0_h7)
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h8 : k0_cond8 k0_t1 arg21_r0 arg22_r0 = 1#1), ∀ a, (k0_off27 arg9_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h8 => k0_hw1.1.2.2.2.2.2.2.2.2.2.2.2.2.2.2.2.2.2.2.2.2.2.2.2.1 k0_h8
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h8 : k0_cond8 k0_t1 arg21_r0 arg22_r0 = 1#1), ∀ a, (k0_off28 arg9_r0) a + S1x512x2048.size a ≤ S2x512x2048.size a := fun k0_t1 arg8_r0 arg9_r0 arg10_r0 arg11_r0 arg12_r0 arg13_r0 arg14_r0 arg15_r0 arg16_r0 arg17_r0 arg19_r0 arg20_r0 arg21_r0 arg22_r0 k0_hw1 k0_h8 => k0_hw1.1.2.2.2.2.2.2.2.2.2.2.2.2.2.2.2.2.2.2.2.2.2.2.2.2.1 k0_h8
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h8 : k0_cond8 k0_t1 arg21_r0 arg22_r0 = 1#1), ∀ a, (k0_off29 arg21_r0) a + S512x2048.size a ≤ S16384x2048.size a := fun k0_t1 arg8_r0 arg9_r0 arg10_r0 arg11_r0 arg12_r0 arg13_r0 arg14_r0 arg15_r0 arg16_r0 arg17_r0 arg19_r0 arg20_r0 arg21_r0 arg22_r0 k0_hw1 k0_h8 => k0_hw1.1.2.2.2.2.2.2.2.2.2.2.2.2.2.2.2.2.2.2.2.2.2.2.2.2.2.1 k0_h8
theorem k0_off29_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h8 : k0_cond8 k0_t1 arg21_r0 arg22_r0 = 1#1), (Rect.unit (s := S16384x2048) (k0_off29 arg21_r0) S512x2048.size (k0_off29_inb k0_t1 arg8_r0 arg9_r0 arg10_r0 arg11_r0 arg12_r0 arg13_r0 arg14_r0 arg15_r0 arg16_r0 arg17_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h8 => k0_hw1.1.2.2.2.2.2.2.2.2.2.2.2.2.2.2.2.2.2.2.2.2.2.2.2.2.2.2.1 k0_h8 (k0_off29_inb k0_t1 arg8_r0 arg9_r0 arg10_r0 arg11_r0 arg12_r0 arg13_r0 arg14_r0 arg15_r0 arg16_r0 arg17_r0 arg19_r0 arg20_r0 arg21_r0 arg22_r0 k0_hw1 k0_h8)
theorem k0_off28_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h8 : k0_cond8 k0_t1 arg21_r0 arg22_r0 = 1#1), (Rect.unit (s := S2x512x2048) (k0_off28 arg9_r0) S1x512x2048.size (k0_off28_inb k0_t1 arg8_r0 arg9_r0 arg10_r0 arg11_r0 arg12_r0 arg13_r0 arg14_r0 arg15_r0 arg16_r0 arg17_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h8 => k0_hw1.1.2.2.2.2.2.2.2.2.2.2.2.2.2.2.2.2.2.2.2.2.2.2.2.2.2.2.2.1 k0_h8 (k0_off28_inb k0_t1 arg8_r0 arg9_r0 arg10_r0 arg11_r0 arg12_r0 arg13_r0 arg14_r0 arg15_r0 arg16_r0 arg17_r0 arg19_r0 arg20_r0 arg21_r0 arg22_r0 k0_hw1 k0_h8)
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h9 : k0_cond9 k0_t1 arg21_r0 arg22_r0 = 1#1), ∀ a, (k0_off30 arg11_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h9 => k0_hw1.1.2.2.2.2.2.2.2.2.2.2.2.2.2.2.2.2.2.2.2.2.2.2.2.2.2.2.2.2.1 k0_h9
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h9 : k0_cond9 k0_t1 arg21_r0 arg22_r0 = 1#1), ∀ a, (k0_off31 arg11_r0) a + S1x512x2048.size a ≤ S2x512x2048.size a := fun k0_t1 arg8_r0 arg9_r0 arg10_r0 arg11_r0 arg12_r0 arg13_r0 arg14_r0 arg15_r0 arg16_r0 arg17_r0 arg19_r0 arg20_r0 arg21_r0 arg22_r0 k0_hw1 k0_h9 => k0_hw1.1.2.2.2.2.2.2.2.2.2.2.2.2.2.2.2.2.2.2.2.2.2.2.2.2.2.2.2.2.2.1 k0_h9
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h9 : k0_cond9 k0_t1 arg21_r0 arg22_r0 = 1#1), ∀ a, (k0_off32 arg21_r0) a + S512x2048.size a ≤ S16384x2048.size a := fun k0_t1 arg8_r0 arg9_r0 arg10_r0 arg11_r0 arg12_r0 arg13_r0 arg14_r0 arg15_r0 arg16_r0 arg17_r0 arg19_r0 arg20_r0 arg21_r0 arg22_r0 k0_hw1 k0_h9 => k0_hw1.1.2.2.2.2.2.2.2.2.2.2.2.2.2.2.2.2.2.2.2.2.2.2.2.2.2.2.2.2.2.2.1 k0_h9
theorem k0_off32_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h9 : k0_cond9 k0_t1 arg21_r0 arg22_r0 = 1#1), (Rect.unit (s := S16384x2048) (k0_off32 arg21_r0) S512x2048.size (k0_off32_inb k0_t1 arg8_r0 arg9_r0 arg10_r0 arg11_r0 arg12_r0 arg13_r0 arg14_r0 arg15_r0 arg16_r0 arg17_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h9 => k0_hw1.1.2.2.2.2.2.2.2.2.2.2.2.2.2.2.2.2.2.2.2.2.2.2.2.2.2.2.2.2.2.2.2 k0_h9 (k0_off32_inb k0_t1 arg8_r0 arg9_r0 arg10_r0 arg11_r0 arg12_r0 arg13_r0 arg14_r0 arg15_r0 arg16_r0 arg17_r0 arg19_r0 arg20_r0 arg21_r0 arg22_r0 k0_hw1 k0_h9)
theorem k0_off31_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h9 : k0_cond9 k0_t1 arg21_r0 arg22_r0 = 1#1), (Rect.unit (s := S2x512x2048) (k0_off31 arg11_r0) S1x512x2048.size (k0_off31_inb k0_t1 arg8_r0 arg9_r0 arg10_r0 arg11_r0 arg12_r0 arg13_r0 arg14_r0 arg15_r0 arg16_r0 arg17_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h9 => k0_hw1.2.1 k0_h9 (k0_off31_inb k0_t1 arg8_r0 arg9_r0 arg10_r0 arg11_r0 arg12_r0 arg13_r0 arg14_r0 arg15_r0 arg16_r0 arg17_r0 arg19_r0 arg20_r0 arg21_r0 arg22_r0 k0_hw1 k0_h9)
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h10 : k0_cond10 k0_t1 arg21_r0 arg22_r0 = 1#1), ∀ a, (k0_off33 arg13_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h10 => k0_hw1.2.2.1 k0_h10
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h10 : k0_cond10 k0_t1 arg21_r0 arg22_r0 = 1#1), ∀ a, (k0_off34 arg13_r0) a + S1x512x1024.size a ≤ S2x512x1024.size a := fun k0_t1 arg8_r0 arg9_r0 arg10_r0 arg11_r0 arg12_r0 arg13_r0 arg14_r0 arg15_r0 arg16_r0 arg17_r0 arg19_r0 arg20_r0 arg21_r0 arg22_r0 k0_hw1 k0_h10 => k0_hw1.2.2.2.1 k0_h10
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h10 : k0_cond10 k0_t1 arg21_r0 arg22_r0 = 1#1), ∀ a, (k0_off35 arg21_r0 arg22_r0) a + S512x1024.size a ≤ S16384x4096.size a := fun k0_t1 arg8_r0 arg9_r0 arg10_r0 arg11_r0 arg12_r0 arg13_r0 arg14_r0 arg15_r0 arg16_r0 arg17_r0 arg19_r0 arg20_r0 arg21_r0 arg22_r0 k0_hw1 k0_h10 => k0_hw1.2.2.2.2.1 k0_h10
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h11 : k0_cond11 k0_t1 arg22_r0 = 1#1), ∀ a, (k0_off36 arg15_r0) a + S1.size a ≤ S3.size a := fun k0_t1 arg8_r0 arg9_r0 arg10_r0 arg11_r0 arg12_r0 arg13_r0 arg14_r0 arg15_r0 arg16_r0 arg17_r0 arg19_r0 arg20_r0 arg21_r0 arg22_r0 k0_hw1 k0_h11 => k0_hw1.2.2.2.2.2.1 k0_h11
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h11 : k0_cond11 k0_t1 arg22_r0 = 1#1), ∀ a, (k0_off37 arg15_r0) a + S1x2048x1024.size a ≤ S3x2048x1024.size a := fun k0_t1 arg8_r0 arg9_r0 arg10_r0 arg11_r0 arg12_r0 arg13_r0 arg14_r0 arg15_r0 arg16_r0 arg17_r0 arg19_r0 arg20_r0 arg21_r0 arg22_r0 k0_hw1 k0_h11 => k0_hw1.2.2.2.2.2.2.1 k0_h11
theorem k0_off38_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h11 : k0_cond11 k0_t1 arg22_r0 = 1#1), ∀ a, (k0_off38 arg22_r0) a + S2048x1024.size a ≤ S4096x4096.size a := fun k0_t1 arg8_r0 arg9_r0 arg10_r0 arg11_r0 arg12_r0 arg13_r0 arg14_r0 arg15_r0 arg16_r0 arg17_r0 arg19_r0 arg20_r0 arg21_r0 arg22_r0 k0_hw1 k0_h11 => k0_hw1.2.2.2.2.2.2.2.1 k0_h11
theorem k0_off38_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h11 : k0_cond11 k0_t1 arg22_r0 = 1#1), (Rect.unit (s := S4096x4096) (k0_off38 arg22_r0) S2048x1024.size (k0_off38_inb k0_t1 arg8_r0 arg9_r0 arg10_r0 arg11_r0 arg12_r0 arg13_r0 arg14_r0 arg15_r0 arg16_r0 arg17_r0 arg19_r0 arg20_r0 arg21_r0 arg22_r0 k0_hw1 k0_h11)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h11 => k0_hw1.2.2.2.2.2.2.2.2.1 k0_h11 (k0_off38_inb k0_t1 arg8_r0 arg9_r0 arg10_r0 arg11_r0 arg12_r0 arg13_r0 arg14_r0 arg15_r0 arg16_r0 arg17_r0 arg19_r0 arg20_r0 arg21_r0 arg22_r0 k0_hw1 k0_h11)
theorem k0_off37_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h11 : k0_cond11 k0_t1 arg22_r0 = 1#1), (Rect.unit (s := S3x2048x1024) (k0_off37 arg15_r0) S1x2048x1024.size (k0_off37_inb k0_t1 arg8_r0 arg9_r0 arg10_r0 arg11_r0 arg12_r0 arg13_r0 arg14_r0 arg15_r0 arg16_r0 arg17_r0 arg19_r0 arg20_r0 arg21_r0 arg22_r0 k0_hw1 k0_h11)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h11 => k0_hw1.2.2.2.2.2.2.2.2.2.1 k0_h11 (k0_off37_inb k0_t1 arg8_r0 arg9_r0 arg10_r0 arg11_r0 arg12_r0 arg13_r0 arg14_r0 arg15_r0 arg16_r0 arg17_r0 arg19_r0 arg20_r0 arg21_r0 arg22_r0 k0_hw1 k0_h11)
theorem k0_off39_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h12 : k0_cond12 k0_t1 arg22_r0 = 1#1), ∀ a, (k0_off39 arg17_r0) a + S1.size a ≤ S3.size a := fun k0_t1 arg8_r0 arg9_r0 arg10_r0 arg11_r0 arg12_r0 arg13_r0 arg14_r0 arg15_r0 arg16_r0 arg17_r0 arg19_r0 arg20_r0 arg21_r0 arg22_r0 k0_hw1 k0_h12 => k0_hw1.2.2.2.2.2.2.2.2.2.2.1 k0_h12
theorem k0_off40_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h12 : k0_cond12 k0_t1 arg22_r0 = 1#1), ∀ a, (k0_off40 arg17_r0) a + S1x2048x1024.size a ≤ S3x2048x1024.size a := fun k0_t1 arg8_r0 arg9_r0 arg10_r0 arg11_r0 arg12_r0 arg13_r0 arg14_r0 arg15_r0 arg16_r0 arg17_r0 arg19_r0 arg20_r0 arg21_r0 arg22_r0 k0_hw1 k0_h12 => k0_hw1.2.2.2.2.2.2.2.2.2.2.2.1 k0_h12
theorem k0_off41_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h12 : k0_cond12 k0_t1 arg22_r0 = 1#1), ∀ a, (k0_off41 arg22_r0) a + S2048x1024.size a ≤ S4096x4096.size a := fun k0_t1 arg8_r0 arg9_r0 arg10_r0 arg11_r0 arg12_r0 arg13_r0 arg14_r0 arg15_r0 arg16_r0 arg17_r0 arg19_r0 arg20_r0 arg21_r0 arg22_r0 k0_hw1 k0_h12 => k0_hw1.2.2.2.2.2.2.2.2.2.2.2.2.1 k0_h12
theorem k0_off41_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h12 : k0_cond12 k0_t1 arg22_r0 = 1#1), (Rect.unit (s := S4096x4096) (k0_off41 arg22_r0) S2048x1024.size (k0_off41_inb k0_t1 arg8_r0 arg9_r0 arg10_r0 arg11_r0 arg12_r0 arg13_r0 arg14_r0 arg15_r0 arg16_r0 arg17_r0 arg19_r0 arg20_r0 arg21_r0 arg22_r0 k0_hw1 k0_h12)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h12 => k0_hw1.2.2.2.2.2.2.2.2.2.2.2.2.2.1 k0_h12 (k0_off41_inb k0_t1 arg8_r0 arg9_r0 arg10_r0 arg11_r0 arg12_r0 arg13_r0 arg14_r0 arg15_r0 arg16_r0 arg17_r0 arg19_r0 arg20_r0 arg21_r0 arg22_r0 k0_hw1 k0_h12)
theorem k0_off40_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h12 : k0_cond12 k0_t1 arg22_r0 = 1#1), (Rect.unit (s := S3x2048x1024) (k0_off40 arg17_r0) S1x2048x1024.size (k0_off40_inb k0_t1 arg8_r0 arg9_r0 arg10_r0 arg11_r0 arg12_r0 arg13_r0 arg14_r0 arg15_r0 arg16_r0 arg17_r0 arg19_r0 arg20_r0 arg21_r0 arg22_r0 k0_hw1 k0_h12)).WholeWords (EltTy.packing .bf16) := fun k0_t1 arg8_r0 arg9_r0 arg10_r0 arg11_r0 arg12_r0 arg13_r0 arg14_r0 arg15_r0 arg16_r0 arg17_r0 arg19_r0 arg20_r0 arg21_r0 arg22_r0 k0_hw1 k0_h12 => k0_hw1.2.2.2.2.2.2.2.2.2.2.2.2.2.2.1 k0_h12 (k0_off40_inb k0_t1 arg8_r0 arg9_r0 arg10_r0 arg11_r0 arg12_r0 arg13_r0 arg14_r0 arg15_r0 arg16_r0 arg17_r0 arg19_r0 arg20_r0 arg21_r0 arg22_r0 k0_hw1 k0_h12)
theorem k0_mult1_dvd : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), 1024 ∣ (k0_mult1 arg22_r0).toNat := fun k0_t1 arg8_r0 arg9_r0 arg10_r0 arg11_r0 arg12_r0 arg13_r0 arg14_r0 arg15_r0 arg16_r0 arg17_r0 arg19_r0 arg20_r0 arg21_r0 arg22_r0 k0_hw1 => k0_hw1.2.2.2.2.2.2.2.2.2.2.2.2.2.2.2.1
theorem k0_off48_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ a, (k0_off48 arg22_r0) a + S512x1024.size a ≤ S512x4096.size a := fun k0_t1 arg8_r0 arg9_r0 arg10_r0 arg11_r0 arg12_r0 arg13_r0 arg14_r0 arg15_r0 arg16_r0 arg17_r0 arg19_r0 arg20_r0 arg21_r0 arg22_r0 k0_hw1 => k0_hw1.2.2.2.2.2.2.2.2.2.2.2.2.2.2.2.2.1
theorem k0_off49_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h14 : k0_cond14 arg22_r0 = 1#1), ∀ a, (k0_off49 arg19_r0) a + S1x512x4096.size a ≤ S2x512x4096.size a := fun k0_t1 arg8_r0 arg9_r0 arg10_r0 arg11_r0 arg12_r0 arg13_r0 arg14_r0 arg15_r0 arg16_r0 arg17_r0 arg19_r0 arg20_r0 arg21_r0 arg22_r0 k0_hw1 k0_h14 => k0_hw1.2.2.2.2.2.2.2.2.2.2.2.2.2.2.2.2.2.1 k0_h14
theorem k0_off50_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h20 : k0_cond20 k0_t1 arg21_r0 arg22_r0 = 1#1), ∀ a, (k0_off50 arg19_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h20 => k0_hw1.2.2.2.2.2.2.2.2.2.2.2.2.2.2.2.2.2.2.1 k0_h20
theorem k0_off51_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h20 : k0_cond20 k0_t1 arg21_r0 arg22_r0 = 1#1), ∀ a, (k0_off51 arg21_r0) a + S512x4096.size a ≤ S16384x4096.size a := fun k0_t1 arg8_r0 arg9_r0 arg10_r0 arg11_r0 arg12_r0 arg13_r0 arg14_r0 arg15_r0 arg16_r0 arg17_r0 arg19_r0 arg20_r0 arg21_r0 arg22_r0 k0_hw1 k0_h20 => k0_hw1.2.2.2.2.2.2.2.2.2.2.2.2.2.2.2.2.2.2.2.1 k0_h20
theorem k0_off52_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h20 : k0_cond20 k0_t1 arg21_r0 arg22_r0 = 1#1), ∀ a, (k0_off52 arg19_r0) a + S1x512x4096.size a ≤ S2x512x4096.size a := fun k0_t1 arg8_r0 arg9_r0 arg10_r0 arg11_r0 arg12_r0 arg13_r0 arg14_r0 arg15_r0 arg16_r0 arg17_r0 arg19_r0 arg20_r0 arg21_r0 arg22_r0 k0_hw1 k0_h20 => k0_hw1.2.2.2.2.2.2.2.2.2.2.2.2.2.2.2.2.2.2.2.2.1 k0_h20
theorem k0_off53_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h26 : k0_cond26 k0_t1 arg21_r0 arg22_r0 = 1#1), ∀ a, (k0_off53 arg20_r0) a + S1.size a ≤ S2.size a := fun k0_t1 arg8_r0 arg9_r0 arg10_r0 arg11_r0 arg12_r0 arg13_r0 arg14_r0 arg15_r0 arg16_r0 arg17_r0 arg19_r0 arg20_r0 arg21_r0 arg22_r0 k0_hw1 k0_h26 => k0_hw1.2.2.2.2.2.2.2.2.2.2.2.2.2.2.2.2.2.2.2.2.2.1 k0_h26
theorem k0_off54_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h26 : k0_cond26 k0_t1 arg21_r0 arg22_r0 = 1#1), ∀ a, (k0_off54 arg21_r0 arg22_r0) a + S512x4096.size a ≤ S16384x4096.size a := fun k0_t1 arg8_r0 arg9_r0 arg10_r0 arg11_r0 arg12_r0 arg13_r0 arg14_r0 arg15_r0 arg16_r0 arg17_r0 arg19_r0 arg20_r0 arg21_r0 arg22_r0 k0_hw1 k0_h26 => k0_hw1.2.2.2.2.2.2.2.2.2.2.2.2.2.2.2.2.2.2.2.2.2.2.1 k0_h26
theorem k0_off55_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg16_r0 arg17_r0 arg19_r0 arg20_r0 arg21_r0 arg22_r0), ∀ (k0_h26 : k0_cond26 k0_t1 arg21_r0 arg22_r0 = 1#1), ∀ a, (k0_off55 arg20_r0) a + S1x512x4096.size a ≤ S2x512x4096.size a := fun k0_t1 arg8_r0 arg9_r0 arg10_r0 arg11_r0 arg12_r0 arg13_r0 arg14_r0 arg15_r0 arg16_r0 arg17_r0 arg19_r0 arg20_r0 arg21_r0 arg22_r0 k0_hw1 k0_h26 => k0_hw1.2.2.2.2.2.2.2.2.2.2.2.2.2.2.2.2.2.2.2.2.2.2.2 k0_h26

def k0_off56 (v92_12_r0 : BitVec 32) : Fin 1 → Nat :=
  let c2_i32_145_r0 : BitVec 32 := 2#32
  let v143_r0 : BitVec 32 := Scalar.remui v92_12_r0 c2_i32_145_r0
  ![v143_r0.toNat]

def k0_off57 (v92_14_r0 : BitVec 32) (v92_13_r0 : BitVec 32) : Fin 2 → Nat :=
  let c512_i32_r0 : BitVec 32 := 512#32
  let true_101_r0 : BitVec 1 := 1#1
  let c1_i32_100_r0 : BitVec 32 := 1#32
  let v93_r0 : BitVec 32 := Scalar.subi v92_14_r0 c1_i32_100_r0
  let v94_r0 : BitVec 32 := Scalar.select true_101_r0 v93_r0 v92_14_r0
  let c_m1_i32_102_r0 : BitVec 32 := 4294967295#32
  let v95_r0 : BitVec 1 := Scalar.cmpi .eq v94_r0 c_m1_i32_102_r0
  let c1_i32_104_r0 : BitVec 32 := 1#32
  let v97_r0 : BitVec 32 := Scalar.subi v92_13_r0 c1_i32_104_r0
  let v98_r0 : BitVec 32 := Scalar.select v95_r0 v97_r0 v92_13_r0
  let c_m1_i32_105_r0 : BitVec 32 := 4294967295#32
  let v99_r0 : BitVec 1 := Scalar.cmpi .eq v98_r0 c_m1_i32_105_r0
  let c31_i32_106_r0 : BitVec 32 := 31#32
  let v100_r0 : BitVec 32 := Scalar.select v99_r0 c31_i32_106_r0 v98_r0
  let c0_i32_107_r0 : BitVec 32 := 0#32
  let v101_r0 : BitVec 32 := Scalar.addi v100_r0 c0_i32_107_r0
  let v144_r0 : BitVec 32 := Scalar.muli c512_i32_r0 v101_r0
  let c0_i32_146_r0 : BitVec 32 := 0#32
  ![v144_r0.toNat, 0]

def k0_chk9 (v92_14_r0 : BitVec 32) (v92_13_r0 : BitVec 32) : Prop :=
  (∀ a, (k0_off57 v92_14_r0 v92_13_r0) a + S512x4096.size a ≤ S16384x4096.size a)
theorem k0_off57_inb : ∀ (v92_14_r0 : BitVec 32) (v92_13_r0 : BitVec 32) (k0_hw9 : k0_chk9 v92_14_r0 v92_13_r0), ∀ a, (k0_off57 v92_14_r0 v92_13_r0) a + S512x4096.size a ≤ S16384x4096.size a := fun v92_14_r0 v92_13_r0 k0_hw9 => k0_hw9

def k0_off58 (v92_12_r0 : BitVec 32) : Fin 3 → Nat :=
  let c2_i32_145_r0 : BitVec 32 := 2#32
  let v143_r0 : BitVec 32 := Scalar.remui v92_12_r0 c2_i32_145_r0
  let c0_i32_147_r0 : BitVec 32 := 0#32
  let c0_i32_148_r0 : BitVec 32 := 0#32
  ![v143_r0.toNat, 0, 0]

def k0_chk8 (v92_12_r0 : BitVec 32) : Prop :=
  (∀ a, (k0_off56 v92_12_r0) a + S1.size a ≤ S2.size a) ∧
  (∀ a, (k0_off58 v92_12_r0) a + S1x512x4096.size a ≤ S2x512x4096.size a)
theorem k0_off56_inb : ∀ (v92_12_r0 : BitVec 32) (k0_hw8 : k0_chk8 v92_12_r0), ∀ a, (k0_off56 v92_12_r0) a + S1.size a ≤ S2.size a := fun v92_12_r0 k0_hw8 => k0_hw8.1
theorem k0_off58_inb : ∀ (v92_12_r0 : BitVec 32) (k0_hw8 : k0_chk8 v92_12_r0), ∀ a, (k0_off58 v92_12_r0) a + S1x512x4096.size a ≤ S2x512x4096.size a := fun v92_12_r0 k0_hw8 => k0_hw8.2
-- ==== ReferenceIdeal.lean ====
abbrev S16384x2048 : Shape := ⟨2, ![16384, 2048]⟩
abbrev S4x4096x4096 : Shape := ⟨3, ![4, 4096, 4096]⟩
abbrev S4096x4096 : Shape := ⟨2, ![4096, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4x4096x4096, .f32⟩
  | .hbm, ⟨3, _⟩ => ⟨S4096x4096, .f32⟩
  | .hbm, ⟨4, _⟩ => ⟨S4096, .f32⟩
  | .hbm, ⟨5, _⟩ => ⟨S16384x4096, .bf16⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel2.lean ====
abbrev S4x4096x4096 : Shape := ⟨3, ![4, 4096, 4096]⟩
abbrev S4096 : Shape := ⟨1, ![4096]⟩
abbrev S15360x4096 : Shape := ⟨2, ![15360, 4096]⟩
abbrev S128x4096 : Shape := ⟨2, ![128, 4096]⟩
abbrev S16384x4096 : Shape := ⟨2, ![16384, 4096]⟩
abbrev S1x4096 : Shape := ⟨2, ![1, 4096]⟩
abbrev S16384x15360 : Shape := ⟨2, ![16384, 15360]⟩
abbrev S16384x128 : Shape := ⟨2, ![16384, 128]⟩
abbrev S512x4096 : Shape := ⟨2, ![512, 4096]⟩
abbrev S512x128 : Shape := ⟨2, ![512, 128]⟩
abbrev S2x1536x4096 : Shape := ⟨3, ![2, 1536, 4096]⟩
abbrev S2x512x1536 : Shape := ⟨3, ![2, 512, 1536]⟩
abbrev S2 : Shape := ⟨1, ![2]⟩
abbrev S1 : Shape := ⟨1, ![1]⟩
abbrev S_ : Shape := ⟨0, ![]⟩
abbrev S1x1536x4096 : Shape := ⟨3, ![1, 1536, 4096]⟩
abbrev S1536x4096 : Shape := ⟨2, ![1536, 4096]⟩
abbrev S512 : Shape := ⟨1, ![512]⟩
abbrev S512x1 : Shape := ⟨2, ![512, 1]⟩
abbrev S512x1536 : Shape := ⟨2, ![512, 1536]⟩
abbrev S1x512x1536 : Shape := ⟨3, ![1, 512, 1536]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S15360x4096, .bf16⟩
  | .hbm, ⟨3, _⟩ => ⟨S128x4096, .bf16⟩
  | .hbm, ⟨4, _⟩ => ⟨S16384x4096, .f32⟩
  | .hbm, ⟨5, _⟩ => ⟨S1x4096, .f32⟩
  | .hbm, ⟨6, _⟩ => ⟨S16384x15360, .bf16⟩
  | .hbm, ⟨7, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S128x4096, .bf16⟩
  | .local _ .vmem, ⟨4, _⟩ => ⟨S512x128, .f32⟩
  | .local _ .vmem, ⟨5, _⟩ => ⟨S512x128, .f32⟩
  | .local _ .vmem, ⟨6, _⟩ => ⟨S512x4096, .bf16⟩
  | .local _ .vmem, ⟨7, _⟩ => ⟨S2x1536x4096, .bf16⟩
  | .local _ .vmem, ⟨8, _⟩ => ⟨S2x512x1536, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_16 : BitVec 32 := 0#32
  c0_i32_16
@[reducible] def k0_t1_loop : Scf.Loop 32 :=
  let c0_i32_13 : BitVec 32 := 0#32
  let c10_i32 : BitVec 32 := 10#32
  let v26 : BitVec 32 := Scalar.addi c0_i32_13 c10_i32
  let c1_i32 : BitVec 32 := 1#32
  ⟨c0_i32_13, v26, c1_i32⟩
def k0_mult2 (k0_t1 : Fin k0_t1_loop.trips) : BitVec 32 :=
  let c0_i32_13 : BitVec 32 := 0#32
  let c1_i32 : BitVec 32 := 1#32
  let arg12 : BitVec 32 := Scf.iv c0_i32_13 c1_i32 k0_t1
  let c1536_i32 : BitVec 32 := 1536#32
  let v51 : BitVec 32 := Scalar.muli arg12 c1536_i32
  v51
def k0_off1 (k0_t1 : Fin k0_t1_loop.trips) : Fin 1 → Nat :=
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  ![v39.toNat]
def k0_off2 (k0_t1 : Fin k0_t1_loop.trips) : Fin 3 → Nat :=
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c0_i32_28 : BitVec 32 := 0#32
  let c0_i32_29 : BitVec 32 := 0#32
  ![v39.toNat, 0, 0]
def k0_off3 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c1536_i32 : BitVec 32 := 1536#32
  let v51 : BitVec 32 := Scalar.muli arg12 c1536_i32
  let v52 : BitVec 32 := v51
  let c0_i32_30 : BitVec 32 := 0#32
  ![v52.toNat, 0]
def k0_cond2 (i : grid0.Coords) (k0_t1 : Fin k0_t1_loop.trips) : BitVec 1 :=
  let c0_i32_13 : BitVec 32 := 0#32
  let c1_i32 : BitVec 32 := 1#32
  let arg12 : BitVec 32 := Scf.iv c0_i32_13 c1_i32 k0_t1
  let c1_i32_31 : BitVec 32 := 1#32
  let v58 : BitVec 32 := Scalar.addi arg12 c1_i32_31
  let c10_i32_32 : BitVec 32 := 10#32
  let v59 : BitVec 1 := Scalar.cmpi .slt v58 c10_i32_32
  let arg0 : BitVec 32 := BitVec.ofNat 32 (i 0).val
  let c1_i32_33 : BitVec 32 := 1#32
  let v60 : BitVec 32 := Scalar.addi arg0 c1_i32_33
  let c32_i32 : BitVec 32 := 32#32
  let v61 : BitVec 1 := Scalar.cmpi .slt v60 c32_i32
  let v62 : BitVec 1 := Scalar.ori v59 v61
  let v63 : BitVec 32 := Scalar.extui v62
  let c0_i32_34 : BitVec 32 := 0#32
  let v64 : BitVec 1 := Scalar.cmpi .ne v63 c0_i32_34
  v64

def k0_mult3 (k0_t1 : Fin k0_t1_loop.trips) : BitVec 32 :=
  let c0_i32_13 : BitVec 32 := 0#32
  let c1_i32 : BitVec 32 := 1#32
  let arg12 : BitVec 32 := Scf.iv c0_i32_13 c1_i32 k0_t1
  let c1_i32_21 : BitVec 32 := 1#32
  let v40 : BitVec 32 := Scalar.addi arg12 c1_i32_21
  let c10_i32_22 : BitVec 32 := 10#32
  let c0_i32_23 : BitVec 32 := 0#32
  let v41 : BitVec 1 := Scalar.cmpi .eq c10_i32_22 c0_i32_23
  let c1_i32_24 : BitVec 32 := 1#32
  let v42 : BitVec 32 := Scalar.select v41 c1_i32_24 c10_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let c1536_i32_49 : BitVec 32 := 1536#32
  let v90 : BitVec 32 := Scalar.muli v50 c1536_i32_49
  v90
def k0_off4 (k0_t1 : Fin k0_t1_loop.trips) : Fin 1 → Nat :=
  let c1_i32_48 : BitVec 32 := 1#32
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let v89 : BitVec 32 := Scalar.subi c1_i32_48 v39
  ![v89.toNat]
def k0_off5 (k0_t1 : Fin k0_t1_loop.trips) : Fin 3 → Nat :=
  let c1_i32_48 : BitVec 32 := 1#32
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let v89 : BitVec 32 := Scalar.subi c1_i32_48 v39
  let c0_i32_50 : BitVec 32 := 0#32
  let c0_i32_51 : BitVec 32 := 0#32
  ![v89.toNat, 0, 0]
def k0_off6 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c1_i32_21 : BitVec 32 := 1#32
  let v40 : BitVec 32 := Scalar.addi arg12 c1_i32_21
  let c10_i32_22 : BitVec 32 := 10#32
  let c0_i32_23 : BitVec 32 := 0#32
  let v41 : BitVec 1 := Scalar.cmpi .eq c10_i32_22 c0_i32_23
  let c1_i32_24 : BitVec 32 := 1#32
  let v42 : BitVec 32 := Scalar.select v41 c1_i32_24 c10_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let c1536_i32_49 : BitVec 32 := 1536#32
  let v90 : BitVec 32 := Scalar.muli v50 c1536_i32_49
  let v91 : BitVec 32 := v90
  let c0_i32_52 : BitVec 32 := 0#32
  ![v91.toNat, 0]
def k0_cond3 (i : grid0.Coords) (k0_t1 : Fin k0_t1_loop.trips) : BitVec 1 :=
  let c0_i32_13 : BitVec 32 := 0#32
  let c1_i32 : BitVec 32 := 1#32
  let arg12 : BitVec 32 := Scf.iv c0_i32_13 c1_i32 k0_t1
  let c2_i32_35 : BitVec 32 := 2#32
  let v65 : BitVec 1 := Scalar.cmpi .sge arg12 c2_i32_35
  let arg0 : BitVec 32 := BitVec.ofNat 32 (i 0).val
  let c0_i32_36 : BitVec 32 := 0#32
  let v66 : BitVec 1 := Scalar.cmpi .sgt arg0 c0_i32_36
  let v67 : BitVec 1 := Scalar.ori v65 v66
  let v68 : BitVec 32 := Scalar.extui v67
  let c0_i32_37 : BitVec 32 := 0#32
  let v69 : BitVec 1 := Scalar.cmpi .ne v68 c0_i32_37
  v69

def k0_mult4 (i : grid0.Coords) : BitVec 32 :=
  let arg0 : BitVec 32 := BitVec.ofNat 32 (i 0).val
  let c512_i32_48 : BitVec 32 := 512#32
  let v89 : BitVec 32 := Scalar.muli arg0 c512_i32_48
  v89
def k0_mult5 (k0_t1 : Fin k0_t1_loop.trips) : BitVec 32 :=
  let c0_i32_13 : BitVec 32 := 0#32
  let c1_i32 : BitVec 32 := 1#32
  let arg12 : BitVec 32 := Scf.iv c0_i32_13 c1_i32 k0_t1
  let c1536_i32_49 : BitVec 32 := 1536#32
  let v91 : BitVec 32 := Scalar.muli arg12 c1536_i32_49
  v91
def k0_off7 (k0_t1 : Fin k0_t1_loop.trips) : Fin 1 → Nat :=
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  ![v39.toNat]
def k0_off8 (i : grid0.Coords) (k0_t1 : Fin k0_t1_loop.trips) : Fin 2 → Nat :=
  let arg0 : BitVec 32 := BitVec.ofNat 32 (i 0).val
  let c512_i32_48 : BitVec 32 := 512#32
  let v89 : BitVec 32 := Scalar.muli arg0 c512_i32_48
  let v90 : BitVec 32 := v89
  let c0_i32_13 : BitVec 32 := 0#32
  let c1_i32 : BitVec 32 := 1#32
  let arg12 : BitVec 32 := Scf.iv c0_i32_13 c1_i32 k0_t1
  let c1536_i32_49 : BitVec 32 := 1536#32
  let v91 : BitVec 32 := Scalar.muli arg12 c1536_i32_49
  let v92 : BitVec 32 := v91
  ![v90.toNat, v92.toNat]
def k0_off9 (k0_t1 : Fin k0_t1_loop.trips) : Fin 3 → Nat :=
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c0_i32_50 : BitVec 32 := 0#32
  let c0_i32_51 : BitVec 32 := 0#32
  ![v39.toNat, 0, 0]
def k0_off10 (k0_t1 : Fin k0_t1_loop.trips) : Fin 3 → Nat :=
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let v71 : Index := Scalar.indexCast v39
  let c0_40 : Index := 0#32
  let c0_41 : Index := 0#32
  ![v71.toNat, 0, 0]
def k0_off11 (k0_t1 : Fin k0_t1_loop.trips) : Fin 3 → Nat :=
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let v76 : Index := Scalar.indexCast v39
  let c0_43 : Index := 0#32
  let c0_44 : Index := 0#32
  ![v76.toNat, 0, 0]
def k0_mult6 (i : grid0.Coords) : BitVec 32 :=
  let arg0 : BitVec 32 := BitVec.ofNat 32 (i 0).val
  let c512_i32 : BitVec 32 := 512#32
  let v80 : BitVec 32 := Scalar.muli arg0 c512_i32
  v80
def k0_mult7 (k0_t1 : Fin k0_t1_loop.trips) : BitVec 32 :=
  let c0_i32_13 : BitVec 32 := 0#32
  let c1_i32 : BitVec 32 := 1#32
  let arg12 : BitVec 32 := Scf.iv c0_i32_13 c1_i32 k0_t1
  let c1536_i32_45 : BitVec 32 := 1536#32
  let v82 : BitVec 32 := Scalar.muli arg12 c1536_i32_45
  v82
def k0_off12 (i : grid0.Coords) (k0_t1 : Fin k0_t1_loop.trips) : Fin 2 → Nat :=
  let arg0 : BitVec 32 := BitVec.ofNat 32 (i 0).val
  let c512_i32 : BitVec 32 := 512#32
  let v80 : BitVec 32 := Scalar.muli arg0 c512_i32
  let v81 : BitVec 32 := v80
  let c0_i32_13 : BitVec 32 := 0#32
  let c1_i32 : BitVec 32 := 1#32
  let arg12 : BitVec 32 := Scf.iv c0_i32_13 c1_i32 k0_t1
  let c1536_i32_45 : BitVec 32 := 1536#32
  let v82 : BitVec 32 := Scalar.muli arg12 c1536_i32_45
  let v83 : BitVec 32 := v82
  ![v81.toNat, v83.toNat]
def k0_off13 (k0_t1 : Fin k0_t1_loop.trips) : Fin 3 → Nat :=
  let c0_i32_13 : BitVec 32 := 0#32
  let c1_i32 : BitVec 32 := 1#32
  let arg12 : BitVec 32 := Scf.iv c0_i32_13 c1_i32 k0_t1
  let c2_i32 : BitVec 32 := 2#32
  let c0_i32_16 : BitVec 32 := 0#32
  let v30 : BitVec 1 := Scalar.cmpi .eq c2_i32 c0_i32_16
  let c1_i32_17 : BitVec 32 := 1#32
  let v31 : BitVec 32 := Scalar.select v30 c1_i32_17 c2_i32
  let v32 : BitVec 32 := Scalar.remsi arg12 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c0_i32_46 : BitVec 32 := 0#32
  let c0_i32_47 : BitVec 32 := 0#32
  ![v39.toNat, 0, 0]
def k0_cond4 (i : grid0.Coords) : BitVec 1 :=
  let arg0 : BitVec 32 := BitVec.ofNat 32 (i 0).val
  let c31_i32 : BitVec 32 := 31#32
  let v27 : BitVec 1 := Scalar.cmpi .eq arg0 c31_i32
  let v28 : BitVec 32 := Scalar.extui v27
  let c0_i32_15 : BitVec 32 := 0#32
  let v29 : BitVec 1 := Scalar.cmpi .ne v28 c0_i32_15
  v29

def k0_mult8 (i : grid0.Coords) : BitVec 32 :=
  let arg0 : BitVec 32 := BitVec.ofNat 32 (i 0).val
  let c512_i32 : BitVec 32 := 512#32
  let v30 : BitVec 32 := Scalar.muli arg0 c512_i32
  v30
def k0_mult9 : BitVec 32 :=
  let c12288_i32 : BitVec 32 := 12288#32
  c12288_i32
def k0_off14 (i : grid0.Coords) : Fin 2 → Nat :=
  let arg0 : BitVec 32 := BitVec.ofNat 32 (i 0).val
  let c512_i32 : BitVec 32 := 512#32
  let v30 : BitVec 32 := Scalar.muli arg0 c512_i32
  let v31 : BitVec 32 := v30
  let c12288_i32 : BitVec 32 := 12288#32
  let v32 : BitVec 32 := c12288_i32
  ![v31.toNat, 12288]
def k0_mult10 (i : grid0.Coords) : BitVec 32 :=
  let arg0 : BitVec 32 := BitVec.ofNat 32 (i 0).val
  let c512_i32_20 : BitVec 32 := 512#32
  let v38 : BitVec 32 := Scalar.muli arg0 c512_i32_20
  v38
def k0_mult11 : BitVec 32 :=
  let c13824_i32 : BitVec 32 := 13824#32
  c13824_i32
def k0_off15 (i : grid0.Coords) : Fin 2 → Nat :=
  let arg0 : BitVec 32 := BitVec.ofNat 32 (i 0).val
  let c512_i32_20 : BitVec 32 := 512#32
  let v38 : BitVec 32 := Scalar.muli arg0 c512_i32_20
  let v39 : BitVec 32 := v38
  let c13824_i32 : BitVec 32 := 13824#32
  let v40 : BitVec 32 := c13824_i32
  ![v39.toNat, 13824]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4x4096x4096 : Shape := ⟨3, ![4, 4096, 4096]⟩
abbrev S4096 : Shape := ⟨1, ![4096]⟩
abbrev S15360x4096 : Shape := ⟨2, ![15360, 4096]⟩
abbrev S128x4096 : Shape := ⟨2, ![128, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4096x15360 : Shape := ⟨2, ![4096, 15360]⟩
abbrev S16384x15360 : Shape := ⟨2, ![16384, 15360]⟩
abbrev S4096x128 : Shape := ⟨2, ![4096, 128]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S15360x4096, .bf16⟩
  | .hbm, ⟨3, _⟩ => ⟨S128x4096, .bf16⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S15360x4096, .f32⟩
  | .hbm, ⟨22, _⟩ => ⟨S4096x15360, .f32⟩
  | .hbm, ⟨23, _⟩ => ⟨S16384x15360, .f32⟩
  | .hbm, ⟨24, _⟩ => ⟨S128x4096, .f32⟩
  | .hbm, ⟨25, _⟩ => ⟨S4096x128, .f32⟩
  | .hbm, ⟨26, _⟩ => ⟨S16384x128, .f32⟩
  | .hbm, ⟨27, _⟩ => ⟨S16384x15360, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel3.lean ====
abbrev S4096x15416 : Shape := ⟨2, ![4096, 15416]⟩
abbrev S15416x4096 : Shape := ⟨2, ![15416, 4096]⟩
abbrev S15360x4096 : Shape := ⟨2, ![15360, 4096]⟩
abbrev S128x4096 : Shape := ⟨2, ![128, 4096]⟩
abbrev S512x4096 : Shape := ⟨2, ![512, 4096]⟩
abbrev S8x4096 : Shape := ⟨2, ![8, 4096]⟩
abbrev S48x4096 : Shape := ⟨2, ![48, 4096]⟩
abbrev S72x4096 : Shape := ⟨2, ![72, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4096x15416, .f32⟩
  | .hbm, ⟨1, _⟩ => ⟨S15416x4096, .f32⟩
  | .hbm, ⟨2, _⟩ => ⟨S15360x4096, .bf16⟩
  | .hbm, ⟨3, _⟩ => ⟨S128x4096, .bf16⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S48x4096, .f32⟩
  | .local _ .vmem, ⟨4, _⟩ => ⟨S512x4096, .bf16⟩
  | .local _ .vmem, ⟨5, _⟩ => ⟨S512x4096, .bf16⟩
  | .local _ .vmem, ⟨6, _⟩ => ⟨S128x4096, .bf16⟩
  | _, _ => ⟨S4096x15416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![30], ![false]⟩

def k0_mult1 (i : grid0.Coords) : BitVec 32 :=
  let arg0 : BitVec 32 := BitVec.ofNat 32 (i 0).val
  let c512_i32 : BitVec 32 := 512#32
  let v5 : BitVec 32 := Scalar.muli arg0 c512_i32
  let c16_i32 : BitVec 32 := 16#32
  let v0 : BitVec 1 := Scalar.cmpi .sge arg0 c16_i32
  let c8_i32 : BitVec 32 := 8#32
  let c0_i32 : BitVec 32 := 0#32
  let v1 : BitVec 32 := Scalar.select v0 c8_i32 c0_i32
  let c26_i32 : BitVec 32 := 26#32
  let v2 : BitVec 1 := Scalar.cmpi .sge arg0 c26_i32
  let c48_i32 : BitVec 32 := 48#32
  let c0_i32_0 : BitVec 32 := 0#32
  let v3 : BitVec 32 := Scalar.select v2 c48_i32 c0_i32_0
  let v4 : BitVec 32 := Scalar.addi v1 v3
  let v6 : BitVec 32 := Scalar.addi v5 v4
  v6
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c16_i32 : BitVec 32 := 16#32
  let v0 : BitVec 1 := Scalar.cmpi .sge arg0 c16_i32
  let c8_i32 : BitVec 32 := 8#32
  let c0_i32 : BitVec 32 := 0#32
  let v1 : BitVec 32 := Scalar.select v0 c8_i32 c0_i32
  let c26_i32 : BitVec 32 := 26#32
  let v2 : BitVec 1 := Scalar.cmpi .sge arg0 c26_i32
  let c48_i32 : BitVec 32 := 48#32
  let c0_i32_0 : BitVec 32 := 0#32
  let v3 : BitVec 32 := Scalar.select v2 c48_i32 c0_i32_0
  let v4 : BitVec 32 := Scalar.addi v1 v3
  let c512_i32 : BitVec 32 := 512#32
  let v5 : BitVec 32 := Scalar.muli arg0 c512_i32
  let v6 : BitVec 32 := Scalar.addi v5 v4
  let v7 : BitVec 32 := v6
  let c0_i32_1 : BitVec 32 := 0#32
  let c0_i32_2 : BitVec 32 := 0#32
  ![v7.toNat, c0_i32_1.toNat]

def cc0_transform_1 (i : grid0.Coords) : Fin 2 → Nat :=
  let arg0 : BitVec 32 := BitVec.ofNat 32 (i 0).val
  let c8192_i32 : BitVec 32 := 8192#32
  let c0_i32 : BitVec 32 := 0#32
  let c0_i32_0 : BitVec 32 := 0#32
  ![c8192_i32.toNat, c0_i32.toNat]

def cc0_transform_2 (i : grid0.Coords) : Fin 2 → Nat :=
  let arg0 : BitVec 32 := BitVec.ofNat 32 (i 0).val
  let c13320_i32 : BitVec 32 := 13320#32
  let c0_i32 : BitVec 32 := 0#32
  let c0_i32_0 : BitVec 32 := 0#32
  ![c13320_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S4096x15416 : Shape := ⟨2, ![4096, 15416]⟩
abbrev S15416x4096 : Shape := ⟨2, ![15416, 4096]⟩
abbrev S8192x4096 : Shape := ⟨2, ![8192, 4096]⟩
abbrev S8x4096 : Shape := ⟨2, ![8, 4096]⟩
abbrev S5120x4096 : Shape := ⟨2, ![5120, 4096]⟩
abbrev S48x4096 : Shape := ⟨2, ![48, 4096]⟩
abbrev S2048x4096 : Shape := ⟨2, ![2048, 4096]⟩
abbrev S_ : Shape := ⟨0, ![]⟩
abbrev S72x4096 : Shape := ⟨2, ![72, 4096]⟩
abbrev S15360x4096 : Shape := ⟨2, ![15360, 4096]⟩
abbrev S128x4096 : Shape := ⟨2, ![128, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x15416, .f32⟩
  | .hbm, ⟨1, _⟩ => ⟨S15416x4096, .f32⟩
  | .hbm, ⟨2, _⟩ => ⟨S15416x4096, .bf16⟩
  | .hbm, ⟨3, _⟩ => ⟨S8192x4096, .bf16⟩
  | .hbm, ⟨4, _⟩ => ⟨S8x4096, .bf16⟩
  | .hbm, ⟨5, _⟩ => ⟨S5120x4096, .bf16⟩
  | .hbm, ⟨6, _⟩ => ⟨S48x4096, .bf16⟩
  | .hbm, ⟨7, _⟩ => ⟨S2048x4096, .bf16⟩
  | .hbm, ⟨8, _⟩ => ⟨S_, .bf16⟩
  | .hbm, ⟨9, _⟩ => ⟨S72x4096, .bf16⟩
  | .hbm, ⟨10, _⟩ => ⟨S15360x4096, .bf16⟩
  | .hbm, ⟨11, _⟩ => ⟨S128x4096, .bf16⟩
  | _, _ => ⟨S4096x15416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Proof.Words.lean ====
module

public import proofs.«01_k».proof.Defs
public import proofs.«01_k».proof.Proof.Gen.KernelIdeal.Skeleton
public import Idealize.ShloMosaic.Lib.Ring

@[expose] public section

/-!
# The words the loop carries

The loop over the 32 row blocks times 4 column tiles carries fifteen words: how many blocks of each
operand have been asked for, how many have been waited for, and which tile is next.  Before trip `k`
each of them is a closed function of `k`; the conditions and the offsets of a trip are computed from
them, and here is what each comes to.
-/

namespace Cert.KernelIdeal
open Cert.KernelIdeal Cert.KernelIdeal.Gen
open Idealize.ShloMosaic

/-- Row blocks of a mixer asked for before trip `k`. -/
def wAsk (k : ℕ) : BitVec 32 := BitVec.ofNat 32 (min (k / 4 + 1) 32)
/-- Row blocks finished before trip `k`. -/
def wBlk (k : ℕ) : BitVec 32 := BitVec.ofNat 32 (k / 4)
/-- Tiles of the residual asked for before trip `k`. -/
def wAskX (k : ℕ) : BitVec 32 := BitVec.ofNat 32 (min (k + 1) 128)
/-- Trips made before trip `k`. -/
def wTrip (k : ℕ) : BitVec 32 := BitVec.ofNat 32 k
/-- Weight tiles asked for before trip `k`. -/
def wAskW (k : ℕ) : BitVec 32 := BitVec.ofNat 32 (min (k + 2) 128)
/-- The gain's block is left after the last trip. -/
def wEnd (k : ℕ) : BitVec 32 := BitVec.ofNat 32 (k / 128)
/-- Row blocks of the result waited for before trip `k`. -/
def wOut (k : ℕ) : BitVec 32 := BitVec.ofNat 32 ((k - 1) / 4)
/-- The row block of trip `k`. -/
def wRow (k : ℕ) : BitVec 32 := BitVec.ofNat 32 (k / 4 % 32)
/-- The column tile of trip `k`. -/
def wCol (k : ℕ) : BitVec 32 := BitVec.ofNat 32 (k % 4)

/-- The fifteen words before trip `k`. -/
def wAll (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wAsk k, wBlk k, wAsk k, wBlk k, wAskX k, wTrip k, wAskW k, wTrip k, wAskW k, wTrip k, wEnd k, wBlk k, wOut k, wRow k, wCol k)

theorem trips_eq : k0_t1_loop.trips = 128 := by decide +kernel

set_option maxRecDepth 100000 in
theorem cond3_iff : ∀ k : Fin k0_t1_loop.trips, (k0_cond3 k (wRow k) (wCol k) = 1#1) ↔ (k.val % 4 = 3 ∧ k.val < 127) := by decide +kernel
set_option maxRecDepth 100000 in
theorem cond4_iff : ∀ k : Fin k0_t1_loop.trips, (k0_cond4 k (wRow k) (wCol k) = 1#1) ↔ (k.val % 4 = 3 ∧ k.val < 127) := by decide +kernel
set_option maxRecDepth 100000 in
theorem cond5_iff : ∀ k : Fin k0_t1_loop.trips, (k0_cond5 k (wRow k) (wCol k) = 1#1) ↔ (k.val < 127) := by decide +kernel
set_option maxRecDepth 100000 in
theorem cond6_iff : ∀ k : Fin k0_t1_loop.trips, (k0_cond6 k (wCol k) = 1#1) ↔ (k.val < 126) := by decide +kernel
set_option maxRecDepth 100000 in
theorem cond7_iff : ∀ k : Fin k0_t1_loop.trips, (k0_cond7 k (wCol k) = 1#1) ↔ (k.val < 126) := by decide +kernel
set_option maxRecDepth 100000 in
theorem cond8_iff : ∀ k : Fin k0_t1_loop.trips, (k0_cond8 k (wRow k) (wCol k) = 1#1) ↔ (k.val % 4 = 0) := by decide +kernel
set_option maxRecDepth 100000 in
theorem cond9_iff : ∀ k : Fin k0_t1_loop.trips, (k0_cond9 k (wRow k) (wCol k) = 1#1) ↔ (k.val % 4 = 0) := by decide +kernel
set_option maxRecDepth 100000 in
theorem cond10_iff : ∀ k : Fin k0_t1_loop.trips, (k0_cond10 k (wRow k) (wCol k) = 1#1) ↔ (True) := by decide +kernel
set_option maxRecDepth 100000 in
theorem cond11_iff : ∀ k : Fin k0_t1_loop.trips, (k0_cond11 k (wCol k) = 1#1) ↔ (True) := by decide +kernel
set_option maxRecDepth 100000 in
theorem cond12_iff : ∀ k : Fin k0_t1_loop.trips, (k0_cond12 k (wCol k) = 1#1) ↔ (True) := by decide +kernel
set_option maxRecDepth 100000 in
theorem cond14_iff : ∀ k : Fin k0_t1_loop.trips, (k0_cond14 (wCol k) = 1#1) ↔ (k.val % 4 = 3) := by decide +kernel
set_option maxRecDepth 100000 in
theorem cond20_iff : ∀ k : Fin k0_t1_loop.trips, (k0_cond20 k (wRow k) (wCol k) = 1#1) ↔ (k.val % 4 = 3) := by decide +kernel
set_option maxRecDepth 100000 in
theorem cond26_iff : ∀ k : Fin k0_t1_loop.trips, (k0_cond26 k (wRow k) (wCol k) = 1#1) ↔ (k.val % 4 = 0 ∧ 0 < k.val) := by decide +kernel
set_option maxRecDepth 100000 in
theorem off12_at : ∀ k : Fin k0_t1_loop.trips, k.val % 4 = 3 → k.val < 127 → k0_off12 (wAsk k) = ![(k.val / 4 + 1) % 2] := by decide +kernel
set_option maxRecDepth 100000 in
theorem off13_at : ∀ k : Fin k0_t1_loop.trips, k.val % 4 = 3 → k.val < 127 → k0_off13 (wAsk k) = ![(k.val / 4 + 1) % 2, 0, 0] := by decide +kernel
set_option maxRecDepth 100000 in
theorem off14_at : ∀ k : Fin k0_t1_loop.trips, k.val % 4 = 3 → k.val < 127 → k0_off14 (wRow k) (wCol k) = ![512 * ((k.val / 4 + 1) % 32), 0] := by decide +kernel
set_option maxRecDepth 100000 in
theorem off15_at : ∀ k : Fin k0_t1_loop.trips, k.val % 4 = 3 → k.val < 127 → k0_off15 (wAsk k) = ![(k.val / 4 + 1) % 2] := by decide +kernel
set_option maxRecDepth 100000 in
theorem off16_at : ∀ k : Fin k0_t1_loop.trips, k.val % 4 = 3 → k.val < 127 → k0_off16 (wAsk k) = ![(k.val / 4 + 1) % 2, 0, 0] := by decide +kernel
set_option maxRecDepth 100000 in
theorem off17_at : ∀ k : Fin k0_t1_loop.trips, k.val % 4 = 3 → k.val < 127 → k0_off17 (wRow k) (wCol k) = ![512 * ((k.val / 4 + 1) % 32), 0] := by decide +kernel
set_option maxRecDepth 100000 in
theorem off18_at : ∀ k : Fin k0_t1_loop.trips, k.val < 127 → k0_off18 (wAskX k) = ![(k.val + 1) % 2] := by decide +kernel
set_option maxRecDepth 100000 in
theorem off19_at : ∀ k : Fin k0_t1_loop.trips, k.val < 127 → k0_off19 (wAskX k) = ![(k.val + 1) % 2, 0, 0] := by decide +kernel
set_option maxRecDepth 100000 in
theorem off20_at : ∀ k : Fin k0_t1_loop.trips, k.val < 127 → k0_off20 (wRow k) (wCol k) = ![512 * ((k.val + 1) % 128 / 4), 1024 * ((k.val + 1) % 128 % 4)] := by decide +kernel
set_option maxRecDepth 100000 in
theorem off21_at : ∀ k : Fin k0_t1_loop.trips, k.val < 126 → k0_off21 (wAskW k) = ![(k.val + 2) % 3] := by decide +kernel
set_option maxRecDepth 100000 in
theorem off22_at : ∀ k : Fin k0_t1_loop.trips, k.val < 126 → k0_off22 (wAskW k) = ![(k.val + 2) % 3, 0, 0] := by decide +kernel
set_option maxRecDepth 100000 in
theorem off23_at : ∀ k : Fin k0_t1_loop.trips, k0_off23 (wCol k) = ![0, 1024 * ((k.val + 2) % 4)] := by decide +kernel
set_option maxRecDepth 100000 in
theorem off24_at : ∀ k : Fin k0_t1_loop.trips, k.val < 126 → k0_off24 (wAskW k) = ![(k.val + 2) % 3] := by decide +kernel
set_option maxRecDepth 100000 in
theorem off25_at : ∀ k : Fin k0_t1_loop.trips, k.val < 126 → k0_off25 (wAskW k) = ![(k.val + 2) % 3, 0, 0] := by decide +kernel
set_option maxRecDepth 100000 in
theorem off26_at : ∀ k : Fin k0_t1_loop.trips, k0_off26 (wCol k) = ![2048, 1024 * ((k.val + 2) % 4)] := by decide +kernel
set_option maxRecDepth 100000 in
theorem off27_at : ∀ k : Fin k0_t1_loop.trips, k0_off27 (wBlk k) = ![(k.val / 4) % 2] := by decide +kernel
set_option maxRecDepth 100000 in
theorem off28_at : ∀ k : Fin k0_t1_loop.trips, k0_off28 (wBlk k) = ![(k.val / 4) % 2, 0, 0] := by decide +kernel
set_option maxRecDepth 100000 in
theorem off29_at : ∀ k : Fin k0_t1_loop.trips, k0_off29 (wRow k) = ![512 * ((k.val / 4) % 32), 0] := by decide +kernel
set_option maxRecDepth 100000 in
theorem off30_at : ∀ k : Fin k0_t1_loop.trips, k0_off30 (wBlk k) = ![(k.val / 4) % 2] := by decide +kernel
set_option maxRecDepth 100000 in
theorem off31_at : ∀ k : Fin k0_t1_loop.trips, k0_off31 (wBlk k) = ![(k.val / 4) % 2, 0, 0] := by decide +kernel
set_option maxRecDepth 100000 in
theorem off32_at : ∀ k : Fin k0_t1_loop.trips, k0_off32 (wRow k) = ![512 * ((k.val / 4) % 32), 0] := by decide +kernel
set_option maxRecDepth 100000 in
theorem off33_at : ∀ k : Fin k0_t1_loop.trips, k0_off33 (wTrip k) = ![(k.val) % 2] := by decide +kernel
set_option maxRecDepth 100000 in
theorem off34_at : ∀ k : Fin k0_t1_loop.trips, k0_off34 (wTrip k) = ![(k.val) % 2, 0, 0] := by decide +kernel
set_option maxRecDepth 100000 in
theorem off35_at : ∀ k : Fin k0_t1_loop.trips, k0_off35 (wRow k) (wCol k) = ![512 * ((k.val) % 128 / 4), 1024 * ((k.val) % 128 % 4)] := by decide +kernel
set_option maxRecDepth 100000 in
theorem off36_at : ∀ k : Fin k0_t1_loop.trips, k0_off36 (wTrip k) = ![(k.val) % 3] := by decide +kernel
set_option maxRecDepth 100000 in
theorem off37_at : ∀ k : Fin k0_t1_loop.trips, k0_off37 (wTrip k) = ![(k.val) % 3, 0, 0] := by decide +kernel
set_option maxRecDepth 100000 in
theorem off38_at : ∀ k : Fin k0_t1_loop.trips, k0_off38 (wCol k) = ![0, 1024 * ((k.val) % 4)] := by decide +kernel
set_option maxRecDepth 100000 in
theorem off39_at : ∀ k : Fin k0_t1_loop.trips, k0_off39 (wTrip k) = ![(k.val) % 3] := by decide +kernel
set_option maxRecDepth 100000 in
theorem off40_at : ∀ k : Fin k0_t1_loop.trips, k0_off40 (wTrip k) = ![(k.val) % 3, 0, 0] := by decide +kernel
set_option maxRecDepth 100000 in
theorem off41_at : ∀ k : Fin k0_t1_loop.trips, k0_off41 (wCol k) = ![2048, 1024 * ((k.val) % 4)] := by decide +kernel
set_option maxRecDepth 100000 in
theorem off42_at : ∀ k : Fin k0_t1_loop.trips, k0_off42 (wTrip k) = ![(k.val) % 2, 0, 0] := by decide +kernel
set_option maxRecDepth 100000 in
theorem off43_at : ∀ k : Fin k0_t1_loop.trips, k0_off43 (wBlk k) = ![(k.val / 4) % 2, 0, 0] := by decide +kernel
set_option maxRecDepth 100000 in
theorem off44_at : ∀ k : Fin k0_t1_loop.trips, k0_off44 (wTrip k) = ![(k.val) % 3, 0, 0] := by decide +kernel
set_option maxRecDepth 100000 in
theorem off45_at : ∀ k : Fin k0_t1_loop.trips, k0_off45 (wBlk k) = ![(k.val / 4) % 2, 0, 0] := by decide +kernel
set_option maxRecDepth 100000 in
theorem off46_at : ∀ k : Fin k0_t1_loop.trips, k0_off46 (wTrip k) = ![(k.val) % 3, 0, 0] := by decide +kernel
set_option maxRecDepth 100000 in
theorem off47_at : ∀ k : Fin k0_t1_loop.trips, k0_off47 (wBlk k) = ![(k.val / 4) % 2, 0, 0] := by decide +kernel
set_option maxRecDepth 100000 in
theorem off48_at : ∀ k : Fin k0_t1_loop.trips, k0_off48 (wCol k) = ![0, 1024 * (k.val % 4)] := by decide +kernel
set_option maxRecDepth 100000 in
theorem off49_at : ∀ k : Fin k0_t1_loop.trips, k0_off49 (wBlk k) = ![(k.val / 4) % 2, 0, 0] := by decide +kernel
set_option maxRecDepth 100000 in
theorem off50_at : ∀ k : Fin k0_t1_loop.trips, k0_off50 (wBlk k) = ![(k.val / 4) % 2] := by decide +kernel
set_option maxRecDepth 100000 in
theorem off51_at : ∀ k : Fin k0_t1_loop.trips, k0_off51 (wRow k) = ![512 * ((k.val / 4) % 32), 0] := by decide +kernel
set_option maxRecDepth 100000 in
theorem off52_at : ∀ k : Fin k0_t1_loop.trips, k0_off52 (wBlk k) = ![(k.val / 4) % 2, 0, 0] := by decide +kernel
set_option maxRecDepth 100000 in
theorem off53_at : ∀ k : Fin k0_t1_loop.trips, k.val % 4 = 0 → 0 < k.val → k0_off53 (wOut k) = ![(k.val / 4 - 1) % 2] := by decide +kernel
set_option maxRecDepth 100000 in
theorem off54_at : ∀ k : Fin k0_t1_loop.trips, k.val % 4 = 0 → 0 < k.val → k0_off54 (wRow k) (wCol k) = ![512 * ((k.val / 4 - 1) % 32), 0] := by decide +kernel
set_option maxRecDepth 100000 in
theorem off55_at : ∀ k : Fin k0_t1_loop.trips, k.val % 4 = 0 → 0 < k.val → k0_off55 (wOut k) = ![(k.val / 4 - 1) % 2, 0, 0] := by decide +kernel
set_option maxRecDepth 100000 in
theorem chk2_ok : ∀ k : Fin k0_t1_loop.trips, k0_chk2 (wTrip k) := by decide +kernel
set_option maxRecDepth 100000 in
theorem chk3_ok : ∀ k : Fin k0_t1_loop.trips, k0_chk3 (wBlk k) := by decide +kernel
set_option maxRecDepth 100000 in
theorem chk4_ok : ∀ k : Fin k0_t1_loop.trips, k0_chk4 (wTrip k) := by decide +kernel
set_option maxRecDepth 100000 in
theorem chk5_ok : ∀ k : Fin k0_t1_loop.trips, k0_chk5 (wBlk k) := by decide +kernel
set_option maxRecDepth 100000 in
theorem chk6_ok : ∀ k : Fin k0_t1_loop.trips, k0_chk6 (wTrip k) := by decide +kernel
set_option maxRecDepth 100000 in
theorem chk7_ok : ∀ k : Fin k0_t1_loop.trips, k0_chk7 (wBlk k) := by decide +kernel
set_option maxRecDepth 100000 in
theorem chk1_ok : ∀ k : Fin k0_t1_loop.trips, k0_chk1 k (wAsk k) (wBlk k) (wAsk k) (wBlk k) (wAskX k) (wTrip k) (wAskW k) (wTrip k) (wAskW k) (wTrip k) (wBlk k) (wOut k) (wRow k) (wCol k) := by decide +kernel
theorem chk9_ok : k0_chk9 (wCol 128) (wRow 128) := by decide +kernel
theorem chk8_ok : k0_chk8 (wOut 128) := by decide +kernel
end Cert.KernelIdeal
-- ==== Proof.Names.lean ====
module

public import proofs.«01_k».proof.Defs
public import proofs.«01_k».proof.Proof.Words
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Tactic

@[expose] public section

/-!
# The slots, the semaphores and the blocks

Every operand has a ring of buffers in VMEM, one DMA semaphore to a slot, and is cut into blocks in HBM.  Here each
of these gets one name, and the slices of the body are shown to be those names.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## the first mixer -/

abbrev ymBuf : Memref sig .tc .vmem S2x512x2048 .bf16 := Memref.whole cc0_scoped0
abbrev ymArr : Memref sig .tc .hbm S16384x2048 .bf16 := Memref.whole main_arg0
abbrev ymSlotOff (s : Fin 2) : Fin 3 → Nat := ![s.val, 0, 0]
theorem ymSlotOff_inb (s : Fin 2) : ∀ a, ymSlotOff s a + S1x512x2048.size a ≤ S2x512x2048.size a := by revert s; decide +kernel
abbrev ymSemOff (s : Fin 2) : Fin 1 → Nat := ![s.val]
theorem ymSemOff_inb (s : Fin 2) : ∀ a, ymSemOff s a + S1.size a ≤ S2.size a := by revert s; decide +kernel
abbrev ymBlkOff (b : Fin 32) : Fin 2 → Nat := ![512 * b.val, 0]
theorem ymBlkOff_inb (b : Fin 32) : ∀ a, ymBlkOff b a + S512x2048.size a ≤ S16384x2048.size a := by revert b; decide +kernel
/-- Slot `s` of the ring of the first mixer. -/
def ymSlot (s : Fin 2) : Memref sig .tc .vmem S512x2048 .bf16 :=
  (ymBuf.slice (Rect.unit (s := S2x512x2048) (ymSlotOff s) S1x512x2048.size (ymSlotOff_inb s)) (fun _ => rfl)).squeeze S512x2048 squeezes_S1x512x2048_S512x2048
/-- Its semaphore. -/
def ymSem (s : Fin 2) : DmaSems sig S_ := (cc0_scoped1.slice (Rect.unit (s := S2) (ymSemOff s) S1.size (ymSemOff_inb s))).squeeze S_ squeezes_S1_S_
/-- Block `b` of the first mixer in HBM. -/
def ymBlk (b : Fin 32) : Memref sig .tc .hbm S512x2048 .bf16 :=
  ymArr.slice (Rect.unit (s := S16384x2048) (ymBlkOff b) S512x2048.size (ymBlkOff_inb b)) (fun _ => rfl)

instance (s : Fin 2) : ClosedOff (ymSlotOff s) := ⟨ymSlotOff s, rfl⟩
instance (b : Fin 32) : ClosedOff (ymBlkOff b) := ⟨ymBlkOff b, rfl⟩

theorem ymSem_congr {off : Fin 1 → Nat} {s : Fin 2} (e : off = ymSemOff s) (hh) :
    (cc0_scoped1.slice (Rect.unit (s := S2) off S1.size hh)).squeeze S_ squeezes_S1_S_ = ymSem s :=
  congrArg (fun A : DmaSems sig S1 => A.squeeze S_ squeezes_S1_S_) (SemArray.slice_unit_congr _ e _ _)
theorem ymSlot_congr {off : Fin 3 → Nat} {s : Fin 2} (e : off = ymSlotOff s) (hh hs) :
    (ymBuf.slice (Rect.unit (s := S2x512x2048) off S1x512x2048.size hh) hs).squeeze S512x2048 squeezes_S1x512x2048_S512x2048 = ymSlot s :=
  congrArg (fun M : Memref sig .tc .vmem S1x512x2048 .bf16 => M.squeeze S512x2048 squeezes_S1x512x2048_S512x2048) (Memref.slice_unit_congr _ e _ _ _ _)
theorem ymBlk_congr {off : Fin 2 → Nat} {b : Fin 32} (e : off = ymBlkOff b) (hh hs) :
    ymArr.slice (Rect.unit (s := S16384x2048) off S512x2048.size hh) hs = ymBlk b := Memref.slice_unit_congr _ e _ _ _ (fun _ => rfl)

/-! ## the second mixer -/

abbrev yaBuf : Memref sig .tc .vmem S2x512x2048 .bf16 := Memref.whole cc0_scoped2
abbrev yaArr : Memref sig .tc .hbm S16384x2048 .bf16 := Memref.whole main_arg1
abbrev yaSlotOff (s : Fin 2) : Fin 3 → Nat := ![s.val, 0, 0]
theorem yaSlotOff_inb (s : Fin 2) : ∀ a, yaSlotOff s a + S1x512x2048.size a ≤ S2x512x2048.size a := by revert s; decide +kernel
abbrev yaSemOff (s : Fin 2) : Fin 1 → Nat := ![s.val]
theorem yaSemOff_inb (s : Fin 2) : ∀ a, yaSemOff s a + S1.size a ≤ S2.size a := by revert s; decide +kernel
abbrev yaBlkOff (b : Fin 32) : Fin 2 → Nat := ![512 * b.val, 0]
theorem yaBlkOff_inb (b : Fin 32) : ∀ a, yaBlkOff b a + S512x2048.size a ≤ S16384x2048.size a := by revert b; decide +kernel
/-- Slot `s` of the ring of the second mixer. -/
def yaSlot (s : Fin 2) : Memref sig .tc .vmem S512x2048 .bf16 :=
  (yaBuf.slice (Rect.unit (s := S2x512x2048) (yaSlotOff s) S1x512x2048.size (yaSlotOff_inb s)) (fun _ => rfl)).squeeze S512x2048 squeezes_S1x512x2048_S512x2048
/-- Its semaphore. -/
def yaSem (s : Fin 2) : DmaSems sig S_ := (cc0_scoped3.slice (Rect.unit (s := S2) (yaSemOff s) S1.size (yaSemOff_inb s))).squeeze S_ squeezes_S1_S_
/-- Block `b` of the second mixer in HBM. -/
def yaBlk (b : Fin 32) : Memref sig .tc .hbm S512x2048 .bf16 :=
  yaArr.slice (Rect.unit (s := S16384x2048) (yaBlkOff b) S512x2048.size (yaBlkOff_inb b)) (fun _ => rfl)

instance (s : Fin 2) : ClosedOff (yaSlotOff s) := ⟨yaSlotOff s, rfl⟩
instance (b : Fin 32) : ClosedOff (yaBlkOff b) := ⟨yaBlkOff b, rfl⟩

theorem yaSem_congr {off : Fin 1 → Nat} {s : Fin 2} (e : off = yaSemOff s) (hh) :
    (cc0_scoped3.slice (Rect.unit (s := S2) off S1.size hh)).squeeze S_ squeezes_S1_S_ = yaSem s :=
  congrArg (fun A : DmaSems sig S1 => A.squeeze S_ squeezes_S1_S_) (SemArray.slice_unit_congr _ e _ _)
theorem yaSlot_congr {off : Fin 3 → Nat} {s : Fin 2} (e : off = yaSlotOff s) (hh hs) :
    (yaBuf.slice (Rect.unit (s := S2x512x2048) off S1x512x2048.size hh) hs).squeeze S512x2048 squeezes_S1x512x2048_S512x2048 = yaSlot s :=
  congrArg (fun M : Memref sig .tc .vmem S1x512x2048 .bf16 => M.squeeze S512x2048 squeezes_S1x512x2048_S512x2048) (Memref.slice_unit_congr _ e _ _ _ _)
theorem yaBlk_congr {off : Fin 2 → Nat} {b : Fin 32} (e : off = yaBlkOff b) (hh hs) :
    yaArr.slice (Rect.unit (s := S16384x2048) off S512x2048.size hh) hs = yaBlk b := Memref.slice_unit_congr _ e _ _ _ (fun _ => rfl)

/-! ## the residual -/

abbrev xBuf : Memref sig .tc .vmem S2x512x1024 .f32 := Memref.whole cc0_scoped4
abbrev xArr : Memref sig .tc .hbm S16384x4096 .f32 := Memref.whole main_v0
abbrev xSlotOff (s : Fin 2) : Fin 3 → Nat := ![s.val, 0, 0]
theorem xSlotOff_inb (s : Fin 2) : ∀ a, xSlotOff s a + S1x512x1024.size a ≤ S2x512x1024.size a := by revert s; decide +kernel
abbrev xSemOff (s : Fin 2) : Fin 1 → Nat := ![s.val]
theorem xSemOff_inb (s : Fin 2) : ∀ a, xSemOff s a + S1.size a ≤ S2.size a := by revert s; decide +kernel
abbrev xBlkOff (b : Fin 128) : Fin 2 → Nat := ![512 * (b.val / 4), 1024 * (b.val % 4)]
theorem xBlkOff_inb (b : Fin 128) : ∀ a, xBlkOff b a + S512x1024.size a ≤ S16384x4096.size a := by revert b; decide +kernel
/-- Slot `s` of the ring of the residual. -/
def xSlot (s : Fin 2) : Memref sig .tc .vmem S512x1024 .f32 :=
  (xBuf.slice (Rect.unit (s := S2x512x1024) (xSlotOff s) S1x512x1024.size (xSlotOff_inb s)) (fun _ => rfl)).squeeze S512x1024 squeezes_S1x512x1024_S512x1024
/-- Its semaphore. -/
def xSem (s : Fin 2) : DmaSems sig S_ := (cc0_scoped5.slice (Rect.unit (s := S2) (xSemOff s) S1.size (xSemOff_inb s))).squeeze S_ squeezes_S1_S_
/-- Block `b` of the residual in HBM. -/
def xBlk (b : Fin 128) : Memref sig .tc .hbm S512x1024 .f32 :=
  xArr.slice (Rect.unit (s := S16384x4096) (xBlkOff b) S512x1024.size (xBlkOff_inb b)) (fun _ => rfl)

instance (s : Fin 2) : ClosedOff (xSlotOff s) := ⟨xSlotOff s, rfl⟩
instance (b : Fin 128) : ClosedOff (xBlkOff b) := ⟨xBlkOff b, rfl⟩

theorem xSem_congr {off : Fin 1 → Nat} {s : Fin 2} (e : off = xSemOff s) (hh) :
    (cc0_scoped5.slice (Rect.unit (s := S2) off S1.size hh)).squeeze S_ squeezes_S1_S_ = xSem s :=
  congrArg (fun A : DmaSems sig S1 => A.squeeze S_ squeezes_S1_S_) (SemArray.slice_unit_congr _ e _ _)
theorem xSlot_congr {off : Fin 3 → Nat} {s : Fin 2} (e : off = xSlotOff s) (hh hs) :
    (xBuf.slice (Rect.unit (s := S2x512x1024) off S1x512x1024.size hh) hs).squeeze S512x1024 squeezes_S1x512x1024_S512x1024 = xSlot s :=
  congrArg (fun M : Memref sig .tc .vmem S1x512x1024 .f32 => M.squeeze S512x1024 squeezes_S1x512x1024_S512x1024) (Memref.slice_unit_congr _ e _ _ _ _)
theorem xBlk_congr {off : Fin 2 → Nat} {b : Fin 128} (e : off = xBlkOff b) (hh hs) :
    xArr.slice (Rect.unit (s := S16384x4096) off S512x1024.size hh) hs = xBlk b := Memref.slice_unit_congr _ e _ _ _ (fun _ => rfl)

/-! ## the weights, upper half of the rows -/

abbrev uBuf : Memref sig .tc .vmem S3x2048x1024 .bf16 := Memref.whole cc0_scoped6
abbrev uArr : Memref sig .tc .hbm S4096x4096 .bf16 := Memref.whole main_v1
abbrev uSlotOff (s : Fin 3) : Fin 3 → Nat := ![s.val, 0, 0]
theorem uSlotOff_inb (s : Fin 3) : ∀ a, uSlotOff s a + S1x2048x1024.size a ≤ S3x2048x1024.size a := by revert s; decide +kernel
abbrev uSemOff (s : Fin 3) : Fin 1 → Nat := ![s.val]
theorem uSemOff_inb (s : Fin 3) : ∀ a, uSemOff s a + S1.size a ≤ S3.size a := by revert s; decide +kernel
abbrev uBlkOff (b : Fin 4) : Fin 2 → Nat := ![0, 1024 * b.val]
theorem uBlkOff_inb (b : Fin 4) : ∀ a, uBlkOff b a + S2048x1024.size a ≤ S4096x4096.size a := by revert b; decide +kernel
/-- Slot `s` of the ring of the weights, upper half of the rows. -/
def uSlot (s : Fin 3) : Memref sig .tc .vmem S2048x1024 .bf16 :=
  (uBuf.slice (Rect.unit (s := S3x2048x1024) (uSlotOff s) S1x2048x1024.size (uSlotOff_inb s)) (fun _ => rfl)).squeeze S2048x1024 squeezes_S1x2048x1024_S2048x1024
/-- Its semaphore. -/
def uSem (s : Fin 3) : DmaSems sig S_ := (cc0_scoped7.slice (Rect.unit (s := S3) (uSemOff s) S1.size (uSemOff_inb s))).squeeze S_ squeezes_S1_S_
/-- Block `b` of the weights, upper half of the rows in HBM. -/
def uBlk (b : Fin 4) : Memref sig .tc .hbm S2048x1024 .bf16 :=
  uArr.slice (Rect.unit (s := S4096x4096) (uBlkOff b) S2048x1024.size (uBlkOff_inb b)) (fun _ => rfl)

instance (s : Fin 3) : ClosedOff (uSlotOff s) := ⟨uSlotOff s, rfl⟩
instance (b : Fin 4) : ClosedOff (uBlkOff b) := ⟨uBlkOff b, rfl⟩

theorem uSem_congr {off : Fin 1 → Nat} {s : Fin 3} (e : off = uSemOff s) (hh) :
    (cc0_scoped7.slice (Rect.unit (s := S3) off S1.size hh)).squeeze S_ squeezes_S1_S_ = uSem s :=
  congrArg (fun A : DmaSems sig S1 => A.squeeze S_ squeezes_S1_S_) (SemArray.slice_unit_congr _ e _ _)
theorem uSlot_congr {off : Fin 3 → Nat} {s : Fin 3} (e : off = uSlotOff s) (hh hs) :
    (uBuf.slice (Rect.unit (s := S3x2048x1024) off S1x2048x1024.size hh) hs).squeeze S2048x1024 squeezes_S1x2048x1024_S2048x1024 = uSlot s :=
  congrArg (fun M : Memref sig .tc .vmem S1x2048x1024 .bf16 => M.squeeze S2048x1024 squeezes_S1x2048x1024_S2048x1024) (Memref.slice_unit_congr _ e _ _ _ _)
theorem uBlk_congr {off : Fin 2 → Nat} {b : Fin 4} (e : off = uBlkOff b) (hh hs) :
    uArr.slice (Rect.unit (s := S4096x4096) off S2048x1024.size hh) hs = uBlk b := Memref.slice_unit_congr _ e _ _ _ (fun _ => rfl)

/-! ## the weights, lower half of the rows -/

abbrev lBuf : Memref sig .tc .vmem S3x2048x1024 .bf16 := Memref.whole cc0_scoped8
abbrev lArr : Memref sig .tc .hbm S4096x4096 .bf16 := Memref.whole main_v1
abbrev lSlotOff (s : Fin 3) : Fin 3 → Nat := ![s.val, 0, 0]
theorem lSlotOff_inb (s : Fin 3) : ∀ a, lSlotOff s a + S1x2048x1024.size a ≤ S3x2048x1024.size a := by revert s; decide +kernel
abbrev lSemOff (s : Fin 3) : Fin 1 → Nat := ![s.val]
theorem lSemOff_inb (s : Fin 3) : ∀ a, lSemOff s a + S1.size a ≤ S3.size a := by revert s; decide +kernel
abbrev lBlkOff (b : Fin 4) : Fin 2 → Nat := ![2048, 1024 * b.val]
theorem lBlkOff_inb (b : Fin 4) : ∀ a, lBlkOff b a + S2048x1024.size a ≤ S4096x4096.size a := by revert b; decide +kernel
/-- Slot `s` of the ring of the weights, lower half of the rows. -/
def lSlot (s : Fin 3) : Memref sig .tc .vmem S2048x1024 .bf16 :=
  (lBuf.slice (Rect.unit (s := S3x2048x1024) (lSlotOff s) S1x2048x1024.size (lSlotOff_inb s)) (fun _ => rfl)).squeeze S2048x1024 squeezes_S1x2048x1024_S2048x1024
/-- Its semaphore. -/
def lSem (s : Fin 3) : DmaSems sig S_ := (cc0_scoped9.slice (Rect.unit (s := S3) (lSemOff s) S1.size (lSemOff_inb s))).squeeze S_ squeezes_S1_S_
/-- Block `b` of the weights, lower half of the rows in HBM. -/
def lBlk (b : Fin 4) : Memref sig .tc .hbm S2048x1024 .bf16 :=
  lArr.slice (Rect.unit (s := S4096x4096) (lBlkOff b) S2048x1024.size (lBlkOff_inb b)) (fun _ => rfl)

instance (s : Fin 3) : ClosedOff (lSlotOff s) := ⟨lSlotOff s, rfl⟩
instance (b : Fin 4) : ClosedOff (lBlkOff b) := ⟨lBlkOff b, rfl⟩

theorem lSem_congr {off : Fin 1 → Nat} {s : Fin 3} (e : off = lSemOff s) (hh) :
    (cc0_scoped9.slice (Rect.unit (s := S3) off S1.size hh)).squeeze S_ squeezes_S1_S_ = lSem s :=
  congrArg (fun A : DmaSems sig S1 => A.squeeze S_ squeezes_S1_S_) (SemArray.slice_unit_congr _ e _ _)
theorem lSlot_congr {off : Fin 3 → Nat} {s : Fin 3} (e : off = lSlotOff s) (hh hs) :
    (lBuf.slice (Rect.unit (s := S3x2048x1024) off S1x2048x1024.size hh) hs).squeeze S2048x1024 squeezes_S1x2048x1024_S2048x1024 = lSlot s :=
  congrArg (fun M : Memref sig .tc .vmem S1x2048x1024 .bf16 => M.squeeze S2048x1024 squeezes_S1x2048x1024_S2048x1024) (Memref.slice_unit_congr _ e _ _ _ _)
theorem lBlk_congr {off : Fin 2 → Nat} {b : Fin 4} (e : off = lBlkOff b) (hh hs) :
    lArr.slice (Rect.unit (s := S4096x4096) off S2048x1024.size hh) hs = lBlk b := Memref.slice_unit_congr _ e _ _ _ (fun _ => rfl)

/-! ## the result -/

abbrev oBuf : Memref sig .tc .vmem S2x512x4096 .f32 := Memref.whole cc0_scoped11
abbrev oArr : Memref sig .tc .hbm S16384x4096 .f32 := Memref.whole main_v3
abbrev oSlotOff (s : Fin 2) : Fin 3 → Nat := ![s.val, 0, 0]
theorem oSlotOff_inb (s : Fin 2) : ∀ a, oSlotOff s a + S1x512x4096.size a ≤ S2x512x4096.size a := by revert s; decide +kernel
abbrev oSemOff (s : Fin 2) : Fin 1 → Nat := ![s.val]
theorem oSemOff_inb (s : Fin 2) : ∀ a, oSemOff s a + S1.size a ≤ S2.size a := by revert s; decide +kernel
abbrev oBlkOff (b : Fin 32) : Fin 2 → Nat := ![512 * b.val, 0]
theorem oBlkOff_inb (b : Fin 32) : ∀ a, oBlkOff b a + S512x4096.size a ≤ S16384x4096.size a := by revert b; decide +kernel
/-- Slot `s` of the ring of the result. -/
def oSlot (s : Fin 2) : Memref sig .tc .vmem S512x4096 .f32 :=
  (oBuf.slice (Rect.unit (s := S2x512x4096) (oSlotOff s) S1x512x4096.size (oSlotOff_inb s)) (fun _ => rfl)).squeeze S512x4096 squeezes_S1x512x4096_S512x4096
/-- Its semaphore. -/
def oSem (s : Fin 2) : DmaSems sig S_ := (cc0_scoped12.slice (Rect.unit (s := S2) (oSemOff s) S1.size (oSemOff_inb s))).squeeze S_ squeezes_S1_S_
/-- Block `b` of the result in HBM. -/
def oBlk (b : Fin 32) : Memref sig .tc .hbm S512x4096 .f32 :=
  oArr.slice (Rect.unit (s := S16384x4096) (oBlkOff b) S512x4096.size (oBlkOff_inb b)) (fun _ => rfl)

instance (s : Fin 2) : ClosedOff (oSlotOff s) := ⟨oSlotOff s, rfl⟩
instance (b : Fin 32) : ClosedOff (oBlkOff b) := ⟨oBlkOff b, rfl⟩

theorem oSem_congr {off : Fin 1 → Nat} {s : Fin 2} (e : off = oSemOff s) (hh) :
    (cc0_scoped12.slice (Rect.unit (s := S2) off S1.size hh)).squeeze S_ squeezes_S1_S_ = oSem s :=
  congrArg (fun A : DmaSems sig S1 => A.squeeze S_ squeezes_S1_S_) (SemArray.slice_unit_congr _ e _ _)
theorem oSlot_congr {off : Fin 3 → Nat} {s : Fin 2} (e : off = oSlotOff s) (hh hs) :
    (oBuf.slice (Rect.unit (s := S2x512x4096) off S1x512x4096.size hh) hs).squeeze S512x4096 squeezes_S1x512x4096_S512x4096 = oSlot s :=
  congrArg (fun M : Memref sig .tc .vmem S1x512x4096 .f32 => M.squeeze S512x4096 squeezes_S1x512x4096_S512x4096) (Memref.slice_unit_congr _ e _ _ _ _)
theorem oBlk_congr {off : Fin 2 → Nat} {b : Fin 32} (e : off = oBlkOff b) (hh hs) :
    oArr.slice (Rect.unit (s := S16384x4096) off S512x4096.size hh) hs = oBlk b := Memref.slice_unit_congr _ e _ _ _ (fun _ => rfl)

/-! ## The slices of a trip -/

@[sl_canon] theorem ymSemAsk (k : Fin k0_t1_loop.trips) (hj : k.val % 4 = 3) (hk : k.val < 127) (hh) : (cc0_scoped1.slice (Rect.unit (s := S2) (k0_off12 (wAsk k.val)) S1.size hh)).squeeze S_ squeezes_S1_S_ = ymSem (Ring.sl 2 (k.val / 4 + 1)) := ymSem_congr (off12_at k hj hk) _
@[sl_canon] theorem ymSlotAsk (k : Fin k0_t1_loop.trips) (hj : k.val % 4 = 3) (hk : k.val < 127) (hh hs) : (ymBuf.slice (Rect.unit (s := S2x512x2048) (k0_off13 (wAsk k.val)) S1x512x2048.size hh) hs).squeeze S512x2048 squeezes_S1x512x2048_S512x2048 = ymSlot (Ring.sl 2 (k.val / 4 + 1)) := ymSlot_congr (off13_at k hj hk) _ _
@[sl_canon] theorem ymBlkAsk (k : Fin k0_t1_loop.trips) (hj : k.val % 4 = 3) (hk : k.val < 127) (hh hs) : ymArr.slice (Rect.unit (s := S16384x2048) (k0_off14 (wRow k.val) (wCol k.val)) S512x2048.size hh) hs = ymBlk (Ring.sl 32 (k.val / 4 + 1)) := ymBlk_congr (off14_at k hj hk) _ _
@[sl_canon] theorem yaSemAsk (k : Fin k0_t1_loop.trips) (hj : k.val % 4 = 3) (hk : k.val < 127) (hh) : (cc0_scoped3.slice (Rect.unit (s := S2) (k0_off15 (wAsk k.val)) S1.size hh)).squeeze S_ squeezes_S1_S_ = yaSem (Ring.sl 2 (k.val / 4 + 1)) := yaSem_congr (off15_at k hj hk) _
@[sl_canon] theorem yaSlotAsk (k : Fin k0_t1_loop.trips) (hj : k.val % 4 = 3) (hk : k.val < 127) (hh hs) : (yaBuf.slice (Rect.unit (s := S2x512x2048) (k0_off16 (wAsk k.val)) S1x512x2048.size hh) hs).squeeze S512x2048 squeezes_S1x512x2048_S512x2048 = yaSlot (Ring.sl 2 (k.val / 4 + 1)) := yaSlot_congr (off16_at k hj hk) _ _
@[sl_canon] theorem yaBlkAsk (k : Fin k0_t1_loop.trips) (hj : k.val % 4 = 3) (hk : k.val < 127) (hh hs) : yaArr.slice (Rect.unit (s := S16384x2048) (k0_off17 (wRow k.val) (wCol k.val)) S512x2048.size hh) hs = yaBlk (Ring.sl 32 (k.val / 4 + 1)) := yaBlk_congr (off17_at k hj hk) _ _
@[sl_canon] theorem xSemAsk (k : Fin k0_t1_loop.trips) (hk : k.val < 127) (hh) : (cc0_scoped5.slice (Rect.unit (s := S2) (k0_off18 (wAskX k.val)) S1.size hh)).squeeze S_ squeezes_S1_S_ = xSem (Ring.sl 2 (k.val + 1)) := xSem_congr (off18_at k hk) _
@[sl_canon] theorem xSlotAsk (k : Fin k0_t1_loop.trips) (hk : k.val < 127) (hh hs) : (xBuf.slice (Rect.unit (s := S2x512x1024) (k0_off19 (wAskX k.val)) S1x512x1024.size hh) hs).squeeze S512x1024 squeezes_S1x512x1024_S512x1024 = xSlot (Ring.sl 2 (k.val + 1)) := xSlot_congr (off19_at k hk) _ _
@[sl_canon] theorem xBlkAsk (k : Fin k0_t1_loop.trips) (hk : k.val < 127) (hh hs) : xArr.slice (Rect.unit (s := S16384x4096) (k0_off20 (wRow k.val) (wCol k.val)) S512x1024.size hh) hs = xBlk (Ring.sl 128 (k.val + 1)) := xBlk_congr (off20_at k hk) _ _
@[sl_canon] theorem uSemAsk (k : Fin k0_t1_loop.trips) (hk : k.val < 126) (hh) : (cc0_scoped7.slice (Rect.unit (s := S3) (k0_off21 (wAskW k.val)) S1.size hh)).squeeze S_ squeezes_S1_S_ = uSem (Ring.sl 3 (k.val + 2)) := uSem_congr (off21_at k hk) _
@[sl_canon] theorem uSlotAsk (k : Fin k0_t1_loop.trips) (hk : k.val < 126) (hh hs) : (uBuf.slice (Rect.unit (s := S3x2048x1024) (k0_off22 (wAskW k.val)) S1x2048x1024.size hh) hs).squeeze S2048x1024 squeezes_S1x2048x1024_S2048x1024 = uSlot (Ring.sl 3 (k.val + 2)) := uSlot_congr (off22_at k hk) _ _
@[sl_canon] theorem uBlkAsk (k : Fin k0_t1_loop.trips) (hh hs) : uArr.slice (Rect.unit (s := S4096x4096) (k0_off23 (wCol k.val)) S2048x1024.size hh) hs = uBlk (Ring.sl 4 (k.val + 2)) := uBlk_congr (off23_at k) _ _
@[sl_canon] theorem lSemAsk (k : Fin k0_t1_loop.trips) (hk : k.val < 126) (hh) : (cc0_scoped9.slice (Rect.unit (s := S3) (k0_off24 (wAskW k.val)) S1.size hh)).squeeze S_ squeezes_S1_S_ = lSem (Ring.sl 3 (k.val + 2)) := lSem_congr (off24_at k hk) _
@[sl_canon] theorem lSlotAsk (k : Fin k0_t1_loop.trips) (hk : k.val < 126) (hh hs) : (lBuf.slice (Rect.unit (s := S3x2048x1024) (k0_off25 (wAskW k.val)) S1x2048x1024.size hh) hs).squeeze S2048x1024 squeezes_S1x2048x1024_S2048x1024 = lSlot (Ring.sl 3 (k.val + 2)) := lSlot_congr (off25_at k hk) _ _
@[sl_canon] theorem lBlkAsk (k : Fin k0_t1_loop.trips) (hh hs) : lArr.slice (Rect.unit (s := S4096x4096) (k0_off26 (wCol k.val)) S2048x1024.size hh) hs = lBlk (Ring.sl 4 (k.val + 2)) := lBlk_congr (off26_at k) _ _
@[sl_canon] theorem ymSemWait (k : Fin k0_t1_loop.trips) (hh) : (cc0_scoped1.slice (Rect.unit (s := S2) (k0_off27 (wBlk k.val)) S1.size hh)).squeeze S_ squeezes_S1_S_ = ymSem (Ring.sl 2 (k.val / 4)) := ymSem_congr (off27_at k) _
@[sl_canon] theorem ymSlotWait (k : Fin k0_t1_loop.trips) (hh hs) : (ymBuf.slice (Rect.unit (s := S2x512x2048) (k0_off28 (wBlk k.val)) S1x512x2048.size hh) hs).squeeze S512x2048 squeezes_S1x512x2048_S512x2048 = ymSlot (Ring.sl 2 (k.val / 4)) := ymSlot_congr (off28_at k) _ _
@[sl_canon] theorem ymBlkWait (k : Fin k0_t1_loop.trips) (hh hs) : ymArr.slice (Rect.unit (s := S16384x2048) (k0_off29 (wRow k.val)) S512x2048.size hh) hs = ymBlk (Ring.sl 32 (k.val / 4)) := ymBlk_congr (off29_at k) _ _
@[sl_canon] theorem yaSemWait (k : Fin k0_t1_loop.trips) (hh) : (cc0_scoped3.slice (Rect.unit (s := S2) (k0_off30 (wBlk k.val)) S1.size hh)).squeeze S_ squeezes_S1_S_ = yaSem (Ring.sl 2 (k.val / 4)) := yaSem_congr (off30_at k) _
@[sl_canon] theorem yaSlotWait (k : Fin k0_t1_loop.trips) (hh hs) : (yaBuf.slice (Rect.unit (s := S2x512x2048) (k0_off31 (wBlk k.val)) S1x512x2048.size hh) hs).squeeze S512x2048 squeezes_S1x512x2048_S512x2048 = yaSlot (Ring.sl 2 (k.val / 4)) := yaSlot_congr (off31_at k) _ _
@[sl_canon] theorem yaBlkWait (k : Fin k0_t1_loop.trips) (hh hs) : yaArr.slice (Rect.unit (s := S16384x2048) (k0_off32 (wRow k.val)) S512x2048.size hh) hs = yaBlk (Ring.sl 32 (k.val / 4)) := yaBlk_congr (off32_at k) _ _
@[sl_canon] theorem xSemWait (k : Fin k0_t1_loop.trips) (hh) : (cc0_scoped5.slice (Rect.unit (s := S2) (k0_off33 (wTrip k.val)) S1.size hh)).squeeze S_ squeezes_S1_S_ = xSem (Ring.sl 2 (k.val)) := xSem_congr (off33_at k) _
@[sl_canon] theorem xSlotWait (k : Fin k0_t1_loop.trips) (hh hs) : (xBuf.slice (Rect.unit (s := S2x512x1024) (k0_off34 (wTrip k.val)) S1x512x1024.size hh) hs).squeeze S512x1024 squeezes_S1x512x1024_S512x1024 = xSlot (Ring.sl 2 (k.val)) := xSlot_congr (off34_at k) _ _
@[sl_canon] theorem xBlkWait (k : Fin k0_t1_loop.trips) (hh hs) : xArr.slice (Rect.unit (s := S16384x4096) (k0_off35 (wRow k.val) (wCol k.val)) S512x1024.size hh) hs = xBlk (Ring.sl 128 (k.val)) := xBlk_congr (off35_at k) _ _
@[sl_canon] theorem uSemWait (k : Fin k0_t1_loop.trips) (hh) : (cc0_scoped7.slice (Rect.unit (s := S3) (k0_off36 (wTrip k.val)) S1.size hh)).squeeze S_ squeezes_S1_S_ = uSem (Ring.sl 3 (k.val)) := uSem_congr (off36_at k) _
@[sl_canon] theorem uSlotWait (k : Fin k0_t1_loop.trips) (hh hs) : (uBuf.slice (Rect.unit (s := S3x2048x1024) (k0_off37 (wTrip k.val)) S1x2048x1024.size hh) hs).squeeze S2048x1024 squeezes_S1x2048x1024_S2048x1024 = uSlot (Ring.sl 3 (k.val)) := uSlot_congr (off37_at k) _ _
@[sl_canon] theorem uBlkWait (k : Fin k0_t1_loop.trips) (hh hs) : uArr.slice (Rect.unit (s := S4096x4096) (k0_off38 (wCol k.val)) S2048x1024.size hh) hs = uBlk (Ring.sl 4 (k.val)) := uBlk_congr (off38_at k) _ _
@[sl_canon] theorem lSemWait (k : Fin k0_t1_loop.trips) (hh) : (cc0_scoped9.slice (Rect.unit (s := S3) (k0_off39 (wTrip k.val)) S1.size hh)).squeeze S_ squeezes_S1_S_ = lSem (Ring.sl 3 (k.val)) := lSem_congr (off39_at k) _
@[sl_canon] theorem lSlotWait (k : Fin k0_t1_loop.trips) (hh hs) : (lBuf.slice (Rect.unit (s := S3x2048x1024) (k0_off40 (wTrip k.val)) S1x2048x1024.size hh) hs).squeeze S2048x1024 squeezes_S1x2048x1024_S2048x1024 = lSlot (Ring.sl 3 (k.val)) := lSlot_congr (off40_at k) _ _
@[sl_canon] theorem lBlkWait (k : Fin k0_t1_loop.trips) (hh hs) : lArr.slice (Rect.unit (s := S4096x4096) (k0_off41 (wCol k.val)) S2048x1024.size hh) hs = lBlk (Ring.sl 4 (k.val)) := lBlk_congr (off41_at k) _ _
@[sl_canon] theorem oSemAsk (k : Fin k0_t1_loop.trips) (hh) : (cc0_scoped12.slice (Rect.unit (s := S2) (k0_off50 (wBlk k.val)) S1.size hh)).squeeze S_ squeezes_S1_S_ = oSem (Ring.sl 2 (k.val / 4)) := oSem_congr (off50_at k) _
@[sl_canon] theorem oSlotAsk (k : Fin k0_t1_loop.trips) (hh hs) : (oBuf.slice (Rect.unit (s := S2x512x4096) (k0_off52 (wBlk k.val)) S1x512x4096.size hh) hs).squeeze S512x4096 squeezes_S1x512x4096_S512x4096 = oSlot (Ring.sl 2 (k.val / 4)) := oSlot_congr (off52_at k) _ _
@[sl_canon] theorem oBlkAsk (k : Fin k0_t1_loop.trips) (hh hs) : oArr.slice (Rect.unit (s := S16384x4096) (k0_off51 (wRow k.val)) S512x4096.size hh) hs = oBlk (Ring.sl 32 (k.val / 4)) := oBlk_congr (off51_at k) _ _
@[sl_canon] theorem oSemWait (k : Fin k0_t1_loop.trips) (hj : k.val % 4 = 0) (h0 : 0 < k.val) (hh) : (cc0_scoped12.slice (Rect.unit (s := S2) (k0_off53 (wOut k.val)) S1.size hh)).squeeze S_ squeezes_S1_S_ = oSem (Ring.sl 2 (k.val / 4 - 1)) := oSem_congr (off53_at k hj h0) _
@[sl_canon] theorem oSlotWait (k : Fin k0_t1_loop.trips) (hj : k.val % 4 = 0) (h0 : 0 < k.val) (hh hs) : (oBuf.slice (Rect.unit (s := S2x512x4096) (k0_off55 (wOut k.val)) S1x512x4096.size hh) hs).squeeze S512x4096 squeezes_S1x512x4096_S512x4096 = oSlot (Ring.sl 2 (k.val / 4 - 1)) := oSlot_congr (off55_at k hj h0) _ _
@[sl_canon] theorem oBlkWait (k : Fin k0_t1_loop.trips) (hj : k.val % 4 = 0) (h0 : 0 < k.val) (hh hs) : oArr.slice (Rect.unit (s := S16384x4096) (k0_off54 (wRow k.val) (wCol k.val)) S512x4096.size hh) hs = oBlk (Ring.sl 32 (k.val / 4 - 1)) := oBlk_congr (off54_at k hj h0) _ _
@[sl_canon] theorem oSlotStore (k : Fin k0_t1_loop.trips) (hh hs) : (oBuf.slice (Rect.unit (s := S2x512x4096) (k0_off47 (wBlk k.val)) S1x512x4096.size hh) hs).squeeze S512x4096 squeezes_S1x512x4096_S512x4096 = oSlot (Ring.sl 2 (k.val / 4)) := oSlot_congr (off47_at k) _ _
@[sl_canon] theorem oSlotNorm (k : Fin k0_t1_loop.trips) (hh hs) : (oBuf.slice (Rect.unit (s := S2x512x4096) (k0_off49 (wBlk k.val)) S1x512x4096.size hh) hs).squeeze S512x4096 squeezes_S1x512x4096_S512x4096 = oSlot (Ring.sl 2 (k.val / 4)) := oSlot_congr (off49_at k) _ _
@[sl_canon] theorem oSlotStoreLit (k : Fin k0_t1_loop.trips) (hh hs) : (oBuf.slice (Rect.unit (s := S2x512x4096) (k0_off47 (wBlk k.val)) ![1, 512, 4096] hh) hs).squeeze S512x4096 squeezes_S1x512x4096_S512x4096 = oSlot (Ring.sl 2 (k.val / 4)) := oSlot_congr (off47_at k) _ _
@[sl_canon] theorem oSlotNormLit (k : Fin k0_t1_loop.trips) (hh hs) : (oBuf.slice (Rect.unit (s := S2x512x4096) (k0_off49 (wBlk k.val)) ![1, 512, 4096] hh) hs).squeeze S512x4096 squeezes_S1x512x4096_S512x4096 = oSlot (Ring.sl 2 (k.val / 4)) := oSlot_congr (off49_at k) _ _
instance (k : Fin k0_t1_loop.trips) : ClosedOff (k0_off42 (wTrip k.val)) := ⟨xSlotOff (Ring.sl 2 (k.val)), off42_at k⟩
instance (k : Fin k0_t1_loop.trips) : ClosedOff (k0_off43 (wBlk k.val)) := ⟨ymSlotOff (Ring.sl 2 (k.val / 4)), off43_at k⟩
instance (k : Fin k0_t1_loop.trips) : ClosedOff (k0_off44 (wTrip k.val)) := ⟨uSlotOff (Ring.sl 3 (k.val)), off44_at k⟩
instance (k : Fin k0_t1_loop.trips) : ClosedOff (k0_off45 (wBlk k.val)) := ⟨yaSlotOff (Ring.sl 2 (k.val / 4)), off45_at k⟩
instance (k : Fin k0_t1_loop.trips) : ClosedOff (k0_off46 (wTrip k.val)) := ⟨lSlotOff (Ring.sl 3 (k.val)), off46_at k⟩
instance (k : Fin k0_t1_loop.trips) : ClosedOff (k0_off48 (wCol k.val)) := ⟨![0, 1024 * (k.val % 4)], off48_at k⟩

/-! ## The slices before and after the loop -/

@[sl_canon] theorem ymSemFirst (hh) : (cc0_scoped1.slice (Rect.unit (s := S2) (k0_off1) S1.size hh)).squeeze S_ squeezes_S1_S_ = ymSem 0 := ymSem_congr (by decide +kernel) _
@[sl_canon] theorem yaSemFirst (hh) : (cc0_scoped3.slice (Rect.unit (s := S2) (k0_off1) S1.size hh)).squeeze S_ squeezes_S1_S_ = yaSem 0 := yaSem_congr (by decide +kernel) _
@[sl_canon] theorem xSemFirst (hh) : (cc0_scoped5.slice (Rect.unit (s := S2) (k0_off1) S1.size hh)).squeeze S_ squeezes_S1_S_ = xSem 0 := xSem_congr (by decide +kernel) _
@[sl_canon] theorem uSemFirst (hh) : (cc0_scoped7.slice (Rect.unit (s := S3) (k0_off4) S1.size hh)).squeeze S_ squeezes_S1_S_ = uSem 0 := uSem_congr (by decide +kernel) _
@[sl_canon] theorem lSemFirst (hh) : (cc0_scoped9.slice (Rect.unit (s := S3) (k0_off4) S1.size hh)).squeeze S_ squeezes_S1_S_ = lSem 0 := lSem_congr (by decide +kernel) _
@[sl_canon] theorem ymSlotFirst (hh hs) : (ymBuf.slice (Rect.unit (s := S2x512x2048) (k0_off2) S1x512x2048.size hh) hs).squeeze S512x2048 squeezes_S1x512x2048_S512x2048 = ymSlot 0 := ymSlot_congr (by decide +kernel) _ _
@[sl_canon] theorem yaSlotFirst (hh hs) : (yaBuf.slice (Rect.unit (s := S2x512x2048) (k0_off2) S1x512x2048.size hh) hs).squeeze S512x2048 squeezes_S1x512x2048_S512x2048 = yaSlot 0 := yaSlot_congr (by decide +kernel) _ _
@[sl_canon] theorem xSlotFirst (hh hs) : (xBuf.slice (Rect.unit (s := S2x512x1024) (k0_off3) S1x512x1024.size hh) hs).squeeze S512x1024 squeezes_S1x512x1024_S512x1024 = xSlot 0 := xSlot_congr (by decide +kernel) _ _
@[sl_canon] theorem uSlotFirst (hh hs) : (uBuf.slice (Rect.unit (s := S3x2048x1024) (k0_off5) S1x2048x1024.size hh) hs).squeeze S2048x1024 squeezes_S1x2048x1024_S2048x1024 = uSlot 0 := uSlot_congr (by decide +kernel) _ _
@[sl_canon] theorem lSlotFirst (hh hs) : (lBuf.slice (Rect.unit (s := S3x2048x1024) (k0_off5) S1x2048x1024.size hh) hs).squeeze S2048x1024 squeezes_S1x2048x1024_S2048x1024 = lSlot 0 := lSlot_congr (by decide +kernel) _ _
@[sl_canon] theorem ymBlkFirst (hh hs) : ymArr.slice (Rect.unit (s := S16384x2048) (![0, 0]) S512x2048.size hh) hs = ymBlk 0 := ymBlk_congr (by decide +kernel) _ _
@[sl_canon] theorem yaBlkFirst (hh hs) : yaArr.slice (Rect.unit (s := S16384x2048) (![0, 0]) S512x2048.size hh) hs = yaBlk 0 := yaBlk_congr (by decide +kernel) _ _
@[sl_canon] theorem xBlkFirst (hh hs) : xArr.slice (Rect.unit (s := S16384x4096) (![0, 0]) S512x1024.size hh) hs = xBlk 0 := xBlk_congr (by decide +kernel) _ _
@[sl_canon] theorem uBlkFirst (hh hs) : uArr.slice (Rect.unit (s := S4096x4096) (![0, 0]) S2048x1024.size hh) hs = uBlk 0 := uBlk_congr (by decide +kernel) _ _
@[sl_canon] theorem lBlkFirst (hh hs) : lArr.slice (Rect.unit (s := S4096x4096) (![2048, 0]) S2048x1024.size hh) hs = lBlk 0 := lBlk_congr (by decide +kernel) _ _
@[sl_canon] theorem uSemSecond (hh) : (cc0_scoped7.slice (Rect.unit (s := S3) (k0_off6) S1.size hh)).squeeze S_ squeezes_S1_S_ = uSem 1 := uSem_congr (by decide +kernel) _
@[sl_canon] theorem uSlotSecond (hh hs) : (uBuf.slice (Rect.unit (s := S3x2048x1024) (k0_off7) S1x2048x1024.size hh) hs).squeeze S2048x1024 squeezes_S1x2048x1024_S2048x1024 = uSlot 1 := uSlot_congr (by decide +kernel) _ _
@[sl_canon] theorem uBlkSecond (hh hs) : uArr.slice (Rect.unit (s := S4096x4096) (k0_off8) S2048x1024.size hh) hs = uBlk 1 := uBlk_congr (by decide +kernel) _ _
@[sl_canon] theorem lSemSecond (hh) : (cc0_scoped9.slice (Rect.unit (s := S3) (k0_off9) S1.size hh)).squeeze S_ squeezes_S1_S_ = lSem 1 := lSem_congr (by decide +kernel) _
@[sl_canon] theorem lSlotSecond (hh hs) : (lBuf.slice (Rect.unit (s := S3x2048x1024) (k0_off10) S1x2048x1024.size hh) hs).squeeze S2048x1024 squeezes_S1x2048x1024_S2048x1024 = lSlot 1 := lSlot_congr (by decide +kernel) _ _
@[sl_canon] theorem lBlkSecond (hh hs) : lArr.slice (Rect.unit (s := S4096x4096) (k0_off11) S2048x1024.size hh) hs = lBlk 1 := lBlk_congr (by decide +kernel) _ _
@[sl_canon] theorem oSemLast (hh) : (cc0_scoped12.slice (Rect.unit (s := S2) (k0_off56 (wOut 128)) S1.size hh)).squeeze S_ squeezes_S1_S_ = oSem 1 := oSem_congr (by decide +kernel) _
@[sl_canon] theorem oSlotLast (hh hs) : (oBuf.slice (Rect.unit (s := S2x512x4096) (k0_off58 (wOut 128)) S1x512x4096.size hh) hs).squeeze S512x4096 squeezes_S1x512x4096_S512x4096 = oSlot 1 := oSlot_congr (by decide +kernel) _ _
@[sl_canon] theorem oBlkLast (hh hs) : oArr.slice (Rect.unit (s := S16384x4096) (k0_off57 (wCol 128) (wRow 128)) S512x4096.size hh) hs = oBlk 31 := oBlk_congr (by decide +kernel) _ _
theorem cond1_ok : k0_cond1 = 1#1 := by decide +kernel
theorem cond2_ok : k0_cond2 = 1#1 := by decide +kernel

/-! ## The pieces -/

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD)

/-- The semaphore of slot `s` at rest. -/
abbrev ymCell (s : Fin 2) : sProp 𝕄 := semVal ((c : Thread nD τ), SemLoc.dma (ymSem s).sem) 0
/-- Slot `s` held with contents `f`. -/
abbrev ymHeld (s : Fin 2) (f : Buf (Elt F) ((ymSlot s).view.loc (c : Thread nD τ))) : sProp 𝕄 :=
  (ymSlot s).view.loc (c : Thread nD τ) ↦[(ymSlot s).view.set]{fullShare} f
/-- Block `b` held in HBM at the array's contents. -/
abbrev ymHome (A : Buf (Elt F) (ymArr.view.loc (c : Thread nD τ))) (b : Fin 32) : sProp 𝕄 :=
  (ymBlk b).view.loc (c : Thread nD τ) ↦[(ymBlk b).view.set]{fullShare} A
/-- Slot `s` after block `b` has landed over `f`. -/
abbrev ymLanded (A : Buf (Elt F) (ymArr.view.loc (c : Thread nD τ))) (s : Fin 2) (b : Fin 32) (f : Buf (Elt F) ((ymSlot s).view.loc (c : Thread nD τ))) : Buf (Elt F) ((ymSlot s).view.loc (c : Thread nD τ)) :=
  (ymSlot s).view.writes (Elt F) f [⟨Rect.whole S512x2048, ReadAs.same.apply ((ymBlk b).view.read (Elt F) A)⟩]
/-- Slot `s` in flight with block `b`. -/
abbrev ymFlight (A : Buf (Elt F) (ymArr.view.loc (c : Thread nD τ))) (s : Fin 2) (b : Fin 32) (f : Buf (Elt F) ((ymSlot s).view.loc (c : Thread nD τ))) : sProp 𝕄 :=
  Transfers.Flight countersEmb (c : Thread nD τ) (SemLoc.dma (ymSem s).sem) () 65536 iprop(ymHeld c s (ymLanded c A s b f) ∗ ymHome c A b)

/-- The semaphore of slot `s` at rest. -/
abbrev yaCell (s : Fin 2) : sProp 𝕄 := semVal ((c : Thread nD τ), SemLoc.dma (yaSem s).sem) 0
/-- Slot `s` held with contents `f`. -/
abbrev yaHeld (s : Fin 2) (f : Buf (Elt F) ((yaSlot s).view.loc (c : Thread nD τ))) : sProp 𝕄 :=
  (yaSlot s).view.loc (c : Thread nD τ) ↦[(yaSlot s).view.set]{fullShare} f
/-- Block `b` held in HBM at the array's contents. -/
abbrev yaHome (A : Buf (Elt F) (yaArr.view.loc (c : Thread nD τ))) (b : Fin 32) : sProp 𝕄 :=
  (yaBlk b).view.loc (c : Thread nD τ) ↦[(yaBlk b).view.set]{fullShare} A
/-- Slot `s` after block `b` has landed over `f`. -/
abbrev yaLanded (A : Buf (Elt F) (yaArr.view.loc (c : Thread nD τ))) (s : Fin 2) (b : Fin 32) (f : Buf (Elt F) ((yaSlot s).view.loc (c : Thread nD τ))) : Buf (Elt F) ((yaSlot s).view.loc (c : Thread nD τ)) :=
  (yaSlot s).view.writes (Elt F) f [⟨Rect.whole S512x2048, ReadAs.same.apply ((yaBlk b).view.read (Elt F) A)⟩]
/-- Slot `s` in flight with block `b`. -/
abbrev yaFlight (A : Buf (Elt F) (yaArr.view.loc (c : Thread nD τ))) (s : Fin 2) (b : Fin 32) (f : Buf (Elt F) ((yaSlot s).view.loc (c : Thread nD τ))) : sProp 𝕄 :=
  Transfers.Flight countersEmb (c : Thread nD τ) (SemLoc.dma (yaSem s).sem) () 65536 iprop(yaHeld c s (yaLanded c A s b f) ∗ yaHome c A b)

/-- The semaphore of slot `s` at rest. -/
abbrev xCell (s : Fin 2) : sProp 𝕄 := semVal ((c : Thread nD τ), SemLoc.dma (xSem s).sem) 0
/-- Slot `s` held with contents `f`. -/
abbrev xHeld (s : Fin 2) (f : Buf (Elt F) ((xSlot s).view.loc (c : Thread nD τ))) : sProp 𝕄 :=
  (xSlot s).view.loc (c : Thread nD τ) ↦[(xSlot s).view.set]{fullShare} f
/-- Block `b` held in HBM at the array's contents. -/
abbrev xHome (A : Buf (Elt F) (xArr.view.loc (c : Thread nD τ))) (b : Fin 128) : sProp 𝕄 :=
  (xBlk b).view.loc (c : Thread nD τ) ↦[(xBlk b).view.set]{fullShare} A
/-- Slot `s` after block `b` has landed over `f`. -/
abbrev xLanded (A : Buf (Elt F) (xArr.view.loc (c : Thread nD τ))) (s : Fin 2) (b : Fin 128) (f : Buf (Elt F) ((xSlot s).view.loc (c : Thread nD τ))) : Buf (Elt F) ((xSlot s).view.loc (c : Thread nD τ)) :=
  (xSlot s).view.writes (Elt F) f [⟨Rect.whole S512x1024, ReadAs.same.apply ((xBlk b).view.read (Elt F) A)⟩]
/-- Slot `s` in flight with block `b`. -/
abbrev xFlight (A : Buf (Elt F) (xArr.view.loc (c : Thread nD τ))) (s : Fin 2) (b : Fin 128) (f : Buf (Elt F) ((xSlot s).view.loc (c : Thread nD τ))) : sProp 𝕄 :=
  Transfers.Flight countersEmb (c : Thread nD τ) (SemLoc.dma (xSem s).sem) () 65536 iprop(xHeld c s (xLanded c A s b f) ∗ xHome c A b)

/-- The semaphore of slot `s` at rest. -/
abbrev uCell (s : Fin 3) : sProp 𝕄 := semVal ((c : Thread nD τ), SemLoc.dma (uSem s).sem) 0
/-- Slot `s` held with contents `f`. -/
abbrev uHeld (s : Fin 3) (f : Buf (Elt F) ((uSlot s).view.loc (c : Thread nD τ))) : sProp 𝕄 :=
  (uSlot s).view.loc (c : Thread nD τ) ↦[(uSlot s).view.set]{fullShare} f
/-- Block `b` held in HBM at the array's contents. -/
abbrev uHome (A : Buf (Elt F) (uArr.view.loc (c : Thread nD τ))) (b : Fin 4) : sProp 𝕄 :=
  (uBlk b).view.loc (c : Thread nD τ) ↦[(uBlk b).view.set]{fullShare} A
/-- Slot `s` after block `b` has landed over `f`. -/
abbrev uLanded (A : Buf (Elt F) (uArr.view.loc (c : Thread nD τ))) (s : Fin 3) (b : Fin 4) (f : Buf (Elt F) ((uSlot s).view.loc (c : Thread nD τ))) : Buf (Elt F) ((uSlot s).view.loc (c : Thread nD τ)) :=
  (uSlot s).view.writes (Elt F) f [⟨Rect.whole S2048x1024, ReadAs.same.apply ((uBlk b).view.read (Elt F) A)⟩]
/-- Slot `s` in flight with block `b`. -/
abbrev uFlight (A : Buf (Elt F) (uArr.view.loc (c : Thread nD τ))) (s : Fin 3) (b : Fin 4) (f : Buf (Elt F) ((uSlot s).view.loc (c : Thread nD τ))) : sProp 𝕄 :=
  Transfers.Flight countersEmb (c : Thread nD τ) (SemLoc.dma (uSem s).sem) () 131072 iprop(uHeld c s (uLanded c A s b f) ∗ uHome c A b)

/-- The semaphore of slot `s` at rest. -/
abbrev lCell (s : Fin 3) : sProp 𝕄 := semVal ((c : Thread nD τ), SemLoc.dma (lSem s).sem) 0
/-- Slot `s` held with contents `f`. -/
abbrev lHeld (s : Fin 3) (f : Buf (Elt F) ((lSlot s).view.loc (c : Thread nD τ))) : sProp 𝕄 :=
  (lSlot s).view.loc (c : Thread nD τ) ↦[(lSlot s).view.set]{fullShare} f
/-- Block `b` held in HBM at the array's contents. -/
abbrev lHome (A : Buf (Elt F) (lArr.view.loc (c : Thread nD τ))) (b : Fin 4) : sProp 𝕄 :=
  (lBlk b).view.loc (c : Thread nD τ) ↦[(lBlk b).view.set]{fullShare} A
/-- Slot `s` after block `b` has landed over `f`. -/
abbrev lLanded (A : Buf (Elt F) (lArr.view.loc (c : Thread nD τ))) (s : Fin 3) (b : Fin 4) (f : Buf (Elt F) ((lSlot s).view.loc (c : Thread nD τ))) : Buf (Elt F) ((lSlot s).view.loc (c : Thread nD τ)) :=
  (lSlot s).view.writes (Elt F) f [⟨Rect.whole S2048x1024, ReadAs.same.apply ((lBlk b).view.read (Elt F) A)⟩]
/-- Slot `s` in flight with block `b`. -/
abbrev lFlight (A : Buf (Elt F) (lArr.view.loc (c : Thread nD τ))) (s : Fin 3) (b : Fin 4) (f : Buf (Elt F) ((lSlot s).view.loc (c : Thread nD τ))) : sProp 𝕄 :=
  Transfers.Flight countersEmb (c : Thread nD τ) (SemLoc.dma (lSem s).sem) () 131072 iprop(lHeld c s (lLanded c A s b f) ∗ lHome c A b)

/-- The semaphore of slot `s` at rest. -/
abbrev oCell (s : Fin 2) : sProp 𝕄 := semVal ((c : Thread nD τ), SemLoc.dma (oSem s).sem) 0
/-- Slot `s` held with contents `f`. -/
abbrev oHeld (s : Fin 2) (f : Buf (Elt F) ((oSlot s).view.loc (c : Thread nD τ))) : sProp 𝕄 :=
  (oSlot s).view.loc (c : Thread nD τ) ↦[(oSlot s).view.set]{fullShare} f
/-- Block `b` held in HBM at the array's contents. -/
abbrev oHome (A : Buf (Elt F) (oArr.view.loc (c : Thread nD τ))) (b : Fin 32) : sProp 𝕄 :=
  (oBlk b).view.loc (c : Thread nD τ) ↦[(oBlk b).view.set]{fullShare} A
/-- Slot `s` in flight into block `b` of the result. -/
abbrev oFlight (s : Fin 2) (b : Fin 32) (f : Buf (Elt F) ((oSlot s).view.loc (c : Thread nD τ))) (g : Buf (Elt F) (oArr.view.loc (c : Thread nD τ))) : sProp 𝕄 :=
  Transfers.Flight countersEmb (c : Thread nD τ) (SemLoc.dma (oSem s).sem) () 262144
    iprop(oHome c ((oBlk b).view.writes (Elt F) g [⟨Rect.whole S512x4096, ReadAs.same.apply ((oSlot s).view.read (Elt F) f)⟩]) b ∗ oHeld c s f)

end Pieces
end Cert.KernelIdeal
-- ==== Proof.Rings.lean ====
module

public import proofs.«01_k».proof.Proof.Names

@[expose] public section

/-!
# Rings of slots, in the abstract

What a ring of slots holds before its `k`-th use, over any three families: `Fl s b` (slot `s` in flight with block
`b`), `Fr s` (slot `s` free) and `Hm b` (block `b` at home).  Each lemma opens the ring at one use and says what
closes it again at the next.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {M : Type*} [URA M]

/-- One member of a finite family taken out. -/
theorem sep_erase {I : Type*} [DecidableEq I] {s : Finset I} {i : I} (h : i ∈ s) {Φ : I → sProp M} : bigSep s Φ = iprop(Φ i ∗ bigSep (s.erase i) Φ) := bigSep_erase h

section Two
variable {NB : ℕ} [NeZero NB] (T : ℕ) (Fl : Fin 2 → Fin NB → sProp M) (Fr : Fin 2 → sProp M) (Hm : Fin NB → sProp M)

/-- Two slots, one block ahead: before use `k` block `k` is in flight and the other slot free. -/
def ring2 (k : ℕ) : sProp M :=
  if k < T then iprop(Fl (Ring.sl 2 k) (Ring.sl NB k) ∗ Fr (Ring.sl 2 (k + 1)) ∗ bigSep (Finset.univ.erase (Ring.sl NB k)) Hm)
  else iprop(Fr (Ring.sl 2 k) ∗ Fr (Ring.sl 2 (k + 1)) ∗ bigSep Finset.univ Hm)

theorem sl_ne_succ (h : 1 < NB) (k : ℕ) : Ring.sl NB (k + 1) ≠ Ring.sl NB k := by
  intro e
  have e' : (k + 1) % NB = k % NB := congrArg Fin.val e
  have h1 := Nat.mod_lt k (show 0 < NB by omega)
  rw [Nat.add_mod] at e'
  rw [Nat.mod_eq_of_lt h] at e'
  rcases Nat.lt_or_ge (k % NB + 1) NB with h2 | h2
  · rw [Nat.mod_eq_of_lt h2] at e'; omega
  · have : k % NB + 1 = NB := by omega
    rw [this, Nat.mod_self] at e'; omega

/-- One use with the next block asked for: block `k` comes in, block `k + 1` goes out. -/
theorem ring2_next (hNB : 1 < NB) (k : ℕ) (hk : k + 1 < T) :
    ring2 T Fl Fr Hm k ⊢ iprop((Fl (Ring.sl 2 k) (Ring.sl NB k) ∗ Fr (Ring.sl 2 (k + 1)) ∗ Hm (Ring.sl NB (k + 1)))
      ∗ ((Fl (Ring.sl 2 (k + 1)) (Ring.sl NB (k + 1)) ∗ Fr (Ring.sl 2 k) ∗ Hm (Ring.sl NB k)) -∗ ring2 T Fl Fr Hm (k + 1))) := by
  have hne := sl_ne_succ hNB k
  have e1 : bigSep (Finset.univ.erase (Ring.sl NB k)) Hm = iprop(Hm (Ring.sl NB (k + 1)) ∗ bigSep ((Finset.univ.erase (Ring.sl NB k)).erase (Ring.sl NB (k + 1))) Hm) :=
    sep_erase (Finset.mem_erase.mpr ⟨hne, Finset.mem_univ _⟩)
  have e2 : bigSep (Finset.univ.erase (Ring.sl NB (k + 1))) Hm = iprop(Hm (Ring.sl NB k) ∗ bigSep ((Finset.univ.erase (Ring.sl NB k)).erase (Ring.sl NB (k + 1))) Hm) := by
    rw [sep_erase (i := Ring.sl NB k) (Finset.mem_erase.mpr ⟨hne.symm, Finset.mem_univ _⟩), Finset.erase_right_comm]
  unfold ring2
  rw [if_pos (show k < T by omega), if_pos hk, e1, e2, show k + 1 + 1 = k + 2 from rfl, Ring.sl_add 2 k]
  iintro ⟨H1, H2, H3, H4⟩
  isplitl [H1 H2 H3]
  · isplitl [H1]; · iexact H1
    isplitl [H2]; · iexact H2
    iexact H3
  iintro ⟨G1, G2, G3⟩
  isplitl [G1]; · iexact G1
  isplitl [G2]; · iexact G2
  isplitl [G3]; · iexact G3
  iexact H4

/-- The last use: nothing more is asked for. -/
theorem ring2_last (k : ℕ) (hk : k + 1 = T) :
    ring2 T Fl Fr Hm k ⊢ iprop(Fl (Ring.sl 2 k) (Ring.sl NB k)
      ∗ ((Fr (Ring.sl 2 k) ∗ Hm (Ring.sl NB k)) -∗ ring2 T Fl Fr Hm (k + 1))) := by
  unfold ring2
  rw [if_pos (show k < T by omega), if_neg (show ¬ k + 1 < T by omega), show k + 1 + 1 = k + 2 from rfl, Ring.sl_add 2 k,
    sep_erase (s := Finset.univ) (i := Ring.sl NB k) (Finset.mem_univ _)]
  iintro ⟨H1, H2, H3⟩
  isplitl [H1]; · iexact H1
  iintro ⟨G1, G2⟩
  isplitl [H2]; · iexact H2
  isplitl [G1]; · iexact G1
  isplitl [G2]; · iexact G2
  iexact H3

/-- Before any use. -/
theorem ring2_zero (hT : 0 < T) :
    iprop(Fl 0 0 ∗ Fr 1 ∗ bigSep (Finset.univ.erase 0) Hm) ⊢ ring2 T Fl Fr Hm 0 := by
  unfold ring2; rw [if_pos hT]
  have e0 : Ring.sl NB 0 = 0 := rfl
  have e1 : Ring.sl 2 (0 + 1) = 1 := rfl
  have e2 : Ring.sl 2 0 = 0 := rfl
  rw [e0, e1, e2]

/-- After the last one. -/
theorem ring2_end (hT : T % 2 = 0) : ring2 T Fl Fr Hm T ⊢ iprop(Fr 0 ∗ Fr 1 ∗ bigSep Finset.univ Hm) := by
  unfold ring2; rw [if_neg (Nat.lt_irrefl T)]
  have e1 : Ring.sl 2 (T + 1) = 1 := Fin.ext (by show (T + 1) % 2 = 1; omega)
  have e2 : Ring.sl 2 T = 0 := Fin.ext (by show T % 2 = 0; omega)
  rw [e1, e2]

end Two

section Three
variable {NB : ℕ} [NeZero NB] (T : ℕ) (Fl : Fin 3 → Fin NB → sProp M) (Fr : Fin 3 → sProp M) (Hm : Fin NB → sProp M)

/-- Three slots, two blocks ahead. -/
def ring3 (k : ℕ) : sProp M :=
  if k + 1 < T then iprop(Fl (Ring.sl 3 k) (Ring.sl NB k) ∗ Fl (Ring.sl 3 (k + 1)) (Ring.sl NB (k + 1)) ∗ Fr (Ring.sl 3 (k + 2))
    ∗ bigSep ((Finset.univ.erase (Ring.sl NB k)).erase (Ring.sl NB (k + 1))) Hm)
  else if k < T then iprop(Fl (Ring.sl 3 k) (Ring.sl NB k) ∗ Fr (Ring.sl 3 (k + 1)) ∗ Fr (Ring.sl 3 (k + 2)) ∗ bigSep (Finset.univ.erase (Ring.sl NB k)) Hm)
  else iprop(Fr (Ring.sl 3 k) ∗ Fr (Ring.sl 3 (k + 1)) ∗ Fr (Ring.sl 3 (k + 2)) ∗ bigSep Finset.univ Hm)

theorem sl_ne_add2 (h : 2 < NB) (k : ℕ) : Ring.sl NB (k + 2) ≠ Ring.sl NB k := by
  intro e
  have e' : (k + 2) % NB = k % NB := congrArg Fin.val e
  have h1 := Nat.mod_lt k (show 0 < NB by omega)
  rw [Nat.add_mod] at e'
  rw [Nat.mod_eq_of_lt h] at e'
  rcases Nat.lt_or_ge (k % NB + 2) NB with h2 | h2
  · rw [Nat.mod_eq_of_lt h2] at e'; omega
  · have : (k % NB + 2) % NB = k % NB + 2 - NB := by rw [Nat.mod_eq_sub_mod h2, Nat.mod_eq_of_lt (by omega)]
    omega

theorem ring3_next (hNB : 2 < NB) (k : ℕ) (hk : k + 2 < T) :
    ring3 T Fl Fr Hm k ⊢ iprop((Fl (Ring.sl 3 k) (Ring.sl NB k) ∗ Fr (Ring.sl 3 (k + 2)) ∗ Hm (Ring.sl NB (k + 2)))
      ∗ ((Fl (Ring.sl 3 (k + 2)) (Ring.sl NB (k + 2)) ∗ Fr (Ring.sl 3 k) ∗ Hm (Ring.sl NB k)) -∗ ring3 T Fl Fr Hm (k + 1))) := by
  have h01 := sl_ne_succ (show 1 < NB by omega) k
  have h12 := sl_ne_succ (show 1 < NB by omega) (k + 1)
  have h02 := sl_ne_add2 hNB k
  have e1 : bigSep ((Finset.univ.erase (Ring.sl NB k)).erase (Ring.sl NB (k + 1))) Hm
      = iprop(Hm (Ring.sl NB (k + 2)) ∗ bigSep (((Finset.univ.erase (Ring.sl NB k)).erase (Ring.sl NB (k + 1))).erase (Ring.sl NB (k + 2))) Hm) :=
    sep_erase (Finset.mem_erase.mpr ⟨h12, Finset.mem_erase.mpr ⟨h02, Finset.mem_univ _⟩⟩)
  have e2 : bigSep ((Finset.univ.erase (Ring.sl NB (k + 1))).erase (Ring.sl NB (k + 2))) Hm
      = iprop(Hm (Ring.sl NB k) ∗ bigSep (((Finset.univ.erase (Ring.sl NB k)).erase (Ring.sl NB (k + 1))).erase (Ring.sl NB (k + 2))) Hm) := by
    rw [sep_erase (i := Ring.sl NB k) (Finset.mem_erase.mpr ⟨h02.symm, Finset.mem_erase.mpr ⟨h01.symm, Finset.mem_univ _⟩⟩)]
    rw [show ((Finset.univ.erase (Ring.sl NB (k + 1))).erase (Ring.sl NB (k + 2))).erase (Ring.sl NB k)
      = ((Finset.univ.erase (Ring.sl NB k)).erase (Ring.sl NB (k + 1))).erase (Ring.sl NB (k + 2)) by
        ext b; simp only [Finset.mem_erase, Finset.mem_univ, and_true]; tauto]
  unfold ring3
  rw [if_pos (show k + 1 < T by omega), if_pos (show k + 1 + 1 < T by omega), show k + 1 + 1 = k + 2 from rfl,
    show k + 1 + 2 = k + 3 from rfl, Ring.sl_add 3 k, e1, e2]
  iintro ⟨H1, H2, H3, H4, H5⟩
  isplitl [H1 H3 H4]
  · isplitl [H1]; · iexact H1
    isplitl [H3]; · iexact H3
    iexact H4
  iintro ⟨G1, G2, G3⟩
  isplitl [H2]; · iexact H2
  isplitl [G1]; · iexact G1
  isplitl [G2]; · iexact G2
  isplitl [G3]; · iexact G3
  iexact H5

/-- The last two uses. -/
theorem ring3_last (hNB : 2 < NB) (k : ℕ) (hk : T ≤ k + 2) (hk' : k < T) :
    ring3 T Fl Fr Hm k ⊢ iprop(Fl (Ring.sl 3 k) (Ring.sl NB k)
      ∗ ((Fr (Ring.sl 3 k) ∗ Hm (Ring.sl NB k)) -∗ ring3 T Fl Fr Hm (k + 1))) := by
  have h01 := sl_ne_succ (show 1 < NB by omega) k
  unfold ring3
  rcases Nat.lt_or_ge (k + 1) T with h | h
  · have e2 : bigSep (Finset.univ.erase (Ring.sl NB (k + 1))) Hm
        = iprop(Hm (Ring.sl NB k) ∗ bigSep ((Finset.univ.erase (Ring.sl NB k)).erase (Ring.sl NB (k + 1))) Hm) := by
      rw [sep_erase (i := Ring.sl NB k) (Finset.mem_erase.mpr ⟨h01.symm, Finset.mem_univ _⟩), Finset.erase_right_comm]
    rw [if_pos h, if_neg (show ¬ k + 1 + 1 < T by omega), if_pos h, show k + 1 + 1 = k + 2 from rfl, show k + 1 + 2 = k + 3 from rfl, Ring.sl_add 3 k, e2]
    iintro ⟨H1, H2, H3, H4⟩
    isplitl [H1]; · iexact H1
    iintro ⟨G1, G2⟩
    isplitl [H2]; · iexact H2
    isplitl [H3]; · iexact H3
    isplitl [G1]; · iexact G1
    isplitl [G2]; · iexact G2
    iexact H4
  · rw [if_neg (show ¬ k + 1 < T by omega), if_neg (show ¬ k + 1 + 1 < T by omega), if_pos hk', if_neg (show ¬ k + 1 < T by omega),
      show k + 1 + 1 = k + 2 from rfl, show k + 1 + 2 = k + 3 from rfl, Ring.sl_add 3 k, sep_erase (s := Finset.univ) (i := Ring.sl NB k) (Finset.mem_univ _)]
    iintro ⟨H1, H2, H3, H4⟩
    isplitl [H1]; · iexact H1
    iintro ⟨G1, G2⟩
    isplitl [H2]; · iexact H2
    isplitl [H3]; · iexact H3
    isplitl [G1]; · iexact G1
    isplitl [G2]; · iexact G2
    iexact H4

theorem ring3_zero (hT : 1 < T) (hNB : 1 < NB) :
    iprop(Fl 0 0 ∗ Fl 1 (Ring.sl NB 1) ∗ Fr 2 ∗ bigSep ((Finset.univ.erase 0).erase (Ring.sl NB 1)) Hm) ⊢ ring3 T Fl Fr Hm 0 := by
  unfold ring3; rw [if_pos hT]
  have e0 : Ring.sl NB 0 = 0 := rfl
  have e1 : Ring.sl 3 (0 + 1) = 1 := rfl
  have e2 : Ring.sl 3 (0 + 2) = 2 := rfl
  have e3 : Ring.sl 3 0 = 0 := rfl
  rw [e0, e1, e2, e3]

theorem ring3_end (hT : T % 3 = 2) : ring3 T Fl Fr Hm T ⊢ iprop(Fr 0 ∗ Fr 1 ∗ Fr 2 ∗ bigSep Finset.univ Hm) := by
  unfold ring3; rw [if_neg (show ¬ T + 1 < T by omega), if_neg (Nat.lt_irrefl T)]
  have e1 : Ring.sl 3 (T + 1) = 0 := Fin.ext (by show (T + 1) % 3 = 0; omega)
  have e2 : Ring.sl 3 (T + 2) = 1 := Fin.ext (by show (T + 2) % 3 = 1; omega)
  have e0 : Ring.sl 3 T = 2 := Fin.ext (by show T % 3 = 2; omega)
  rw [e0, e1, e2]
  iintro ⟨H1, H2, H3, H4⟩
  isplitl [H2]; · iexact H2
  isplitl [H3]; · iexact H3
  isplitl [H1]; · iexact H1
  iexact H4

end Three

section Kept
variable {NB : ℕ} [NeZero NB] (T : ℕ) (Fl : Fin 2 → Fin NB → sProp M) (Fr : Fin 2 → sProp M) (Hm : Fin NB → sProp M) (Ld : Fin 2 → Fin NB → sProp M)

/-- Two slots, one block ahead, between the first and the last use of block `i`: it has landed and is kept. -/
def kept (i : ℕ) : sProp M := iprop(Ld (Ring.sl 2 i) (Ring.sl NB i) ∗ Fr (Ring.sl 2 (i + 1)) ∗ bigSep Finset.univ Hm)

theorem kept_land (i : ℕ) (hi : i < T) :
    ring2 T Fl Fr Hm i ⊢ iprop(Fl (Ring.sl 2 i) (Ring.sl NB i) ∗ ((Ld (Ring.sl 2 i) (Ring.sl NB i) ∗ Hm (Ring.sl NB i)) -∗ kept Fr Hm Ld i)) := by
  unfold ring2 kept
  rw [if_pos hi, sep_erase (s := Finset.univ) (i := Ring.sl NB i) (Finset.mem_univ _)]
  iintro ⟨H1, H2, H3⟩
  isplitl [H1]; · iexact H1
  iintro ⟨G1, G2⟩
  isplitl [G1]; · iexact G1
  isplitl [H2]; · iexact H2
  isplitl [G2]; · iexact G2
  iexact H3

theorem kept_use (i : ℕ) : kept Fr Hm Ld i ⊢ iprop(Ld (Ring.sl 2 i) (Ring.sl NB i) ∗ (Ld (Ring.sl 2 i) (Ring.sl NB i) -∗ kept Fr Hm Ld i)) := by
  unfold kept
  iintro ⟨H1, H2⟩
  isplitl [H1]; · iexact H1
  iintro G1
  isplitl [G1]; · iexact G1
  iexact H2

theorem kept_next (hld : ∀ s b, Ld s b ⊢ Fr s) (i : ℕ) (hi : i + 1 < T) :
    kept Fr Hm Ld i ⊢ iprop((Ld (Ring.sl 2 i) (Ring.sl NB i) ∗ Fr (Ring.sl 2 (i + 1)) ∗ Hm (Ring.sl NB (i + 1)))
      ∗ ((Ld (Ring.sl 2 i) (Ring.sl NB i) ∗ Fl (Ring.sl 2 (i + 1)) (Ring.sl NB (i + 1))) -∗ ring2 T Fl Fr Hm (i + 1))) := by
  unfold ring2 kept
  rw [if_pos hi, sep_erase (s := Finset.univ) (i := Ring.sl NB (i + 1)) (Finset.mem_univ _), show i + 1 + 1 = i + 2 from rfl, Ring.sl_add 2 i]
  iintro ⟨H1, H2, H3, H4⟩
  isplitl [H1 H2 H3]
  · isplitl [H1]; · iexact H1
    isplitl [H2]; · iexact H2
    iexact H3
  iintro ⟨G1, G2⟩
  isplitl [G2]; · iexact G2
  isplitl [G1]; · iapply (hld _ _); iexact G1
  iexact H4

theorem kept_last (hld : ∀ s b, Ld s b ⊢ Fr s) (i : ℕ) (hi : i + 1 = T) :
    kept Fr Hm Ld i ⊢ iprop(Ld (Ring.sl 2 i) (Ring.sl NB i) ∗ (Ld (Ring.sl 2 i) (Ring.sl NB i) -∗ ring2 T Fl Fr Hm (i + 1))) := by
  unfold ring2 kept
  rw [if_neg (show ¬ i + 1 < T by omega), show i + 1 + 1 = i + 2 from rfl, Ring.sl_add 2 i]
  iintro ⟨H1, H2, H3⟩
  isplitl [H1]; · iexact H1
  iintro G1
  isplitl [H2]; · iexact H2
  isplitl [G1]; · iapply (hld _ _); iexact G1
  iexact H3

end Kept

section Out
variable (Fr : Fin 2 → sProp M) (Fy : ℕ → sProp M) (Pd Dn : Fin 32 → sProp M)

/-- The blocks of the result after `i` of them are written. -/
def written (i : ℕ) (b : Fin 32) : sProp M := if b.val < i then Dn b else Pd b

/-- The ring of the result before block `i` is begun: block `i - 1` is on its way out. -/
def outBefore (i : ℕ) : sProp M :=
  if i = 0 then iprop(Fr 0 ∗ Fr 1 ∗ bigSep Finset.univ (written Pd Dn 0))
  else iprop(Fr (Ring.sl 2 i) ∗ Fy (i - 1) ∗ bigSep (Finset.univ.erase (Ring.sl 32 (i - 1))) (written Pd Dn i))
/-- The ring of the result while block `i` is built, but for its own slot. -/
def outRest (i : ℕ) : sProp M := iprop(Fr (Ring.sl 2 (i + 1)) ∗ bigSep Finset.univ (written Pd Dn i))

theorem out_first : outBefore Fr Fy Pd Dn 0 ⊢ iprop(Fr (Ring.sl 2 0) ∗ outRest Fr Pd Dn 0) := by
  unfold outBefore outRest; rw [if_pos rfl]
  exact .rfl

theorem out_begin (i : ℕ) (h0 : 0 < i) (hi : i ≤ 32) :
    outBefore Fr Fy Pd Dn i ⊢ iprop((Fr (Ring.sl 2 i) ∗ Fy (i - 1)) ∗ ((Fr (Ring.sl 2 (i - 1)) ∗ Dn (Ring.sl 32 (i - 1))) -∗ outRest Fr Pd Dn i)) := by
  unfold outBefore outRest
  rw [if_neg (by omega), sep_erase (s := Finset.univ) (i := Ring.sl 32 (i - 1)) (Finset.mem_univ _)]
  have e : Ring.sl 2 (i + 1) = Ring.sl 2 (i - 1) := by
    rw [show i + 1 = (i - 1) + 2 by omega, Ring.sl_add 2]
  have ew : written Pd Dn i (Ring.sl 32 (i - 1)) = Dn (Ring.sl 32 (i - 1)) := by
    unfold written; rw [if_pos]; show (i - 1) % 32 < i; rw [Nat.mod_eq_of_lt (by omega)]; omega
  rw [e, ew]
  iintro ⟨H1, H2, H3⟩
  isplitl [H1 H2]
  · isplitl [H1]; · iexact H1
    iexact H2
  iintro ⟨G1, G2⟩
  isplitl [G1]; · iexact G1
  isplitl [G2]; · iexact G2
  iexact H3

theorem out_ask (i : ℕ) (hi : i < 32) :
    outRest Fr Pd Dn i ⊢ iprop(Pd (Ring.sl 32 i) ∗ (Fy i -∗ outBefore Fr Fy Pd Dn (i + 1))) := by
  unfold outBefore outRest
  rw [if_neg (by omega), sep_erase (s := Finset.univ) (i := Ring.sl 32 i) (Finset.mem_univ _), show i + 1 - 1 = i from rfl]
  have hv : (Ring.sl 32 i).val = i := Nat.mod_eq_of_lt hi
  have ew : written Pd Dn i (Ring.sl 32 i) = Pd (Ring.sl 32 i) := by unfold written; rw [if_neg]; omega
  have er : bigSep (Finset.univ.erase (Ring.sl 32 i)) (written Pd Dn i) = bigSep (Finset.univ.erase (Ring.sl 32 i)) (written Pd Dn (i + 1)) :=
    bigSep_congr fun b hb => by
      have hb' : b.val ≠ i := fun e => (Finset.mem_erase.mp hb).1 (Fin.ext (by rw [e, hv]))
      unfold written
      rcases Nat.lt_or_ge b.val i with h | h
      · rw [if_pos h, if_pos (by omega)]
      · rw [if_neg (by omega), if_neg (by omega)]
  rw [ew, er]
  iintro ⟨H1, H2, H3⟩
  isplitl [H2]; · iexact H2
  iintro G1
  isplitl [H1]; · iexact H1
  isplitl [G1]; · iexact G1
  iexact H3

/-- All written. -/
theorem out_all : outRest Fr Pd Dn 32 ⊢ iprop(Fr 1 ∗ bigSep Finset.univ Dn) := by
  unfold outRest
  rw [bigSep_congr (Φ := written Pd Dn 32) (Ψ := Dn) fun b _ => by unfold written; rw [if_pos b.isLt]]
  exact .rfl
theorem out_none : iprop(Fr 0 ∗ Fr 1 ∗ bigSep Finset.univ Pd) ⊢ outBefore Fr Fy Pd Dn 0 := by
  unfold outBefore
  rw [if_pos rfl, bigSep_congr (Φ := written Pd Dn 0) (Ψ := Pd) fun b _ => by unfold written; rw [if_neg (by omega)]]

end Out
section KeptAt
variable {NB : ℕ} [NeZero NB] (T : ℕ) (Fl : Fin 2 → Fin NB → sProp M) (Fr : Fin 2 → sProp M) (Hm : Fin NB → sProp M) (Ld : Fin 2 → Fin NB → sProp M)

/-- A ring whose blocks are each used by four trips, before trip `k`. -/
def keptAt (k : ℕ) : sProp M := if k % 4 = 0 then ring2 T Fl Fr Hm (k / 4) else kept Fr Hm Ld (k / 4)

theorem keptAt_begin (k : ℕ) (hk : k / 4 < T) (h : k % 4 = 0) :
    keptAt T Fl Fr Hm Ld k ⊢ iprop(Fl (Ring.sl 2 (k / 4)) (Ring.sl NB (k / 4))
      ∗ ((Ld (Ring.sl 2 (k / 4)) (Ring.sl NB (k / 4)) ∗ Hm (Ring.sl NB (k / 4))) -∗ keptAt T Fl Fr Hm Ld (k + 1))) := by
  unfold keptAt
  rw [if_pos h, if_neg (by omega), show (k + 1) / 4 = k / 4 by omega]
  exact kept_land T Fl Fr Hm Ld (k / 4) hk
theorem keptAt_mid (k : ℕ) (h0 : ¬ k % 4 = 0) (h3 : ¬ k % 4 = 3) :
    keptAt T Fl Fr Hm Ld k ⊢ iprop(Ld (Ring.sl 2 (k / 4)) (Ring.sl NB (k / 4))
      ∗ (Ld (Ring.sl 2 (k / 4)) (Ring.sl NB (k / 4)) -∗ keptAt T Fl Fr Hm Ld (k + 1))) := by
  unfold keptAt
  rw [if_neg h0, if_neg (by omega), show (k + 1) / 4 = k / 4 by omega]
  exact kept_use Fr Hm Ld (k / 4)
theorem keptAt_close (hld : ∀ s b, Ld s b ⊢ Fr s) (k : ℕ) (hk : k / 4 + 1 < T) (h : k % 4 = 3) :
    keptAt T Fl Fr Hm Ld k ⊢ iprop((Ld (Ring.sl 2 (k / 4)) (Ring.sl NB (k / 4)) ∗ Fr (Ring.sl 2 (k / 4 + 1)) ∗ Hm (Ring.sl NB (k / 4 + 1)))
      ∗ ((Ld (Ring.sl 2 (k / 4)) (Ring.sl NB (k / 4)) ∗ Fl (Ring.sl 2 (k / 4 + 1)) (Ring.sl NB (k / 4 + 1))) -∗ keptAt T Fl Fr Hm Ld (k + 1))) := by
  unfold keptAt
  rw [if_neg (by omega), if_pos (by omega), show (k + 1) / 4 = k / 4 + 1 by omega]
  exact kept_next T Fl Fr Hm Ld hld (k / 4) hk
theorem keptAt_last (hld : ∀ s b, Ld s b ⊢ Fr s) (k : ℕ) (hk : k / 4 + 1 = T) (h : k % 4 = 3) :
    keptAt T Fl Fr Hm Ld k ⊢ iprop(Ld (Ring.sl 2 (k / 4)) (Ring.sl NB (k / 4))
      ∗ (Ld (Ring.sl 2 (k / 4)) (Ring.sl NB (k / 4)) -∗ keptAt T Fl Fr Hm Ld (k + 1))) := by
  unfold keptAt
  rw [if_neg (by omega), if_pos (by omega), show (k + 1) / 4 = k / 4 + 1 by omega]
  exact kept_last T Fl Fr Hm Ld hld (k / 4) hk

end KeptAt

section OutAt
variable (Fr : Fin 2 → sProp M) (Fy : ℕ → sProp M) (Pd Dn : Fin 32 → sProp M) (Tl : ℕ → ℕ → sProp M)

/-- The ring of the result before trip `k`. -/
def outAt (k : ℕ) : sProp M := if k % 4 = 0 then outBefore Fr Fy Pd Dn (k / 4) else iprop(Tl (k / 4) (k % 4) ∗ outRest Fr Pd Dn (k / 4))

theorem outAt_first (hfr : ∀ i, Fr (Ring.sl 2 i) ⊢ Tl i 0) (k : ℕ) (hk : k = 0) :
    outAt Fr Fy Pd Dn Tl k ⊢ iprop(Tl (k / 4) (k % 4) ∗ (Tl (k / 4) (k % 4 + 1) -∗ outAt Fr Fy Pd Dn Tl (k + 1))) := by
  subst hk
  unfold outAt
  rw [if_pos rfl, if_neg (by decide)]
  iintro H
  ihave H := (out_first Fr Fy Pd Dn) $$ H
  icases H with ⟨H1, H2⟩
  isplitl [H1]
  · iapply (hfr 0); iexact H1
  iintro G
  isplitl [G]; · iexact G
  iexact H2
theorem outAt_mid (k : ℕ) (h0 : ¬ k % 4 = 0) (h3 : ¬ k % 4 = 3) :
    outAt Fr Fy Pd Dn Tl k ⊢ iprop(Tl (k / 4) (k % 4) ∗ (Tl (k / 4) (k % 4 + 1) -∗ outAt Fr Fy Pd Dn Tl (k + 1))) := by
  unfold outAt
  rw [if_neg h0, if_neg (by omega), show (k + 1) / 4 = k / 4 by omega, show (k + 1) % 4 = k % 4 + 1 by omega]
  iintro ⟨H1, H2⟩
  isplitl [H1]; · iexact H1
  iintro G
  isplitl [G]; · iexact G
  iexact H2
theorem outAt_begin (hfr : ∀ i, Fr (Ring.sl 2 i) ⊢ Tl i 0) (k : ℕ) (hk : k < 128) (h0 : k % 4 = 0) (hp : 0 < k) :
    outAt Fr Fy Pd Dn Tl k ⊢ iprop((Tl (k / 4) (k % 4) ∗ Fy (k / 4 - 1))
      ∗ ((Tl (k / 4) (k % 4 + 1) ∗ Fr (Ring.sl 2 (k / 4 - 1)) ∗ Dn (Ring.sl 32 (k / 4 - 1))) -∗ outAt Fr Fy Pd Dn Tl (k + 1))) := by
  unfold outAt
  rw [if_pos h0, if_neg (by omega), show (k + 1) / 4 = k / 4 by omega, show (k + 1) % 4 = k % 4 + 1 by omega, h0]
  iintro H
  ihave H := (out_begin Fr Fy Pd Dn (k / 4) (by omega) (by omega)) $$ H
  icases H with ⟨⟨H1, H2⟩, H3⟩
  isplitl [H1 H2]
  · isplitl [H1]
    · iapply (hfr (k / 4)); iexact H1
    iexact H2
  iintro ⟨G1, G2, G3⟩
  isplitl [G1]; · iexact G1
  iapply H3
  isplitl [G2]; · iexact G2
  iexact G3
theorem outAt_close (k : ℕ) (hk : k < 128) (h3 : k % 4 = 3) :
    outAt Fr Fy Pd Dn Tl k ⊢ iprop((Tl (k / 4) (k % 4) ∗ Pd (Ring.sl 32 (k / 4))) ∗ (Fy (k / 4) -∗ outAt Fr Fy Pd Dn Tl (k + 1))) := by
  unfold outAt
  rw [if_neg (by omega), if_pos (by omega), show (k + 1) / 4 = k / 4 + 1 by omega]
  iintro ⟨H1, H2⟩
  ihave H2 := (out_ask Fr Fy Pd Dn (k / 4) (by omega)) $$ H2
  icases H2 with ⟨H2, H3⟩
  isplitl [H1 H2]
  · isplitl [H1]; · iexact H1
    iexact H2
  iexact H3

end OutAt
end Cert.KernelIdeal
-- ==== Proof.Tiles.lean ====
module

public import proofs.«01_k».proof.Proof.Names
public import Idealize.ShloMosaic.Lib.Pipeline.Value
public import Idealize.ShloMosaic.Lib.WritesUnit

@[expose] public section

/-!
# What the tiles hold

Trip `k` builds a tile of 512 rows by 1024 columns: the residual plus the two products.  Four of them, side by side,
are a block of 512 rows; its norm is written over it once the fourth is there.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Loads

/-- A slot of the residual's ring, loaded after a block has landed in it, is that block. -/
theorem x_load (s : Fin 2) {off : Fin 3 → Nat} (h : off = xSlotOff s) (inb) (f) (p : S512x1024.Idx → Elt F .f32) :
    shapeCast S512x1024 (View.readAt (Elt F) xBuf.view (Rect.unit (s := S2x512x1024) off S1x512x1024.size inb).toLoadRect
      ((xSlot s).view.writes (Elt F) f [⟨Rect.whole S512x1024, p⟩])) shapeCasts_S1x512x1024_S512x1024 = p := by
  subst h
  exact ((Memref.read_squeeze_slice (Val := Elt F) xBuf _ (fun _ => rfl) squeezes_S1x512x1024_S512x1024 shapeCasts_S1x512x1024_S512x1024 _).symm).trans
    (View.read_writes_whole (xSlot s).view f p)
theorem ym_load (s : Fin 2) {off : Fin 3 → Nat} (h : off = ymSlotOff s) (inb) (f) (p : S512x2048.Idx → Elt F .bf16) :
    shapeCast S512x2048 (View.readAt (Elt F) ymBuf.view (Rect.unit (s := S2x512x2048) off S1x512x2048.size inb).toLoadRect
      ((ymSlot s).view.writes (Elt F) f [⟨Rect.whole S512x2048, p⟩])) shapeCasts_S1x512x2048_S512x2048 = p := by
  subst h
  exact ((Memref.read_squeeze_slice (Val := Elt F) ymBuf _ (fun _ => rfl) squeezes_S1x512x2048_S512x2048 shapeCasts_S1x512x2048_S512x2048 _).symm).trans
    (View.read_writes_whole (ymSlot s).view f p)
theorem ya_load (s : Fin 2) {off : Fin 3 → Nat} (h : off = yaSlotOff s) (inb) (f) (p : S512x2048.Idx → Elt F .bf16) :
    shapeCast S512x2048 (View.readAt (Elt F) yaBuf.view (Rect.unit (s := S2x512x2048) off S1x512x2048.size inb).toLoadRect
      ((yaSlot s).view.writes (Elt F) f [⟨Rect.whole S512x2048, p⟩])) shapeCasts_S1x512x2048_S512x2048 = p := by
  subst h
  exact ((Memref.read_squeeze_slice (Val := Elt F) yaBuf _ (fun _ => rfl) squeezes_S1x512x2048_S512x2048 shapeCasts_S1x512x2048_S512x2048 _).symm).trans
    (View.read_writes_whole (yaSlot s).view f p)
theorem u_load (s : Fin 3) {off : Fin 3 → Nat} (h : off = uSlotOff s) (inb) (f) (p : S2048x1024.Idx → Elt F .bf16) :
    shapeCast S2048x1024 (View.readAt (Elt F) uBuf.view (Rect.unit (s := S3x2048x1024) off S1x2048x1024.size inb).toLoadRect
      ((uSlot s).view.writes (Elt F) f [⟨Rect.whole S2048x1024, p⟩])) shapeCasts_S1x2048x1024_S2048x1024 = p := by
  subst h
  exact ((Memref.read_squeeze_slice (Val := Elt F) uBuf _ (fun _ => rfl) squeezes_S1x2048x1024_S2048x1024 shapeCasts_S1x2048x1024_S2048x1024 _).symm).trans
    (View.read_writes_whole (uSlot s).view f p)
theorem l_load (s : Fin 3) {off : Fin 3 → Nat} (h : off = lSlotOff s) (inb) (f) (p : S2048x1024.Idx → Elt F .bf16) :
    shapeCast S2048x1024 (View.readAt (Elt F) lBuf.view (Rect.unit (s := S3x2048x1024) off S1x2048x1024.size inb).toLoadRect
      ((lSlot s).view.writes (Elt F) f [⟨Rect.whole S2048x1024, p⟩])) shapeCasts_S1x2048x1024_S2048x1024 = p := by
  subst h
  exact ((Memref.read_squeeze_slice (Val := Elt F) lBuf _ (fun _ => rfl) squeezes_S1x2048x1024_S2048x1024 shapeCasts_S1x2048x1024_S2048x1024 _).symm).trans
    (View.read_writes_whole (lSlot s).view f p)

end Loads

section Tile
variable (c : Dev nD)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

/-- The residual plus the two products, on one tile. -/
def sumTile (x : FVec F S512x1024 .f32) (ym : FVec F S512x2048 .bf16) (u : FVec F S2048x1024 .bf16) (ya : FVec F S512x2048 .bf16) (l : FVec F S2048x1024 .bf16) :
    FVec F S512x1024 .f32 :=
  addf (addf x (matmul dot_S512x2048_S2048x1024_S512x1024_1_0_0_1_n_n none ym u (constant S512x1024 .f32 0x00000000#32)))
    (matmul dot_S512x2048_S2048x1024_S512x1024_1_0_0_1_n_n none ya l (constant S512x1024 .f32 0x00000000#32))

theorem pay6_eq (x ym u ya l) : k0_pay6 (F := F) x ym u ya l
    = sumTile (shapeCast S512x1024 x shapeCasts_S1x512x1024_S512x1024) (shapeCast S512x2048 ym shapeCasts_S1x512x2048_S512x2048)
      (shapeCast S2048x1024 u shapeCasts_S1x2048x1024_S2048x1024) (shapeCast S512x2048 ya shapeCasts_S1x512x2048_S512x2048)
      (shapeCast S2048x1024 l shapeCasts_S1x2048x1024_S2048x1024) := rfl

/-- The tile trip `k` builds. -/
def preT (k : ℕ) : FVec F S512x1024 .f32 :=
  sumTile ((xBlk (Ring.sl 128 k)).view.read (Elt F) X) ((ymBlk (Ring.sl 32 (k / 4))).view.read (Elt F) YM) ((uBlk (Ring.sl 4 k)).view.read (Elt F) W)
    ((yaBlk (Ring.sl 32 (k / 4))).view.read (Elt F) YA) ((lBlk (Ring.sl 4 k)).view.read (Elt F) W)

theorem pay6_preT (k : Fin k0_t1_loop.trips) (h1 h2 h3 h4 h5) (f1 f2 f3 f4 f5) :
    k0_pay6 (F := F)
      (View.readAt (Elt F) xBuf.view (Rect.unit (s := S2x512x1024) (k0_off42 (wTrip k.val)) S1x512x1024.size h1).toLoadRect (xLanded c X (Ring.sl 2 k.val) (Ring.sl 128 k.val) f1))
      (View.readAt (Elt F) ymBuf.view (Rect.unit (s := S2x512x2048) (k0_off43 (wBlk k.val)) S1x512x2048.size h2).toLoadRect (ymLanded c YM (Ring.sl 2 (k.val / 4)) (Ring.sl 32 (k.val / 4)) f2))
      (View.readAt (Elt F) uBuf.view (Rect.unit (s := S3x2048x1024) (k0_off44 (wTrip k.val)) S1x2048x1024.size h3).toLoadRect (uLanded c W (Ring.sl 3 k.val) (Ring.sl 4 k.val) f3))
      (View.readAt (Elt F) yaBuf.view (Rect.unit (s := S2x512x2048) (k0_off45 (wBlk k.val)) S1x512x2048.size h4).toLoadRect (yaLanded c YA (Ring.sl 2 (k.val / 4)) (Ring.sl 32 (k.val / 4)) f4))
      (View.readAt (Elt F) lBuf.view (Rect.unit (s := S3x2048x1024) (k0_off46 (wTrip k.val)) S1x2048x1024.size h5).toLoadRect (lLanded c W (Ring.sl 3 k.val) (Ring.sl 4 k.val) f5))
      = preT c YM YA X W k.val := by
  rw [pay6_eq, x_load _ (off42_at k), ym_load _ (off43_at k), u_load _ (off44_at k), ya_load _ (off45_at k), l_load _ (off46_at k)]
  rfl

/-- A column of tiles' index. -/
def tileIx (z : S512x4096.Idx) : S512x1024.Idx := fun a => match a with
  | ⟨0, _⟩ => ⟨(z 0).val, (z 0).isLt⟩
  | ⟨1, _⟩ => ⟨(z 1).val % 1024, Nat.mod_lt _ (by decide)⟩

/-- Block `i` before its norm. -/
def preBlk (i : ℕ) (z : S512x4096.Idx) : Elt F .f32 := preT c YM YA X W (4 * i + (z 1).val / 1024) (tileIx z)

/-- The first `n` columns of tiles of block `i` are there. -/
def cols (i n : ℕ) (g : S512x4096.Idx → Elt F .f32) : Prop := ∀ z : S512x4096.Idx, (z 1).val < 1024 * n → g z = preBlk c YM YA X W i z

theorem cols_zero (i : ℕ) (g) : cols c YM YA X W i 0 g := fun z h => absurd h (by omega)

/-- One more tile. -/
theorem cols_store (k : ℕ) (s : Fin 2) (f) {off : Fin 2 → ℕ} (h : off = ![0, 1024 * (k % 4)]) (inb) (w : S512x1024.Idx → Elt F .f32)
    (hw : w = preT c YM YA X W k) (hf : cols c YM YA X W (k / 4) (k % 4) ((oSlot s).view.read (Elt F) f)) :
    cols c YM YA X W (k / 4) (k % 4 + 1) ((oSlot s).view.read (Elt F) ((oSlot s).view.writes (Elt F) f [⟨Rect.unit (s := S512x4096) off S512x1024.size inb, w⟩])) := by
  intro z hz
  by_cases hlt : (z 1).val < 1024 * (k % 4)
  · rw [View.read_writes_cons_unit_of_not_mem (oSlot s).view f inb w [] z h 1 (.inl hlt)]
    exact hf z hlt
  · have hz0 : (z 0).val < 512 := (z 0).isLt
    have e1 : (z 1).val / 1024 = k % 4 := by omega
    rw [View.read_writes_cons_unit_of_mem (oSlot s).view f inb w [] z (tileIx z) h
      (by intro a; fin_cases a
          · show (z 0).val = 0 + (z 0).val; omega
          · show (z 1).val = 1024 * (k % 4) + (z 1).val % 1024; omega)]
    rw [hw]; unfold preBlk; rw [e1, show 4 * (k / 4) + k % 4 = k by omega]

/-- The fourth tile. -/
theorem cols_last (k : ℕ) (h3 : k % 4 = 3) (s : Fin 2) (f) {off : Fin 2 → ℕ} (h : off = ![0, 1024 * (k % 4)]) (inb) (w : S512x1024.Idx → Elt F .f32)
    (hw : w = preT c YM YA X W k) (hf : cols c YM YA X W (k / 4) (k % 4) ((oSlot s).view.read (Elt F) f)) :
    cols c YM YA X W (k / 4) 4 ((oSlot s).view.read (Elt F) ((oSlot s).view.writes (Elt F) f [⟨Rect.unit (s := S512x4096) off S512x1024.size inb, w⟩])) := by
  have := cols_store c YM YA X W k s f h inb w hw hf
  rwa [show k % 4 + 1 = 4 by omega] at this

/-- The gain's tile at column `o`. -/
abbrev gainT (o : ℕ) (h : ∀ a, (![0, o] : Fin 2 → ℕ) a + S1x1024.size a ≤ S1x4096.size a) : Vec F S1x1024 .f32 :=
  View.readAt (Elt F) (Memref.whole cc0_scoped10 : Memref sig .tc _ _ _).view (Rect.unit (s := S1x4096) ![0, o] S1x1024.size h).toLoadRect G

/-- The scale of block `i`'s rows. -/
def scale (i : ℕ) : FVec F S512x1 .f32 :=
  k0_pay1 (preT c YM YA X W (4 * i)) (preT c YM YA X W (4 * i + 1)) (preT c YM YA X W (4 * i + 2)) (preT c YM YA X W (4 * i + 3))

/-- One tile of block `i` after its norm. -/
def outT (i j : ℕ) (h : j < 4) : FVec F S512x1024 .f32 :=
  k0_pay2 (scale c YM YA X W i) (preT c YM YA X W (4 * i + j)) (gainT c G (1024 * j) (by intro a; fin_cases a <;> simp <;> omega))

/-- Block `i` of the result. -/
def outBlk (i : ℕ) (z : S512x4096.Idx) : Elt F .f32 := outT c YM YA X W G i ((z 1).val / 1024) (by have : (z 1).val < 4096 := (z 1).isLt; omega) (tileIx z)

/-- Block `i` with its first `j` tiles already scaled. -/
def scaled (i j : ℕ) (g : S512x4096.Idx → Elt F .f32) : Prop :=
  ∀ z : S512x4096.Idx, g z = if (z 1).val / 1024 < j then outBlk c YM YA X W G i z else preBlk c YM YA X W i z

theorem scaled_zero (i : ℕ) (g) (h : cols c YM YA X W i 4 g) : scaled c YM YA X W G i 0 g := fun z => by
  rw [if_neg (by omega)]; exact h z (by have : (z 1).val < 4096 := (z 1).isLt; omega)
theorem scaled_all (i : ℕ) (g) (h : scaled c YM YA X W G i 4 g) : g = outBlk c YM YA X W G i := funext fun z => by
  rw [h z, if_pos (by have : (z 1).val < 4096 := (z 1).isLt; omega)]

/-- A load of a tile that is not scaled yet. -/
theorem tile_load (i n j : ℕ) (hn : n ≤ j) (s : Fin 2) (f) {off : Fin 2 → ℕ} (ho : off = ![0, 1024 * j]) (inb)
    (h : scaled c YM YA X W G i n ((oSlot s).view.read (Elt F) f)) :
    View.readAt (Elt F) (oSlot s).view (Rect.unit (s := S512x4096) off S512x1024.size inb).toLoadRect f = preT c YM YA X W (4 * i + j) := by
  subst ho
  funext y
  have hy1 : (y 1).val < 1024 := (y 1).isLt
  rw [View.readAt_apply]
  have e : ((Rect.unit (s := S512x4096) ![0, 1024 * j] S512x1024.size inb).toLoadRect.idx y 1).val = 1024 * j + (y 1).val := by
    show 1024 * j + 1 * (y 1).val = _; omega
  have e0 : ((Rect.unit (s := S512x4096) ![0, 1024 * j] S512x1024.size inb).toLoadRect.idx y 0).val = (y 0).val := by
    show 0 + 1 * (y 0).val = _; omega
  have ej : ((Rect.unit (s := S512x4096) ![0, 1024 * j] S512x1024.size inb).toLoadRect.idx y 1).val / 1024 = j := by rw [e]; omega
  rw [h _, if_neg (by rw [ej]; omega)]
  unfold preBlk
  rw [ej]
  congr 1
  funext a
  fin_cases a
  · exact Fin.ext e0
  · refine Fin.ext ?_
    show ((Rect.unit (s := S512x4096) ![0, 1024 * j] S512x1024.size inb).toLoadRect.idx y 1).val % 1024 = (y 1).val
    rw [e]; omega

/-- One more tile scaled. -/
theorem scaled_store (i j : ℕ) (hj : j < 4) (s : Fin 2) (f) (L) {off : Fin 2 → ℕ} (ho : off = ![0, 1024 * j]) (inb) (w : S512x1024.Idx → Elt F .f32)
    (hw : w = outT c YM YA X W G i j hj) (h : scaled c YM YA X W G i j ((oSlot s).view.read (Elt F) ((oSlot s).view.writes (Elt F) f L))) :
    scaled c YM YA X W G i (j + 1) ((oSlot s).view.read (Elt F) ((oSlot s).view.writes (Elt F) f (⟨Rect.unit (s := S512x4096) off S512x1024.size inb, w⟩ :: L))) := by
  intro z
  have hz0 : (z 0).val < 512 := (z 0).isLt
  by_cases e : (z 1).val / 1024 = j
  · rw [View.read_writes_cons_unit_of_mem (oSlot s).view f inb w L z (tileIx z) ho
      (by intro a; fin_cases a
          · show (z 0).val = 0 + (z 0).val; omega
          · show (z 1).val = 1024 * j + (z 1).val % 1024; omega)]
    rw [if_pos (by omega), hw]
    subst e
    rfl
  · rw [View.read_writes_cons_unit_of_not_mem (oSlot s).view f inb w L z ho 1
      (by show (z 1).val < 1024 * j ∨ 1024 * j + 1024 ≤ (z 1).val; omega), h z]
    by_cases hl : (z 1).val / 1024 < j
    · rw [if_pos hl, if_pos (by omega)]
    · rw [if_neg hl, if_neg (by omega)]

/-- The four tiles scaled one after the other, each loaded just before it is stored, leave the block's norm. -/
theorem norm_done (i : ℕ) (s : Fin 2) (f) (L : List (View.Piece (Elt F) S512x4096 .f32))
    (h : cols c YM YA X W i 4 ((oSlot s).view.read (Elt F) ((oSlot s).view.writes (Elt F) f L))) :
    let ld := fun (o : ℕ) (b : ∀ a, (![0, o] : Fin 2 → ℕ) a + S512x1024.size a ≤ S512x4096.size a) (M : List (View.Piece (Elt F) S512x4096 .f32)) =>
      View.readAt (Elt F) (oSlot s).view (Rect.unit (s := S512x4096) ![0, o] S512x1024.size b).toLoadRect ((oSlot s).view.writes (Elt F) f M)
    let r := k0_pay1 (ld 0 inb_S512x4096_S512x1024_0_0 L) (ld 1024 inb_S512x4096_S512x1024_0_1024 L) (ld 2048 inb_S512x4096_S512x1024_0_2048 L) (ld 3072 inb_S512x4096_S512x1024_0_3072 L)
    let L2 : List (View.Piece (Elt F) S512x4096 .f32) := ⟨Rect.unit (s := S512x4096) ![0, 0] S512x1024.size inb_S512x4096_S512x1024_0_0, k0_pay2 r (ld 0 inb_S512x4096_S512x1024_0_0 L) (gainT c G 0 inb_S1x4096_S1x1024_0_0)⟩ :: L
    let L3 : List (View.Piece (Elt F) S512x4096 .f32) := ⟨Rect.unit (s := S512x4096) ![0, 1024] S512x1024.size inb_S512x4096_S512x1024_0_1024, k0_pay3 r (ld 1024 inb_S512x4096_S512x1024_0_1024 L2) (gainT c G 1024 inb_S1x4096_S1x1024_0_1024)⟩ :: L2
    let L4 : List (View.Piece (Elt F) S512x4096 .f32) := ⟨Rect.unit (s := S512x4096) ![0, 2048] S512x1024.size inb_S512x4096_S512x1024_0_2048, k0_pay7 (k0_pay4 r (ld 2048 inb_S512x4096_S512x1024_0_2048 L3)) (k0_pay5 (gainT c G 2048 inb_S1x4096_S1x1024_0_2048))⟩ :: L3
    let L5 : List (View.Piece (Elt F) S512x4096 .f32) := ⟨Rect.unit (s := S512x4096) ![0, 3072] S512x1024.size inb_S512x4096_S512x1024_0_3072, k0_pay8 r (ld 3072 inb_S512x4096_S512x1024_0_3072 L4) (gainT c G 3072 inb_S1x4096_S1x1024_0_3072)⟩ :: L4
    (oSlot s).view.read (Elt F) ((oSlot s).view.writes (Elt F) f L5) = outBlk c YM YA X W G i := by
  intro ld r L2 L3 L4 L5
  have s0 := scaled_zero c YM YA X W G i _ h
  have hr : r = scale c YM YA X W i := by
    show k0_pay1 (ld 0 _ L) (ld 1024 _ L) (ld 2048 _ L) (ld 3072 _ L) = _
    rw [show ld 0 inb_S512x4096_S512x1024_0_0 L = preT c YM YA X W (4 * i + 0) from tile_load c YM YA X W G i 0 0 (by omega) s _ rfl _ s0,
      show ld 1024 inb_S512x4096_S512x1024_0_1024 L = preT c YM YA X W (4 * i + 1) from tile_load c YM YA X W G i 0 1 (by omega) s _ rfl _ s0,
      show ld 2048 inb_S512x4096_S512x1024_0_2048 L = preT c YM YA X W (4 * i + 2) from tile_load c YM YA X W G i 0 2 (by omega) s _ rfl _ s0,
      show ld 3072 inb_S512x4096_S512x1024_0_3072 L = preT c YM YA X W (4 * i + 3) from tile_load c YM YA X W G i 0 3 (by omega) s _ rfl _ s0]
    rfl
  have s1 : scaled c YM YA X W G i 1 ((oSlot s).view.read (Elt F) ((oSlot s).view.writes (Elt F) f L2)) := by
    refine scaled_store c YM YA X W G i 0 (by omega) s f L rfl _ _ ?_ s0
    rw [hr, show ld 0 inb_S512x4096_S512x1024_0_0 L = preT c YM YA X W (4 * i + 0) from tile_load c YM YA X W G i 0 0 (by omega) s _ rfl _ s0]
    rfl
  have s2 : scaled c YM YA X W G i 2 ((oSlot s).view.read (Elt F) ((oSlot s).view.writes (Elt F) f L3)) := by
    refine scaled_store c YM YA X W G i 1 (by omega) s f L2 rfl _ _ ?_ s1
    rw [hr, show ld 1024 inb_S512x4096_S512x1024_0_1024 L2 = preT c YM YA X W (4 * i + 1) from tile_load c YM YA X W G i 1 1 (by omega) s _ rfl _ s1]
    rfl
  have s3 : scaled c YM YA X W G i 3 ((oSlot s).view.read (Elt F) ((oSlot s).view.writes (Elt F) f L4)) := by
    refine scaled_store c YM YA X W G i 2 (by omega) s f L3 rfl _ _ ?_ s2
    rw [hr, show ld 2048 inb_S512x4096_S512x1024_0_2048 L3 = preT c YM YA X W (4 * i + 2) from tile_load c YM YA X W G i 2 2 (by omega) s _ rfl _ s2]
    rfl
  have s4 : scaled c YM YA X W G i 4 ((oSlot s).view.read (Elt F) ((oSlot s).view.writes (Elt F) f L5)) := by
    refine scaled_store c YM YA X W G i 3 (by omega) s f L4 rfl _ _ ?_ s3
    rw [hr, show ld 3072 inb_S512x4096_S512x1024_0_3072 L4 = preT c YM YA X W (4 * i + 3) from tile_load c YM YA X W G i 3 3 (by omega) s _ rfl _ s3]
    rfl
  exact scaled_all c YM YA X W G i _ s4

end Tile
end Cert.KernelIdeal
-- ==== Proof.Trip.lean ====
module

public import proofs.«01_k».proof.Proof.Tiles

@[expose] public section

/-!
# What a trip of the loop holds

The pieces the six kinds of trip take and give back.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

/-- The region of the loop on the call's own memrefs. -/
abbrev trip (k : Fin k0_t1_loop.trips) (acc : BitVec 32 × BitVec 32 × BitVec 32 × BitVec 32 × BitVec 32 × BitVec 32 × BitVec 32 × BitVec 32 × BitVec 32 × BitVec 32 × BitVec 32 × BitVec 32 × BitVec 32 × BitVec 32 × BitVec 32) :=
  k0_t1_body (F := F) ymArr (Memref.isWhole_whole _) yaArr (Memref.isWhole_whole _) xArr (Memref.isWhole_whole _) uArr (Memref.isWhole_whole _) lArr (Memref.isWhole_whole _) (Memref.whole main_v2) (Memref.isWhole_whole _) oArr (Memref.isWhole_whole _)
    ymBuf (Memref.isWhole_whole _) cc0_scoped1 yaBuf (Memref.isWhole_whole _) cc0_scoped3 xBuf (Memref.isWhole_whole _) cc0_scoped5 uBuf (Memref.isWhole_whole _) cc0_scoped7 lBuf (Memref.isWhole_whole _) cc0_scoped9 (Memref.whole cc0_scoped10) (Memref.isWhole_whole _) oBuf (Memref.isWhole_whole _) cc0_scoped12 cc0_scoped13
    v21 v48 v55 v62 v76 v83 v85 k acc

/-- A slot free, a slot in flight. -/
def ymFr (s : Fin 2) : sProp 𝕄 := iprop((∃ f, ymHeld (F := F) c s f) ∗ ymCell (F := F) c s)
def ymFl (s : Fin 2) (b : Fin 32) : sProp 𝕄 := iprop(∃ f, ymFlight c YM s b f)
/-- A slot with its block landed. -/
def ymLd (s : Fin 2) (b : Fin 32) : sProp 𝕄 := iprop((∃ f, ymHeld c s (ymLanded c YM s b f)) ∗ ymCell (F := F) c s)
theorem ymLd_free (s : Fin 2) (b : Fin 32) : ymLd c YM s b ⊢ ymFr (F := F) c s := by
  unfold ymLd ymFr
  iintro ⟨⟨%f, H⟩, C⟩
  isplitl [H]
  · iexists _; iexact H
  iexact C
/-- A slot free, a slot in flight. -/
def yaFr (s : Fin 2) : sProp 𝕄 := iprop((∃ f, yaHeld (F := F) c s f) ∗ yaCell (F := F) c s)
def yaFl (s : Fin 2) (b : Fin 32) : sProp 𝕄 := iprop(∃ f, yaFlight c YA s b f)
/-- A slot with its block landed. -/
def yaLd (s : Fin 2) (b : Fin 32) : sProp 𝕄 := iprop((∃ f, yaHeld c s (yaLanded c YA s b f)) ∗ yaCell (F := F) c s)
theorem yaLd_free (s : Fin 2) (b : Fin 32) : yaLd c YA s b ⊢ yaFr (F := F) c s := by
  unfold yaLd yaFr
  iintro ⟨⟨%f, H⟩, C⟩
  isplitl [H]
  · iexists _; iexact H
  iexact C
/-- A slot free, a slot in flight. -/
def xFr (s : Fin 2) : sProp 𝕄 := iprop((∃ f, xHeld (F := F) c s f) ∗ xCell (F := F) c s)
def xFl (s : Fin 2) (b : Fin 128) : sProp 𝕄 := iprop(∃ f, xFlight c X s b f)
/-- A slot free, a slot in flight. -/
def uFr (s : Fin 3) : sProp 𝕄 := iprop((∃ f, uHeld (F := F) c s f) ∗ uCell (F := F) c s)
def uFl (s : Fin 3) (b : Fin 4) : sProp 𝕄 := iprop(∃ f, uFlight c W s b f)
/-- A slot free, a slot in flight. -/
def lFr (s : Fin 3) : sProp 𝕄 := iprop((∃ f, lHeld (F := F) c s f) ∗ lCell (F := F) c s)
def lFl (s : Fin 3) (b : Fin 4) : sProp 𝕄 := iprop(∃ f, lFlight c W s b f)
/-- A slot of the result's ring free; one with the first `n` tiles of block `i`. -/
def oFr (s : Fin 2) : sProp 𝕄 := iprop((∃ f, oHeld (F := F) c s f) ∗ oCell (F := F) c s)
def oTl (i n : ℕ) : sProp 𝕄 := iprop((∃ f, ⌜cols c YM YA X W i n ((oSlot (Ring.sl 2 i)).view.read (Elt F) f)⌝ ∗ oHeld c (Ring.sl 2 i) f) ∗ oCell (F := F) c (Ring.sl 2 i))
/-- Block `i` on its way out. -/
def oFy (i : ℕ) : sProp 𝕄 := iprop(∃ f g, ⌜(oSlot (Ring.sl 2 i)).view.read (Elt F) f = outBlk c YM YA X W G i⌝ ∗ oFlight c (Ring.sl 2 i) (Ring.sl 32 i) f g)
/-- A block of the result before it is written, and after. -/
def oPd (b : Fin 32) : sProp 𝕄 := iprop(∃ g, oHome (F := F) c g b)
def oDn (b : Fin 32) : sProp 𝕄 := iprop(∃ g, ⌜(oBlk b).view.read (Elt F) g = outBlk c YM YA X W G b.val⌝ ∗ oHome (F := F) c g b)
/-- The gain's row. -/
abbrev gHeld : sProp 𝕄 := (Memref.whole cc0_scoped10 : Memref sig .tc _ _ _).view.loc (c : Thread nD τ) ↦{fullShare} G

theorem sl32_val (i : ℕ) (h : i < 32) : (Ring.sl 32 i).val = i := Nat.mod_eq_of_lt h

/-- Block `i` of the result, once its slot has been copied there. -/
theorem oBlk_wrote (i : ℕ) (h : i < 32) (g : Buf (Elt F) (oArr.view.loc (c : Thread nD τ))) (p : S512x4096.Idx → Elt F .f32)
    (hp : p = outBlk c YM YA X W G i) :
    (oBlk (Ring.sl 32 i)).view.read (Elt F) ((oBlk (Ring.sl 32 i)).view.writes (Elt F) g
      [⟨Rect.whole S512x4096, ReadAs.same.apply p⟩]) = outBlk c YM YA X W G (Ring.sl 32 i).val := by
  have e : (Ring.sl 32 i).val = i := sl32_val i h
  rw [e, ← hp]
  exact View.read_writes_whole (oBlk (Ring.sl 32 i)).view g p

theorem oFr_begin (i : ℕ) : oFr (F := F) c (Ring.sl 2 i) ⊢ oTl c YM YA X W i 0 := by
  unfold oFr oTl
  iintro ⟨⟨%f, H⟩, C⟩
  isplitl [H]
  · iexists f
    isplitr; · ipureintro; exact cols_zero c YM YA X W i _
    iexact H
  iexact C

end Trip
end Cert.KernelIdeal
-- ==== Proof.TripA.lean ====
module

public import proofs.«01_k».proof.Proof.Trip

@[expose] public section

/-! # The first trip. -/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

set_option maxHeartbeats 8000000 in
/-- The first trip. -/
theorem trip_first (k : Fin k0_t1_loop.trips) (hj : k.val = 0) :
    iprop((∃ O, owes (c : Thread nD τ) 0 O)
      ∗ ymFl c YM (Ring.sl 2 (k.val / 4)) (Ring.sl 32 (k.val / 4))
      ∗ yaFl c YA (Ring.sl 2 (k.val / 4)) (Ring.sl 32 (k.val / 4))
      ∗ (xFl c X (Ring.sl 2 k.val) (Ring.sl 128 k.val) ∗ xFr (F := F) c (Ring.sl 2 (k.val + 1)) ∗ xHome c X (Ring.sl 128 (k.val + 1)))
      ∗ (uFl c W (Ring.sl 3 k.val) (Ring.sl 4 k.val) ∗ uFr (F := F) c (Ring.sl 3 (k.val + 2)) ∗ uHome c W (Ring.sl 4 (k.val + 2)))
      ∗ (lFl c W (Ring.sl 3 k.val) (Ring.sl 4 k.val) ∗ lFr (F := F) c (Ring.sl 3 (k.val + 2)) ∗ lHome c W (Ring.sl 4 (k.val + 2)))
      ∗ oTl c YM YA X W (k.val / 4) (k.val % 4))
    ⊢ wp frame (wpE (defs₀ (F := F)) 𝒱₀ (c : Thread nD τ) none) Set.univ (trip v21 v48 v55 v62 v76 v83 v85 k (wAll k.val)) (fun acc => iprop(⌜acc = wAll (k.val + 1)⌝
      ∗ (∃ O, owes (c : Thread nD τ) 0 O)
      ∗ (ymLd c YM (Ring.sl 2 (k.val / 4)) (Ring.sl 32 (k.val / 4)) ∗ ymHome c YM (Ring.sl 32 (k.val / 4)))
      ∗ (yaLd c YA (Ring.sl 2 (k.val / 4)) (Ring.sl 32 (k.val / 4)) ∗ yaHome c YA (Ring.sl 32 (k.val / 4)))
      ∗ (xFl c X (Ring.sl 2 (k.val + 1)) (Ring.sl 128 (k.val + 1)) ∗ xFr (F := F) c (Ring.sl 2 k.val) ∗ xHome c X (Ring.sl 128 k.val))
      ∗ (uFl c W (Ring.sl 3 (k.val + 2)) (Ring.sl 4 (k.val + 2)) ∗ uFr (F := F) c (Ring.sl 3 k.val) ∗ uHome c W (Ring.sl 4 k.val))
      ∗ (lFl c W (Ring.sl 3 (k.val + 2)) (Ring.sl 4 (k.val + 2)) ∗ lFr (F := F) c (Ring.sl 3 k.val) ∗ lHome c W (Ring.sl 4 k.val))
      ∗ oTl c YM YA X W (k.val / 4) (k.val % 4 + 1))) := by
  have hkl : k.val < 128 := by have := k.isLt; have e := trips_eq; omega
  have h3 := mt (cond3_iff k).mp (by omega)
  have h4 := mt (cond4_iff k).mp (by omega)
  have h5 := (cond5_iff k).mpr (by omega)
  have h6 := (cond6_iff k).mpr (by omega)
  have h7 := (cond7_iff k).mpr (by omega)
  have h8 := (cond8_iff k).mpr (by omega)
  have h9 := (cond9_iff k).mpr (by omega)
  have h10 := (cond10_iff k).mpr trivial
  have h11 := (cond11_iff k).mpr trivial
  have h12 := (cond12_iff k).mpr trivial
  have h14 := mt (cond14_iff k).mp (by omega)
  have h20 := mt (cond20_iff k).mp (by omega)
  have h26 := mt (cond26_iff k).mp (by omega)
  have hk127 : k.val < 127 := by omega
  have hk126 : k.val < 126 := by omega
  have c7 := chk7_ok k
  have c6 := chk6_ok k
  have c5 := chk5_ok k
  have c4 := chk4_ok k
  have c3 := chk3_ok k
  have c2 := chk2_ok k
  have c1 := chk1_ok k
  unfold ymFl yaFl ymLd yaLd xFl xFr uFl uFr lFl lFr oTl
  iintro ⟨⟨%O, HW⟩, ⟨%fym, Fym⟩, ⟨%fya, Fya⟩, ⟨⟨%fx, Fx⟩, ⟨⟨%ex, Ex⟩, Dx⟩, Bx⟩, ⟨⟨%fu, Fu⟩, ⟨⟨%eu, Eu⟩, Du⟩, Bu⟩, ⟨⟨%fl, Fl⟩, ⟨⟨%el, El⟩, Dl⟩, Bl⟩, ⟨⟨%fo, %hfo, Ho⟩, Co⟩⟩
  dsimp only [trip, wAll]
  sl_unfold [k0_t1_body]
  sl_exec
  sl_exec
  sl_step
  isplitr
  · ipureintro; simp only [Prod.mk.injEq]; clear * - k hj; revert k; decide +kernel
  isplitl [HW]; · iexists _; iexact HW
  isplitl [Fym_dst Fym_src Fym]
  · isplitl [Fym_dst Fym]
    · isplitl [Fym_dst]
      · iexists _; iexact Fym_dst
      iexact Fym
    iexact Fym_src
  isplitl [Fya_dst Fya_src Fya]
  · isplitl [Fya_dst Fya]
    · isplitl [Fya_dst]
      · iexists _; iexact Fya_dst
      iexact Fya
    iexact Fya_src
  isplitl [Fx_dst Fx_src Fx Dx]
  · isplitl [Dx]
    · iexists _; iexact Dx
    isplitl [Fx_dst Fx]
    · isplitl [Fx_dst]
      · iexists _; iexact Fx_dst
      iexact Fx
    iexact Fx_src
  isplitl [Fu_dst Fu_src Fu Du]
  · isplitl [Du]
    · iexists _; iexact Du
    isplitl [Fu_dst Fu]
    · isplitl [Fu_dst]
      · iexists _; iexact Fu_dst
      iexact Fu
    iexact Fu_src
  isplitl [Fl_dst Fl_src Fl Dl]
  · isplitl [Dl]
    · iexists _; iexact Dl
    isplitl [Fl_dst Fl]
    · isplitl [Fl_dst]
      · iexists _; iexact Fl_dst
      iexact Fl
    iexact Fl_src
  isplitl [Ho]
  · iexists _
    isplitr; swap; · iexact Ho
    ipureintro; exact cols_store c YM YA X W k.val _ fo (off48_at k) _ _ (pay6_preT c YM YA X W k _ _ _ _ _ _ _ _ _ _) hfo
  iexact Co

end Trip
end Cert.KernelIdeal
-- ==== Proof.TripB.lean ====
module

public import proofs.«01_k».proof.Proof.Trip

@[expose] public section

/-! # A trip that begins a block. -/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

set_option maxHeartbeats 8000000 in
/-- A trip that begins a block. -/
theorem trip_begin (k : Fin k0_t1_loop.trips) (hj : k.val % 4 = 0) (hk0 : 0 < k.val) :
    iprop((∃ O, owes (c : Thread nD τ) 0 O)
      ∗ ymFl c YM (Ring.sl 2 (k.val / 4)) (Ring.sl 32 (k.val / 4))
      ∗ yaFl c YA (Ring.sl 2 (k.val / 4)) (Ring.sl 32 (k.val / 4))
      ∗ (xFl c X (Ring.sl 2 k.val) (Ring.sl 128 k.val) ∗ xFr (F := F) c (Ring.sl 2 (k.val + 1)) ∗ xHome c X (Ring.sl 128 (k.val + 1)))
      ∗ (uFl c W (Ring.sl 3 k.val) (Ring.sl 4 k.val) ∗ uFr (F := F) c (Ring.sl 3 (k.val + 2)) ∗ uHome c W (Ring.sl 4 (k.val + 2)))
      ∗ (lFl c W (Ring.sl 3 k.val) (Ring.sl 4 k.val) ∗ lFr (F := F) c (Ring.sl 3 (k.val + 2)) ∗ lHome c W (Ring.sl 4 (k.val + 2)))
      ∗ oTl c YM YA X W (k.val / 4) (k.val % 4)
      ∗ oFy c YM YA X W G (k.val / 4 - 1))
    ⊢ wp frame (wpE (defs₀ (F := F)) 𝒱₀ (c : Thread nD τ) none) Set.univ (trip v21 v48 v55 v62 v76 v83 v85 k (wAll k.val)) (fun acc => iprop(⌜acc = wAll (k.val + 1)⌝
      ∗ (∃ O, owes (c : Thread nD τ) 0 O)
      ∗ (ymLd c YM (Ring.sl 2 (k.val / 4)) (Ring.sl 32 (k.val / 4)) ∗ ymHome c YM (Ring.sl 32 (k.val / 4)))
      ∗ (yaLd c YA (Ring.sl 2 (k.val / 4)) (Ring.sl 32 (k.val / 4)) ∗ yaHome c YA (Ring.sl 32 (k.val / 4)))
      ∗ (xFl c X (Ring.sl 2 (k.val + 1)) (Ring.sl 128 (k.val + 1)) ∗ xFr (F := F) c (Ring.sl 2 k.val) ∗ xHome c X (Ring.sl 128 k.val))
      ∗ (uFl c W (Ring.sl 3 (k.val + 2)) (Ring.sl 4 (k.val + 2)) ∗ uFr (F := F) c (Ring.sl 3 k.val) ∗ uHome c W (Ring.sl 4 k.val))
      ∗ (lFl c W (Ring.sl 3 (k.val + 2)) (Ring.sl 4 (k.val + 2)) ∗ lFr (F := F) c (Ring.sl 3 k.val) ∗ lHome c W (Ring.sl 4 k.val))
      ∗ oTl c YM YA X W (k.val / 4) (k.val % 4 + 1)
      ∗ (oFr (F := F) c (Ring.sl 2 (k.val / 4 - 1)) ∗ oDn c YM YA X W G (Ring.sl 32 (k.val / 4 - 1))))) := by
  have hkl : k.val < 128 := by have := k.isLt; have e := trips_eq; omega
  have h3 := mt (cond3_iff k).mp (by omega)
  have h4 := mt (cond4_iff k).mp (by omega)
  have h5 := (cond5_iff k).mpr (by omega)
  have h6 := (cond6_iff k).mpr (by omega)
  have h7 := (cond7_iff k).mpr (by omega)
  have h8 := (cond8_iff k).mpr (by omega)
  have h9 := (cond9_iff k).mpr (by omega)
  have h10 := (cond10_iff k).mpr trivial
  have h11 := (cond11_iff k).mpr trivial
  have h12 := (cond12_iff k).mpr trivial
  have h14 := mt (cond14_iff k).mp (by omega)
  have h20 := mt (cond20_iff k).mp (by omega)
  have h26 := (cond26_iff k).mpr (by omega)
  have hk127 : k.val < 127 := by omega
  have hk126 : k.val < 126 := by omega
  have c7 := chk7_ok k
  have c6 := chk6_ok k
  have c5 := chk5_ok k
  have c4 := chk4_ok k
  have c3 := chk3_ok k
  have c2 := chk2_ok k
  have c1 := chk1_ok k
  unfold ymFl yaFl ymLd yaLd xFl xFr uFl uFr lFl lFr oTl oFy oFr oDn
  iintro ⟨⟨%O, HW⟩, ⟨%fym, Fym⟩, ⟨%fya, Fya⟩, ⟨⟨%fx, Fx⟩, ⟨⟨%ex, Ex⟩, Dx⟩, Bx⟩, ⟨⟨%fu, Fu⟩, ⟨⟨%eu, Eu⟩, Du⟩, Bu⟩, ⟨⟨%fl, Fl⟩, ⟨⟨%el, El⟩, Dl⟩, Bl⟩, ⟨⟨%fo, %hfo, Ho⟩, Co⟩, ⟨%fp, %gp, %hfp, Fo⟩⟩
  dsimp only [trip, wAll]
  sl_unfold [k0_t1_body]
  sl_exec
  sl_exec
  sl_step
  isplitr
  · ipureintro; simp only [Prod.mk.injEq]; clear * - k hj hk0; revert k; decide +kernel
  isplitl [HW]; · iexists _; iexact HW
  isplitl [Fym_dst Fym_src Fym]
  · isplitl [Fym_dst Fym]
    · isplitl [Fym_dst]
      · iexists _; iexact Fym_dst
      iexact Fym
    iexact Fym_src
  isplitl [Fya_dst Fya_src Fya]
  · isplitl [Fya_dst Fya]
    · isplitl [Fya_dst]
      · iexists _; iexact Fya_dst
      iexact Fya
    iexact Fya_src
  isplitl [Fx_dst Fx_src Fx Dx]
  · isplitl [Dx]
    · iexists _; iexact Dx
    isplitl [Fx_dst Fx]
    · isplitl [Fx_dst]
      · iexists _; iexact Fx_dst
      iexact Fx
    iexact Fx_src
  isplitl [Fu_dst Fu_src Fu Du]
  · isplitl [Du]
    · iexists _; iexact Du
    isplitl [Fu_dst Fu]
    · isplitl [Fu_dst]
      · iexists _; iexact Fu_dst
      iexact Fu
    iexact Fu_src
  isplitl [Fl_dst Fl_src Fl Dl]
  · isplitl [Dl]
    · iexists _; iexact Dl
    isplitl [Fl_dst Fl]
    · isplitl [Fl_dst]
      · iexists _; iexact Fl_dst
      iexact Fl
    iexact Fl_src
  isplitl [Ho Co]
  · isplitl [Ho]
    · iexists _
      isplitr; swap; · iexact Ho
      ipureintro; exact cols_store c YM YA X W k.val _ fo (off48_at k) _ _ (pay6_preT c YM YA X W k _ _ _ _ _ _ _ _ _ _) hfo
    iexact Co
  isplitl [Fo_src Fo]
  · isplitl [Fo_src]
    · iexists _; iexact Fo_src
    iexact Fo
  have hq := oBlk_wrote c YM YA X W G (k.val / 4 - 1) (by omega) gp _ hfp
  iexists _
  isplitr; swap
  · iexact Fo_dst
  ipureintro
  exact hq

end Trip
end Cert.KernelIdeal
-- ==== Proof.TripC.lean ====
module

public import proofs.«01_k».proof.Proof.Trip

@[expose] public section

/-! # A trip in the middle of a block. -/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

set_option maxHeartbeats 8000000 in
/-- A trip in the middle of a block. -/
theorem trip_mid (k : Fin k0_t1_loop.trips) (hj0 : ¬ k.val % 4 = 0) (hj3 : ¬ k.val % 4 = 3) (hk : k.val < 126) :
    iprop((∃ O, owes (c : Thread nD τ) 0 O)
      ∗ ymLd c YM (Ring.sl 2 (k.val / 4)) (Ring.sl 32 (k.val / 4))
      ∗ yaLd c YA (Ring.sl 2 (k.val / 4)) (Ring.sl 32 (k.val / 4))
      ∗ (xFl c X (Ring.sl 2 k.val) (Ring.sl 128 k.val) ∗ xFr (F := F) c (Ring.sl 2 (k.val + 1)) ∗ xHome c X (Ring.sl 128 (k.val + 1)))
      ∗ (uFl c W (Ring.sl 3 k.val) (Ring.sl 4 k.val) ∗ uFr (F := F) c (Ring.sl 3 (k.val + 2)) ∗ uHome c W (Ring.sl 4 (k.val + 2)))
      ∗ (lFl c W (Ring.sl 3 k.val) (Ring.sl 4 k.val) ∗ lFr (F := F) c (Ring.sl 3 (k.val + 2)) ∗ lHome c W (Ring.sl 4 (k.val + 2)))
      ∗ oTl c YM YA X W (k.val / 4) (k.val % 4))
    ⊢ wp frame (wpE (defs₀ (F := F)) 𝒱₀ (c : Thread nD τ) none) Set.univ (trip v21 v48 v55 v62 v76 v83 v85 k (wAll k.val)) (fun acc => iprop(⌜acc = wAll (k.val + 1)⌝
      ∗ (∃ O, owes (c : Thread nD τ) 0 O)
      ∗ ymLd c YM (Ring.sl 2 (k.val / 4)) (Ring.sl 32 (k.val / 4))
      ∗ yaLd c YA (Ring.sl 2 (k.val / 4)) (Ring.sl 32 (k.val / 4))
      ∗ (xFl c X (Ring.sl 2 (k.val + 1)) (Ring.sl 128 (k.val + 1)) ∗ xFr (F := F) c (Ring.sl 2 k.val) ∗ xHome c X (Ring.sl 128 k.val))
      ∗ (uFl c W (Ring.sl 3 (k.val + 2)) (Ring.sl 4 (k.val + 2)) ∗ uFr (F := F) c (Ring.sl 3 k.val) ∗ uHome c W (Ring.sl 4 k.val))
      ∗ (lFl c W (Ring.sl 3 (k.val + 2)) (Ring.sl 4 (k.val + 2)) ∗ lFr (F := F) c (Ring.sl 3 k.val) ∗ lHome c W (Ring.sl 4 k.val))
      ∗ oTl c YM YA X W (k.val / 4) (k.val % 4 + 1))) := by
  have hkl : k.val < 128 := by have := k.isLt; have e := trips_eq; omega
  have h3 := mt (cond3_iff k).mp (by omega)
  have h4 := mt (cond4_iff k).mp (by omega)
  have h5 := (cond5_iff k).mpr (by omega)
  have h6 := (cond6_iff k).mpr (by omega)
  have h7 := (cond7_iff k).mpr (by omega)
  have h8 := mt (cond8_iff k).mp (by omega)
  have h9 := mt (cond9_iff k).mp (by omega)
  have h10 := (cond10_iff k).mpr trivial
  have h11 := (cond11_iff k).mpr trivial
  have h12 := (cond12_iff k).mpr trivial
  have h14 := mt (cond14_iff k).mp (by omega)
  have h20 := mt (cond20_iff k).mp (by omega)
  have h26 := mt (cond26_iff k).mp (by omega)
  have hk127 : k.val < 127 := by omega
  have hk126 : k.val < 126 := by omega
  have c7 := chk7_ok k
  have c6 := chk6_ok k
  have c5 := chk5_ok k
  have c4 := chk4_ok k
  have c3 := chk3_ok k
  have c2 := chk2_ok k
  have c1 := chk1_ok k
  unfold ymLd yaLd xFl xFr uFl uFr lFl lFr oTl
  iintro ⟨⟨%O, HW⟩, ⟨⟨%fym, Hym⟩, Cym⟩, ⟨⟨%fya, Hya⟩, Cya⟩, ⟨⟨%fx, Fx⟩, ⟨⟨%ex, Ex⟩, Dx⟩, Bx⟩, ⟨⟨%fu, Fu⟩, ⟨⟨%eu, Eu⟩, Du⟩, Bu⟩, ⟨⟨%fl, Fl⟩, ⟨⟨%el, El⟩, Dl⟩, Bl⟩, ⟨⟨%fo, %hfo, Ho⟩, Co⟩⟩
  dsimp only [trip, wAll]
  sl_unfold [k0_t1_body]
  sl_exec
  sl_exec
  sl_step
  isplitr
  · ipureintro; simp only [Prod.mk.injEq]; clear * - k hj0 hj3 hk; revert k; decide +kernel
  isplitl [HW]; · iexists _; iexact HW
  isplitl [Hym Cym]
  · isplitl [Hym]
    · iexists _; iexact Hym
    iexact Cym
  isplitl [Hya Cya]
  · isplitl [Hya]
    · iexists _; iexact Hya
    iexact Cya
  isplitl [Fx_dst Fx_src Fx Dx]
  · isplitl [Dx]
    · iexists _; iexact Dx
    isplitl [Fx_dst Fx]
    · isplitl [Fx_dst]
      · iexists _; iexact Fx_dst
      iexact Fx
    iexact Fx_src
  isplitl [Fu_dst Fu_src Fu Du]
  · isplitl [Du]
    · iexists _; iexact Du
    isplitl [Fu_dst Fu]
    · isplitl [Fu_dst]
      · iexists _; iexact Fu_dst
      iexact Fu
    iexact Fu_src
  isplitl [Fl_dst Fl_src Fl Dl]
  · isplitl [Dl]
    · iexists _; iexact Dl
    isplitl [Fl_dst Fl]
    · isplitl [Fl_dst]
      · iexists _; iexact Fl_dst
      iexact Fl
    iexact Fl_src
  isplitl [Ho]
  · iexists _
    isplitr; swap; · iexact Ho
    ipureintro; exact cols_store c YM YA X W k.val _ fo (off48_at k) _ _ (pay6_preT c YM YA X W k _ _ _ _ _ _ _ _ _ _) hfo
  iexact Co

end Trip
end Cert.KernelIdeal
-- ==== Proof.TripD.lean ====
module

public import proofs.«01_k».proof.Proof.Trip

@[expose] public section

/-! # The last trip but one. -/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

set_option maxHeartbeats 8000000 in
/-- The last trip but one. -/
theorem trip_late (k : Fin k0_t1_loop.trips) (hk : k.val = 126) :
    iprop((∃ O, owes (c : Thread nD τ) 0 O)
      ∗ ymLd c YM (Ring.sl 2 (k.val / 4)) (Ring.sl 32 (k.val / 4))
      ∗ yaLd c YA (Ring.sl 2 (k.val / 4)) (Ring.sl 32 (k.val / 4))
      ∗ (xFl c X (Ring.sl 2 k.val) (Ring.sl 128 k.val) ∗ xFr (F := F) c (Ring.sl 2 (k.val + 1)) ∗ xHome c X (Ring.sl 128 (k.val + 1)))
      ∗ uFl c W (Ring.sl 3 k.val) (Ring.sl 4 k.val)
      ∗ lFl c W (Ring.sl 3 k.val) (Ring.sl 4 k.val)
      ∗ oTl c YM YA X W (k.val / 4) (k.val % 4))
    ⊢ wp frame (wpE (defs₀ (F := F)) 𝒱₀ (c : Thread nD τ) none) Set.univ (trip v21 v48 v55 v62 v76 v83 v85 k (wAll k.val)) (fun acc => iprop(⌜acc = wAll (k.val + 1)⌝
      ∗ (∃ O, owes (c : Thread nD τ) 0 O)
      ∗ ymLd c YM (Ring.sl 2 (k.val / 4)) (Ring.sl 32 (k.val / 4))
      ∗ yaLd c YA (Ring.sl 2 (k.val / 4)) (Ring.sl 32 (k.val / 4))
      ∗ (xFl c X (Ring.sl 2 (k.val + 1)) (Ring.sl 128 (k.val + 1)) ∗ xFr (F := F) c (Ring.sl 2 k.val) ∗ xHome c X (Ring.sl 128 k.val))
      ∗ (uFr (F := F) c (Ring.sl 3 k.val) ∗ uHome c W (Ring.sl 4 k.val))
      ∗ (lFr (F := F) c (Ring.sl 3 k.val) ∗ lHome c W (Ring.sl 4 k.val))
      ∗ oTl c YM YA X W (k.val / 4) (k.val % 4 + 1))) := by
  have hkl : k.val < 128 := by have := k.isLt; have e := trips_eq; omega
  have h3 := mt (cond3_iff k).mp (by omega)
  have h4 := mt (cond4_iff k).mp (by omega)
  have h5 := (cond5_iff k).mpr (by omega)
  have h6 := mt (cond6_iff k).mp (by omega)
  have h7 := mt (cond7_iff k).mp (by omega)
  have h8 := mt (cond8_iff k).mp (by omega)
  have h9 := mt (cond9_iff k).mp (by omega)
  have h10 := (cond10_iff k).mpr trivial
  have h11 := (cond11_iff k).mpr trivial
  have h12 := (cond12_iff k).mpr trivial
  have h14 := mt (cond14_iff k).mp (by omega)
  have h20 := mt (cond20_iff k).mp (by omega)
  have h26 := mt (cond26_iff k).mp (by omega)
  have hk127 : k.val < 127 := by omega
  have c7 := chk7_ok k
  have c6 := chk6_ok k
  have c5 := chk5_ok k
  have c4 := chk4_ok k
  have c3 := chk3_ok k
  have c2 := chk2_ok k
  have c1 := chk1_ok k
  unfold ymLd yaLd xFl xFr uFl uFr lFl lFr oTl
  iintro ⟨⟨%O, HW⟩, ⟨⟨%fym, Hym⟩, Cym⟩, ⟨⟨%fya, Hya⟩, Cya⟩, ⟨⟨%fx, Fx⟩, ⟨⟨%ex, Ex⟩, Dx⟩, Bx⟩, ⟨%fu, Fu⟩, ⟨%fl, Fl⟩, ⟨⟨%fo, %hfo, Ho⟩, Co⟩⟩
  dsimp only [trip, wAll]
  sl_unfold [k0_t1_body]
  sl_exec
  sl_exec
  sl_step
  isplitr
  · ipureintro; simp only [Prod.mk.injEq]; clear * - k hk; revert k; decide +kernel
  isplitl [HW]; · iexists _; iexact HW
  isplitl [Hym Cym]
  · isplitl [Hym]
    · iexists _; iexact Hym
    iexact Cym
  isplitl [Hya Cya]
  · isplitl [Hya]
    · iexists _; iexact Hya
    iexact Cya
  isplitl [Fx_dst Fx_src Fx Dx]
  · isplitl [Dx]
    · iexists _; iexact Dx
    isplitl [Fx_dst Fx]
    · isplitl [Fx_dst]
      · iexists _; iexact Fx_dst
      iexact Fx
    iexact Fx_src
  isplitl [Fu_dst Fu_src Fu]
  · isplitl [Fu_dst Fu]
    · isplitl [Fu_dst]
      · iexists _; iexact Fu_dst
      iexact Fu
    iexact Fu_src
  isplitl [Fl_dst Fl_src Fl]
  · isplitl [Fl_dst Fl]
    · isplitl [Fl_dst]
      · iexists _; iexact Fl_dst
      iexact Fl
    iexact Fl_src
  isplitl [Ho]
  · iexists _
    isplitr; swap; · iexact Ho
    ipureintro; exact cols_store c YM YA X W k.val _ fo (off48_at k) _ _ (pay6_preT c YM YA X W k _ _ _ _ _ _ _ _ _ _) hfo
  iexact Co

end Trip
end Cert.KernelIdeal
-- ==== Proof.TripE.lean ====
module

public import proofs.«01_k».proof.Proof.Trip

@[expose] public section

/-! # A trip that ends a block. -/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

set_option maxHeartbeats 8000000 in
/-- A trip that ends a block. -/
theorem trip_close (k : Fin k0_t1_loop.trips) (hj : k.val % 4 = 3) (hk : k.val < 127) :
    iprop((∃ O, owes (c : Thread nD τ) 0 O)
      ∗ (ymLd c YM (Ring.sl 2 (k.val / 4)) (Ring.sl 32 (k.val / 4)) ∗ ymFr (F := F) c (Ring.sl 2 (k.val / 4 + 1)) ∗ ymHome c YM (Ring.sl 32 (k.val / 4 + 1)))
      ∗ (yaLd c YA (Ring.sl 2 (k.val / 4)) (Ring.sl 32 (k.val / 4)) ∗ yaFr (F := F) c (Ring.sl 2 (k.val / 4 + 1)) ∗ yaHome c YA (Ring.sl 32 (k.val / 4 + 1)))
      ∗ (xFl c X (Ring.sl 2 k.val) (Ring.sl 128 k.val) ∗ xFr (F := F) c (Ring.sl 2 (k.val + 1)) ∗ xHome c X (Ring.sl 128 (k.val + 1)))
      ∗ (uFl c W (Ring.sl 3 k.val) (Ring.sl 4 k.val) ∗ uFr (F := F) c (Ring.sl 3 (k.val + 2)) ∗ uHome c W (Ring.sl 4 (k.val + 2)))
      ∗ (lFl c W (Ring.sl 3 k.val) (Ring.sl 4 k.val) ∗ lFr (F := F) c (Ring.sl 3 (k.val + 2)) ∗ lHome c W (Ring.sl 4 (k.val + 2)))
      ∗ oTl c YM YA X W (k.val / 4) (k.val % 4)
      ∗ oPd (F := F) c (Ring.sl 32 (k.val / 4))
      ∗ gHeld c G)
    ⊢ wp frame (wpE (defs₀ (F := F)) 𝒱₀ (c : Thread nD τ) none) Set.univ (trip v21 v48 v55 v62 v76 v83 v85 k (wAll k.val)) (fun acc => iprop(⌜acc = wAll (k.val + 1)⌝
      ∗ (∃ O, owes (c : Thread nD τ) 0 O)
      ∗ (ymLd c YM (Ring.sl 2 (k.val / 4)) (Ring.sl 32 (k.val / 4)) ∗ ymFl c YM (Ring.sl 2 (k.val / 4 + 1)) (Ring.sl 32 (k.val / 4 + 1)))
      ∗ (yaLd c YA (Ring.sl 2 (k.val / 4)) (Ring.sl 32 (k.val / 4)) ∗ yaFl c YA (Ring.sl 2 (k.val / 4 + 1)) (Ring.sl 32 (k.val / 4 + 1)))
      ∗ (xFl c X (Ring.sl 2 (k.val + 1)) (Ring.sl 128 (k.val + 1)) ∗ xFr (F := F) c (Ring.sl 2 k.val) ∗ xHome c X (Ring.sl 128 k.val))
      ∗ (uFl c W (Ring.sl 3 (k.val + 2)) (Ring.sl 4 (k.val + 2)) ∗ uFr (F := F) c (Ring.sl 3 k.val) ∗ uHome c W (Ring.sl 4 k.val))
      ∗ (lFl c W (Ring.sl 3 (k.val + 2)) (Ring.sl 4 (k.val + 2)) ∗ lFr (F := F) c (Ring.sl 3 k.val) ∗ lHome c W (Ring.sl 4 k.val))
      ∗ oFy c YM YA X W G (k.val / 4)
      ∗ gHeld c G)) := by
  have hkl : k.val < 128 := by have := k.isLt; have e := trips_eq; omega
  have h3 := (cond3_iff k).mpr (by omega)
  have h4 := (cond4_iff k).mpr (by omega)
  have h5 := (cond5_iff k).mpr (by omega)
  have h6 := (cond6_iff k).mpr (by omega)
  have h7 := (cond7_iff k).mpr (by omega)
  have h8 := mt (cond8_iff k).mp (by omega)
  have h9 := mt (cond9_iff k).mp (by omega)
  have h10 := (cond10_iff k).mpr trivial
  have h11 := (cond11_iff k).mpr trivial
  have h12 := (cond12_iff k).mpr trivial
  have h14 := (cond14_iff k).mpr (by omega)
  have h20 := (cond20_iff k).mpr (by omega)
  have h26 := mt (cond26_iff k).mp (by omega)
  have hk127 : k.val < 127 := by omega
  have hk126 : k.val < 126 := by omega
  have c7 := chk7_ok k
  have c6 := chk6_ok k
  have c5 := chk5_ok k
  have c4 := chk4_ok k
  have c3 := chk3_ok k
  have c2 := chk2_ok k
  have c1 := chk1_ok k
  unfold ymLd yaLd ymFr ymFl yaFr yaFl xFl xFr uFl uFr lFl lFr oTl oPd oFy
  iintro ⟨⟨%O, HW⟩, ⟨⟨⟨%fym, Hym⟩, Cym⟩, ⟨⟨%eym, Eym⟩, Dym⟩, Bym⟩, ⟨⟨⟨%fya, Hya⟩, Cya⟩, ⟨⟨%eya, Eya⟩, Dya⟩, Bya⟩, ⟨⟨%fx, Fx⟩, ⟨⟨%ex, Ex⟩, Dx⟩, Bx⟩, ⟨⟨%fu, Fu⟩, ⟨⟨%eu, Eu⟩, Du⟩, Bu⟩, ⟨⟨%fl, Fl⟩, ⟨⟨%el, El⟩, Dl⟩, Bl⟩, ⟨⟨%fo, %hfo, Ho⟩, Co⟩, ⟨%go, Bo⟩, HG⟩
  dsimp only [trip, wAll]
  sl_unfold [k0_t1_body]
  sl_exec
  sl_exec
  sl_step
  isplitr
  · ipureintro; simp only [Prod.mk.injEq]; clear * - k hj hk; revert k; decide +kernel
  isplitl [HW]; · iexists _; iexact HW
  isplitl [Hym Cym Dym]
  · isplitl [Hym Cym]
    · isplitl [Hym]
      · iexists _; iexact Hym
      iexact Cym
    iexists _; iexact Dym
  isplitl [Hya Cya Dya]
  · isplitl [Hya Cya]
    · isplitl [Hya]
      · iexists _; iexact Hya
      iexact Cya
    iexists _; iexact Dya
  isplitl [Fx_dst Fx_src Fx Dx]
  · isplitl [Dx]
    · iexists _; iexact Dx
    isplitl [Fx_dst Fx]
    · isplitl [Fx_dst]
      · iexists _; iexact Fx_dst
      iexact Fx
    iexact Fx_src
  isplitl [Fu_dst Fu_src Fu Du]
  · isplitl [Du]
    · iexists _; iexact Du
    isplitl [Fu_dst Fu]
    · isplitl [Fu_dst]
      · iexists _; iexact Fu_dst
      iexact Fu
    iexact Fu_src
  isplitl [Fl_dst Fl_src Fl Dl]
  · isplitl [Dl]
    · iexists _; iexact Dl
    isplitl [Fl_dst Fl]
    · isplitl [Fl_dst]
      · iexists _; iexact Fl_dst
      iexact Fl
    iexact Fl_src
  isplitl [Co]
  · have hc : cols c YM YA X W (k.val / 4) 4 ((oSlot (Ring.sl 2 (k.val / 4))).view.read (Elt F) ((oSlot (Ring.sl 2 (k.val / 4))).view.writes (Elt F) fo (trip_close.sl.Ho_1 c YM YA X W k c6 c5 c4 c3 c2 c1))) := by
      exact cols_last c YM YA X W k.val (by omega) _ fo (off48_at k) _ _ (pay6_preT c YM YA X W k _ _ _ _ _ _ _ _ _ _) hfo
    have hn := norm_done c YM YA X W G (k.val / 4) (Ring.sl 2 (k.val / 4)) fo _ hc
    iexists ((oSlot (Ring.sl 2 (k.val / 4))).view.writes (Elt F) fo (trip_close.sl.Ho_5 c YM YA X W G k c6 c5 c4 c3 c2 c1 fo))
    iexists go
    isplitr; swap
    · iexact Co
    ipureintro
    exact hn
  iexact HG

end Trip
end Cert.KernelIdeal
-- ==== Proof.TripF.lean ====
module

public import proofs.«01_k».proof.Proof.Trip

@[expose] public section

/-! # The last trip. -/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

set_option maxHeartbeats 8000000 in
/-- The last trip. -/
theorem trip_last (k : Fin k0_t1_loop.trips) (hk : k.val = 127) :
    iprop((∃ O, owes (c : Thread nD τ) 0 O)
      ∗ ymLd c YM (Ring.sl 2 (k.val / 4)) (Ring.sl 32 (k.val / 4))
      ∗ yaLd c YA (Ring.sl 2 (k.val / 4)) (Ring.sl 32 (k.val / 4))
      ∗ xFl c X (Ring.sl 2 k.val) (Ring.sl 128 k.val)
      ∗ uFl c W (Ring.sl 3 k.val) (Ring.sl 4 k.val)
      ∗ lFl c W (Ring.sl 3 k.val) (Ring.sl 4 k.val)
      ∗ oTl c YM YA X W (k.val / 4) (k.val % 4)
      ∗ oPd (F := F) c (Ring.sl 32 (k.val / 4))
      ∗ gHeld c G)
    ⊢ wp frame (wpE (defs₀ (F := F)) 𝒱₀ (c : Thread nD τ) none) Set.univ (trip v21 v48 v55 v62 v76 v83 v85 k (wAll k.val)) (fun acc => iprop(⌜acc = wAll (k.val + 1)⌝
      ∗ (∃ O, owes (c : Thread nD τ) 0 O)
      ∗ ymLd c YM (Ring.sl 2 (k.val / 4)) (Ring.sl 32 (k.val / 4))
      ∗ yaLd c YA (Ring.sl 2 (k.val / 4)) (Ring.sl 32 (k.val / 4))
      ∗ (xFr (F := F) c (Ring.sl 2 k.val) ∗ xHome c X (Ring.sl 128 k.val))
      ∗ (uFr (F := F) c (Ring.sl 3 k.val) ∗ uHome c W (Ring.sl 4 k.val))
      ∗ (lFr (F := F) c (Ring.sl 3 k.val) ∗ lHome c W (Ring.sl 4 k.val))
      ∗ oFy c YM YA X W G (k.val / 4)
      ∗ gHeld c G)) := by
  have hkl : k.val < 128 := by have := k.isLt; have e := trips_eq; omega
  have h3 := mt (cond3_iff k).mp (by omega)
  have h4 := mt (cond4_iff k).mp (by omega)
  have h5 := mt (cond5_iff k).mp (by omega)
  have h6 := mt (cond6_iff k).mp (by omega)
  have h7 := mt (cond7_iff k).mp (by omega)
  have h8 := mt (cond8_iff k).mp (by omega)
  have h9 := mt (cond9_iff k).mp (by omega)
  have h10 := (cond10_iff k).mpr trivial
  have h11 := (cond11_iff k).mpr trivial
  have h12 := (cond12_iff k).mpr trivial
  have h14 := (cond14_iff k).mpr (by omega)
  have h20 := (cond20_iff k).mpr (by omega)
  have h26 := mt (cond26_iff k).mp (by omega)
  have c7 := chk7_ok k
  have c6 := chk6_ok k
  have c5 := chk5_ok k
  have c4 := chk4_ok k
  have c3 := chk3_ok k
  have c2 := chk2_ok k
  have c1 := chk1_ok k
  unfold ymLd yaLd xFl xFr uFl uFr lFl lFr oTl oPd oFy
  iintro ⟨⟨%O, HW⟩, ⟨⟨%fym, Hym⟩, Cym⟩, ⟨⟨%fya, Hya⟩, Cya⟩, ⟨%fx, Fx⟩, ⟨%fu, Fu⟩, ⟨%fl, Fl⟩, ⟨⟨%fo, %hfo, Ho⟩, Co⟩, ⟨%go, Bo⟩, HG⟩
  dsimp only [trip, wAll]
  sl_unfold [k0_t1_body]
  sl_exec
  sl_exec
  sl_step
  isplitr
  · ipureintro; simp only [Prod.mk.injEq]; clear * - k hk; revert k; decide +kernel
  isplitl [HW]; · iexists _; iexact HW
  isplitl [Hym Cym]
  · isplitl [Hym]
    · iexists _; iexact Hym
    iexact Cym
  isplitl [Hya Cya]
  · isplitl [Hya]
    · iexists _; iexact Hya
    iexact Cya
  isplitl [Fx_dst Fx_src Fx]
  · isplitl [Fx_dst Fx]
    · isplitl [Fx_dst]
      · iexists _; iexact Fx_dst
      iexact Fx
    iexact Fx_src
  isplitl [Fu_dst Fu_src Fu]
  · isplitl [Fu_dst Fu]
    · isplitl [Fu_dst]
      · iexists _; iexact Fu_dst
      iexact Fu
    iexact Fu_src
  isplitl [Fl_dst Fl_src Fl]
  · isplitl [Fl_dst Fl]
    · isplitl [Fl_dst]
      · iexists _; iexact Fl_dst
      iexact Fl
    iexact Fl_src
  isplitl [Co]
  · have hc : cols c YM YA X W (k.val / 4) 4 ((oSlot (Ring.sl 2 (k.val / 4))).view.read (Elt F) ((oSlot (Ring.sl 2 (k.val / 4))).view.writes (Elt F) fo (trip_last.sl.Ho_1 c YM YA X W k c6 c5 c4 c3 c2 c1))) := by
      exact cols_last c YM YA X W k.val (by omega) _ fo (off48_at k) _ _ (pay6_preT c YM YA X W k _ _ _ _ _ _ _ _ _ _) hfo
    have hn := norm_done c YM YA X W G (k.val / 4) (Ring.sl 2 (k.val / 4)) fo _ hc
    iexists ((oSlot (Ring.sl 2 (k.val / 4))).view.writes (Elt F) fo (trip_last.sl.Ho_5 c YM YA X W G k c6 c5 c4 c3 c2 c1 fo))
    iexists go
    isplitr; swap
    · iexact Co
    ipureintro
    exact hn
  iexact HG

end Trip
end Cert.KernelIdeal
-- ==== Proof.Loop.lean ====
module

public import proofs.«01_k».proof.Proof.Rings
public import proofs.«01_k».proof.Proof.TripA
public import proofs.«01_k».proof.Proof.TripB
public import proofs.«01_k».proof.Proof.TripC
public import proofs.«01_k».proof.Proof.TripD
public import proofs.«01_k».proof.Proof.TripE
public import proofs.«01_k».proof.Proof.TripF

@[expose] public section

/-!
# The loop

What the kernel holds before trip `k`, and that each trip takes it to the next.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (v21 v48 v55 v62 v76 v83 : BitVec 32) (v85 : BitVec 1)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) ((Memref.whole cc0_scoped10 : Memref sig .tc _ _ _).view.loc (c : Thread nD τ)))

/-- The six rings before trip `k`. -/
abbrev ymSt (k : ℕ) : sProp 𝕄 := keptAt 32 (ymFl c YM) (ymFr (F := F) c) (fun b => ymHome c YM b) (ymLd c YM) k
abbrev yaSt (k : ℕ) : sProp 𝕄 := keptAt 32 (yaFl c YA) (yaFr (F := F) c) (fun b => yaHome c YA b) (yaLd c YA) k
abbrev xSt (k : ℕ) : sProp 𝕄 := ring2 128 (xFl c X) (xFr (F := F) c) (fun b => xHome c X b) k
abbrev uSt (k : ℕ) : sProp 𝕄 := ring3 128 (uFl c W) (uFr (F := F) c) (fun b => uHome c W b) k
abbrev lSt (k : ℕ) : sProp 𝕄 := ring3 128 (lFl c W) (lFr (F := F) c) (fun b => lHome c W b) k
abbrev oSt (k : ℕ) : sProp 𝕄 := outAt (oFr (F := F) c) (oFy c YM YA X W G) (oPd (F := F) c) (oDn c YM YA X W G) (oTl c YM YA X W) k

/-- Everything the loop works on, before trip `k` with the words `acc`. -/
def loopSt (k : ℕ) (acc : BitVec 32 × BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = wAll k⌝ ∗ (∃ O, owes (c : Thread nD τ) 0 O) ∗ ymSt c YM k ∗ yaSt c YA k ∗ xSt c X k ∗ uSt c W k ∗ lSt c W k
    ∗ oSt c YM YA X W G k ∗ gHeld c G)

/-- The first trip. -/
theorem step_first (k : Fin k0_t1_loop.trips) (hk : k.val = 0) :
    loopSt c YM YA X W G k.val (wAll k.val)
    ⊢ wp frame (wpE (defs₀ (F := F)) 𝒱₀ (c : Thread nD τ) none) Set.univ (trip v21 v48 v55 v62 v76 v83 v85 k (wAll k.val)) (loopSt c YM YA X W G (k.val + 1)) := by
  have hkl : k.val < 128 := by have := k.isLt; have e := trips_eq; omega
  unfold loopSt
  iintro ⟨%_, HO, HM, HA, HX, HU, HL, HR, HG⟩
  ihave HM := (keptAt_begin 32 (ymFl c YM) (ymFr (F := F) c) (fun b => ymHome c YM b) (ymLd c YM) k.val (by omega) (by omega)) $$ HM
  icases HM with ⟨HM, KM⟩
  ihave HA := (keptAt_begin 32 (yaFl c YA) (yaFr (F := F) c) (fun b => yaHome c YA b) (yaLd c YA) k.val (by omega) (by omega)) $$ HA
  icases HA with ⟨HA, KA⟩
  ihave HX := (ring2_next 128 (xFl c X) (xFr (F := F) c) (fun b => xHome c X b) (by omega) k.val (by omega)) $$ HX
  icases HX with ⟨HX, KX⟩
  ihave HU := (ring3_next 128 (uFl c W) (uFr (F := F) c) (fun b => uHome c W b) (by omega) k.val (by omega)) $$ HU
  icases HU with ⟨HU, KU⟩
  ihave HL := (ring3_next 128 (lFl c W) (lFr (F := F) c) (fun b => lHome c W b) (by omega) k.val (by omega)) $$ HL
  icases HL with ⟨HL, KL⟩
  ihave HR := (outAt_first (oFr (F := F) c) (oFy c YM YA X W G) (oPd (F := F) c) (oDn c YM YA X W G) (oTl c YM YA X W) (oFr_begin c YM YA X W) k.val (by omega)) $$ HR
  icases HR with ⟨HR, KR⟩
  iapply (wp_wand_r Idealize.ShloMosaic.frame (wpE (defs₀ (F := F)) 𝒱₀ (c : Thread nD τ) none) Set.univ)
  isplitl [HO HM HA HX HU HL HR]
  · iapply (trip_first c v21 v48 v55 v62 v76 v83 v85 YM YA X W k hk)
    isplitl [HO]; · iexact HO
    isplitl [HM]; · iexact HM
    isplitl [HA]; · iexact HA
    isplitl [HX]; · iexact HX
    isplitl [HU]; · iexact HU
    isplitl [HL]; · iexact HL
    iexact HR
  iintro %acc ⟨%he, HO, HM, HA, HX, HU, HL, HR⟩
  isplitr; · ipureintro; exact he
  isplitl [HO]; · iexact HO
  isplitl [HM KM]; · iapply KM; iexact HM
  isplitl [HA KA]; · iapply KA; iexact HA
  isplitl [HX KX]; · iapply KX; iexact HX
  isplitl [HU KU]; · iapply KU; iexact HU
  isplitl [HL KL]; · iapply KL; iexact HL
  isplitl [HR KR]; · iapply KR; iexact HR
  iexact HG

/-- A trip that begins a block of rows. -/
theorem step_begin (k : Fin k0_t1_loop.trips) (hj : k.val % 4 = 0) (hk : 0 < k.val) :
    loopSt c YM YA X W G k.val (wAll k.val)
    ⊢ wp frame (wpE (defs₀ (F := F)) 𝒱₀ (c : Thread nD τ) none) Set.univ (trip v21 v48 v55 v62 v76 v83 v85 k (wAll k.val)) (loopSt c YM YA X W G (k.val + 1)) := by
  have hkl : k.val < 128 := by have := k.isLt; have e := trips_eq; omega
  unfold loopSt
  iintro ⟨%_, HO, HM, HA, HX, HU, HL, HR, HG⟩
  ihave HM := (keptAt_begin 32 (ymFl c YM) (ymFr (F := F) c) (fun b => ymHome c YM b) (ymLd c YM) k.val (by omega) (by omega)) $$ HM
  icases HM with ⟨HM, KM⟩
  ihave HA := (keptAt_begin 32 (yaFl c YA) (yaFr (F := F) c) (fun b => yaHome c YA b) (yaLd c YA) k.val (by omega) (by omega)) $$ HA
  icases HA with ⟨HA, KA⟩
  ihave HX := (ring2_next 128 (xFl c X) (xFr (F := F) c) (fun b => xHome c X b) (by omega) k.val (by omega)) $$ HX
  icases HX with ⟨HX, KX⟩
  ihave HU := (ring3_next 128 (uFl c W) (uFr (F := F) c) (fun b => uHome c W b) (by omega) k.val (by omega)) $$ HU
  icases HU with ⟨HU, KU⟩
  ihave HL := (ring3_next 128 (lFl c W) (lFr (F := F) c) (fun b => lHome c W b) (by omega) k.val (by omega)) $$ HL
  icases HL with ⟨HL, KL⟩
  ihave HR := (outAt_begin (oFr (F := F) c) (oFy c YM YA X W G) (oPd (F := F) c) (oDn c YM YA X W G) (oTl c YM YA X W) (oFr_begin c YM YA X W) k.val (by omega) (by omega) (by omega)) $$ HR
  icases HR with ⟨HR, KR⟩
  icases HR with ⟨HR, HY⟩
  iapply (wp_wand_r Idealize.ShloMosaic.frame (wpE (defs₀ (F := F)) 𝒱₀ (c : Thread nD τ) none) Set.univ)
  isplitl [HO HM HA HX HU HL HR HY]
  · iapply (trip_begin c v21 v48 v55 v62 v76 v83 v85 YM YA X W G k hj hk)
    isplitl [HO]; · iexact HO
    isplitl [HM]; · iexact HM
    isplitl [HA]; · iexact HA
    isplitl [HX]; · iexact HX
    isplitl [HU]; · iexact HU
    isplitl [HL]; · iexact HL
    isplitl [HR]; · iexact HR
    iexact HY
  iintro %acc ⟨%he, HO, HM, HA, HX, HU, HL, HR, HY⟩
  isplitr; · ipureintro; exact he
  isplitl [HO]; · iexact HO
  isplitl [HM KM]; · iapply KM; iexact HM
  isplitl [HA KA]; · iapply KA; iexact HA
  isplitl [HX KX]; · iapply KX; iexact HX
  isplitl [HU KU]; · iapply KU; iexact HU
  isplitl [HL KL]; · iapply KL; iexact HL
  isplitl [HR HY KR]
  · iapply KR
    isplitl [HR]; · iexact HR
    iexact HY
  iexact HG

/-- A trip inside a block of rows. -/
theorem step_mid (k : Fin k0_t1_loop.trips) (hj0 : ¬ k.val % 4 = 0) (hj3 : ¬ k.val % 4 = 3) (hk : k.val < 126) :
    loopSt c YM YA X W G k.val (wAll k.val)
    ⊢ wp frame (wpE (defs₀ (F := F)) 𝒱₀ (c : Thread nD τ) none) Set.univ (trip v21 v48 v55 v62 v76 v83 v85 k (wAll k.val)) (loopSt c YM YA X W G (k.val + 1)) := by
  have hkl : k.val < 128 := by have := k.isLt; have e := trips_eq; omega
  unfold loopSt
  iintro ⟨%_, HO, HM, HA, HX, HU, HL, HR, HG⟩
  ihave HM := (keptAt_mid 32 (ymFl c YM) (ymFr (F := F) c) (fun b => ymHome c YM b) (ymLd c YM) k.val (by omega) (by omega)) $$ HM
  icases HM with ⟨HM, KM⟩
  ihave HA := (keptAt_mid 32 (yaFl c YA) (yaFr (F := F) c) (fun b => yaHome c YA b) (yaLd c YA) k.val (by omega) (by omega)) $$ HA
  icases HA with ⟨HA, KA⟩
  ihave HX := (ring2_next 128 (xFl c X) (xFr (F := F) c) (fun b => xHome c X b) (by omega) k.val (by omega)) $$ HX
  icases HX with ⟨HX, KX⟩
  ihave HU := (ring3_next 128 (uFl c W) (uFr (F := F) c) (fun b => uHome c W b) (by omega) k.val (by omega)) $$ HU
  icases HU with ⟨HU, KU⟩
  ihave HL := (ring3_next 128 (lFl c W) (lFr (F := F) c) (fun b => lHome c W b) (by omega) k.val (by omega)) $$ HL
  icases HL with ⟨HL, KL⟩
  ihave HR := (outAt_mid (oFr (F := F) c) (oFy c YM YA X W G) (oPd (F := F) c) (oDn c YM YA X W G) (oTl c YM YA X W) k.val (by omega) (by omega)) $$ HR
  icases HR with ⟨HR, KR⟩
  iapply (wp_wand_r Idealize.ShloMosaic.frame (wpE (defs₀ (F := F)) 𝒱₀ (c : Thread nD τ) none) Set.univ)
  isplitl [HO HM HA HX HU HL HR]
  · iapply (trip_mid c v21 v48 v55 v62 v76 v83 v85 YM YA X W k hj0 hj3 hk)
    isplitl [HO]; · iexact HO
    isplitl [HM]; · iexact HM
    isplitl [HA]; · iexact HA
    isplitl [HX]; · iexact HX
    isplitl [HU]; · iexact HU
    isplitl [HL]; · iexact HL
    iexact HR
  iintro %acc ⟨%he, HO, HM, HA, HX, HU, HL, HR⟩
  isplitr; · ipureintro; exact he
  isplitl [HO]; · iexact HO
  isplitl [HM KM]; · iapply KM; iexact HM
  isplitl [HA KA]; · iapply KA; iexact HA
  isplitl [HX KX]; · iapply KX; iexact HX
  isplitl [HU KU]; · iapply KU; iexact HU
  isplitl [HL KL]; · iapply KL; iexact HL
  isplitl [HR KR]; · iapply KR; iexact HR
  iexact HG

/-- The last trip but one. -/
theorem step_late (k : Fin k0_t1_loop.trips) (hk : k.val = 126) :
    loopSt c YM YA X W G k.val (wAll k.val)
    ⊢ wp frame (wpE (defs₀ (F := F)) 𝒱₀ (c : Thread nD τ) none) Set.univ (trip v21 v48 v55 v62 v76 v83 v85 k (wAll k.val)) (loopSt c YM YA X W G (k.val + 1)) := by
  have hkl : k.val < 128 := by have := k.isLt; have e := trips_eq; omega
  unfold loopSt
  iintro ⟨%_, HO, HM, HA, HX, HU, HL, HR, HG⟩
  ihave HM := (keptAt_mid 32 (ymFl c YM) (ymFr (F := F) c) (fun b => ymHome c YM b) (ymLd c YM) k.val (by omega) (by omega)) $$ HM
  icases HM with ⟨HM, KM⟩
  ihave HA := (keptAt_mid 32 (yaFl c YA) (yaFr (F := F) c) (fun b => yaHome c YA b) (yaLd c YA) k.val (by omega) (by omega)) $$ HA
  icases HA with ⟨HA, KA⟩
  ihave HX := (ring2_next 128 (xFl c X) (xFr (F := F) c) (fun b => xHome c X b) (by omega) k.val (by omega)) $$ HX
  icases HX with ⟨HX, KX⟩
  ihave HU := (ring3_last 128 (uFl c W) (uFr (F := F) c) (fun b => uHome c W b) (by omega) k.val (by omega) (by omega)) $$ HU
  icases HU with ⟨HU, KU⟩
  ihave HL := (ring3_last 128 (lFl c W) (lFr (F := F) c) (fun b => lHome c W b) (by omega) k.val (by omega) (by omega)) $$ HL
  icases HL with ⟨HL, KL⟩
  ihave HR := (outAt_mid (oFr (F := F) c) (oFy c YM YA X W G) (oPd (F := F) c) (oDn c YM YA X W G) (oTl c YM YA X W) k.val (by omega) (by omega)) $$ HR
  icases HR with ⟨HR, KR⟩
  iapply (wp_wand_r Idealize.ShloMosaic.frame (wpE (defs₀ (F := F)) 𝒱₀ (c : Thread nD τ) none) Set.univ)
  isplitl [HO HM HA HX HU HL HR]
  · iapply (trip_late c v21 v48 v55 v62 v76 v83 v85 YM YA X W k hk)
    isplitl [HO]; · iexact HO
    isplitl [HM]; · iexact HM
    isplitl [HA]; · iexact HA
    isplitl [HX]; · iexact HX
    isplitl [HU]; · iexact HU
    isplitl [HL]; · iexact HL
    iexact HR
  iintro %acc ⟨%he, HO, HM, HA, HX, HU, HL, HR⟩
  isplitr; · ipureintro; exact he
  isplitl [HO]; · iexact HO
  isplitl [HM KM]; · iapply KM; iexact HM
  isplitl [HA KA]; · iapply KA; iexact HA
  isplitl [HX KX]; · iapply KX; iexact HX
  isplitl [HU KU]; · iapply KU; iexact HU
  isplitl [HL KL]; · iapply KL; iexact HL
  isplitl [HR KR]; · iapply KR; iexact HR
  iexact HG

/-- A trip that closes a block of rows. -/
theorem step_close (k : Fin k0_t1_loop.trips) (hj : k.val % 4 = 3) (hk : k.val < 127) :
    loopSt c YM YA X W G k.val (wAll k.val)
    ⊢ wp frame (wpE (defs₀ (F := F)) 𝒱₀ (c : Thread nD τ) none) Set.univ (trip v21 v48 v55 v62 v76 v83 v85 k (wAll k.val)) (loopSt c YM YA X W G (k.val + 1)) := by
  have hkl : k.val < 128 := by have := k.isLt; have e := trips_eq; omega
  unfold loopSt
  iintro ⟨%_, HO, HM, HA, HX, HU, HL, HR, HG⟩
  ihave HM := (keptAt_close 32 (ymFl c YM) (ymFr (F := F) c) (fun b => ymHome c YM b) (ymLd c YM) (ymLd_free c YM) k.val (by omega) (by omega)) $$ HM
  icases HM with ⟨HM, KM⟩
  ihave HA := (keptAt_close 32 (yaFl c YA) (yaFr (F := F) c) (fun b => yaHome c YA b) (yaLd c YA) (yaLd_free c YA) k.val (by omega) (by omega)) $$ HA
  icases HA with ⟨HA, KA⟩
  ihave HX := (ring2_next 128 (xFl c X) (xFr (F := F) c) (fun b => xHome c X b) (by omega) k.val (by omega)) $$ HX
  icases HX with ⟨HX, KX⟩
  ihave HU := (ring3_next 128 (uFl c W) (uFr (F := F) c) (fun b => uHome c W b) (by omega) k.val (by omega)) $$ HU
  icases HU with ⟨HU, KU⟩
  ihave HL := (ring3_next 128 (lFl c W) (lFr (F := F) c) (fun b => lHome c W b) (by omega) k.val (by omega)) $$ HL
  icases HL with ⟨HL, KL⟩
  ihave HR := (outAt_close (oFr (F := F) c) (oFy c YM YA X W G) (oPd (F := F) c) (oDn c YM YA X W G) (oTl c YM YA X W) k.val (by omega) (by omega)) $$ HR
  icases HR with ⟨HR, KR⟩
  icases HR with ⟨HR, HY⟩
  iapply (wp_wand_r Idealize.ShloMosaic.frame (wpE (defs₀ (F := F)) 𝒱₀ (c : Thread nD τ) none) Set.univ)
  isplitl [HO HM HA HX HU HL HR HY HG]
  · iapply (trip_close c v21 v48 v55 v62 v76 v83 v85 YM YA X W G k hj hk)
    isplitl [HO]; · iexact HO
    isplitl [HM]; · iexact HM
    isplitl [HA]; · iexact HA
    isplitl [HX]; · iexact HX
    isplitl [HU]; · iexact HU
    isplitl [HL]; · iexact HL
    isplitl [HR]; · iexact HR
    isplitl [HY]; · iexact HY
    iexact HG
  iintro %acc ⟨%he, HO, HM, HA, HX, HU, HL, HR, HG⟩
  isplitr; · ipureintro; exact he
  isplitl [HO]; · iexact HO
  isplitl [HM KM]; · iapply KM; iexact HM
  isplitl [HA KA]; · iapply KA; iexact HA
  isplitl [HX KX]; · iapply KX; iexact HX
  isplitl [HU KU]; · iapply KU; iexact HU
  isplitl [HL KL]; · iapply KL; iexact HL
  isplitl [HR KR]; · iapply KR; iexact HR
  iexact HG

/-- The last trip. -/
theorem step_last (k : Fin k0_t1_loop.trips) (hk : k.val = 127) :
    loopSt c YM YA X W G k.val (wAll k.val)
    ⊢ wp frame (wpE (defs₀ (F := F)) 𝒱₀ (c : Thread nD τ) none) Set.univ (trip v21 v48 v55 v62 v76 v83 v85 k (wAll k.val)) (loopSt c YM YA X W G (k.val + 1)) := by
  have hkl : k.val < 128 := by have := k.isLt; have e := trips_eq; omega
  unfold loopSt
  iintro ⟨%_, HO, HM, HA, HX, HU, HL, HR, HG⟩
  ihave HM := (keptAt_last 32 (ymFl c YM) (ymFr (F := F) c) (fun b => ymHome c YM b) (ymLd c YM) (ymLd_free c YM) k.val (by omega) (by omega)) $$ HM
  icases HM with ⟨HM, KM⟩
  ihave HA := (keptAt_last 32 (yaFl c YA) (yaFr (F := F) c) (fun b => yaHome c YA b) (yaLd c YA) (yaLd_free c YA) k.val (by omega) (by omega)) $$ HA
  icases HA with ⟨HA, KA⟩
  ihave HX := (ring2_last 128 (xFl c X) (xFr (F := F) c) (fun b => xHome c X b) k.val (by omega)) $$ HX
  icases HX with ⟨HX, KX⟩
  ihave HU := (ring3_last 128 (uFl c W) (uFr (F := F) c) (fun b => uHome c W b) (by omega) k.val (by omega) (by omega)) $$ HU
  icases HU with ⟨HU, KU⟩
  ihave HL := (ring3_last 128 (lFl c W) (lFr (F := F) c) (fun b => lHome c W b) (by omega) k.val (by omega) (by omega)) $$ HL
  icases HL with ⟨HL, KL⟩
  ihave HR := (outAt_close (oFr (F := F) c) (oFy c YM YA X W G) (oPd (F := F) c) (oDn c YM YA X W G) (oTl c YM YA X W) k.val (by omega) (by omega)) $$ HR
  icases HR with ⟨HR, KR⟩
  icases HR with ⟨HR, HY⟩
  iapply (wp_wand_r Idealize.ShloMosaic.frame (wpE (defs₀ (F := F)) 𝒱₀ (c : Thread nD τ) none) Set.univ)
  isplitl [HO HM HA HX HU HL HR HY HG]
  · iapply (trip_last c v21 v48 v55 v62 v76 v83 v85 YM YA X W G k hk)
    isplitl [HO]; · iexact HO
    isplitl [HM]; · iexact HM
    isplitl [HA]; · iexact HA
    isplitl [HX]; · iexact HX
    isplitl [HU]; · iexact HU
    isplitl [HL]; · iexact HL
    isplitl [HR]; · iexact HR
    isplitl [HY]; · iexact HY
    iexact HG
  iintro %acc ⟨%he, HO, HM, HA, HX, HU, HL, HR, HG⟩
  isplitr; · ipureintro; exact he
  isplitl [HO]; · iexact HO
  isplitl [HM KM]; · iapply KM; iexact HM
  isplitl [HA KA]; · iapply KA; iexact HA
  isplitl [HX KX]; · iapply KX; iexact HX
  isplitl [HU KU]; · iapply KU; iexact HU
  isplitl [HL KL]; · iapply KL; iexact HL
  isplitl [HR KR]; · iapply KR; iexact HR
  iexact HG

/-- Every trip takes what the loop holds before it to what the loop holds after it. -/
theorem loop_step (k : Fin k0_t1_loop.trips) (acc : BitVec 32 × BitVec 32 × BitVec 32 × BitVec 32 × BitVec 32 × BitVec 32 × BitVec 32 × BitVec 32 × BitVec 32 × BitVec 32 × BitVec 32 × BitVec 32 × BitVec 32 × BitVec 32 × BitVec 32) :
    loopSt c YM YA X W G k.val acc
    ⊢ wp frame (wpE (defs₀ (F := F)) 𝒱₀ (c : Thread nD τ) none) Set.univ (trip v21 v48 v55 v62 v76 v83 v85 k acc) (loopSt c YM YA X W G (k.val + 1)) := by
  have hkl : k.val < 128 := by have := k.isLt; have e := trips_eq; omega
  have key : loopSt c YM YA X W G k.val (wAll k.val)
      ⊢ wp frame (wpE (defs₀ (F := F)) 𝒱₀ (c : Thread nD τ) none) Set.univ (trip v21 v48 v55 v62 v76 v83 v85 k (wAll k.val)) (loopSt c YM YA X W G (k.val + 1)) := by
    by_cases h0 : k.val % 4 = 0
    · by_cases hz : k.val = 0
      · exact step_first c v21 v48 v55 v62 v76 v83 v85 YM YA X W G k hz
      · exact step_begin c v21 v48 v55 v62 v76 v83 v85 YM YA X W G k h0 (by omega)
    · by_cases h3 : k.val % 4 = 3
      · by_cases hl : k.val = 127
        · exact step_last c v21 v48 v55 v62 v76 v83 v85 YM YA X W G k hl
        · exact step_close c v21 v48 v55 v62 v76 v83 v85 YM YA X W G k h3 (by omega)
      · by_cases hl : k.val = 126
        · exact step_late c v21 v48 v55 v62 v76 v83 v85 YM YA X W G k hl
        · exact step_mid c v21 v48 v55 v62 v76 v83 v85 YM YA X W G k h0 h3 (by omega)
  by_cases he : acc = wAll k.val
  · subst he; exact key
  · unfold loopSt
    iintro ⟨%h, _⟩
    exact absurd h he

end Trip
end Cert.KernelIdeal
-- ==== Proof.Body.lean ====
module

public import proofs.«01_k».proof.Proof.Loop

@[expose] public section

/-!
# The kernel's body

The first blocks are asked for, the loop runs, and the last block of the result is waited for.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem entails_of_eq {M : Type*} [URA M] {P Q : sProp M} (e : P = Q) : P ⊢ Q := e ▸ .rfl

section Body
variable (c : Dev nD)
  (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))

/-- The gain's row in HBM and in the kernel's own buffer. -/
abbrev gArr : Memref sig .tc .hbm S1x4096 .f32 := Memref.whole main_v2
abbrev gBuf : Memref sig .tc .vmem S1x4096 .f32 := Memref.whole cc0_scoped10
/-- Its semaphore at rest. -/
abbrev gCell : sProp 𝕄 := semVal ((c : Thread nD τ), SemLoc.dma cc0_scoped13.sem) 0

/-- The kernel on its own memrefs. -/
abbrev bodyG : Prog (TpuEff nD τ sig (Elt F) Λ₀ .tc) PUnit :=
  cc0_out_proj ymArr (Memref.isWhole_whole _) yaArr (Memref.isWhole_whole _) xArr (Memref.isWhole_whole _) uArr (Memref.isWhole_whole _) lArr (Memref.isWhole_whole _) gArr (Memref.isWhole_whole _) oArr (Memref.isWhole_whole _)
    ymBuf (Memref.isWhole_whole _) cc0_scoped1 yaBuf (Memref.isWhole_whole _) cc0_scoped3 xBuf (Memref.isWhole_whole _) cc0_scoped5 uBuf (Memref.isWhole_whole _) cc0_scoped7 lBuf (Memref.isWhole_whole _) cc0_scoped9 gBuf (Memref.isWhole_whole _) oBuf (Memref.isWhole_whole _) cc0_scoped12 cc0_scoped13

/-- The rings as the loop finds them. -/
theorem ym_start : iprop(ymFl c YM 0 0 ∗ ymFr (F := F) c 1 ∗ bigSep (Finset.univ.erase 0) (fun b => ymHome c YM b)) ⊢ ymSt c YM 0 := by
  unfold ymSt keptAt; rw [if_pos rfl]; exact ring2_zero 32 _ _ _ (by decide)
theorem ya_start : iprop(yaFl c YA 0 0 ∗ yaFr (F := F) c 1 ∗ bigSep (Finset.univ.erase 0) (fun b => yaHome c YA b)) ⊢ yaSt c YA 0 := by
  unfold yaSt keptAt; rw [if_pos rfl]; exact ring2_zero 32 _ _ _ (by decide)
theorem x_start : iprop(xFl c X 0 0 ∗ xFr (F := F) c 1 ∗ bigSep (Finset.univ.erase 0) (fun b => xHome c X b)) ⊢ xSt c X 0 := ring2_zero 128 _ _ _ (by decide)
theorem u_start : iprop(uFl c W 0 0 ∗ uFl c W 1 1 ∗ uFr (F := F) c 2 ∗ bigSep ((Finset.univ.erase 0).erase 1) (fun b => uHome c W b)) ⊢ uSt c W 0 := ring3_zero 128 _ _ _ (by decide) (by decide)
theorem l_start : iprop(lFl c W 0 0 ∗ lFl c W 1 1 ∗ lFr (F := F) c 2 ∗ bigSep ((Finset.univ.erase 0).erase 1) (fun b => lHome c W b)) ⊢ lSt c W 0 := ring3_zero 128 _ _ _ (by decide) (by decide)
theorem o_start (G : Buf (Elt F) (gBuf.view.loc (c : Thread nD τ))) :
    iprop(oFr (F := F) c 0 ∗ oFr (F := F) c 1 ∗ bigSep Finset.univ (oPd (F := F) c)) ⊢ oSt c YM YA X W G 0 := by
  unfold oSt outAt; rw [if_pos rfl]; exact out_none _ _ _ _

/-- The rings as the loop leaves them. -/
theorem ym_stop : ymSt c YM 128 ⊢ iprop(ymFr (F := F) c 0 ∗ ymFr (F := F) c 1 ∗ bigSep Finset.univ (fun b => ymHome c YM b)) := by
  unfold ymSt keptAt; rw [if_pos rfl]; exact ring2_end 32 _ _ _ (by decide)
theorem ya_stop : yaSt c YA 128 ⊢ iprop(yaFr (F := F) c 0 ∗ yaFr (F := F) c 1 ∗ bigSep Finset.univ (fun b => yaHome c YA b)) := by
  unfold yaSt keptAt; rw [if_pos rfl]; exact ring2_end 32 _ _ _ (by decide)
theorem x_stop : xSt c X 128 ⊢ iprop(xFr (F := F) c 0 ∗ xFr (F := F) c 1 ∗ bigSep Finset.univ (fun b => xHome c X b)) := ring2_end 128 _ _ _ (by decide)
theorem u_stop : uSt c W 128 ⊢ iprop(uFr (F := F) c 0 ∗ uFr (F := F) c 1 ∗ uFr (F := F) c 2 ∗ bigSep Finset.univ (fun b => uHome c W b)) := ring3_end 128 _ _ _ (by decide)
theorem l_stop : lSt c W 128 ⊢ iprop(lFr (F := F) c 0 ∗ lFr (F := F) c 1 ∗ lFr (F := F) c 2 ∗ bigSep Finset.univ (fun b => lHome c W b)) := ring3_end 128 _ _ _ (by decide)
theorem oFy_last (G : Buf (Elt F) (gBuf.view.loc (c : Thread nD τ))) :
    oFy c YM YA X W G 31 ⊢ iprop(∃ f g, ⌜(oSlot 1).view.read (Elt F) f = outBlk c YM YA X W G 31⌝ ∗ oFlight c 1 31 f g) := by
  unfold oFy; exact .rfl
theorem o_stop (G : Buf (Elt F) (gBuf.view.loc (c : Thread nD τ))) :
    oSt c YM YA X W G 128 ⊢ iprop((oFr (F := F) c 0 ∗ ∃ f g, ⌜(oSlot 1).view.read (Elt F) f = outBlk c YM YA X W G 31⌝ ∗ oFlight c 1 31 f g)
      ∗ ((oFr (F := F) c 1 ∗ oDn c YM YA X W G 31) -∗ (oFr (F := F) c 1 ∗ bigSep Finset.univ (oDn c YM YA X W G)))) := by
  unfold oSt outAt; rw [if_pos rfl]
  iintro H
  ihave H := (out_begin (oFr (F := F) c) (oFy c YM YA X W G) (oPd (F := F) c) (oDn c YM YA X W G) 32 (by decide) (by decide)) $$ H
  icases H with ⟨⟨H1, H2⟩, H3⟩
  isplitl [H1 H2]
  · isplitl [H1]; · iexact H1
    iapply (oFy_last c YM YA X W G); iexact H2
  iintro ⟨G1, G2⟩
  iapply (out_all (oFr (F := F) c) (oPd (F := F) c) (oDn c YM YA X W G))
  iapply H3
  isplitl [G1]; · iexact G1
  iexact G2

/-- The loop at the head of what remains of the kernel. -/
theorem loop_run (v21 v48 v55 v62 v76 v83 : BitVec 32) (v85 : BitVec 1) (G : Buf (Elt F) (gBuf.view.loc (c : Thread nD τ)))
    {β : Type} {kk : _ → Prog (TpuEff nD τ sig (Elt F) Λ₀ .tc) β} {Q : β → sProp 𝕄} (init) :
    loopSt c YM YA X W G 0 init ⊢ iprop((∀ acc, loopSt c YM YA X W G 128 acc -∗ wp frame (wpE (defs₀ (F := F)) 𝒱₀ (c : Thread nD τ) none) Set.univ (kk acc) Q)
      -∗ wp frame (wpE (defs₀ (F := F)) 𝒱₀ (c : Thread nD τ) none) Set.univ
        (Scf.Loop.for k0_t1_loop k0_t1_ok init (fun k acc => trip v21 v48 v55 v62 v76 v83 v85 k acc) >>= kk) Q) := by
  have h := Scf.wp_for_bind frame (wpE (defs₀ (F := F)) 𝒱₀ (c : Thread nD τ) none) Set.univ k0_t1_loop.lb k0_t1_loop.ub k0_t1_loop.st k0_t1_ok init
    (fun k acc => trip v21 v48 v55 v62 v76 v83 v85 k acc) (loopSt c YM YA X W G) (fun k acc => loop_step c v21 v48 v55 v62 v76 v83 v85 YM YA X W G k acc) (kk := kk) (Q := Q)
  have e : ∀ n, n = 128 → ∀ R : _ → sProp 𝕄, iprop(∀ acc, loopSt c YM YA X W G 128 acc -∗ R acc) ⊢ iprop(∀ acc, loopSt c YM YA X W G n acc -∗ R acc) := by
    intro n hn R; subst hn; exact .rfl
  iintro H HK
  iapply h $$ H
  iapply (e _ trips_eq _)
  iexact HK

/-- The gain's row once it has landed. -/
theorem g_landed (f p : Buf (Elt F) (gBuf.view.loc (c : Thread nD τ))) :
    ((gBuf.view.loc (c : Thread nD τ)) ↦{fullShare} gBuf.view.write (Elt F) f p Finset.univ : sProp 𝕄) ⊢ ((gBuf.view.loc (c : Thread nD τ)) ↦{fullShare} p : sProp 𝕄) :=
  entails_of_eq (congrArg (fun x => ((gBuf.view.loc (c : Thread nD τ)) ↦{fullShare} x : sProp 𝕄)) (View.write_whole_univ (Val := Elt F) cc0_scoped10 f p))
theorem g_same (p q : Buf (Elt F) (gBuf.view.loc (c : Thread nD τ))) (h : p = q) :
    ((gBuf.view.loc (c : Thread nD τ)) ↦{fullShare} p : sProp 𝕄) ⊢ ((gBuf.view.loc (c : Thread nD τ)) ↦{fullShare} q : sProp 𝕄) := by subst h; exact .rfl

/-- The rings before the loop and after it. -/
abbrev ymIdle : sProp 𝕄 := iprop(ymFr (F := F) c 0 ∗ ymFr (F := F) c 1 ∗ bigSep Finset.univ (fun b => ymHome c YM b))
abbrev yaIdle : sProp 𝕄 := iprop(yaFr (F := F) c 0 ∗ yaFr (F := F) c 1 ∗ bigSep Finset.univ (fun b => yaHome c YA b))
abbrev xIdle : sProp 𝕄 := iprop(xFr (F := F) c 0 ∗ xFr (F := F) c 1 ∗ bigSep Finset.univ (fun b => xHome c X b))
abbrev uIdle : sProp 𝕄 := iprop(uFr (F := F) c 0 ∗ uFr (F := F) c 1 ∗ uFr (F := F) c 2 ∗ bigSep Finset.univ (fun b => uHome c W b))
abbrev lIdle : sProp 𝕄 := iprop(lFr (F := F) c 0 ∗ lFr (F := F) c 1 ∗ lFr (F := F) c 2 ∗ bigSep Finset.univ (fun b => lHome c W b))

/-- The words the loop starts from. -/
theorem init_words : ((1#32, 0#32, 1#32, 0#32, 1#32, 0#32, 2#32, 0#32, 2#32, 0#32, 0#32, 0#32, 0#32, 0#32, 0#32) : BitVec 32 × BitVec 32 × BitVec 32 × BitVec 32 × BitVec 32 × BitVec 32 × BitVec 32 × BitVec 32 × BitVec 32 × BitVec 32 × BitVec 32 × BitVec 32 × BitVec 32 × BitVec 32 × BitVec 32) = wAll 0 := rfl

set_option maxHeartbeats 8000000 in
/-- The body: from idle rings, the blocks at home and the result's blocks at anything, it ends with the rings idle, the blocks unchanged and every block of the result as computed. -/
theorem bodyRun (G : Buf (Elt F) (gArr.view.loc (c : Thread nD τ))) (O) (Q : PUnit → sProp 𝕄) :
    iprop((owes (c : Thread nD τ) 0 O ∗ ymIdle c YM ∗ yaIdle c YA ∗ xIdle c X ∗ uIdle c W ∗ lIdle c W
        ∗ (oFr (F := F) c 0 ∗ oFr (F := F) c 1 ∗ bigSep Finset.univ (oPd (F := F) c))
        ∗ (∃ f, (gBuf.view.loc (c : Thread nD τ)) ↦{fullShare} f) ∗ ((gArr.view.loc (c : Thread nD τ)) ↦{fullShare} G) ∗ gCell (F := F) c)
      ∗ (((∃ O, owes (c : Thread nD τ) 0 O) ∗ ymIdle c YM ∗ yaIdle c YA ∗ xIdle c X ∗ uIdle c W ∗ lIdle c W
        ∗ (oFr (F := F) c 0 ∗ oFr (F := F) c 1 ∗ bigSep Finset.univ (oDn c YM YA X W G))
        ∗ (∃ f, (gBuf.view.loc (c : Thread nD τ)) ↦{fullShare} f) ∗ ((gArr.view.loc (c : Thread nD τ)) ↦{fullShare} G) ∗ gCell (F := F) c) -∗ Q ⟨⟩))
    ⊢ wp frame (wpE (defs₀ (F := F)) 𝒱₀ (c : Thread nD τ) none) Set.univ (bodyG (F := F)) Q := by
  have h1 := cond1_ok
  have h2 := cond2_ok
  have e1 : Ring.sl 4 1 = 1 := rfl
  iintro ⟨⟨HW, ⟨M0, M1, MH⟩, ⟨A0, A1, AH⟩, ⟨X0, X1, XH⟩, ⟨U0, U1, U2, UH⟩, ⟨L0, L1, L2, LH⟩, ⟨O0, O1, OH⟩, ⟨%fg, Hg⟩, HG, Cg⟩, Hk⟩
  ihave MH := (entails_of_eq (sep_erase (s := Finset.univ) (i := (0 : Fin 32)) (Φ := fun b => ymHome c YM b) (Finset.mem_univ _))) $$ MH
  ihave AH := (entails_of_eq (sep_erase (s := Finset.univ) (i := (0 : Fin 32)) (Φ := fun b => yaHome c YA b) (Finset.mem_univ _))) $$ AH
  ihave XH := (entails_of_eq (sep_erase (s := Finset.univ) (i := (0 : Fin 128)) (Φ := fun b => xHome c X b) (Finset.mem_univ _))) $$ XH
  ihave UH := (entails_of_eq (sep_erase (s := Finset.univ) (i := (0 : Fin 4)) (Φ := fun b => uHome c W b) (Finset.mem_univ _))) $$ UH
  ihave LH := (entails_of_eq (sep_erase (s := Finset.univ) (i := (0 : Fin 4)) (Φ := fun b => lHome c W b) (Finset.mem_univ _))) $$ LH
  icases MH with ⟨MH, MR⟩
  icases AH with ⟨AH, AR⟩
  icases XH with ⟨XH, XR⟩
  icases UH with ⟨UH, UR⟩
  icases LH with ⟨LH, LR⟩
  ihave UR := (entails_of_eq (sep_erase (s := Finset.univ.erase (0 : Fin 4)) (i := (1 : Fin 4)) (Φ := fun b => uHome c W b) (by decide))) $$ UR
  ihave LR := (entails_of_eq (sep_erase (s := Finset.univ.erase (0 : Fin 4)) (i := (1 : Fin 4)) (Φ := fun b => lHome c W b) (by decide))) $$ LR
  icases UR with ⟨UI, UR⟩
  icases LR with ⟨LI, LR⟩
  ihave M0 := (show ymFr (F := F) c 0 ⊢ iprop((∃ f, ymHeld (F := F) c 0 f) ∗ ymCell (F := F) c 0) from .rfl) $$ M0
  ihave A0 := (show yaFr (F := F) c 0 ⊢ iprop((∃ f, yaHeld (F := F) c 0 f) ∗ yaCell (F := F) c 0) from .rfl) $$ A0
  ihave X0 := (show xFr (F := F) c 0 ⊢ iprop((∃ f, xHeld (F := F) c 0 f) ∗ xCell (F := F) c 0) from .rfl) $$ X0
  ihave U0 := (show uFr (F := F) c 0 ⊢ iprop((∃ f, uHeld (F := F) c 0 f) ∗ uCell (F := F) c 0) from .rfl) $$ U0
  ihave U1 := (show uFr (F := F) c 1 ⊢ iprop((∃ f, uHeld (F := F) c 1 f) ∗ uCell (F := F) c 1) from .rfl) $$ U1
  ihave L0 := (show lFr (F := F) c 0 ⊢ iprop((∃ f, lHeld (F := F) c 0 f) ∗ lCell (F := F) c 0) from .rfl) $$ L0
  ihave L1 := (show lFr (F := F) c 1 ⊢ iprop((∃ f, lHeld (F := F) c 1 f) ∗ lCell (F := F) c 1) from .rfl) $$ L1
  icases M0 with ⟨⟨%m0, M0⟩, CM⟩
  icases A0 with ⟨⟨%a0, A0⟩, CA⟩
  icases X0 with ⟨⟨%x0, X0⟩, CX⟩
  icases U0 with ⟨⟨%u0, U0⟩, CU0⟩
  icases U1 with ⟨⟨%u1, U1⟩, CU1⟩
  icases L0 with ⟨⟨%l0, L0⟩, CL0⟩
  icases L1 with ⟨⟨%l1, L1⟩, CL1⟩
  sl_unfold [bodyG, cc0_out_proj]
  sl_exec
  ihave HM := (ym_start c YM) $$ [CM M1 MR]
  · isplitl [CM]
    · unfold ymFl; iexists _; iexact CM
    isplitl [M1]; · iexact M1
    iexact MR
  ihave HA := (ya_start c YA) $$ [CA A1 AR]
  · isplitl [CA]
    · unfold yaFl; iexists _; iexact CA
    isplitl [A1]; · iexact A1
    iexact AR
  ihave HX := (x_start c X) $$ [CX X1 XR]
  · isplitl [CX]
    · unfold xFl; iexists _; iexact CX
    isplitl [X1]; · iexact X1
    iexact XR
  ihave HU := (u_start c W) $$ [CU0 CU1 U2 UR]
  · isplitl [CU0]
    · unfold uFl; iexists _; iexact CU0
    isplitl [CU1]
    · unfold uFl; iexists _; iexact CU1
    isplitl [U2]; · iexact U2
    iexact UR
  ihave HL := (l_start c W) $$ [CL0 CL1 L2 LR]
  · isplitl [CL0]
    · unfold lFl; iexists _; iexact CL0
    isplitl [CL1]
    · unfold lFl; iexists _; iexact CL1
    isplitl [L2]; · iexact L2
    iexact LR
  ihave HR := (o_start c YM YA X W G) $$ [O0 O1 OH]
  · isplitl [O0]; · iexact O0
    isplitl [O1]; · iexact O1
    iexact OH
  ihave Hg := (g_landed c fg _) $$ Hg
  ihave Hg := (g_same c (bodyRun.sl.dma0 c G) G rfl) $$ Hg
  ihave HS := (show iprop((∃ O, owes (c : Thread nD τ) 0 O) ∗ ymSt c YM 0 ∗ yaSt c YA 0 ∗ xSt c X 0 ∗ uSt c W 0 ∗ lSt c W 0
      ∗ oSt c YM YA X W G 0 ∗ gHeld c G) ⊢ loopSt c YM YA X W G 0 (1#32, 0#32, 1#32, 0#32, 1#32, 0#32, 2#32, 0#32, 2#32, 0#32, 0#32, 0#32, 0#32, 0#32, 0#32) from by
    unfold loopSt
    iintro H
    isplitr; · ipureintro; exact init_words
    iexact H) $$ [HW HM HA HX HU HL HR Hg]
  · isplitl [HW]; · iexists _; iexact HW
    isplitl [HM]; · iexact HM
    isplitl [HA]; · iexact HA
    isplitl [HX]; · iexact HX
    isplitl [HU]; · iexact HU
    isplitl [HL]; · iexact HL
    isplitl [HR]; · iexact HR
    iexact Hg
  iapply (loop_run c YM YA X W 1#32 1#32 1#32 1#32 1#32 2#32 1#1 G _) $$ HS
  unfold loopSt
  iintro %acc ⟨%he, ⟨%O', HW⟩, HM, HA, HX, HU, HL, HR, Hg⟩
  subst he
  ihave HM := (ym_stop c YM) $$ HM
  ihave HA := (ya_stop c YA) $$ HA
  ihave HX := (x_stop c X) $$ HX
  ihave HU := (u_stop c W) $$ HU
  ihave HL := (l_stop c W) $$ HL
  ihave HR := (o_stop c YM YA X W G) $$ HR
  icases HR with ⟨⟨O0, ⟨%fo, %go, %hfo, Fo⟩⟩, HR⟩
  have c9 := chk9_ok
  have c8 := chk8_ok
  sl_exec
  sl_step
  have hq := oBlk_wrote c YM YA X W G 31 (by decide) go _ hfo
  iapply Hk
  isplitl [HW]; · iexists _; iexact HW
  isplitl [HM]; · iexact HM
  isplitl [HA]; · iexact HA
  isplitl [HX]; · iexact HX
  isplitl [HU]; · iexact HU
  isplitl [HL]; · iexact HL
  isplitl [O0 HR Fo_dst Fo_src Fo]
  · isplitl [O0]; · iexact O0
    iapply HR
    isplitl [Fo_src Fo]
    · unfold oFr
      isplitl [Fo_src]; · iexists fo; iexact Fo_src
      iexact Fo
    unfold oDn
    iexists _
    isplitr; swap
    · iexact Fo_dst
    ipureintro
    exact hq
  isplitl [Hg]; · iexists G; iexact Hg
  isplitl [HG]; · iexact HG
  iexact Cg

end Body
end Cert.KernelIdeal
-- ==== Proof.Homes.lean ====
module

public import proofs.«01_k».proof.Proof.Body

@[expose] public section

/-!
# Whole buffers as slots, whole arrays as blocks

A ring's buffer held whole is its slots held one by one, and an array held whole is its blocks.  The weights are the
eight blocks of two rings: four over the upper half of the rows, four over the lower.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Homes
variable (c : Dev nD)

theorem sep_fin2 (Φ : Fin 2 → sProp 𝕄) : bigSep Finset.univ Φ = iprop(Φ 0 ∗ Φ 1) :=
  bigSep_univ_eq_bigSepL [(0 : Fin 2), (1 : Fin 2)] (by decide) (by decide) Φ
theorem sep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem sep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem sep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

/-! ## the slots of the first mixer -/

/-- The elements of slot `s`. -/
abbrev ymSS (s : Fin 2) : Finset S2x512x2048.Idx := (Rect.unit (s := S2x512x2048) (ymSlotOff s) S1x512x2048.size (ymSlotOff_inb s)).set
theorem ymSlot_set (s : Fin 2) : (ymSlot s).view.set = ymSS s := (View.set_reshape _ _).trans (View.set_slice_whole _ _)
theorem mem_ymSS (s : Fin 2) (y : S2x512x2048.Idx) : y ∈ ymSS s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem ymSS_disjoint : ∀ s s' : Fin 2, s ≠ s' → Disjoint (ymSS s) (ymSS s') := by
  intro b b' hne; rw [Finset.disjoint_left]; intro y hy hy'; rw [mem_ymSS] at hy hy'; exact hne (Fin.ext (hy.symm.trans hy'))
theorem ymSS_cover : (Finset.univ : Finset (Fin 2)).biUnion ymSS = Finset.univ := by
  ext y; simp only [Finset.mem_biUnion, Finset.mem_univ, true_and, iff_true]; exact ⟨⟨(y 0).val, (y 0).isLt⟩, by rw [mem_ymSS]⟩
theorem ymHeld_eq (s : Fin 2) (f) : ymHeld (F := F) c s f = (((c : Thread nD τ).loc cc0_scoped0) ↦[ymSS s]{fullShare} f : sProp 𝕄) :=
  congrArg (fun S => (_ ↦[S]{fullShare} f : sProp 𝕄)) (ymSlot_set s)
/-- The buffer whole is its slots, and back. -/
theorem ym_split :
    iprop(∃ f : Buf (Elt F) ((c : Thread nD τ).loc cc0_scoped0), ((c : Thread nD τ).loc cc0_scoped0) ↦{fullShare} f)
      ⊢ (iprop((∃ f, ymHeld (F := F) c 0 f) ∗ (∃ f, ymHeld (F := F) c 1 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) ymSS ymSS_disjoint ymSS_cover f).trans (sep_fin2 _))) $$ H
  icases H2 with ⟨H0, H1⟩
  isplitl [H0]
  · iexists f; iapply (entails_of_eq (ymHeld_eq c 0 f).symm); iexact H0
  iexists f; iapply (entails_of_eq (ymHeld_eq c 1 f).symm); iexact H1
theorem ym_join :
    (iprop((∃ f, ymHeld (F := F) c 0 f) ∗ (∃ f, ymHeld (F := F) c 1 f)) : sProp 𝕄)
      ⊢ iprop(∃ f : Buf (Elt F) ((c : Thread nD τ).loc cc0_scoped0), ((c : Thread nD τ).loc cc0_scoped0) ↦{fullShare} f) := by
  iintro ⟨⟨%f0, H0⟩, ⟨%f1, H1⟩⟩
  iapply (Ring.pointsTo_blocks_join_exists (ℓ := (c : Thread nD τ).loc cc0_scoped0) ymSS ymSS_disjoint ymSS_cover f0)
  irw [sep_fin2]
  isplitl [H0]
  · iexists f0; iapply (entails_of_eq (ymHeld_eq c 0 f0)); iexact H0
  iexists f1; iapply (entails_of_eq (ymHeld_eq c 1 f1)); iexact H1

/-! ## the slots of the second mixer -/

/-- The elements of slot `s`. -/
abbrev yaSS (s : Fin 2) : Finset S2x512x2048.Idx := (Rect.unit (s := S2x512x2048) (yaSlotOff s) S1x512x2048.size (yaSlotOff_inb s)).set
theorem yaSlot_set (s : Fin 2) : (yaSlot s).view.set = yaSS s := (View.set_reshape _ _).trans (View.set_slice_whole _ _)
theorem mem_yaSS (s : Fin 2) (y : S2x512x2048.Idx) : y ∈ yaSS s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem yaSS_disjoint : ∀ s s' : Fin 2, s ≠ s' → Disjoint (yaSS s) (yaSS s') := by
  intro b b' hne; rw [Finset.disjoint_left]; intro y hy hy'; rw [mem_yaSS] at hy hy'; exact hne (Fin.ext (hy.symm.trans hy'))
theorem yaSS_cover : (Finset.univ : Finset (Fin 2)).biUnion yaSS = Finset.univ := by
  ext y; simp only [Finset.mem_biUnion, Finset.mem_univ, true_and, iff_true]; exact ⟨⟨(y 0).val, (y 0).isLt⟩, by rw [mem_yaSS]⟩
theorem yaHeld_eq (s : Fin 2) (f) : yaHeld (F := F) c s f = (((c : Thread nD τ).loc cc0_scoped2) ↦[yaSS s]{fullShare} f : sProp 𝕄) :=
  congrArg (fun S => (_ ↦[S]{fullShare} f : sProp 𝕄)) (yaSlot_set s)
/-- The buffer whole is its slots, and back. -/
theorem ya_split :
    iprop(∃ f : Buf (Elt F) ((c : Thread nD τ).loc cc0_scoped2), ((c : Thread nD τ).loc cc0_scoped2) ↦{fullShare} f)
      ⊢ (iprop((∃ f, yaHeld (F := F) c 0 f) ∗ (∃ f, yaHeld (F := F) c 1 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) yaSS yaSS_disjoint yaSS_cover f).trans (sep_fin2 _))) $$ H
  icases H2 with ⟨H0, H1⟩
  isplitl [H0]
  · iexists f; iapply (entails_of_eq (yaHeld_eq c 0 f).symm); iexact H0
  iexists f; iapply (entails_of_eq (yaHeld_eq c 1 f).symm); iexact H1
theorem ya_join :
    (iprop((∃ f, yaHeld (F := F) c 0 f) ∗ (∃ f, yaHeld (F := F) c 1 f)) : sProp 𝕄)
      ⊢ iprop(∃ f : Buf (Elt F) ((c : Thread nD τ).loc cc0_scoped2), ((c : Thread nD τ).loc cc0_scoped2) ↦{fullShare} f) := by
  iintro ⟨⟨%f0, H0⟩, ⟨%f1, H1⟩⟩
  iapply (Ring.pointsTo_blocks_join_exists (ℓ := (c : Thread nD τ).loc cc0_scoped2) yaSS yaSS_disjoint yaSS_cover f0)
  irw [sep_fin2]
  isplitl [H0]
  · iexists f0; iapply (entails_of_eq (yaHeld_eq c 0 f0)); iexact H0
  iexists f1; iapply (entails_of_eq (yaHeld_eq c 1 f1)); iexact H1

/-! ## the slots of the residual -/

/-- The elements of slot `s`. -/
abbrev xSS (s : Fin 2) : Finset S2x512x1024.Idx := (Rect.unit (s := S2x512x1024) (xSlotOff s) S1x512x1024.size (xSlotOff_inb s)).set
theorem xSlot_set (s : Fin 2) : (xSlot s).view.set = xSS s := (View.set_reshape _ _).trans (View.set_slice_whole _ _)
theorem mem_xSS (s : Fin 2) (y : S2x512x1024.Idx) : y ∈ xSS s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem xSS_disjoint : ∀ s s' : Fin 2, s ≠ s' → Disjoint (xSS s) (xSS s') := by
  intro b b' hne; rw [Finset.disjoint_left]; intro y hy hy'; rw [mem_xSS] at hy hy'; exact hne (Fin.ext (hy.symm.trans hy'))
theorem xSS_cover : (Finset.univ : Finset (Fin 2)).biUnion xSS = Finset.univ := by
  ext y; simp only [Finset.mem_biUnion, Finset.mem_univ, true_and, iff_true]; exact ⟨⟨(y 0).val, (y 0).isLt⟩, by rw [mem_xSS]⟩
theorem xHeld_eq (s : Fin 2) (f) : xHeld (F := F) c s f = (((c : Thread nD τ).loc cc0_scoped4) ↦[xSS s]{fullShare} f : sProp 𝕄) :=
  congrArg (fun S => (_ ↦[S]{fullShare} f : sProp 𝕄)) (xSlot_set s)
/-- The buffer whole is its slots, and back. -/
theorem x_split :
    iprop(∃ f : Buf (Elt F) ((c : Thread nD τ).loc cc0_scoped4), ((c : Thread nD τ).loc cc0_scoped4) ↦{fullShare} f)
      ⊢ (iprop((∃ f, xHeld (F := F) c 0 f) ∗ (∃ f, xHeld (F := F) c 1 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped4) xSS xSS_disjoint xSS_cover f).trans (sep_fin2 _))) $$ H
  icases H2 with ⟨H0, H1⟩
  isplitl [H0]
  · iexists f; iapply (entails_of_eq (xHeld_eq c 0 f).symm); iexact H0
  iexists f; iapply (entails_of_eq (xHeld_eq c 1 f).symm); iexact H1
theorem x_join :
    (iprop((∃ f, xHeld (F := F) c 0 f) ∗ (∃ f, xHeld (F := F) c 1 f)) : sProp 𝕄)
      ⊢ iprop(∃ f : Buf (Elt F) ((c : Thread nD τ).loc cc0_scoped4), ((c : Thread nD τ).loc cc0_scoped4) ↦{fullShare} f) := by
  iintro ⟨⟨%f0, H0⟩, ⟨%f1, H1⟩⟩
  iapply (Ring.pointsTo_blocks_join_exists (ℓ := (c : Thread nD τ).loc cc0_scoped4) xSS xSS_disjoint xSS_cover f0)
  irw [sep_fin2]
  isplitl [H0]
  · iexists f0; iapply (entails_of_eq (xHeld_eq c 0 f0)); iexact H0
  iexists f1; iapply (entails_of_eq (xHeld_eq c 1 f1)); iexact H1

/-! ## the slots of the weights' upper half -/

/-- The elements of slot `s`. -/
abbrev uSS (s : Fin 3) : Finset S3x2048x1024.Idx := (Rect.unit (s := S3x2048x1024) (uSlotOff s) S1x2048x1024.size (uSlotOff_inb s)).set
theorem uSlot_set (s : Fin 3) : (uSlot s).view.set = uSS s := (View.set_reshape _ _).trans (View.set_slice_whole _ _)
theorem mem_uSS (s : Fin 3) (y : S3x2048x1024.Idx) : y ∈ uSS s ↔ (y 0).val = s.val := by
  rw [Rect.mem_set_unit]
  have h1 : (y 1).val < 2048 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem uSS_disjoint : ∀ s s' : Fin 3, s ≠ s' → Disjoint (uSS s) (uSS s') := by
  intro b b' hne; rw [Finset.disjoint_left]; intro y hy hy'; rw [mem_uSS] at hy hy'; exact hne (Fin.ext (hy.symm.trans hy'))
theorem uSS_cover : (Finset.univ : Finset (Fin 3)).biUnion uSS = Finset.univ := by
  ext y; simp only [Finset.mem_biUnion, Finset.mem_univ, true_and, iff_true]; exact ⟨⟨(y 0).val, (y 0).isLt⟩, by rw [mem_uSS]⟩
theorem uHeld_eq (s : Fin 3) (f) : uHeld (F := F) c s f = (((c : Thread nD τ).loc cc0_scoped6) ↦[uSS s]{fullShare} f : sProp 𝕄) :=
  congrArg (fun S => (_ ↦[S]{fullShare} f : sProp 𝕄)) (uSlot_set s)
/-- The buffer whole is its slots, and back. -/
theorem u_split :
    iprop(∃ f : Buf (Elt F) ((c : Thread nD τ).loc cc0_scoped6), ((c : Thread nD τ).loc cc0_scoped6) ↦{fullShare} f)
      ⊢ (iprop((∃ f, uHeld (F := F) c 0 f) ∗ (∃ f, uHeld (F := F) c 1 f) ∗ (∃ f, uHeld (F := F) c 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped6) uSS uSS_disjoint uSS_cover f).trans (sep_fin3 _))) $$ H
  icases H2 with ⟨H0, H1, H2⟩
  isplitl [H0]
  · iexists f; iapply (entails_of_eq (uHeld_eq c 0 f).symm); iexact H0
  isplitl [H1]
  · iexists f; iapply (entails_of_eq (uHeld_eq c 1 f).symm); iexact H1
  iexists f; iapply (entails_of_eq (uHeld_eq c 2 f).symm); iexact H2
theorem u_join :
    (iprop((∃ f, uHeld (F := F) c 0 f) ∗ (∃ f, uHeld (F := F) c 1 f) ∗ (∃ f, uHeld (F := F) c 2 f)) : sProp 𝕄)
      ⊢ iprop(∃ f : Buf (Elt F) ((c : Thread nD τ).loc cc0_scoped6), ((c : Thread nD τ).loc cc0_scoped6) ↦{fullShare} f) := by
  iintro ⟨⟨%f0, H0⟩, ⟨%f1, H1⟩, ⟨%f2, H2⟩⟩
  iapply (Ring.pointsTo_blocks_join_exists (ℓ := (c : Thread nD τ).loc cc0_scoped6) uSS uSS_disjoint uSS_cover f0)
  irw [sep_fin3]
  isplitl [H0]
  · iexists f0; iapply (entails_of_eq (uHeld_eq c 0 f0)); iexact H0
  isplitl [H1]
  · iexists f1; iapply (entails_of_eq (uHeld_eq c 1 f1)); iexact H1
  iexists f2; iapply (entails_of_eq (uHeld_eq c 2 f2)); iexact H2

/-! ## the slots of the weights' lower half -/

/-- The elements of slot `s`. -/
abbrev lSS (s : Fin 3) : Finset S3x2048x1024.Idx := (Rect.unit (s := S3x2048x1024) (lSlotOff s) S1x2048x1024.size (lSlotOff_inb s)).set
theorem lSlot_set (s : Fin 3) : (lSlot s).view.set = lSS s := (View.set_reshape _ _).trans (View.set_slice_whole _ _)
theorem mem_lSS (s : Fin 3) (y : S3x2048x1024.Idx) : y ∈ lSS s ↔ (y 0).val = s.val := by
  rw [Rect.mem_set_unit]
  have h1 : (y 1).val < 2048 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem lSS_disjoint : ∀ s s' : Fin 3, s ≠ s' → Disjoint (lSS s) (lSS s') := by
  intro b b' hne; rw [Finset.disjoint_left]; intro y hy hy'; rw [mem_lSS] at hy hy'; exact hne (Fin.ext (hy.symm.trans hy'))
theorem lSS_cover : (Finset.univ : Finset (Fin 3)).biUnion lSS = Finset.univ := by
  ext y; simp only [Finset.mem_biUnion, Finset.mem_univ, true_and, iff_true]; exact ⟨⟨(y 0).val, (y 0).isLt⟩, by rw [mem_lSS]⟩
theorem lHeld_eq (s : Fin 3) (f) : lHeld (F := F) c s f = (((c : Thread nD τ).loc cc0_scoped8) ↦[lSS s]{fullShare} f : sProp 𝕄) :=
  congrArg (fun S => (_ ↦[S]{fullShare} f : sProp 𝕄)) (lSlot_set s)
/-- The buffer whole is its slots, and back. -/
theorem l_split :
    iprop(∃ f : Buf (Elt F) ((c : Thread nD τ).loc cc0_scoped8), ((c : Thread nD τ).loc cc0_scoped8) ↦{fullShare} f)
      ⊢ (iprop((∃ f, lHeld (F := F) c 0 f) ∗ (∃ f, lHeld (F := F) c 1 f) ∗ (∃ f, lHeld (F := F) c 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped8) lSS lSS_disjoint lSS_cover f).trans (sep_fin3 _))) $$ H
  icases H2 with ⟨H0, H1, H2⟩
  isplitl [H0]
  · iexists f; iapply (entails_of_eq (lHeld_eq c 0 f).symm); iexact H0
  isplitl [H1]
  · iexists f; iapply (entails_of_eq (lHeld_eq c 1 f).symm); iexact H1
  iexists f; iapply (entails_of_eq (lHeld_eq c 2 f).symm); iexact H2
theorem l_join :
    (iprop((∃ f, lHeld (F := F) c 0 f) ∗ (∃ f, lHeld (F := F) c 1 f) ∗ (∃ f, lHeld (F := F) c 2 f)) : sProp 𝕄)
      ⊢ iprop(∃ f : Buf (Elt F) ((c : Thread nD τ).loc cc0_scoped8), ((c : Thread nD τ).loc cc0_scoped8) ↦{fullShare} f) := by
  iintro ⟨⟨%f0, H0⟩, ⟨%f1, H1⟩, ⟨%f2, H2⟩⟩
  iapply (Ring.pointsTo_blocks_join_exists (ℓ := (c : Thread nD τ).loc cc0_scoped8) lSS lSS_disjoint lSS_cover f0)
  irw [sep_fin3]
  isplitl [H0]
  · iexists f0; iapply (entails_of_eq (lHeld_eq c 0 f0)); iexact H0
  isplitl [H1]
  · iexists f1; iapply (entails_of_eq (lHeld_eq c 1 f1)); iexact H1
  iexists f2; iapply (entails_of_eq (lHeld_eq c 2 f2)); iexact H2

/-! ## the slots of the result -/

/-- The elements of slot `s`. -/
abbrev oSS (s : Fin 2) : Finset S2x512x4096.Idx := (Rect.unit (s := S2x512x4096) (oSlotOff s) S1x512x4096.size (oSlotOff_inb s)).set
theorem oSlot_set (s : Fin 2) : (oSlot s).view.set = oSS s := (View.set_reshape _ _).trans (View.set_slice_whole _ _)
theorem mem_oSS (s : Fin 2) (y : S2x512x4096.Idx) : y ∈ oSS s ↔ (y 0).val = s.val := by
  rw [Rect.mem_set_unit]
  have h1 : (y 1).val < 512 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 4096; omega
theorem oSS_disjoint : ∀ s s' : Fin 2, s ≠ s' → Disjoint (oSS s) (oSS s') := by
  intro b b' hne; rw [Finset.disjoint_left]; intro y hy hy'; rw [mem_oSS] at hy hy'; exact hne (Fin.ext (hy.symm.trans hy'))
theorem oSS_cover : (Finset.univ : Finset (Fin 2)).biUnion oSS = Finset.univ := by
  ext y; simp only [Finset.mem_biUnion, Finset.mem_univ, true_and, iff_true]; exact ⟨⟨(y 0).val, (y 0).isLt⟩, by rw [mem_oSS]⟩
theorem oHeld_eq (s : Fin 2) (f) : oHeld (F := F) c s f = (((c : Thread nD τ).loc cc0_scoped11) ↦[oSS s]{fullShare} f : sProp 𝕄) :=
  congrArg (fun S => (_ ↦[S]{fullShare} f : sProp 𝕄)) (oSlot_set s)
/-- The buffer whole is its slots, and back. -/
theorem o_split :
    iprop(∃ f : Buf (Elt F) ((c : Thread nD τ).loc cc0_scoped11), ((c : Thread nD τ).loc cc0_scoped11) ↦{fullShare} f)
      ⊢ (iprop((∃ f, oHeld (F := F) c 0 f) ∗ (∃ f, oHeld (F := F) c 1 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped11) oSS oSS_disjoint oSS_cover f).trans (sep_fin2 _))) $$ H
  icases H2 with ⟨H0, H1⟩
  isplitl [H0]
  · iexists f; iapply (entails_of_eq (oHeld_eq c 0 f).symm); iexact H0
  iexists f; iapply (entails_of_eq (oHeld_eq c 1 f).symm); iexact H1
theorem o_join :
    (iprop((∃ f, oHeld (F := F) c 0 f) ∗ (∃ f, oHeld (F := F) c 1 f)) : sProp 𝕄)
      ⊢ iprop(∃ f : Buf (Elt F) ((c : Thread nD τ).loc cc0_scoped11), ((c : Thread nD τ).loc cc0_scoped11) ↦{fullShare} f) := by
  iintro ⟨⟨%f0, H0⟩, ⟨%f1, H1⟩⟩
  iapply (Ring.pointsTo_blocks_join_exists (ℓ := (c : Thread nD τ).loc cc0_scoped11) oSS oSS_disjoint oSS_cover f0)
  irw [sep_fin2]
  isplitl [H0]
  · iexists f0; iapply (entails_of_eq (oHeld_eq c 0 f0)); iexact H0
  iexists f1; iapply (entails_of_eq (oHeld_eq c 1 f1)); iexact H1

/-! ## the blocks of the first mixer -/

/-- The elements of block `b`. -/
abbrev ymBS (b : Fin 32) : Finset S16384x2048.Idx := (Rect.unit (s := S16384x2048) (ymBlkOff b) S512x2048.size (ymBlkOff_inb b)).set
theorem ymBlk_set (b : Fin 32) : (ymBlk b).view.set = ymBS b := View.set_slice_whole _ _
theorem mem_ymBS (b : Fin 32) (y : S16384x2048.Idx) : y ∈ ymBS b ↔ (y 0).val / 512 = b.val := by
  rw [Rect.mem_set_unit]
  have h0 : (y 0).val < 16384 := (y 0).isLt
  have h1 : (y 1).val < 2048 := (y 1).isLt
  constructor
  · intro H
    have a0 : 512 * (b.val) ≤ (y 0).val ∧ (y 0).val < 512 * (b.val) + 512 := H 0
    have a1 : 0 ≤ (y 1).val ∧ (y 1).val < 0 + 2048 := H 1
    omega
  · intro H i; fin_cases i
    · show 512 * (b.val) ≤ (y 0).val ∧ (y 0).val < 512 * (b.val) + 512; omega
    · show 0 ≤ (y 1).val ∧ (y 1).val < 0 + 2048; omega
theorem ymBS_disjoint : ∀ b b' : Fin 32, b ≠ b' → Disjoint (ymBS b) (ymBS b') := by
  intro b b' hne; rw [Finset.disjoint_left]; intro y hy hy'; rw [mem_ymBS] at hy hy'; exact hne (Fin.ext (by omega))
theorem ymBS_cover : (Finset.univ : Finset (Fin 32)).biUnion ymBS = Finset.univ := by
  ext y; simp only [Finset.mem_biUnion, Finset.mem_univ, true_and, iff_true]
  have h0 : (y 0).val < 16384 := (y 0).isLt
  have h1 : (y 1).val < 2048 := (y 1).isLt
  exact ⟨⟨(y 0).val / 512, by omega⟩, by rw [mem_ymBS]⟩
theorem ym_homes (f : Buf (Elt F) ((c : Thread nD τ).loc main_arg0)) :
    (((c : Thread nD τ).loc main_arg0) ↦{fullShare} f : sProp 𝕄) = bigSep Finset.univ (fun b => ymHome (F := F) c f b) := by
  rw [Ring.pointsTo_blocks (ℓ := (c : Thread nD τ).loc main_arg0) ymBS ymBS_disjoint ymBS_cover]
  exact bigSep_congr fun b _ => congrArg (fun S => (_ ↦[S]{fullShare} f : sProp 𝕄)) (ymBlk_set b).symm

/-! ## the blocks of the second mixer -/

/-- The elements of block `b`. -/
abbrev yaBS (b : Fin 32) : Finset S16384x2048.Idx := (Rect.unit (s := S16384x2048) (yaBlkOff b) S512x2048.size (yaBlkOff_inb b)).set
theorem yaBlk_set (b : Fin 32) : (yaBlk b).view.set = yaBS b := View.set_slice_whole _ _
theorem mem_yaBS (b : Fin 32) (y : S16384x2048.Idx) : y ∈ yaBS b ↔ (y 0).val / 512 = b.val := by
  rw [Rect.mem_set_unit]
  have h0 : (y 0).val < 16384 := (y 0).isLt
  have h1 : (y 1).val < 2048 := (y 1).isLt
  constructor
  · intro H
    have a0 : 512 * (b.val) ≤ (y 0).val ∧ (y 0).val < 512 * (b.val) + 512 := H 0
    have a1 : 0 ≤ (y 1).val ∧ (y 1).val < 0 + 2048 := H 1
    omega
  · intro H i; fin_cases i
    · show 512 * (b.val) ≤ (y 0).val ∧ (y 0).val < 512 * (b.val) + 512; omega
    · show 0 ≤ (y 1).val ∧ (y 1).val < 0 + 2048; omega
theorem yaBS_disjoint : ∀ b b' : Fin 32, b ≠ b' → Disjoint (yaBS b) (yaBS b') := by
  intro b b' hne; rw [Finset.disjoint_left]; intro y hy hy'; rw [mem_yaBS] at hy hy'; exact hne (Fin.ext (by omega))
theorem yaBS_cover : (Finset.univ : Finset (Fin 32)).biUnion yaBS = Finset.univ := by
  ext y; simp only [Finset.mem_biUnion, Finset.mem_univ, true_and, iff_true]
  have h0 : (y 0).val < 16384 := (y 0).isLt
  have h1 : (y 1).val < 2048 := (y 1).isLt
  exact ⟨⟨(y 0).val / 512, by omega⟩, by rw [mem_yaBS]⟩
theorem ya_homes (f : Buf (Elt F) ((c : Thread nD τ).loc main_arg1)) :
    (((c : Thread nD τ).loc main_arg1) ↦{fullShare} f : sProp 𝕄) = bigSep Finset.univ (fun b => yaHome (F := F) c f b) := by
  rw [Ring.pointsTo_blocks (ℓ := (c : Thread nD τ).loc main_arg1) yaBS yaBS_disjoint yaBS_cover]
  exact bigSep_congr fun b _ => congrArg (fun S => (_ ↦[S]{fullShare} f : sProp 𝕄)) (yaBlk_set b).symm

/-! ## the blocks of the residual -/

/-- The elements of block `b`. -/
abbrev xBS (b : Fin 128) : Finset S16384x4096.Idx := (Rect.unit (s := S16384x4096) (xBlkOff b) S512x1024.size (xBlkOff_inb b)).set
theorem xBlk_set (b : Fin 128) : (xBlk b).view.set = xBS b := View.set_slice_whole _ _
theorem mem_xBS (b : Fin 128) (y : S16384x4096.Idx) : y ∈ xBS b ↔ (y 0).val / 512 = b.val / 4 ∧ (y 1).val / 1024 = b.val % 4 := by
  rw [Rect.mem_set_unit]
  have h0 : (y 0).val < 16384 := (y 0).isLt
  have h1 : (y 1).val < 4096 := (y 1).isLt
  constructor
  · intro H
    have a0 : 512 * (b.val / 4) ≤ (y 0).val ∧ (y 0).val < 512 * (b.val / 4) + 512 := H 0
    have a1 : 1024 * (b.val % 4) ≤ (y 1).val ∧ (y 1).val < 1024 * (b.val % 4) + 1024 := H 1
    omega
  · intro H i; fin_cases i
    · show 512 * (b.val / 4) ≤ (y 0).val ∧ (y 0).val < 512 * (b.val / 4) + 512; omega
    · show 1024 * (b.val % 4) ≤ (y 1).val ∧ (y 1).val < 1024 * (b.val % 4) + 1024; omega
theorem xBS_disjoint : ∀ b b' : Fin 128, b ≠ b' → Disjoint (xBS b) (xBS b') := by
  intro b b' hne; rw [Finset.disjoint_left]; intro y hy hy'; rw [mem_xBS] at hy hy'; exact hne (Fin.ext (by omega))
theorem xBS_cover : (Finset.univ : Finset (Fin 128)).biUnion xBS = Finset.univ := by
  ext y; simp only [Finset.mem_biUnion, Finset.mem_univ, true_and, iff_true]
  have h0 : (y 0).val < 16384 := (y 0).isLt
  have h1 : (y 1).val < 4096 := (y 1).isLt
  exact ⟨⟨4 * ((y 0).val / 512) + (y 1).val / 1024, by omega⟩, by rw [mem_xBS]; constructor <;> (show _ = _; dsimp only; omega)⟩
theorem x_homes (f : Buf (Elt F) ((c : Thread nD τ).loc main_v0)) :
    (((c : Thread nD τ).loc main_v0) ↦{fullShare} f : sProp 𝕄) = bigSep Finset.univ (fun b => xHome (F := F) c f b) := by
  rw [Ring.pointsTo_blocks (ℓ := (c : Thread nD τ).loc main_v0) xBS xBS_disjoint xBS_cover]
  exact bigSep_congr fun b _ => congrArg (fun S => (_ ↦[S]{fullShare} f : sProp 𝕄)) (xBlk_set b).symm

/-! ## the blocks of the result -/

/-- The elements of block `b`. -/
abbrev oBS (b : Fin 32) : Finset S16384x4096.Idx := (Rect.unit (s := S16384x4096) (oBlkOff b) S512x4096.size (oBlkOff_inb b)).set
theorem oBlk_set (b : Fin 32) : (oBlk b).view.set = oBS b := View.set_slice_whole _ _
theorem mem_oBS (b : Fin 32) (y : S16384x4096.Idx) : y ∈ oBS b ↔ (y 0).val / 512 = b.val := by
  rw [Rect.mem_set_unit]
  have h0 : (y 0).val < 16384 := (y 0).isLt
  have h1 : (y 1).val < 4096 := (y 1).isLt
  constructor
  · intro H
    have a0 : 512 * (b.val) ≤ (y 0).val ∧ (y 0).val < 512 * (b.val) + 512 := H 0
    have a1 : 0 ≤ (y 1).val ∧ (y 1).val < 0 + 4096 := H 1
    omega
  · intro H i; fin_cases i
    · show 512 * (b.val) ≤ (y 0).val ∧ (y 0).val < 512 * (b.val) + 512; omega
    · show 0 ≤ (y 1).val ∧ (y 1).val < 0 + 4096; omega
theorem oBS_disjoint : ∀ b b' : Fin 32, b ≠ b' → Disjoint (oBS b) (oBS b') := by
  intro b b' hne; rw [Finset.disjoint_left]; intro y hy hy'; rw [mem_oBS] at hy hy'; exact hne (Fin.ext (by omega))
theorem oBS_cover : (Finset.univ : Finset (Fin 32)).biUnion oBS = Finset.univ := by
  ext y; simp only [Finset.mem_biUnion, Finset.mem_univ, true_and, iff_true]
  have h0 : (y 0).val < 16384 := (y 0).isLt
  have h1 : (y 1).val < 4096 := (y 1).isLt
  exact ⟨⟨(y 0).val / 512, by omega⟩, by rw [mem_oBS]⟩
theorem o_homes (f : Buf (Elt F) ((c : Thread nD τ).loc main_v3)) :
    (((c : Thread nD τ).loc main_v3) ↦{fullShare} f : sProp 𝕄) = bigSep Finset.univ (fun b => oHome (F := F) c f b) := by
  rw [Ring.pointsTo_blocks (ℓ := (c : Thread nD τ).loc main_v3) oBS oBS_disjoint oBS_cover]
  exact bigSep_congr fun b _ => congrArg (fun S => (_ ↦[S]{fullShare} f : sProp 𝕄)) (oBlk_set b).symm

/-! ## the blocks of the weights -/

/-- Where block `b` of the eight begins: the first four over the upper half of the rows. -/
abbrev wBlkOff (b : Fin 8) : Fin 2 → Nat := ![2048 * (b.val / 4), 1024 * (b.val % 4)]
theorem wBlkOff_inb (b : Fin 8) : ∀ a, wBlkOff b a + S2048x1024.size a ≤ S4096x4096.size a := by revert b; decide +kernel
abbrev wBS (b : Fin 8) : Finset S4096x4096.Idx := (Rect.unit (s := S4096x4096) (wBlkOff b) S2048x1024.size (wBlkOff_inb b)).set
theorem mem_wBS (b : Fin 8) (y : S4096x4096.Idx) : y ∈ wBS b ↔ (y 0).val / 2048 = b.val / 4 ∧ (y 1).val / 1024 = b.val % 4 := by
  rw [Rect.mem_set_unit]
  have h0 : (y 0).val < 4096 := (y 0).isLt
  have h1 : (y 1).val < 4096 := (y 1).isLt
  constructor
  · intro H
    have a0 : 2048 * (b.val / 4) ≤ (y 0).val ∧ (y 0).val < 2048 * (b.val / 4) + 2048 := H 0
    have a1 : 1024 * (b.val % 4) ≤ (y 1).val ∧ (y 1).val < 1024 * (b.val % 4) + 1024 := H 1
    omega
  · intro H i; fin_cases i
    · show 2048 * (b.val / 4) ≤ (y 0).val ∧ (y 0).val < 2048 * (b.val / 4) + 2048; omega
    · show 1024 * (b.val % 4) ≤ (y 1).val ∧ (y 1).val < 1024 * (b.val % 4) + 1024; omega
theorem wBS_disjoint : ∀ b b' : Fin 8, b ≠ b' → Disjoint (wBS b) (wBS b') := by
  intro b b' hne; rw [Finset.disjoint_left]; intro y hy hy'; rw [mem_wBS] at hy hy'; exact hne (Fin.ext (by omega))
theorem wBS_cover : (Finset.univ : Finset (Fin 8)).biUnion wBS = Finset.univ := by
  ext y; simp only [Finset.mem_biUnion, Finset.mem_univ, true_and, iff_true]
  have h0 : (y 0).val < 4096 := (y 0).isLt
  have h1 : (y 1).val < 4096 := (y 1).isLt
  exact ⟨⟨4 * ((y 0).val / 2048) + (y 1).val / 1024, by omega⟩, by rw [mem_wBS]; constructor <;> (show _ = _; dsimp only; omega)⟩
theorem set_congr {off off' : Fin 2 → ℕ} (e : off = off') (h h') :
    (Rect.unit (s := S4096x4096) off S2048x1024.size h).set = (Rect.unit (s := S4096x4096) off' S2048x1024.size h').set := by subst e; rfl
theorem uBlk_set (b : Fin 4) (b' : Fin 8) (h : b'.val = b.val) : (uBlk b).view.set = wBS b' :=
  (View.set_slice_whole _ _).trans (set_congr (by unfold uBlkOff wBlkOff; have := b.isLt; rw [h, Nat.div_eq_of_lt this, Nat.mod_eq_of_lt this]) _ _)
theorem lBlk_set (b : Fin 4) (b' : Fin 8) (h : b'.val = 4 + b.val) : (lBlk b).view.set = wBS b' :=
  (View.set_slice_whole _ _).trans (set_congr (by
    unfold lBlkOff wBlkOff; have := b.isLt
    rw [show b'.val / 4 = 1 by omega, show b'.val % 4 = b.val by omega]) _ _)
theorem uHome_eq (f) (b : Fin 4) (b' : Fin 8) (h : b'.val = b.val) : uHome (F := F) c f b = (((c : Thread nD τ).loc main_v1) ↦[wBS b']{fullShare} f : sProp 𝕄) :=
  congrArg (fun S => (_ ↦[S]{fullShare} f : sProp 𝕄)) (uBlk_set b b' h)
theorem lHome_eq (f) (b : Fin 4) (b' : Fin 8) (h : b'.val = 4 + b.val) : lHome (F := F) c f b = (((c : Thread nD τ).loc main_v1) ↦[wBS b']{fullShare} f : sProp 𝕄) :=
  congrArg (fun S => (_ ↦[S]{fullShare} f : sProp 𝕄)) (lBlk_set b b' h)
theorem w_eight (f : Buf (Elt F) ((c : Thread nD τ).loc main_v1)) :
    (((c : Thread nD τ).loc main_v1) ↦{fullShare} f : sProp 𝕄)
      = iprop(uHome (F := F) c f 0 ∗ uHome (F := F) c f 1 ∗ uHome (F := F) c f 2 ∗ uHome (F := F) c f 3
        ∗ lHome (F := F) c f 0 ∗ lHome (F := F) c f 1 ∗ lHome (F := F) c f 2 ∗ lHome (F := F) c f 3) := by
  rw [Ring.pointsTo_blocks (ℓ := (c : Thread nD τ).loc main_v1) wBS wBS_disjoint wBS_cover, sep_fin8,
    uHome_eq c f 0 0 rfl, uHome_eq c f 1 1 rfl, uHome_eq c f 2 2 rfl, uHome_eq c f 3 3 rfl,
    lHome_eq c f 0 4 rfl, lHome_eq c f 1 5 rfl, lHome_eq c f 2 6 rfl, lHome_eq c f 3 7 rfl]
/-- The weights whole are the eight blocks, four in either ring's family; -/
theorem w_split (f : Buf (Elt F) ((c : Thread nD τ).loc main_v1)) :
    (((c : Thread nD τ).loc main_v1) ↦{fullShare} f : sProp 𝕄)
      ⊢ iprop(bigSep Finset.univ (fun b => uHome (F := F) c f b) ∗ bigSep Finset.univ (fun b => lHome (F := F) c f b)) := by
  rw [w_eight, sep_fin4, sep_fin4]
  iintro ⟨H0, H1, H2, H3, H4, H5, H6, H7⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7
/-- and back. -/
theorem w_join (f : Buf (Elt F) ((c : Thread nD τ).loc main_v1)) :
    (iprop(bigSep Finset.univ (fun b => uHome (F := F) c f b) ∗ bigSep Finset.univ (fun b => lHome (F := F) c f b)) : sProp 𝕄)
      ⊢ (((c : Thread nD τ).loc main_v1) ↦{fullShare} f : sProp 𝕄) := by
  rw [w_eight, sep_fin4, sep_fin4]
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## the result -/

variable (YM : Buf (Elt F) (ymArr.view.loc (c : Thread nD τ))) (YA : Buf (Elt F) (yaArr.view.loc (c : Thread nD τ)))
  (X : Buf (Elt F) (xArr.view.loc (c : Thread nD τ))) (W : Buf (Elt F) (uArr.view.loc (c : Thread nD τ)))
  (G : Buf (Elt F) (gArr.view.loc (c : Thread nD τ)))

/-- An element's place inside its block. -/
def rowIx (y : S16384x4096.Idx) : S512x4096.Idx := fun a => match a with
  | ⟨0, _⟩ => ⟨(y 0).val % 512, Nat.mod_lt _ (by decide)⟩
  | ⟨1, _⟩ => ⟨(y 1).val, (y 1).isLt⟩

/-- The result's array as the kernel leaves it. -/
def outArr : Buf (Elt F) (oArr.view.loc (c : Thread nD τ)) := fun y => outBlk c YM YA X W G ((y 0).val / 512) (rowIx y)

/-- A block that reads as computed agrees there with the array. -/
theorem blk_agrees (b : Fin 32) (g : Buf (Elt F) (oArr.view.loc (c : Thread nD τ))) (hg : (oBlk b).view.read (Elt F) g = outBlk c YM YA X W G b.val)
    (y : S16384x4096.Idx) (hy : y ∈ (oBlk b).view.set) : g y = outArr c YM YA X W G y := by
  obtain ⟨z, -, hz⟩ := Finset.mem_map.mp hy
  have hz0 : (z 0).val < 512 := (z 0).isLt
  have e : g y = outBlk c YM YA X W G b.val z := hz ▸ (congrFun hg z)
  have e0 : (y 0).val = 512 * b.val + (z 0).val := by
    have : (y 0).val = 512 * b.val + 1 * (z 0).val := hz ▸ rfl
    omega
  have e1 : (y 1).val = (z 1).val := by
    have : (y 1).val = 0 + 1 * (z 1).val := hz ▸ rfl
    omega
  have er : rowIx y = z := by
    funext a; fin_cases a
    · refine Fin.ext ?_
      show (y 0).val % 512 = (z 0).val
      rw [e0]; omega
    · exact Fin.ext e1
  unfold outArr
  rw [e, er, e0, show (512 * b.val + (z 0).val) / 512 = b.val by omega]

theorem oHome_congr (b : Fin 32) (g : Buf (Elt F) (oArr.view.loc (c : Thread nD τ))) (hg : (oBlk b).view.read (Elt F) g = outBlk c YM YA X W G b.val) :
    oHome (F := F) c g b = oHome (F := F) c (outArr c YM YA X W G) b :=
  pointsTo_congr fun y hy => blk_agrees c YM YA X W G b g hg y hy
/-- A block as computed is the array's block. -/
theorem oDn_home (b : Fin 32) : oDn c YM YA X W G b ⊢ oHome (F := F) c (outArr c YM YA X W G) b := by
  unfold oDn
  iintro ⟨%g, %hg, H⟩
  ihave H := (entails_of_eq (oHome_congr c YM YA X W G b g hg)) $$ H
  iexact H

/-- All of them are the array. -/
theorem o_done : bigSep Finset.univ (oDn c YM YA X W G) ⊢ (((c : Thread nD τ).loc main_v3) ↦{fullShare} outArr c YM YA X W G : sProp 𝕄) :=
  (bigSep_mono fun b _ => oDn_home c YM YA X W G b).trans (entails_of_eq (o_homes c (outArr c YM YA X W G)).symm)

theorem oHome_pd (f : Buf (Elt F) ((c : Thread nD τ).loc main_v3)) (b : Fin 32) : oHome (F := F) c f b ⊢ oPd (F := F) c b := by
  unfold oPd
  iintro H
  iexists f
  iexact H
/-- The array at anything is the blocks at anything. -/
theorem o_pending (f : Buf (Elt F) ((c : Thread nD τ).loc main_v3)) : (((c : Thread nD τ).loc main_v3) ↦{fullShare} f : sProp 𝕄) ⊢ bigSep Finset.univ (oPd (F := F) c) :=
  (entails_of_eq (o_homes c f)).trans (bigSep_mono fun b _ => oHome_pd c f b)

end Homes
end Cert.KernelIdeal
-- ==== Proof.Run.lean ====
module

public import proofs.«01_k».proof.Proof.Homes
public import proofs.«01_k».proof.Proof.Gen.KernelIdeal.Frame

@[expose] public section

/-!
# The launch

The buffers are cut into slots, the arrays into blocks, the body runs at the call's one point, and everything is put
together again: the result's array is as computed and the arguments are as they were.
-/

noncomputable section

namespace Cert.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-! ## The kernel's own semaphores -/

/-- The fifteen DMA semaphores, in their order. -/
abbrev osem : Fin 15 → SemLoc sig := fun i => .dma ⟨i.val, i.isLt⟩
theorem ownSemFacts : Pipeline.OwnSemFacts (cfg0.spec) osem := by decide
theorem ownSems0_eq (c : Dev nD) : (Pipeline.ownSems0 (Ix := Unit) (Name := ℕ) (U := UU nD τ) (Lvl := ℕ) (Val := Elt F) (τ := τ) osem c : sProp 𝕄)
    = iprop(ymCell (F := F) c 0 ∗ ymCell (F := F) c 1 ∗ yaCell (F := F) c 0 ∗ yaCell (F := F) c 1 ∗ xCell (F := F) c 0 ∗ xCell (F := F) c 1 ∗ uCell (F := F) c 0 ∗ uCell (F := F) c 1 ∗ uCell (F := F) c 2 ∗ lCell (F := F) c 0 ∗ lCell (F := F) c 1 ∗ lCell (F := F) c 2 ∗ oCell (F := F) c 0 ∗ oCell (F := F) c 1 ∗ gCell (F := F) c) := by
  unfold Pipeline.ownSems0
  exact bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) _

/-! ## What the body holds before and after -/

/-- The arrays the kernel reads, as the host operations leave them. -/
abbrev YM (c : Dev nD) : Buf (Elt F) (ymArr.view.loc (c : Thread nD τ)) := V m c main_arg0
abbrev YA (c : Dev nD) : Buf (Elt F) (yaArr.view.loc (c : Thread nD τ)) := V m c main_arg1
abbrev XX (c : Dev nD) : Buf (Elt F) (xArr.view.loc (c : Thread nD τ)) := V m c main_v0
abbrev WW (c : Dev nD) : Buf (Elt F) (uArr.view.loc (c : Thread nD τ)) := V m c main_v1
abbrev GG (c : Dev nD) : Buf (Elt F) (gArr.view.loc (c : Thread nD τ)) := V m c main_v2
/-- The result. -/
abbrev OUT (c : Dev nD) : Buf (Elt F) (oArr.view.loc (c : Thread nD τ)) := outArr c (YM m c) (YA m c) (XX m c) (WW m c) (GG m c)

/-- Every ring idle, every block at home, the result's blocks as `R` says. -/
def idle (c : Dev nD) (R : sProp 𝕄) : sProp 𝕄 :=
  iprop(ymIdle c (YM m c) ∗ yaIdle c (YA m c) ∗ xIdle c (XX m c) ∗ uIdle c (WW m c) ∗ lIdle c (WW m c)
    ∗ (oFr c 0 ∗ oFr c 1 ∗ R) ∗ (∃ f, gBuf.view.loc (c : Thread nD τ) ↦{fullShare} f) ∗ (gArr.view.loc (c : Thread nD τ) ↦{fullShare} GG m c) ∗ gCell c)
/-- The result's blocks before the point and after it. -/
def Φ (c : Dev nD) (n : ℕ) : sProp 𝕄 :=
  idle m c (if n = 0 then bigSep Finset.univ (oPd (F := F) c) else bigSep Finset.univ (oDn c (YM m c) (YA m c) (XX m c) (WW m c) (GG m c)))

def dats (_ : Fin 1) (c : Dev nD) : Dat τ (Elt F) Unit ℕ (UU nD τ) ℕ cfg0 c where
  A w := w.elim0
  after w := w.elim0
  Φ t := Φ m c t.val
  q _ := fullShare
  owed _ := 0

/-! ## The body obligation -/

theorem defs_tc : (defs₀ (F := F)) .tc cfg0.body = fun _ => bodyG := rfl
theorem prog_eq (t : Fin cfg0.N) : (defs₀ (F := F)) .tc cfg0.body (cfg0.bodyArgs t (cfg0.slots t)) = bodyG := (congrFun defs_tc _).trans rfl

theorem bigSep_W0 (Ψ : Fin cfg0.W → sProp 𝕄) : bigSep Finset.univ Ψ = (BI.emp : sProp 𝕄) := by
  rw [show (Finset.univ : Finset (Fin cfg0.W)) = ∅ from rfl, bigSep_empty]

set_option backward.isDefEq.respectTransparency.types false in
theorem body_obligation (c : Dev nD) : BodyObligation (dats (F := F) m 0 c) (defs₀ (F := F)) 𝒱₀ () Set.univ := fun t => by
  have ht : t.val = 0 := by have := t.isLt; have h1 : cfg0.N = 1 := N_0; omega
  rw [bigSep_W0, bigSep_W0]
  rw [show (dats m 0 c).Φ t.castSucc = Φ m c 0 from congrArg (Φ m c) ht, show (dats m 0 c).Φ t.succ = Φ m c 1 from congrArg (Φ m c) (congrArg (· + 1) ht)]
  unfold Dat.owesAt Pipeline.owesWithin
  rw [show (dats m 0 c).owed t.castSucc = 0 from rfl, show (dats m 0 c).owed t.succ = 0 from rfl]
  unfold Φ idle
  rw [if_pos rfl, if_neg (by decide)]
  iintro ⟨HB, ⟨%W, -, HW⟩, -⟩
  sl_rw [prog_eq t]
  iapply (bodyRun c (YM m c) (YA m c) (XX m c) (WW m c) (GG m c) W _)
  isplitl [HB HW]
  · isplitl [HW]; · iexact HW
    iexact HB
  iintro ⟨⟨%W', HW⟩, HB⟩
  isplitl [HB]; · iexact HB
  isplitl [HW]
  · iexists W'; isplitr; · ipureintro; exact fun _ _ => Or.inl trivial
    iexact HW
  iempintro

/-! ## The run -/

/-- The arrays the kernel takes, with the result's at anything, and the semaphores at rest. -/
def intoΦ (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v0) ↦{fullShare} V m c main_v0) ∗ (((c : Thread nD τ).loc main_v1) ↦{fullShare} V m c main_v1)
    ∗ (((c : Thread nD τ).loc main_v2) ↦{fullShare} V m c main_v2) ∗ (((c : Thread nD τ).loc main_v3) ↦{fullShare} V m c main_v3)
    ∗ Pipeline.ownSems0 osem c)
/-- The two arguments it reads in place, and the result. -/
def outOfΦ (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v3) ↦{fullShare} OUT m c))
/-- The arguments only the host operations read. -/
def aside (c : Dev nD) : sProp 𝕄 :=
  iprop((((c : Thread nD τ).loc main_arg2) ↦{fullShare} V m c main_arg2) ∗ (((c : Thread nD τ).loc main_arg3) ↦{fullShare} V m c main_arg3)
    ∗ (((c : Thread nD τ).loc main_arg4) ↦{fullShare} V m c main_arg4))

/-- Cutting everything up. -/
theorem into_Φ (c : Dev nD) : iprop(intoΦ m c ∗ Pipeline.scopedRest (cfg0.spec) c) ⊢ Φ m c 0 := by
  rw [scopedRest0_eq]
  unfold intoΦ Φ idle
  rw [if_pos rfl, ownSems0_eq]
  iintro ⟨⟨A0, A1, X0, W0, G0, O0, Cym0, Cym1, Cya0, Cya1, Cx0, Cx1, Cu0, Cu1, Cu2, Cl0, Cl1, Cl2, Co0, Co1, Cg⟩, Bym, Bya, Bx, Bu, Bl, Bg, Bo⟩
  ihave Aym := (entails_of_eq (ym_homes c (V m c main_arg0))) $$ A0
  ihave Aya := (entails_of_eq (ya_homes c (V m c main_arg1))) $$ A1
  ihave Ax := (entails_of_eq (x_homes c (V m c main_v0))) $$ X0
  ihave Aw := (w_split c (V m c main_v1)) $$ W0
  icases Aw with ⟨Au, Al⟩
  ihave Ao := (o_pending c (V m c main_v3)) $$ O0
  ihave Bym := (ym_split c) $$ Bym
  icases Bym with ⟨Hym0, Hym1⟩
  ihave Bya := (ya_split c) $$ Bya
  icases Bya with ⟨Hya0, Hya1⟩
  ihave Bx := (x_split c) $$ Bx
  icases Bx with ⟨Hx0, Hx1⟩
  ihave Bu := (u_split c) $$ Bu
  icases Bu with ⟨Hu0, Hu1, Hu2⟩
  ihave Bl := (l_split c) $$ Bl
  icases Bl with ⟨Hl0, Hl1, Hl2⟩
  ihave Bo := (o_split c) $$ Bo
  icases Bo with ⟨Ho0, Ho1⟩
  isplitl [Hym0 Cym0 Hym1 Cym1 Aym]
  · isplitl [Hym0 Cym0]
    · unfold ymFr
      isplitl [Hym0]; · iexact Hym0
      iexact Cym0
    isplitl [Hym1 Cym1]
    · unfold ymFr
      isplitl [Hym1]; · iexact Hym1
      iexact Cym1
    iexact Aym
  isplitl [Hya0 Cya0 Hya1 Cya1 Aya]
  · isplitl [Hya0 Cya0]
    · unfold yaFr
      isplitl [Hya0]; · iexact Hya0
      iexact Cya0
    isplitl [Hya1 Cya1]
    · unfold yaFr
      isplitl [Hya1]; · iexact Hya1
      iexact Cya1
    iexact Aya
  isplitl [Hx0 Cx0 Hx1 Cx1 Ax]
  · isplitl [Hx0 Cx0]
    · unfold xFr
      isplitl [Hx0]; · iexact Hx0
      iexact Cx0
    isplitl [Hx1 Cx1]
    · unfold xFr
      isplitl [Hx1]; · iexact Hx1
      iexact Cx1
    iexact Ax
  isplitl [Hu0 Cu0 Hu1 Cu1 Hu2 Cu2 Au]
  · isplitl [Hu0 Cu0]
    · unfold uFr
      isplitl [Hu0]; · iexact Hu0
      iexact Cu0
    isplitl [Hu1 Cu1]
    · unfold uFr
      isplitl [Hu1]; · iexact Hu1
      iexact Cu1
    isplitl [Hu2 Cu2]
    · unfold uFr
      isplitl [Hu2]; · iexact Hu2
      iexact Cu2
    iexact Au
  isplitl [Hl0 Cl0 Hl1 Cl1 Hl2 Cl2 Al]
  · isplitl [Hl0 Cl0]
    · unfold lFr
      isplitl [Hl0]; · iexact Hl0
      iexact Cl0
    isplitl [Hl1 Cl1]
    · unfold lFr
      isplitl [Hl1]; · iexact Hl1
      iexact Cl1
    isplitl [Hl2 Cl2]
    · unfold lFr
      isplitl [Hl2]; · iexact Hl2
      iexact Cl2
    iexact Al
  isplitl [Ho0 Co0 Ho1 Co1 Ao]
  · isplitl [Ho0 Co0]
    · unfold oFr
      isplitl [Ho0]; · iexact Ho0
      iexact Co0
    isplitl [Ho1 Co1]
    · unfold oFr
      isplitl [Ho1]; · iexact Ho1
      iexact Co1
    iexact Ao
  isplitl [Bg]; · iexact Bg
  isplitl [G0]; · iexact G0
  iexact Cg

/-- Putting it together again. -/
theorem of_Φ (c : Dev nD) : Φ m c 1 ⊢ iprop(outOfΦ m c ∗ Pipeline.ownSems0 osem c ∗ Pipeline.scopedRest (cfg0.spec) c) := by
  rw [scopedRest0_eq, ownSems0_eq]
  unfold outOfΦ Φ idle
  rw [if_neg (by decide)]
  unfold ymIdle ymFr
  unfold yaIdle yaFr
  unfold xIdle xFr
  unfold uIdle uFr
  unfold lIdle lFr
  unfold oFr
  iintro ⟨⟨⟨Hym0, Cym0⟩, ⟨Hym1, Cym1⟩, Aym⟩, ⟨⟨Hya0, Cya0⟩, ⟨Hya1, Cya1⟩, Aya⟩, ⟨⟨Hx0, Cx0⟩, ⟨Hx1, Cx1⟩, Ax⟩, ⟨⟨Hu0, Cu0⟩, ⟨Hu1, Cu1⟩, ⟨Hu2, Cu2⟩, Au⟩, ⟨⟨Hl0, Cl0⟩, ⟨Hl1, Cl1⟩, ⟨Hl2, Cl2⟩, Al⟩, ⟨⟨Ho0, Co0⟩, ⟨Ho1, Co1⟩, Ao⟩, Bg, -, Cg⟩
  isplitl [Aym Aya Ao]
  · isplitl [Aym]; · iapply (entails_of_eq (ym_homes c (V m c main_arg0)).symm); iexact Aym
    isplitl [Aya]; · iapply (entails_of_eq (ya_homes c (V m c main_arg1)).symm); iexact Aya
    iapply (o_done c (YM m c) (YA m c) (XX m c) (WW m c) (GG m c)); iexact Ao
  isplitl [Cym0 Cym1 Cya0 Cya1 Cx0 Cx1 Cu0 Cu1 Cu2 Cl0 Cl1 Cl2 Co0 Co1 Cg]
  · isplitl [Cym0]; · iexact Cym0
    isplitl [Cym1]; · iexact Cym1
    isplitl [Cya0]; · iexact Cya0
    isplitl [Cya1]; · iexact Cya1
    isplitl [Cx0]; · iexact Cx0
    isplitl [Cx1]; · iexact Cx1
    isplitl [Cu0]; · iexact Cu0
    isplitl [Cu1]; · iexact Cu1
    isplitl [Cu2]; · iexact Cu2
    isplitl [Cl0]; · iexact Cl0
    isplitl [Cl1]; · iexact Cl1
    isplitl [Cl2]; · iexact Cl2
    isplitl [Co0]; · iexact Co0
    isplitl [Co1]; · iexact Co1
    iexact Cg
  isplitl [Hym0 Hym1]
  · iapply (ym_join c)
    isplitl [Hym0]; · iexact Hym0
    iexact Hym1
  isplitl [Hya0 Hya1]
  · iapply (ya_join c)
    isplitl [Hya0]; · iexact Hya0
    iexact Hya1
  isplitl [Hx0 Hx1]
  · iapply (x_join c)
    isplitl [Hx0]; · iexact Hx0
    iexact Hx1
  isplitl [Hu0 Hu1 Hu2]
  · iapply (u_join c)
    isplitl [Hu0]; · iexact Hu0
    isplitl [Hu1]; · iexact Hu1
    iexact Hu2
  isplitl [Hl0 Hl1 Hl2]
  · iapply (l_join c)
    isplitl [Hl0]; · iexact Hl0
    isplitl [Hl1]; · iexact Hl1
    iexact Hl2
  isplitl [Bg]; · iexact Bg
  iapply (o_join c)
  isplitl [Ho0]; · iexact Ho0
  iexact Ho1

def u₀ : UU nD τ := (initOf (Pipeline.cells cfgs cellOf_inj) (Pipeline.launchToks cfgs cellOf_inj), 1)
/-- The end: the result as computed, the arguments as launched. -/
def QY (c : Dev nD) (s : MemSt nD τ sig (Elt F)) : Prop :=
  s.mem ((c : Thread nD τ).loc main_v3) = OUT m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem read_end (c : Dev nD) (s' : Phys nD τ sig (Elt F)) :
    iprop(outOfΦ m c ∗ aside m c ∗ SI s') ⊢ |={Set.univ}=> (iprop(⌜QY m c s'.mem⌝ ∗ SI s') : sProp 𝕄) := by
  unfold outOfΦ aside
  iintro ⟨⟨H0, H1, H5⟩, ⟨H2, H3, H4⟩, HSI⟩
  icombine HSI H0 gives %h0
  icombine HSI H1 gives %h1
  icombine HSI H2 gives %h2
  icombine HSI H3 gives %h3
  icombine HSI H4 gives %h4
  icombine HSI H5 gives %h5
  imodintro
  isplitr
  · ipureintro
    exact ⟨Buf.eq_of_forall_mem_univ h5, (Buf.eq_of_forall_mem_univ h0).trans (V_main_arg0 m c), (Buf.eq_of_forall_mem_univ h1).trans (V_main_arg1 m c),
      (Buf.eq_of_forall_mem_univ h2).trans (V_main_arg2 m c), (Buf.eq_of_forall_mem_univ h3).trans (V_main_arg3 m c), (Buf.eq_of_forall_mem_univ h4).trans (V_main_arg4 m c)⟩
  iexact HSI

set_option backward.isDefEq.respectTransparency.types false in
/-- For any float values, from any memory with zero counters: every weakly fair execution of the program terminates,
    and every final state has the result as computed, the arguments as launched and every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := intoΦ m) (Y := outOfΦ m) (Z := aside m)
    (hX := fun c => by
      rw [unscopedRest0_eq]
      unfold intoΦ aside
      iintro ⟨⟨H0, H1, H2, H3, H4, H5, H6, H7, H8⟩, HS, -, -, -⟩; imodintro
      isplitl [H0 H1 H5 H6 H7 H8 HS]
      · isplitl [H0]; · iexact H0
        isplitl [H1]; · iexact H1
        isplitl [H5]; · iexact H5
        isplitl [H6]; · iexact H6
        isplitl [H7]; · iexact H7
        isplitl [H8]; · iexact H8
        iexact HS
      isplitl [H2]; · iexact H2
      isplitl [H3]; · iexact H3
      iexact H4)
    (hin := into_Φ m)
    (hout := fun c => by
      rw [show (dats m 0 c).Φ (Fin.last cfg0.N) = Φ m c 1 from congrArg (Φ m c) N_0]
      exact of_Φ m c)
    (QY := QY m)
    (hY := read_end m)
    (hQ := fun _ hh hz => ⟨fun c => (hh c).2, hz⟩)

end Launch
end Cert.KernelIdeal
-- ==== Proof.Frames.lean ====
module

public import proofs.«01_k».proof.Defs
public import proofs.«01_k».proof.Proof.Run
public import proofs.«01_k».proof.Proof.Gen.Kernel

@[expose] public section

/-!
# The frames of the kernel

The run is stated for any float values, so the kernel's frame on bit patterns and its idealization's frame are two
readings of it.
-/

noncomputable section

namespace Cert.Proof

open Idealize.ShloMosaic Idealize.SL.Sem

/-- The idealized kernel ends with its arguments as launched and every counter at zero. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.run_main (F := Ideal) m ρ)

/-- And so does the kernel on bit patterns. -/
theorem frame_kernel : Cert.quiescent_Kernel (hKernel := Cert.Kernel.Gen.facts) := fun m ρ _ =>
  (θ_run Cert.KernelIdeal.defs _ _).mono (fun _ h => ⟨fun c => (h.1 c).2, h.2⟩) (Cert.KernelIdeal.run_main (F := Bits) m ρ)

end Cert.Proof

end
-- ==== Proof.FrameRef.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 16384

namespace Cert.Proof

open Idealize.ShloMosaic Idealize.SL.Sem

/-- The reference halts, faults nowhere and leaves its arguments and semaphores as they were. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

end Cert.Proof
-- ==== Proof.Sums.lean ====
module

public import proofs.«01_k».proof.Proof.Tiles
public import Idealize.ShloMosaic.Lib.Pointwise

@[expose] public section

/-!
# A tile at an element, over the extended reals

Each tile the kernel builds is, at an element, the residual plus the two products' sums, read at the element's place
in the arrays.
-/

set_option maxRecDepth 16384

noncomputable section

namespace Cert.KernelIdeal.Value

open Cert.KernelIdeal Cert.KernelIdeal.Gen
open Idealize.ShloMosaic Idealize.ShloMosaic.TcCoe

section Blocks
variable (c : Dev nD)
  (YM : FVec Ideal S16384x2048 .bf16) (YA : FVec Ideal S16384x2048 .bf16)
  (X : FVec Ideal S16384x4096 .f32) (W : FVec Ideal S4096x4096 .bf16)

/-- A block of the residual, of either mixer and of either half of the weights, at an element. -/
theorem x_at (b : Fin 128) (p : Fin 512) (q : Fin 1024) : (xBlk b).view.read (Elt Ideal) X (ix2 p q)
    = X (ix2 (⟨512 * (b.val / 4) + p.val, by omega⟩ : Fin 16384) (⟨1024 * (b.val % 4) + q.val, by omega⟩ : Fin 4096)) := by
  refine congrArg X (funext fun a => ?_)
  fin_cases a
  · refine Fin.ext ?_; show 512 * (b.val / 4) + 1 * p.val = 512 * (b.val / 4) + p.val; omega
  · refine Fin.ext ?_; show 1024 * (b.val % 4) + 1 * q.val = 1024 * (b.val % 4) + q.val; omega
theorem ym_at (b : Fin 32) (p : Fin 512) (q : Fin 2048) : (ymBlk b).view.read (Elt Ideal) YM (ix2 p q)
    = YM (ix2 (⟨512 * b.val + p.val, by omega⟩ : Fin 16384) q) := by
  refine congrArg YM (funext fun a => ?_)
  fin_cases a
  · refine Fin.ext ?_; show 512 * b.val + 1 * p.val = 512 * b.val + p.val; omega
  · refine Fin.ext ?_; show 0 + 1 * q.val = q.val; omega
theorem ya_at (b : Fin 32) (p : Fin 512) (q : Fin 2048) : (yaBlk b).view.read (Elt Ideal) YA (ix2 p q)
    = YA (ix2 (⟨512 * b.val + p.val, by omega⟩ : Fin 16384) q) := by
  refine congrArg YA (funext fun a => ?_)
  fin_cases a
  · refine Fin.ext ?_; show 512 * b.val + 1 * p.val = 512 * b.val + p.val; omega
  · refine Fin.ext ?_; show 0 + 1 * q.val = q.val; omega
theorem u_at (b : Fin 4) (p : Fin 2048) (q : Fin 1024) : (uBlk b).view.read (Elt Ideal) W (ix2 p q)
    = W (ix2 (⟨p.val, by omega⟩ : Fin 4096) (⟨1024 * b.val + q.val, by omega⟩ : Fin 4096)) := by
  refine congrArg W (funext fun a => ?_)
  fin_cases a
  · refine Fin.ext ?_; show 0 + 1 * p.val = p.val; omega
  · refine Fin.ext ?_; show 1024 * b.val + 1 * q.val = 1024 * b.val + q.val; omega
theorem l_at (b : Fin 4) (p : Fin 2048) (q : Fin 1024) : (lBlk b).view.read (Elt Ideal) W (ix2 p q)
    = W (ix2 (⟨2048 + p.val, by omega⟩ : Fin 4096) (⟨1024 * b.val + q.val, by omega⟩ : Fin 4096)) := by
  refine congrArg W (funext fun a => ?_)
  fin_cases a
  · refine Fin.ext ?_; show 2048 + 1 * p.val = 2048 + p.val; omega
  · refine Fin.ext ?_; show 1024 * b.val + 1 * q.val = 1024 * b.val + q.val; omega

/-- The residual plus the two products at row `r`, column `s`. -/
def sumAt (r : Fin 16384) (s : Fin 4096) : EReal :=
  X (ix2 r s) + (∑ q : Fin 2048, YM (ix2 r q) * W (ix2 (⟨q.val, by omega⟩ : Fin 4096) s))
    + ∑ q : Fin 2048, YA (ix2 r q) * W (ix2 (⟨2048 + q.val, by omega⟩ : Fin 4096) s)

/-- A tile of sums at an element. -/
theorem sumTile_at (x : FVec Ideal S512x1024 .f32) (ym : FVec Ideal S512x2048 .bf16) (u : FVec Ideal S2048x1024 .bf16) (ya : FVec Ideal S512x2048 .bf16)
    (l : FVec Ideal S2048x1024 .bf16) (p : Fin 512) (q : Fin 1024) :
    sumTile x ym u ya l (ix2 p q) = x (ix2 p q) + (∑ k : Fin 2048, ym (ix2 p k) * u (ix2 k q)) + ∑ k : Fin 2048, ya (ix2 p k) * l (ix2 k q) := by
  pointwise [sumTile]

/-- Trip `k`'s tile at an element. -/
theorem preT_at (k : ℕ) (hk : k < 128) (p : Fin 512) (q : Fin 1024) :
    preT (F := Ideal) c YM YA X W k (ix2 p q)
      = sumAt YM YA X W ⟨512 * (k / 4) + p.val, by omega⟩ ⟨1024 * (k % 4) + q.val, by omega⟩ := by
  have h1 : (Ring.sl 128 k).val = k := Nat.mod_eq_of_lt hk
  have h2 : (Ring.sl 32 (k / 4)).val = k / 4 := Nat.mod_eq_of_lt (by omega)
  have h3 : (Ring.sl 4 k).val = k % 4 := rfl
  unfold preT
  rw [sumTile_at]
  unfold sumAt
  refine congrArg₂ _ (congrArg₂ _ ?_ (Finset.sum_congr rfl fun j _ => congrArg₂ _ ?_ ?_)) (Finset.sum_congr rfl fun j _ => congrArg₂ _ ?_ ?_)
  · refine (x_at X _ p q).trans (congrArg X ?_); simp only [h1]
  · refine (ym_at YM _ p j).trans (congrArg YM ?_); simp only [h2]
  · exact u_at W _ j q
  · refine (ya_at YA _ p j).trans (congrArg YA ?_); simp only [h2]
  · exact l_at W _ j q

end Blocks
end Cert.KernelIdeal.Value
-- ==== Proof.Scale.lean ====
module

public import proofs.«01_k».proof.Proof.Sums
public import proofs.«01_k».proof.Proof.Homes

@[expose] public section

/-!
# The kernel's result at an element, over the extended reals

A row's scale is the inverse root of its mean square plus the small constant; the mean's sum over the four tiles is the
sum over the whole row.
-/

set_option maxRecDepth 16384

noncomputable section

namespace Cert.KernelIdeal.Value

open Cert.KernelIdeal Cert.KernelIdeal.Gen
open Idealize.ShloMosaic Idealize.ShloMosaic.TcCoe

/-- A row's sum is the sum of its four tiles' sums. -/
theorem row_sum (f : Fin 4096 → EReal) :
    (∑ s : Fin 4096, f s) = (∑ q : Fin 1024, f ⟨1024 * 0 + q.val, by omega⟩) + (∑ q : Fin 1024, f ⟨1024 * 1 + q.val, by omega⟩)
      + (∑ q : Fin 1024, f ⟨1024 * 2 + q.val, by omega⟩) + ∑ q : Fin 1024, f ⟨1024 * 3 + q.val, by omega⟩ := by
  have e : (∑ s : Fin 4096, f s) = ∑ x : Fin 4 × Fin 1024, f ⟨1024 * x.1.val + x.2.val, by omega⟩ := by
    refine (Fintype.sum_equiv (finProdFinEquiv (m := 4) (n := 1024)) _ f fun x => congrArg f (Fin.ext ?_)).symm
    show 1024 * x.1.val + x.2.val = x.2.val + 1024 * x.1.val
    omega
  rw [e, Fintype.sum_prod_type, Fin.sum_univ_four]
  rfl

/-- The scale of a block's rows from its four tiles. -/
theorem pay1_at (a b d e : FVec Ideal S512x1024 .f32) (p : Fin 512) :
    k0_pay1 (F := Ideal) a b d e (ix2 p 0) = Ideal.rsqrt (Ideal.div ((∑ q : Fin 1024, a (ix2 p q) * a (ix2 p q)) + (∑ q : Fin 1024, b (ix2 p q) * b (ix2 p q))
      + (∑ q : Fin 1024, d (ix2 p q) * d (ix2 p q)) + ∑ q : Fin 1024, e (ix2 p q) * e (ix2 p q)) (Ideal.ofBits .f32 0x45800000#32)
      + Ideal.ofBits .f32 0x358637BD#32) := by
  pointwise [k0_pay1]

/-- One tile after the norm. -/
theorem pay2_at (r : FVec Ideal S512x1 .f32) (x : FVec Ideal S512x1024 .f32) (g : FVec Ideal S1x1024 .f32) (p : Fin 512) (q : Fin 1024) :
    k0_pay2 (F := Ideal) r x g (ix2 p q) = x (ix2 p q) * r (ix2 p 0) * g (ix2 0 q) := by
  pointwise [k0_pay2]

section Result
variable (c : Dev nD)
  (YM : FVec Ideal S16384x2048 .bf16) (YA : FVec Ideal S16384x2048 .bf16)
  (X : FVec Ideal S16384x4096 .f32) (W : FVec Ideal S4096x4096 .bf16) (G : FVec Ideal S1x4096 .f32)

/-- Row `r`'s scale. -/
def rowScale (r : Fin 16384) : EReal :=
  Ideal.rsqrt (Ideal.div (∑ s : Fin 4096, sumAt YM YA X W r s * sumAt YM YA X W r s) (Ideal.ofBits .f32 0x45800000#32) + Ideal.ofBits .f32 0x358637BD#32)

/-- Trip `4 i + j`'s tile at an element. -/
theorem tile_at (i j : ℕ) (hi : i < 32) (hj : j < 4) (p : Fin 512) (q : Fin 1024) :
    preT (F := Ideal) c YM YA X W (4 * i + j) (ix2 p q) = sumAt YM YA X W ⟨512 * i + p.val, by omega⟩ ⟨1024 * j + q.val, by omega⟩ := by
  rw [preT_at c YM YA X W (4 * i + j) (by omega) p q]
  refine congrArg₂ _ (Fin.ext ?_) (Fin.ext ?_)
  · show 512 * ((4 * i + j) / 4) + p.val = 512 * i + p.val; omega
  · show 1024 * ((4 * i + j) % 4) + q.val = 1024 * j + q.val; omega

/-- The kernel's scale of a row is the row's. -/
theorem scale_at (i : ℕ) (hi : i < 32) (p : Fin 512) :
    scale (F := Ideal) c YM YA X W i (ix2 p 0) = rowScale YM YA X W ⟨512 * i + p.val, by omega⟩ := by
  unfold scale rowScale
  rw [pay1_at, row_sum]
  refine congrArg (fun z => Ideal.rsqrt (Ideal.div z _ + _)) ?_
  refine congrArg₂ _ (congrArg₂ _ (congrArg₂ _ ?_ ?_) ?_) ?_ <;> refine Finset.sum_congr rfl fun q _ => ?_
  · have h := tile_at c YM YA X W i 0 hi (by omega) p q; rw [Nat.add_zero] at h; rw [h]
  · rw [tile_at c YM YA X W i 1 hi (by omega) p q]
  · rw [tile_at c YM YA X W i 2 hi (by omega) p q]
  · rw [tile_at c YM YA X W i 3 hi (by omega) p q]

/-- The gain a tile reads, at a column. -/
theorem gain_at (j : ℕ) (hj : j < 4) (h) (q : Fin 1024) : gainT (F := Ideal) c G (1024 * j) h (ix2 0 q) = G (ix2 0 (⟨1024 * j + q.val, by omega⟩ : Fin 4096)) := by
  unfold gainT
  rw [View.readAt_apply]
  refine congrArg G (funext fun a => ?_)
  fin_cases a
  · rfl
  · refine Fin.ext ?_; show 1024 * j + 1 * q.val = 1024 * j + q.val; omega

/-- The kernel's result at row `r`, column `s`. -/
theorem out_at (r : Fin 16384) (s : Fin 4096) :
    outArr (F := Ideal) c YM YA X W G (ix2 r s) = sumAt YM YA X W r s * rowScale YM YA X W r * G (ix2 0 s) := by
  have hr : r.val < 16384 := r.isLt
  have hs : s.val < 4096 := s.isLt
  have e : outArr (F := Ideal) c YM YA X W G (ix2 r s)
      = outT (F := Ideal) c YM YA X W G (r.val / 512) (s.val / 1024) (by omega) (ix2 (⟨r.val % 512, by omega⟩ : Fin 512) (⟨s.val % 1024, by omega⟩ : Fin 1024)) := by
    refine congrArg (outT (F := Ideal) c YM YA X W G (r.val / 512) (s.val / 1024) (by omega)) (funext fun a => ?_)
    fin_cases a <;> rfl
  have er : (⟨512 * (r.val / 512) + r.val % 512, by omega⟩ : Fin 16384) = r := Fin.ext (by show 512 * (r.val / 512) + r.val % 512 = r.val; omega)
  have es : (⟨1024 * (s.val / 1024) + s.val % 1024, by omega⟩ : Fin 4096) = s := Fin.ext (by show 1024 * (s.val / 1024) + s.val % 1024 = s.val; omega)
  rw [e]
  unfold outT
  rw [pay2_at, tile_at c YM YA X W _ _ (by omega) (by omega), scale_at c YM YA X W _ (by omega), gain_at c G _ (by omega)]
  exact congrArg₂ _ (congrArg₂ _ (congrArg₂ _ er es) (congrArg _ er)) (congrArg (fun t => G (ix2 0 t)) es)

end Result
end Cert.KernelIdeal.Value
-- ==== Proof.RefValue.lean ====
module

public import proofs.«01_k».proof.Defs
public import proofs.«01_k».proof.Proof.Gen.ReferenceIdeal
public import Idealize.ShloMosaic.Lib.Pointwise

@[expose] public section

/-!
# The reference at an element, over the extended reals

The sum before the norm is the residual plus one product over both mixers' columns; the product's sum is split where
the two mixers meet.
-/

set_option maxRecDepth 16384

noncomputable section

namespace Cert.ReferenceIdeal.Ref

open Cert.ReferenceIdeal Cert.ReferenceIdeal.Facts Cert.ReferenceIdeal.Gen
open Idealize.ShloMosaic

variable (YM : FVec Ideal S16384x2048 .bf16) (YA : FVec Ideal S16384x2048 .bf16)
  (X : FVec Ideal S16384x4096 .f32) (W : FVec Ideal S4096x4096 .f32)

/-- The residual plus the mixers' product. -/
def pre : FVec Ideal S16384x4096 .f32 :=
  addf X (Host.dotGeneral dot_S16384x4096_S4096x4096_S16384x4096_1_0_0_1_n_n none
    (extf .f32 (concatenate S16384x4096 1 [⟨S16384x2048, YM⟩, ⟨S16384x2048, YA⟩] concatenates_S16384x2048_S16384x2048_S16384x4096_d1) bitsLt_bf16_f32) W)

/-- It at an element. -/
theorem pre_at (r : Fin 16384) (s : Fin 4096) : pre YM YA X W (ix2 r s)
    = X (ix2 r s) + (∑ q : Fin 2048, YM (ix2 r q) * W (ix2 (⟨q.val, by omega⟩ : Fin 4096) s))
      + ∑ q : Fin 2048, YA (ix2 r q) * W (ix2 (⟨2048 + q.val, by omega⟩ : Fin 4096) s) := by
  pointwise [pre]
  exact (add_assoc _ _ _).symm

/-- The norm of rows. -/
def norm (g : FVec Ideal S4096 .f32) (P : FVec Ideal S16384x4096 .f32) : FVec Ideal S16384x4096 .f32 :=
  mulf (mulf P (broadcastInDim S16384x4096 ![0, 1] bcast_S16384x1_S16384x4096_0_1 (Host.rsqrt (addf (Host.divf (broadcastInDim S16384x1 ![0] bcast_S16384_S16384x1_0 (Host.reduceAdd (mulf P P) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))

/-- It at an element. -/
theorem norm_at (g : FVec Ideal S4096 .f32) (P : FVec Ideal S16384x4096 .f32) (r : Fin 16384) (s : Fin 4096) : norm g P (ix2 r s)
    = P (ix2 r s) * Ideal.rsqrt (Ideal.div (∑ t : Fin 4096, P (ix2 r t) * P (ix2 r t)) (Ideal.ofBits .f32 0x45800000#32) + Ideal.ofBits .f32 0x358637BD#32) * g (ix1 s) := by
  pointwise [norm]

end Cert.ReferenceIdeal.Ref
-- ==== Proof.Algebraic.lean ====
module

public import proofs.«01_k».proof.Proof.Scale
public import proofs.«01_k».proof.Proof.Run
public import proofs.«01_k».proof.Proof.RefValue
public import proofs.«01_k».proof.Proof.Gen.ReferenceIdeal.Run
public import Idealize.ShloMosaic.Lib.Claim

@[expose] public section

/-!
# The kernel's result is the reference's

Both are the normed sum, element by element; the runs then agree.
-/

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (c : Dev nD)

/-- What the call's operands hold: the residual laid out as rows, -/
theorem entry_x : XX m c = shapeCast S16384x4096 (m ((c.tc : Thread nD τ).loc main_arg2)) shapeCasts_S4x4096x4096_S16384x4096 := by
  unfold XX
  entry_read
  rfl

/-- the weights, -/
theorem entry_w : WW m c = (truncf .bf16 (m ((c.tc : Thread nD τ).loc main_arg3)) bitsLt_bf16_f32 : FVec Ideal S4096x4096 .bf16) := by
  unfold WW
  entry_read
  rfl

/-- the gain as one row, -/
theorem entry_g : GG m c = shapeCast S1x4096 (m ((c.tc : Thread nD τ).loc main_arg4)) shapeCasts_S4096_S1x4096 := by
  unfold GG
  entry_read
  rfl

/-- and the mixers' two results. -/
theorem entry_ym : YM m c = m ((c.tc : Thread nD τ).loc main_arg0) := by
  unfold YM
  entry_read
  rfl
theorem entry_ya : YA m c = m ((c.tc : Thread nD τ).loc main_arg1) := by
  unfold YA
  entry_read
  rfl

/-- The gain's row at a column. -/
theorem gain_row (g : FVec Ideal S4096 .f32) (s : Fin 4096) :
    (shapeCast S1x4096 g shapeCasts_S4096_S1x4096 : FVec Ideal S1x4096 .f32) (ix2 0 s) = g (ix1 s) := by
  pointwise []

/-- The kernel's array, of operands so prepared, is the reference's. -/
theorem arrays_eq (ym ya : FVec Ideal S16384x2048 .bf16) (x : FVec Ideal S16384x4096 .f32) (w : FVec Ideal S4096x4096 .f32) (g : FVec Ideal S4096 .f32) :
    (outArr (F := Ideal) c ym ya x (truncf .bf16 w bitsLt_bf16_f32) (shapeCast S1x4096 g shapeCasts_S4096_S1x4096) : S16384x4096.Idx → EReal)
      = Cert.ReferenceIdeal.Ref.norm g (Cert.ReferenceIdeal.Ref.pre ym ya x w) := by
  funext y
  have hp : ∀ (r : Fin 16384) (s : Fin 4096),
      Cert.ReferenceIdeal.Ref.pre ym ya x w (ix2 r s) = sumAt ym ya x (truncf .bf16 w bitsLt_bf16_f32) r s :=
    fun r s => Cert.ReferenceIdeal.Ref.pre_at ym ya x w r s
  obtain ⟨r, s, rfl⟩ : ∃ (r : Fin 16384) (s : Fin 4096), y = ix2 r s := ⟨y 0, y 1, eq_ix2 y⟩
  refine (out_at c ym ya x _ _ r s).trans ((Cert.ReferenceIdeal.Ref.norm_at g _ r s).trans ?_).symm
  rw [gain_row]
  unfold rowScale
  simp only [hp]

/-- The kernel's result is the norm of the residual plus the mixers' product. -/
theorem value : OUT m c = Cert.ReferenceIdeal.Ref.norm (m ((c.tc : Thread nD τ).loc main_arg4))
    (Cert.ReferenceIdeal.Ref.pre (m ((c.tc : Thread nD τ).loc main_arg0)) (m ((c.tc : Thread nD τ).loc main_arg1))
      (shapeCast S16384x4096 (m ((c.tc : Thread nD τ).loc main_arg2)) shapeCasts_S4x4096x4096_S16384x4096)
      (m ((c.tc : Thread nD τ).loc main_arg3))) := by
  unfold OUT
  rw [entry_ym, entry_ya, entry_x, entry_w, entry_g]
  exact arrays_eq c _ _ _ _ _

end Cert.KernelIdeal.Value

namespace Cert.Proof

open Idealize.ShloMosaic Idealize.SL.Sem

/-- From memories agreeing on the arguments, the kernel and the reference end with the same result. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.OUT m c,
    (θ_run Cert.KernelIdeal.defs _ _).mono (fun r h c => h.1 c) (Cert.KernelIdeal.run_main (F := Ideal) m g),
    (θ_run Cert.ReferenceIdeal.defs _ _).mono (fun r h c => ⟨(h c).1.trans ?_, (h c).2⟩) (Cert.ReferenceIdeal.Value.run (F := Ideal) m' g')⟩
  obtain ⟨h0, h1, h2, h3, h4⟩ := hagree c
  rw [h0, h1, h2, h3, h4]
  exact (Cert.KernelIdeal.Value.value m c).symm

end Cert.Proof
-- ==== Proof.InWords.lean ====
module

public import proofs.«01_k».proof.Defs
public import proofs.«01_k».proof.Proof.Gen.Kernel2Ideal.Skeleton
public import proofs.«01_k».proof.Proof.Gen.Kernel2Ideal.Points
public import Idealize.ShloMosaic.Lib.Ring

@[expose] public section

/-!
# The first matmul's conditions and offsets

At grid point `t` the loop makes ten trips `k`, one per column tile of the weights; use `10 t + k` is what the rings
count.  Which conditions hold and where each slice lies are closed functions of `t` and `k`.
-/

noncomputable section

namespace Cert.Kernel2Ideal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem trips_eq : k0_t1_loop.trips = 10 := by decide +kernel
theorem coord_eq : ∀ t : Fin grid0.N, (grid0.coords t 0).val = t.val := by decide +kernel
set_option maxRecDepth 100000 in
theorem cond1_iff : ∀ t : Fin grid0.N, k0_cond1 (grid0.coords t) = 1#1 ↔ t.val = 0 := by decide +kernel
set_option maxRecDepth 100000 in
theorem cond4_iff : ∀ t : Fin grid0.N, k0_cond4 (grid0.coords t) = 1#1 ↔ t.val = 31 := by decide +kernel
set_option maxRecDepth 100000 in
theorem cond2_iff : ∀ (t : Fin grid0.N) (k : Fin k0_t1_loop.trips), k0_cond2 (grid0.coords t) k = 1#1 ↔ 10 * t.val + k.val < 319 := by decide +kernel
set_option maxRecDepth 100000 in
theorem cond3_iff : ∀ (t : Fin grid0.N) (k : Fin k0_t1_loop.trips), k0_cond3 (grid0.coords t) k = 1#1 ↔ 2 ≤ 10 * t.val + k.val := by decide +kernel

set_option maxRecDepth 100000 in
theorem off1_at : ∀ k : Fin k0_t1_loop.trips, k0_off1 k = ![k.val % 2] := by decide +kernel
set_option maxRecDepth 100000 in
theorem off2_at : ∀ k : Fin k0_t1_loop.trips, k0_off2 k = ![k.val % 2, 0, 0] := by decide +kernel
set_option maxRecDepth 100000 in
theorem off3_at : ∀ k : Fin k0_t1_loop.trips, k0_off3 k = ![1536 * (k.val % 10), 0] := by decide +kernel
set_option maxRecDepth 100000 in
theorem off4_at : ∀ k : Fin k0_t1_loop.trips, k0_off4 k = ![(k.val + 1) % 2] := by decide +kernel
set_option maxRecDepth 100000 in
theorem off5_at : ∀ k : Fin k0_t1_loop.trips, k0_off5 k = ![(k.val + 1) % 2, 0, 0] := by decide +kernel
set_option maxRecDepth 100000 in
theorem off6_at : ∀ k : Fin k0_t1_loop.trips, k0_off6 k = ![1536 * ((k.val + 1) % 10), 0] := by decide +kernel
set_option maxRecDepth 100000 in
theorem off7_at : ∀ k : Fin k0_t1_loop.trips, k0_off7 k = ![k.val % 2] := by decide +kernel
set_option maxRecDepth 100000 in
theorem off8_at : ∀ (t : Fin grid0.N) (k : Fin k0_t1_loop.trips), k0_off8 (grid0.coords t) k = ![512 * (((10 * t.val + k.val) % 320) / 10), 1536 * (((10 * t.val + k.val) % 320) % 10)] := by decide +kernel
set_option maxRecDepth 100000 in
theorem off9_at : ∀ k : Fin k0_t1_loop.trips, k0_off9 k = ![k.val % 2, 0, 0] := by decide +kernel
set_option maxRecDepth 100000 in
theorem off10_at : ∀ k : Fin k0_t1_loop.trips, k0_off10 k = ![k.val % 2, 0, 0] := by decide +kernel
set_option maxRecDepth 100000 in
theorem off11_at : ∀ k : Fin k0_t1_loop.trips, k0_off11 k = ![k.val % 2, 0, 0] := by decide +kernel
set_option maxRecDepth 100000 in
theorem off12_at : ∀ (t : Fin grid0.N) (k : Fin k0_t1_loop.trips), k0_off12 (grid0.coords t) k = ![512 * (((10 * t.val + k.val) % 320) / 10), 1536 * (((10 * t.val + k.val) % 320) % 10)] := by decide +kernel
set_option maxRecDepth 100000 in
theorem off13_at : ∀ k : Fin k0_t1_loop.trips, k0_off13 k = ![k.val % 2, 0, 0] := by decide +kernel
set_option maxRecDepth 100000 in
theorem off14_at : k0_off14 (grid0.coords ⟨31, by decide⟩) = ![512 * 31, 1536 * 8] := by decide +kernel
set_option maxRecDepth 100000 in
theorem off15_at : k0_off15 (grid0.coords ⟨31, by decide⟩) = ![512 * 31, 1536 * 9] := by decide +kernel

end Cert.Kernel2Ideal
-- ==== Proof.InNames.lean ====
module

public import proofs.«01_k».proof.Proof.InWords
public import proofs.«01_k».proof.Proof.Gen.Kernel2Ideal.Launch
public import proofs.«01_k».proof.Proof.Gen.Kernel2Ideal.Loops
public import Idealize.ShloMosaic.Lib.Pipeline.Value
public import Idealize.ShloMosaic.Lib.WritesUnit
public import Idealize.ShloMosaic.Lib.Pipeline.KitQuiescent
public import Idealize.ShloMosaic.Lib.Ring
public import Idealize.ShloMosaic.Lib.Tactic

@[expose] public section

/-!
# The first matmul's blocks and slots

Names for the slots of the two rings, the semaphores and the blocks in HBM, and the pieces the proof moves about: a
slot held, a block at home, a copy in flight.
-/

noncomputable section

namespace Cert.Kernel2Ideal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## the weights -/

abbrev wBuf : Memref sig .tc .vmem S2x1536x4096 .bf16 := Memref.whole cc0_scratch1
abbrev wArr : Memref sig .tc .hbm S15360x4096 .bf16 := Memref.whole main_arg2
abbrev wSlotOff (s : Fin 2) : Fin 3 → Nat := ![s.val, 0, 0]
theorem wSlotOff_inb (s : Fin 2) : ∀ a, wSlotOff s a + S1x1536x4096.size a ≤ S2x1536x4096.size a := by revert s; decide +kernel
abbrev wSemOff (s : Fin 2) : Fin 1 → Nat := ![s.val]
theorem wSemOff_inb (s : Fin 2) : ∀ a, wSemOff s a + S1.size a ≤ S2.size a := by revert s; decide +kernel
abbrev wBlkOff (b : Fin 10) : Fin 2 → Nat := ![1536 * b.val, 0]
set_option maxRecDepth 100000 in
theorem wBlkOff_inb (b : Fin 10) : ∀ a, wBlkOff b a + S1536x4096.size a ≤ S15360x4096.size a := by revert b; decide +kernel
/-- Slot `s` of the ring: the weights. -/
def wSlot (s : Fin 2) : Memref sig .tc .vmem S1536x4096 .bf16 :=
  (wBuf.slice (Rect.unit (s := S2x1536x4096) (wSlotOff s) S1x1536x4096.size (wSlotOff_inb s)) (fun _ => rfl)).squeeze S1536x4096 squeezes_S1x1536x4096_S1536x4096
/-- Its semaphore. -/
def wSem (s : Fin 2) : DmaSems sig S_ := (cc0_scratch3.slice (Rect.unit (s := S2) (wSemOff s) S1.size (wSemOff_inb s))).squeeze S_ squeezes_S1_S_
/-- Block `b` in HBM: the weights. -/
def wBlk (b : Fin 10) : Memref sig .tc .hbm S1536x4096 .bf16 :=
  wArr.slice (Rect.unit (s := S15360x4096) (wBlkOff b) S1536x4096.size (wBlkOff_inb b)) (fun _ => rfl)

instance (s : Fin 2) : ClosedOff (wSlotOff s) := ⟨wSlotOff s, rfl⟩
instance (b : Fin 10) : ClosedOff (wBlkOff b) := ⟨wBlkOff b, rfl⟩

theorem wSem_congr {off : Fin 1 → Nat} {s : Fin 2} (e : off = wSemOff s) (hh) :
    (cc0_scratch3.slice (Rect.unit (s := S2) off S1.size hh)).squeeze S_ squeezes_S1_S_ = wSem s :=
  congrArg (fun A : DmaSems sig S1 => A.squeeze S_ squeezes_S1_S_) (SemArray.slice_unit_congr _ e _ _)
theorem wSlot_congr {off : Fin 3 → Nat} {s : Fin 2} (e : off = wSlotOff s) (hh hs) :
    (wBuf.slice (Rect.unit (s := S2x1536x4096) off S1x1536x4096.size hh) hs).squeeze S1536x4096 squeezes_S1x1536x4096_S1536x4096 = wSlot s :=
  congrArg (fun M : Memref sig .tc .vmem S1x1536x4096 .bf16 => M.squeeze S1536x4096 squeezes_S1x1536x4096_S1536x4096) (Memref.slice_unit_congr _ e _ _ _ _)
theorem wBlk_congr {off : Fin 2 → Nat} {b : Fin 10} (e : off = wBlkOff b) (hh hs) :
    wArr.slice (Rect.unit (s := S15360x4096) off S1536x4096.size hh) hs = wBlk b := Memref.slice_unit_congr _ e _ _ _ (fun _ => rfl)

/-! ## the result -/

abbrev oBuf : Memref sig .tc .vmem S2x512x1536 .bf16 := Memref.whole cc0_scratch2
abbrev oArr : Memref sig .tc .hbm S16384x15360 .bf16 := Memref.whole main_v2_0
abbrev oSlotOff (s : Fin 2) : Fin 3 → Nat := ![s.val, 0, 0]
theorem oSlotOff_inb (s : Fin 2) : ∀ a, oSlotOff s a + S1x512x1536.size a ≤ S2x512x1536.size a := by revert s; decide +kernel
abbrev oSemOff (s : Fin 2) : Fin 1 → Nat := ![s.val]
theorem oSemOff_inb (s : Fin 2) : ∀ a, oSemOff s a + S1.size a ≤ S2.size a := by revert s; decide +kernel
abbrev oBlkOff (b : Fin 320) : Fin 2 → Nat := ![512 * (b.val / 10), 1536 * (b.val % 10)]
set_option maxRecDepth 100000 in
theorem oBlkOff_inb (b : Fin 320) : ∀ a, oBlkOff b a + S512x1536.size a ≤ S16384x15360.size a := by revert b; decide +kernel
/-- Slot `s` of the ring: the result. -/
def oSlot (s : Fin 2) : Memref sig .tc .vmem S512x1536 .bf16 :=
  (oBuf.slice (Rect.unit (s := S2x512x1536) (oSlotOff s) S1x512x1536.size (oSlotOff_inb s)) (fun _ => rfl)).squeeze S512x1536 squeezes_S1x512x1536_S512x1536
/-- Its semaphore. -/
def oSem (s : Fin 2) : DmaSems sig S_ := (cc0_scratch4.slice (Rect.unit (s := S2) (oSemOff s) S1.size (oSemOff_inb s))).squeeze S_ squeezes_S1_S_
/-- Block `b` in HBM: the result. -/
def oBlk (b : Fin 320) : Memref sig .tc .hbm S512x1536 .bf16 :=
  oArr.slice (Rect.unit (s := S16384x15360) (oBlkOff b) S512x1536.size (oBlkOff_inb b)) (fun _ => rfl)

instance (s : Fin 2) : ClosedOff (oSlotOff s) := ⟨oSlotOff s, rfl⟩
instance (b : Fin 320) : ClosedOff (oBlkOff b) := ⟨oBlkOff b, rfl⟩

theorem oSem_congr {off : Fin 1 → Nat} {s : Fin 2} (e : off = oSemOff s) (hh) :
    (cc0_scratch4.slice (Rect.unit (s := S2) off S1.size hh)).squeeze S_ squeezes_S1_S_ = oSem s :=
  congrArg (fun A : DmaSems sig S1 => A.squeeze S_ squeezes_S1_S_) (SemArray.slice_unit_congr _ e _ _)
theorem oSlot_congr {off : Fin 3 → Nat} {s : Fin 2} (e : off = oSlotOff s) (hh hs) :
    (oBuf.slice (Rect.unit (s := S2x512x1536) off S1x512x1536.size hh) hs).squeeze S512x1536 squeezes_S1x512x1536_S512x1536 = oSlot s :=
  congrArg (fun M : Memref sig .tc .vmem S1x512x1536 .bf16 => M.squeeze S512x1536 squeezes_S1x512x1536_S512x1536) (Memref.slice_unit_congr _ e _ _ _ _)
theorem oBlk_congr {off : Fin 2 → Nat} {b : Fin 320} (e : off = oBlkOff b) (hh hs) :
    oArr.slice (Rect.unit (s := S16384x15360) off S512x1536.size hh) hs = oBlk b := Memref.slice_unit_congr _ e _ _ _ (fun _ => rfl)

/-! ## The slices of a trip -/

@[sl_canon] theorem wSemNow (k : Fin k0_t1_loop.trips) (hh) : (cc0_scratch3.slice (Rect.unit (s := S2) (k0_off1 k) S1.size hh)).squeeze S_ squeezes_S1_S_ = wSem (Ring.sl 2 k.val) := wSem_congr (off1_at k) _
@[sl_canon] theorem wSlotNow (k : Fin k0_t1_loop.trips) (hh hs) : (wBuf.slice (Rect.unit (s := S2x1536x4096) (k0_off2 k) S1x1536x4096.size hh) hs).squeeze S1536x4096 squeezes_S1x1536x4096_S1536x4096 = wSlot (Ring.sl 2 k.val) := wSlot_congr (off2_at k) _ _
@[sl_canon] theorem wBlkNow (k : Fin k0_t1_loop.trips) (hh hs) : wArr.slice (Rect.unit (s := S15360x4096) (k0_off3 k) S1536x4096.size hh) hs = wBlk (Ring.sl 10 k.val) := wBlk_congr (off3_at k) _ _
@[sl_canon] theorem wSemAsk (k : Fin k0_t1_loop.trips) (hh) : (cc0_scratch3.slice (Rect.unit (s := S2) (k0_off4 k) S1.size hh)).squeeze S_ squeezes_S1_S_ = wSem (Ring.sl 2 (k.val + 1)) := wSem_congr (off4_at k) _
@[sl_canon] theorem wSlotAsk (k : Fin k0_t1_loop.trips) (hh hs) : (wBuf.slice (Rect.unit (s := S2x1536x4096) (k0_off5 k) S1x1536x4096.size hh) hs).squeeze S1536x4096 squeezes_S1x1536x4096_S1536x4096 = wSlot (Ring.sl 2 (k.val + 1)) := wSlot_congr (off5_at k) _ _
@[sl_canon] theorem wBlkAsk (k : Fin k0_t1_loop.trips) (hh hs) : wArr.slice (Rect.unit (s := S15360x4096) (k0_off6 k) S1536x4096.size hh) hs = wBlk (Ring.sl 10 (k.val + 1)) := wBlk_congr (off6_at k) _ _
@[sl_canon] theorem oSemPrev (k : Fin k0_t1_loop.trips) (hh) : (cc0_scratch4.slice (Rect.unit (s := S2) (k0_off7 k) S1.size hh)).squeeze S_ squeezes_S1_S_ = oSem (Ring.sl 2 k.val) := oSem_congr (off7_at k) _
@[sl_canon] theorem oBlkPrev (t : Fin grid0.N) (k : Fin k0_t1_loop.trips) (hh hs) : oArr.slice (Rect.unit (s := S16384x15360) (k0_off8 (grid0.coords t) k) S512x1536.size hh) hs = oBlk (Ring.sl 320 (10 * t.val + k.val)) := oBlk_congr (off8_at t k) _ _
@[sl_canon] theorem oSlotPrev (k : Fin k0_t1_loop.trips) (hh hs) : (oBuf.slice (Rect.unit (s := S2x512x1536) (k0_off9 k) S1x512x1536.size hh) hs).squeeze S512x1536 squeezes_S1x512x1536_S512x1536 = oSlot (Ring.sl 2 k.val) := oSlot_congr (off9_at k) _ _
@[sl_canon] theorem oSemNow (k : Fin k0_t1_loop.trips) (hh) : (cc0_scratch4.slice (Rect.unit (s := S2) (k0_off1 k) S1.size hh)).squeeze S_ squeezes_S1_S_ = oSem (Ring.sl 2 k.val) := oSem_congr (off1_at k) _
@[sl_canon] theorem oBlkNow (t : Fin grid0.N) (k : Fin k0_t1_loop.trips) (hh hs) : oArr.slice (Rect.unit (s := S16384x15360) (k0_off12 (grid0.coords t) k) S512x1536.size hh) hs = oBlk (Ring.sl 320 (10 * t.val + k.val)) := oBlk_congr (off12_at t k) _ _
@[sl_canon] theorem oSlotNow (k : Fin k0_t1_loop.trips) (hh hs) : (oBuf.slice (Rect.unit (s := S2x512x1536) (k0_off13 k) S1x512x1536.size hh) hs).squeeze S512x1536 squeezes_S1x512x1536_S512x1536 = oSlot (Ring.sl 2 k.val) := oSlot_congr (off13_at k) _ _
@[sl_canon] theorem wSemFirst (hh) : (cc0_scratch3.slice (Rect.unit (s := S2) ![0] S1.size hh)).squeeze S_ squeezes_S1_S_ = wSem 0 := wSem_congr (s := 0) rfl _
@[sl_canon] theorem wSlotFirst (hh hs) : (wBuf.slice (Rect.unit (s := S2x1536x4096) ![0, 0, 0] S1x1536x4096.size hh) hs).squeeze S1536x4096 squeezes_S1x1536x4096_S1536x4096 = wSlot 0 := wSlot_congr (s := 0) rfl _ _
@[sl_canon] theorem wBlkFirst (hh hs) : wArr.slice (Rect.unit (s := S15360x4096) ![0, 0] S1536x4096.size hh) hs = wBlk 0 := wBlk_congr (b := 0) rfl _ _
@[sl_canon] theorem oSemEnd0 (hh) : (cc0_scratch4.slice (Rect.unit (s := S2) ![0] S1.size hh)).squeeze S_ squeezes_S1_S_ = oSem 0 := oSem_congr (s := 0) rfl _
@[sl_canon] theorem oSlotEnd0 (hh hs) : (oBuf.slice (Rect.unit (s := S2x512x1536) ![0, 0, 0] S1x512x1536.size hh) hs).squeeze S512x1536 squeezes_S1x512x1536_S512x1536 = oSlot 0 := oSlot_congr (s := 0) rfl _ _
@[sl_canon] theorem oSemEnd1 (hh) : (cc0_scratch4.slice (Rect.unit (s := S2) ![1] S1.size hh)).squeeze S_ squeezes_S1_S_ = oSem 1 := oSem_congr (s := 1) rfl _
@[sl_canon] theorem oSlotEnd1 (hh hs) : (oBuf.slice (Rect.unit (s := S2x512x1536) ![1, 0, 0] S1x512x1536.size hh) hs).squeeze S512x1536 squeezes_S1x512x1536_S512x1536 = oSlot 1 := oSlot_congr (s := 1) rfl _ _
@[sl_canon] theorem oBlkEnd0 (hh hs) : oArr.slice (Rect.unit (s := S16384x15360) (k0_off14 (grid0.coords ⟨31, by decide⟩)) S512x1536.size hh) hs = oBlk 318 := oBlk_congr off14_at _ _
@[sl_canon] theorem oBlkEnd1 (hh hs) : oArr.slice (Rect.unit (s := S16384x15360) (k0_off15 (grid0.coords ⟨31, by decide⟩)) S512x1536.size hh) hs = oBlk 319 := oBlk_congr off15_at _ _

instance (k : Fin k0_t1_loop.trips) : ClosedOff (k0_off10 k) := ⟨wSlotOff (Ring.sl 2 k.val), off10_at k⟩
instance (k : Fin k0_t1_loop.trips) : ClosedOff (k0_off11 k) := ⟨oSlotOff (Ring.sl 2 k.val), off11_at k⟩

/-! ## The pieces -/

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD)

/-- The semaphore of slot `s` at rest. -/
abbrev wCell (s : Fin 2) : sProp 𝕄 := semVal ((c : Thread nD τ), SemLoc.dma (wSem s).sem) 0
/-- Slot `s` held with contents `f`. -/
abbrev wHeld (s : Fin 2) (f : Buf (Elt F) ((wSlot s).view.loc (c : Thread nD τ))) : sProp 𝕄 :=
  (wSlot s).view.loc (c : Thread nD τ) ↦[(wSlot s).view.set]{fullShare} f
/-- Block `b` held in HBM at the array's contents. -/
abbrev wHome (A : Buf (Elt F) (wArr.view.loc (c : Thread nD τ))) (b : Fin 10) : sProp 𝕄 :=
  (wBlk b).view.loc (c : Thread nD τ) ↦[(wBlk b).view.set]{fullShare} A
/-- The semaphore of slot `s` at rest. -/
abbrev oCell (s : Fin 2) : sProp 𝕄 := semVal ((c : Thread nD τ), SemLoc.dma (oSem s).sem) 0
/-- Slot `s` held with contents `f`. -/
abbrev oHeld (s : Fin 2) (f : Buf (Elt F) ((oSlot s).view.loc (c : Thread nD τ))) : sProp 𝕄 :=
  (oSlot s).view.loc (c : Thread nD τ) ↦[(oSlot s).view.set]{fullShare} f
/-- Block `b` held in HBM at the array's contents. -/
abbrev oHome (A : Buf (Elt F) (oArr.view.loc (c : Thread nD τ))) (b : Fin 320) : sProp 𝕄 :=
  (oBlk b).view.loc (c : Thread nD τ) ↦[(oBlk b).view.set]{fullShare} A
/-- Slot `s` of the weights after block `b` has landed over `f`. -/
abbrev wLanded (A : Buf (Elt F) (wArr.view.loc (c : Thread nD τ))) (s : Fin 2) (b : Fin 10) (f : Buf (Elt F) ((wSlot s).view.loc (c : Thread nD τ))) : Buf (Elt F) ((wSlot s).view.loc (c : Thread nD τ)) :=
  (wSlot s).view.writes (Elt F) f [⟨Rect.whole S1536x4096, ReadAs.same.apply ((wBlk b).view.read (Elt F) A)⟩]
/-- Slot `s` of the weights in flight with block `b`. -/
abbrev wFlight (A : Buf (Elt F) (wArr.view.loc (c : Thread nD τ))) (s : Fin 2) (b : Fin 10) (f : Buf (Elt F) ((wSlot s).view.loc (c : Thread nD τ))) : sProp 𝕄 :=
  Transfers.Flight countersEmb (c : Thread nD τ) (SemLoc.dma (wSem s).sem) () 393216 iprop(wHeld c s (wLanded c A s b f) ∗ wHome c A b)
/-- Slot `s` of the result on its way out to block `b`. -/
abbrev oFlight (s : Fin 2) (b : Fin 320) (f : Buf (Elt F) ((oSlot s).view.loc (c : Thread nD τ))) (g : Buf (Elt F) (oArr.view.loc (c : Thread nD τ))) : sProp 𝕄 :=
  Transfers.Flight countersEmb (c : Thread nD τ) (SemLoc.dma (oSem s).sem) () 49152
    iprop(oHome c ((oBlk b).view.writes (Elt F) g [⟨Rect.whole S512x1536, ReadAs.same.apply ((oSlot s).view.read (Elt F) f)⟩]) b ∗ oHeld c s f)

/-- A slot of the weights free, one in flight. -/
def wFr (s : Fin 2) : sProp 𝕄 := iprop((∃ f, wHeld (F := F) c s f) ∗ wCell (F := F) c s)
def wFl (W : Buf (Elt F) (wArr.view.loc (c : Thread nD τ))) (s : Fin 2) (b : Fin 10) : sProp 𝕄 := iprop(∃ f, wFlight c W s b f)
/-- A slot of the result free. -/
def oFr (s : Fin 2) : sProp 𝕄 := iprop((∃ f, oHeld (F := F) c s f) ∗ oCell (F := F) c s)

variable (HH : ℕ → FVec F S512x4096 .bf16) (W : Buf (Elt F) (wArr.view.loc (c : Thread nD τ)))

/-- One tile: a block of normed rows times a block of the weights' rows, rounded. -/
def tile (h : FVec F S512x4096 .bf16) (w : FVec F S1536x4096 .bf16) : FVec F S512x1536 .bf16 :=
  truncf .bf16 (matmul dot_S512x4096_S1536x4096_S512x1536_1_1_0_0_n_n none h w (constant S512x1536 .f32 0x00000000#32)) bitsLt_bf16_f32
/-- Block `b` of the result, from the normed rows `HH i` of each grid point. -/
def outBlk (b : ℕ) : FVec F S512x1536 .bf16 := tile (HH (b / 10)) ((wBlk (Ring.sl 10 b)).view.read (Elt F) W)
/-- Block `b` on its way out. -/
def oFy (b : ℕ) : sProp 𝕄 := iprop(∃ f g, ⌜(oSlot (Ring.sl 2 b)).view.read (Elt F) f = outBlk c HH W b⌝ ∗ oFlight c (Ring.sl 2 b) (Ring.sl 320 b) f g)
/-- A block of the result before it is written, and after. -/
def oPd (b : Fin 320) : sProp 𝕄 := iprop(∃ g, oHome (F := F) c g b)
def oDn (b : Fin 320) : sProp 𝕄 := iprop(∃ g, ⌜(oBlk b).view.read (Elt F) g = outBlk c HH W b.val⌝ ∗ oHome (F := F) c g b)

/-- Block `b` once its slot has been copied there. -/
theorem oBlk_wrote (b : ℕ) (h : b < 320) (g : Buf (Elt F) (oArr.view.loc (c : Thread nD τ))) (p : S512x1536.Idx → Elt F .bf16)
    (hp : p = outBlk c HH W b) :
    (oBlk (Ring.sl 320 b)).view.read (Elt F) ((oBlk (Ring.sl 320 b)).view.writes (Elt F) g
      [⟨Rect.whole S512x1536, ReadAs.same.apply p⟩]) = outBlk c HH W (Ring.sl 320 b).val := by
  have e : (Ring.sl 320 b).val = b := Nat.mod_eq_of_lt h
  rw [e, ← hp]
  exact View.read_writes_whole (oBlk (Ring.sl 320 b)).view g p

/-- A slot of the weights, loaded after a block has landed in it, is that block. -/
theorem w_load (s : Fin 2) {off : Fin 3 → Nat} (h : off = wSlotOff s) (inb) (f) (p : S1536x4096.Idx → Elt F .bf16) :
    shapeCast S1536x4096 (View.readAt (Elt F) wBuf.view (Rect.unit (s := S2x1536x4096) off S1x1536x4096.size inb).toLoadRect
      ((wSlot s).view.writes (Elt F) f [⟨Rect.whole S1536x4096, p⟩])) shapeCasts_S1x1536x4096_S1536x4096 = p := by
  subst h
  exact ((Memref.read_squeeze_slice (Val := Elt F) wBuf _ (fun _ => rfl) squeezes_S1x1536x4096_S1536x4096 shapeCasts_S1x1536x4096_S1536x4096 _).symm).trans
    (View.read_writes_whole (wSlot s).view f p)

/-- A slot of the result, after a tile has been stored in it through the whole buffer, is that tile. -/
theorem o_store (s : Fin 2) {off : Fin 3 → Nat} (h : off = oSlotOff s) (inb) (f) (p : S512x1536.Idx → Elt F .bf16) :
    (oSlot s).view.read (Elt F) (oBuf.view.writes (Elt F) f
      [⟨Rect.unit (s := S2x512x1536) off S1x512x1536.size inb, shapeCast S1x512x1536 p shapeCasts_S512x1536_S1x512x1536⟩]) = p := by
  subst h
  refine (Memref.read_squeeze_slice (Val := Elt F) oBuf _ (fun _ => rfl) squeezes_S1x512x1536_S512x1536 shapeCasts_S1x512x1536_S512x1536 _).trans ?_
  have e : (View.readAt (Elt F) oBuf.view (Rect.unit (s := S2x512x1536) (oSlotOff s) S1x512x1536.size inb).toLoadRect (oBuf.view.writes (Elt F) f
      [⟨Rect.unit (s := S2x512x1536) (oSlotOff s) S1x512x1536.size inb, shapeCast S1x512x1536 p shapeCasts_S512x1536_S1x512x1536⟩]))
      = shapeCast S1x512x1536 p shapeCasts_S512x1536_S1x512x1536 := by
    funext y
    refine (View.read_writes_cons_unit_of_mem (Val := Elt F) oBuf.view f inb _ [] _ y rfl ?_)
    intro a
    show oSlotOff s a + 1 * (y a).val = oSlotOff s a + (y a).val
    rw [Nat.one_mul]
  refine (congrArg (fun v => shapeCast S512x1536 v shapeCasts_S1x512x1536_S512x1536) e).trans ?_
  exact shapeCast_shapeCast p _ _

end Pieces
end Cert.Kernel2Ideal
-- ==== Proof.InTrip.lean ====
module

public import proofs.«01_k».proof.Proof.InNames

@[expose] public section

/-!
# A trip of the first matmul's loop

Each trip waits for its block of the weights, asks for the next, frees the slot of the result it is about to fill, and
sends the tile on its way.  Three kinds: the first two uses find the result's slots free, the last asks for nothing.
-/

noncomputable section

namespace Cert.Kernel2Ideal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (HH : ℕ → FVec F S512x4096 .bf16) (W : Buf (Elt F) (wArr.view.loc (c : Thread nD τ)))
  (a1 : Memref sig .tc .vmem S512x4096 .f32) (h1 : a1.IsWhole) (a2 : Memref sig .tc .vmem S1x4096 .f32) (h2 : a2.IsWhole)
  (a4 : Memref sig .tc .vmem S128x4096 .bf16) (h4 : a4.IsWhole) (a6 : Memref sig .tc .vmem S512x128 .f32) (h6 : a6.IsWhole)

/-- The normed rows' buffer held at `H`. -/
abbrev hHeld (H : Buf (Elt F) ((Memref.whole cc0_scratch0 : Memref sig .tc _ _ _).view.loc (c : Thread nD τ))) : sProp 𝕄 :=
  (Memref.whole cc0_scratch0 : Memref sig .tc _ _ _).view.loc (c : Thread nD τ) ↦{fullShare} H
/-- What a load of all of it reads. -/
abbrev hRead (H : Buf (Elt F) ((Memref.whole cc0_scratch0 : Memref sig .tc _ _ _).view.loc (c : Thread nD τ))) : FVec F S512x4096 .bf16 :=
  View.readAt (Elt F) (Memref.whole cc0_scratch0 : Memref sig .tc _ _ _).view (Rect.unit (s := S512x4096) ![0, 0] S512x4096.size inb_S512x4096_S512x4096_0_0).toLoadRect H

/-- The region of the loop at grid point `t`, on the call's own buffers. -/
abbrev trip (t : Fin grid0.N) (k : Fin k0_t1_loop.trips) (acc : Unit) : Prog (TpuEff nD τ sig (Elt F) Λ₀ .tc) Unit :=
  k0_t1_body (F := F) (grid0.coords t) a1 h1 a2 h2 wArr (Memref.isWhole_whole _) a4 h4 oArr (Memref.isWhole_whole _) a6 h6
    (Memref.whole cc0_scratch0) (Memref.isWhole_whole _) wBuf (Memref.isWhole_whole _) oBuf (Memref.isWhole_whole _) cc0_scratch3 cc0_scratch4
    (BitVec.ofNat 32 (grid0.coords t 0).val) k acc

/-- The tile a trip stores is the block it sends. -/
theorem o_value (t : Fin grid0.N) (k : Fin k0_t1_loop.trips) (h1 h2) (f) (g) (h : FVec F S512x4096 .bf16) (hh : h = HH t.val) :
    (oSlot (Ring.sl 2 k.val)).view.read (Elt F) (oBuf.view.writes (Elt F) f [⟨Rect.unit (s := S2x512x1536) (k0_off11 k) S1x512x1536.size h1,
      k0_pay4 (F := F) h (View.readAt (Elt F) wBuf.view (Rect.unit (s := S2x1536x4096) (k0_off10 k) S1x1536x4096.size h2).toLoadRect
        (wLanded c W (Ring.sl 2 k.val) (Ring.sl 10 k.val) g))⟩]) = outBlk c HH W (10 * t.val + k.val) := by
  have hk : k.val < 10 := by have := k.isLt; have e := trips_eq; omega
  have e1 : (10 * t.val + k.val) / 10 = t.val := by omega
  have e2 : Ring.sl 10 (10 * t.val + k.val) = Ring.sl 10 k.val := Fin.ext (by show (10 * t.val + k.val) % 10 = k.val % 10; omega)
  unfold outBlk
  rw [e1, e2, ← hh]
  have e3 : k0_pay4 (F := F) h (View.readAt (Elt F) wBuf.view (Rect.unit (s := S2x1536x4096) (k0_off10 k) S1x1536x4096.size h2).toLoadRect
        (wLanded c W (Ring.sl 2 k.val) (Ring.sl 10 k.val) g))
      = shapeCast S1x512x1536 (tile h ((wBlk (Ring.sl 10 k.val)).view.read (Elt F) W)) shapeCasts_S512x1536_S1x512x1536 := by
    show shapeCast S1x512x1536 (tile h (shapeCast S1536x4096 _ shapeCasts_S1x1536x4096_S1536x4096)) shapeCasts_S512x1536_S1x512x1536 = _
    rw [w_load _ (off10_at k)]
  rw [e3]
  exact o_store (Ring.sl 2 k.val) (off11_at k) h1 f _

set_option maxHeartbeats 8000000 in
/-- A trip in the middle. -/
theorem trip_mid (t : Fin grid0.N) (k : Fin k0_t1_loop.trips) (hlo : 2 ≤ 10 * t.val + k.val) (hhi : 10 * t.val + k.val < 319)
    (H : Buf (Elt F) ((Memref.whole cc0_scratch0 : Memref sig .tc _ _ _).view.loc (c : Thread nD τ))) (hH : hRead c H = HH t.val) :
    iprop((∃ O, owes (c : Thread nD τ) 0 O)
      ∗ (wFl c W (Ring.sl 2 k.val) (Ring.sl 10 k.val) ∗ wFr (F := F) c (Ring.sl 2 (k.val + 1)) ∗ wHome c W (Ring.sl 10 (k.val + 1)))
      ∗ hHeld c H
      ∗ oFy c HH W (10 * t.val + k.val - 2)
      ∗ oPd (F := F) c (Ring.sl 320 (10 * t.val + k.val)))
    ⊢ wp frame (wpE (defs₀ (F := F)) 𝒱₀ (c : Thread nD τ) none) Set.univ (trip a1 h1 a2 h2 a4 h4 a6 h6 t k ⟨⟩) (fun _ => iprop(
      (∃ O, owes (c : Thread nD τ) 0 O)
      ∗ (wFl c W (Ring.sl 2 (k.val + 1)) (Ring.sl 10 (k.val + 1)) ∗ wFr (F := F) c (Ring.sl 2 k.val) ∗ wHome c W (Ring.sl 10 k.val))
      ∗ hHeld c H
      ∗ oFy c HH W (10 * t.val + k.val)
      ∗ oDn c HH W (Ring.sl 320 (10 * t.val + k.val - 2)))) := by
  have ht : t.val < 32 := t.isLt
  have hk : k.val < 10 := by have := k.isLt; have e := trips_eq; omega
  have es : Ring.sl 2 (10 * t.val + k.val) = Ring.sl 2 k.val := Fin.ext (by show (10 * t.val + k.val) % 2 = k.val % 2; omega)
  have ep : Ring.sl 2 (10 * t.val + k.val - 2) = Ring.sl 2 k.val := Fin.ext (by show (10 * t.val + k.val - 2) % 2 = k.val % 2; omega)
  have k0_h2 := (cond2_iff t k).mpr hhi
  have k0_h3 := (cond3_iff t k).mpr hlo
  unfold wFl wFr oPd oFy oDn
  rw [es, ep]
  iintro ⟨⟨%O, HW⟩, ⟨⟨%fx, Fx⟩, ⟨⟨%ex, Ex⟩, Dx⟩, Bx⟩, Hh, ⟨%fp, %gp, %hfp, Fo⟩, ⟨%gn, Bo⟩⟩
  dsimp only [trip]
  sl_unfold [k0_t1_body, k0_part1]
  sl_exec
  sl_exec
  sl_step
  have hq := oBlk_wrote c HH W (10 * t.val + k.val - 2) (by omega) gp _ hfp
  isplitl [HW]; · iexists _; iexact HW
  isplitl [Fx_dst Fx_src Fx Dx]
  · isplitl [Dx]
    · iexists _; iexact Dx
    isplitl [Fx_dst Fx]
    · isplitl [Fx_dst]
      · iexists _; iexact Fx_dst
      iexact Fx
    iexact Fx_src
  isplitl [Hh]; · iexact Hh
  isplitl [Fo]
  · iexists _, gn
    isplitr; swap; · iexact Fo
    ipureintro
    exact o_value c HH W t k (k0_off11_inb k) (k0_off10_inb k) _ _ _ rfl
  iexists _
  isplitr; swap; · iexact Fo_dst
  ipureintro
  exact hq

set_option maxHeartbeats 8000000 in
/-- One of the first two uses: the slot of the result is free. -/
theorem trip_first (t : Fin grid0.N) (k : Fin k0_t1_loop.trips) (hlo : 10 * t.val + k.val < 2)
    (H : Buf (Elt F) ((Memref.whole cc0_scratch0 : Memref sig .tc _ _ _).view.loc (c : Thread nD τ))) (hH : hRead c H = HH t.val) :
    iprop((∃ O, owes (c : Thread nD τ) 0 O)
      ∗ (wFl c W (Ring.sl 2 k.val) (Ring.sl 10 k.val) ∗ wFr (F := F) c (Ring.sl 2 (k.val + 1)) ∗ wHome c W (Ring.sl 10 (k.val + 1)))
      ∗ hHeld c H
      ∗ oFr (F := F) c (Ring.sl 2 k.val)
      ∗ oPd (F := F) c (Ring.sl 320 (10 * t.val + k.val)))
    ⊢ wp frame (wpE (defs₀ (F := F)) 𝒱₀ (c : Thread nD τ) none) Set.univ (trip a1 h1 a2 h2 a4 h4 a6 h6 t k ⟨⟩) (fun _ => iprop(
      (∃ O, owes (c : Thread nD τ) 0 O)
      ∗ (wFl c W (Ring.sl 2 (k.val + 1)) (Ring.sl 10 (k.val + 1)) ∗ wFr (F := F) c (Ring.sl 2 k.val) ∗ wHome c W (Ring.sl 10 k.val))
      ∗ hHeld c H
      ∗ oFy c HH W (10 * t.val + k.val))) := by
  have ht : t.val < 32 := t.isLt
  have hk : k.val < 10 := by have := k.isLt; have e := trips_eq; omega
  have es : Ring.sl 2 (10 * t.val + k.val) = Ring.sl 2 k.val := Fin.ext (by show (10 * t.val + k.val) % 2 = k.val % 2; omega)
  have k0_h2 := (cond2_iff t k).mpr (by omega)
  have k0_h3 := mt (cond3_iff t k).mp (by omega)
  unfold wFl wFr oPd oFy oFr
  rw [es]
  iintro ⟨⟨%O, HW⟩, ⟨⟨%fx, Fx⟩, ⟨⟨%ex, Ex⟩, Dx⟩, Bx⟩, Hh, ⟨⟨%fp, Ho⟩, Co⟩, ⟨%gn, Bo⟩⟩
  dsimp only [trip]
  sl_unfold [k0_t1_body, k0_part1]
  sl_exec
  sl_exec
  sl_step
  isplitl [HW]; · iexists _; iexact HW
  isplitl [Fx_dst Fx_src Fx Dx]
  · isplitl [Dx]
    · iexists _; iexact Dx
    isplitl [Fx_dst Fx]
    · isplitl [Fx_dst]
      · iexists _; iexact Fx_dst
      iexact Fx
    iexact Fx_src
  isplitl [Hh]; · iexact Hh
  iexists _, gn
  isplitr; swap; · iexact Co
  ipureintro
  exact o_value c HH W t k (k0_off11_inb k) (k0_off10_inb k) _ _ _ rfl

set_option maxHeartbeats 8000000 in
/-- The last use: no further block of the weights is asked for. -/
theorem trip_last (t : Fin grid0.N) (k : Fin k0_t1_loop.trips) (hhi : 10 * t.val + k.val = 319)
    (H : Buf (Elt F) ((Memref.whole cc0_scratch0 : Memref sig .tc _ _ _).view.loc (c : Thread nD τ))) (hH : hRead c H = HH t.val) :
    iprop((∃ O, owes (c : Thread nD τ) 0 O)
      ∗ wFl c W (Ring.sl 2 k.val) (Ring.sl 10 k.val)
      ∗ hHeld c H
      ∗ oFy c HH W (10 * t.val + k.val - 2)
      ∗ oPd (F := F) c (Ring.sl 320 (10 * t.val + k.val)))
    ⊢ wp frame (wpE (defs₀ (F := F)) 𝒱₀ (c : Thread nD τ) none) Set.univ (trip a1 h1 a2 h2 a4 h4 a6 h6 t k ⟨⟩) (fun _ => iprop(
      (∃ O, owes (c : Thread nD τ) 0 O)
      ∗ (wFr (F := F) c (Ring.sl 2 k.val) ∗ wHome c W (Ring.sl 10 k.val))
      ∗ hHeld c H
      ∗ oFy c HH W (10 * t.val + k.val)
      ∗ oDn c HH W (Ring.sl 320 (10 * t.val + k.val - 2)))) := by
  have ht : t.val < 32 := t.isLt
  have hk : k.val < 10 := by have := k.isLt; have e := trips_eq; omega
  have es : Ring.sl 2 (10 * t.val + k.val) = Ring.sl 2 k.val := Fin.ext (by show (10 * t.val + k.val) % 2 = k.val % 2; omega)
  have ep : Ring.sl 2 (10 * t.val + k.val - 2) = Ring.sl 2 k.val := Fin.ext (by show (10 * t.val + k.val - 2) % 2 = k.val % 2; omega)
  have k0_h2 := mt (cond2_iff t k).mp (by omega)
  have k0_h3 := (cond3_iff t k).mpr (by omega)
  unfold wFl wFr oPd oFy oDn
  rw [es, ep]
  iintro ⟨⟨%O, HW⟩, ⟨%fx, Fx⟩, Hh, ⟨%fp, %gp, %hfp, Fo⟩, ⟨%gn, Bo⟩⟩
  dsimp only [trip]
  sl_unfold [k0_t1_body, k0_part1]
  sl_exec
  sl_exec
  sl_step
  have hq := oBlk_wrote c HH W (10 * t.val + k.val - 2) (by omega) gp _ hfp
  isplitl [HW]; · iexists _; iexact HW
  isplitl [Fx_dst Fx_src Fx]
  · isplitl [Fx_dst Fx]
    · isplitl [Fx_dst]
      · iexists _; iexact Fx_dst
      iexact Fx
    iexact Fx_src
  isplitl [Hh]; · iexact Hh
  isplitl [Fo]
  · iexists _, gn
    isplitr; swap; · iexact Fo
    ipureintro
    exact o_value c HH W t k (k0_off11_inb k) (k0_off10_inb k) _ _ _ rfl
  iexists _
  isplitr; swap; · iexact Fo_dst
  ipureintro
  exact hq

end Trip
end Cert.Kernel2Ideal
-- ==== Proof.InLoop.lean ====
module

public import proofs.«01_k».proof.Proof.InTrip
public import proofs.«01_k».proof.Proof.Rings

@[expose] public section

/-!
# The first matmul's loop

The result's ring keeps two blocks on their way out.  Before use `g` the slot about to be filled is free (`g < 2`) or
still sends block `g - 2`; the blocks not yet written are pending, those that have arrived are done.  Over all the grid
points the loop counts uses `0 … 319`.
-/

noncomputable section

namespace Cert.Kernel2Ideal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Cert.KernelIdeal (ring2 ring2_next ring2_last ring2_zero ring2_end sep_erase)
local notation "𝕄" => MT nD τ sig Unit (Elt F) ℕ (UU nD τ) ℕ

section Out
variable {M : Type*} [URA M] (Fr : Fin 2 → sProp M) (Fy : ℕ → sProp M) (Pd Dn : Fin 320 → sProp M)

/-- Block `b` before use `g`: pending, in flight (held by the flight), or done. -/
def blkSt (g : ℕ) (b : Fin 320) : sProp M := if g ≤ b.val then Pd b else if g ≤ b.val + 2 then BI.emp else Dn b
/-- The result's ring before use `g`. -/
def outSt (g : ℕ) : sProp M :=
  iprop((if g < 2 then Fr (Ring.sl 2 g) else Fy (g - 2)) ∗ (if g < 1 then Fr (Ring.sl 2 (g + 1)) else Fy (g - 1)) ∗ bigSep Finset.univ (blkSt Pd Dn g))

theorem sl320 (g : ℕ) (hg : g < 320) : (Ring.sl 320 g).val = g := Nat.mod_eq_of_lt hg

theorem blk_first (g : ℕ) (hg : g < 2) :
    bigSep Finset.univ (blkSt Pd Dn g) ⊢ iprop(Pd (Ring.sl 320 g) ∗ bigSep Finset.univ (blkSt Pd Dn (g + 1))) := by
  have hv := sl320 g (by omega)
  rw [sep_erase (s := Finset.univ) (i := Ring.sl 320 g) (Finset.mem_univ _) (Φ := blkSt Pd Dn g),
    sep_erase (s := Finset.univ) (i := Ring.sl 320 g) (Finset.mem_univ _) (Φ := blkSt Pd Dn (g + 1))]
  have e0 : blkSt Pd Dn g (Ring.sl 320 g) = Pd (Ring.sl 320 g) := by unfold blkSt; rw [if_pos (by omega)]
  have e1 : blkSt Pd Dn (g + 1) (Ring.sl 320 g) = BI.emp := by unfold blkSt; rw [if_neg (by omega), if_pos (by omega)]
  have er : bigSep (Finset.univ.erase (Ring.sl 320 g)) (blkSt Pd Dn g) = bigSep (Finset.univ.erase (Ring.sl 320 g)) (blkSt Pd Dn (g + 1)) :=
    bigSep_congr fun b hb => by
      have hne : b.val ≠ g := fun e => (Finset.mem_erase.mp hb).1 (Fin.ext (e.trans hv.symm))
      unfold blkSt
      by_cases h : g ≤ b.val
      · rw [if_pos h, if_pos (by omega)]
      · rw [if_neg h, if_neg (show ¬ g + 1 ≤ b.val by omega), if_pos (show g ≤ b.val + 2 by omega), if_pos (show g + 1 ≤ b.val + 2 by omega)]
  rw [e0, e1, er]
  iintro ⟨H1, H2⟩
  isplitl [H1]; · iexact H1
  isplitr; · iempintro
  iexact H2

theorem blk_next (g : ℕ) (hlo : 2 ≤ g) (hg : g < 320) :
    bigSep Finset.univ (blkSt Pd Dn g) ⊢ iprop(Pd (Ring.sl 320 g) ∗ (Dn (Ring.sl 320 (g - 2)) -∗ bigSep Finset.univ (blkSt Pd Dn (g + 1)))) := by
  have hv := sl320 g hg
  have hw := sl320 (g - 2) (by omega)
  have hm : Ring.sl 320 (g - 2) ∈ Finset.univ.erase (Ring.sl 320 g) :=
    Finset.mem_erase.mpr ⟨fun e => by have := congrArg Fin.val e; omega, Finset.mem_univ _⟩
  rw [sep_erase (s := Finset.univ) (i := Ring.sl 320 g) (Finset.mem_univ _) (Φ := blkSt Pd Dn g),
    sep_erase (s := Finset.univ) (i := Ring.sl 320 g) (Finset.mem_univ _) (Φ := blkSt Pd Dn (g + 1)),
    sep_erase (s := Finset.univ.erase (Ring.sl 320 g)) hm (Φ := blkSt Pd Dn g),
    sep_erase (s := Finset.univ.erase (Ring.sl 320 g)) hm (Φ := blkSt Pd Dn (g + 1))]
  have e0 : blkSt Pd Dn g (Ring.sl 320 g) = Pd (Ring.sl 320 g) := by unfold blkSt; rw [if_pos (by omega)]
  have e1 : blkSt Pd Dn (g + 1) (Ring.sl 320 g) = BI.emp := by unfold blkSt; rw [if_neg (by omega), if_pos (by omega)]
  have e2 : blkSt Pd Dn g (Ring.sl 320 (g - 2)) = BI.emp := by unfold blkSt; rw [if_neg (by omega), if_pos (by omega)]
  have e3 : blkSt Pd Dn (g + 1) (Ring.sl 320 (g - 2)) = Dn (Ring.sl 320 (g - 2)) := by unfold blkSt; rw [if_neg (by omega), if_neg (by omega)]
  have er : bigSep ((Finset.univ.erase (Ring.sl 320 g)).erase (Ring.sl 320 (g - 2))) (blkSt Pd Dn g)
      = bigSep ((Finset.univ.erase (Ring.sl 320 g)).erase (Ring.sl 320 (g - 2))) (blkSt Pd Dn (g + 1)) :=
    bigSep_congr fun b hb => by
      have hb' := Finset.mem_erase.mp hb
      have hne2 : b.val ≠ g - 2 := fun e => hb'.1 (Fin.ext (e.trans hw.symm))
      have hne : b.val ≠ g := fun e => (Finset.mem_erase.mp hb'.2).1 (Fin.ext (e.trans hv.symm))
      unfold blkSt
      by_cases h : g ≤ b.val
      · rw [if_pos h, if_pos (by omega)]
      · rw [if_neg h, if_neg (show ¬ g + 1 ≤ b.val by omega)]
        by_cases h2 : g ≤ b.val + 2
        · rw [if_pos h2, if_pos (by omega)]
        · rw [if_neg h2, if_neg (by omega)]
  rw [e0, e1, e2, e3, er]
  iintro ⟨H1, -, H2⟩
  isplitl [H1]; · iexact H1
  iintro H3
  isplitr; · iempintro
  isplitl [H3]; · iexact H3
  iexact H2

/-- One of the first two uses. -/
theorem out_first (g : ℕ) (hg : g < 2) :
    outSt Fr Fy Pd Dn g ⊢ iprop((Fr (Ring.sl 2 g) ∗ Pd (Ring.sl 320 g)) ∗ (Fy g -∗ outSt Fr Fy Pd Dn (g + 1))) := by
  unfold outSt
  rw [if_pos hg, if_neg (show ¬ g + 1 < 1 by omega), show g + 1 - 1 = g by omega]
  have e : (if g + 1 < 2 then Fr (Ring.sl 2 (g + 1)) else Fy (g + 1 - 2)) = (if g < 1 then Fr (Ring.sl 2 (g + 1)) else Fy (g - 1)) := by
    by_cases h : g < 1
    · rw [if_pos h, if_pos (by omega)]
    · rw [if_neg h, if_neg (by omega), show g + 1 - 2 = g - 1 by omega]
  rw [e]
  iintro ⟨H1, H2, H3⟩
  ihave H3 := (blk_first Pd Dn g hg) $$ H3
  icases H3 with ⟨HP, HB⟩
  isplitl [H1 HP]
  · isplitl [H1]; · iexact H1
    iexact HP
  iintro G
  isplitl [H2]; · iexact H2
  isplitl [G]; · iexact G
  iexact HB

/-- A later use: block `g - 2` is waited for. -/
theorem out_next (g : ℕ) (hlo : 2 ≤ g) (hg : g < 320) :
    outSt Fr Fy Pd Dn g ⊢ iprop((Fy (g - 2) ∗ Pd (Ring.sl 320 g)) ∗ ((Fy g ∗ Dn (Ring.sl 320 (g - 2))) -∗ outSt Fr Fy Pd Dn (g + 1))) := by
  unfold outSt
  rw [if_neg (show ¬ g < 2 by omega), if_neg (show ¬ g < 1 by omega), if_neg (show ¬ g + 1 < 2 by omega), if_neg (show ¬ g + 1 < 1 by omega),
    show g + 1 - 2 = g - 1 by omega, show g + 1 - 1 = g by omega]
  iintro ⟨H1, H2, H3⟩
  ihave H3 := (blk_next Pd Dn g hlo hg) $$ H3
  icases H3 with ⟨HP, HB⟩
  isplitl [H1 HP]
  · isplitl [H1]; · iexact H1
    iexact HP
  iintro ⟨G1, G2⟩
  isplitl [H2]; · iexact H2
  isplitl [G1]; · iexact G1
  iapply HB
  iexact G2

/-- Before any use. -/
theorem out_zero : iprop(Fr 0 ∗ Fr 1 ∗ bigSep Finset.univ Pd) ⊢ outSt Fr Fy Pd Dn 0 := by
  unfold outSt
  rw [if_pos (by omega), if_pos (by omega), show Ring.sl 2 0 = 0 from rfl, show Ring.sl 2 (0 + 1) = 1 from rfl,
    show bigSep Finset.univ (blkSt Pd Dn 0) = bigSep Finset.univ Pd from bigSep_congr fun b _ => by unfold blkSt; rw [if_pos (by omega)]]

/-- After the last: the two blocks in flight, and every block once they have arrived. -/
theorem out_end : outSt Fr Fy Pd Dn 320 ⊢ iprop((Fy 318 ∗ Fy 319) ∗ ((Dn 318 ∗ Dn 319) -∗ bigSep Finset.univ Dn)) := by
  unfold outSt
  rw [if_neg (by omega), if_neg (by omega)]
  have hm : (319 : Fin 320) ∈ Finset.univ.erase (318 : Fin 320) := Finset.mem_erase.mpr ⟨by decide, Finset.mem_univ _⟩
  have e1 : bigSep Finset.univ Dn = iprop(Dn 318 ∗ Dn 319 ∗ bigSep ((Finset.univ.erase (318 : Fin 320)).erase 319) Dn) := by
    rw [sep_erase (s := Finset.univ) (i := (318 : Fin 320)) (Finset.mem_univ _), sep_erase hm]
  have e2 : bigSep Finset.univ (blkSt Pd Dn 320) = iprop(BI.emp ∗ BI.emp ∗ bigSep ((Finset.univ.erase (318 : Fin 320)).erase 319) Dn) := by
    rw [sep_erase (s := Finset.univ) (i := (318 : Fin 320)) (Finset.mem_univ _), sep_erase hm]
    have a1 : blkSt Pd Dn 320 318 = BI.emp := by unfold blkSt; rw [if_neg (by decide), if_pos (by decide)]
    have a2 : blkSt Pd Dn 320 319 = BI.emp := by unfold blkSt; rw [if_neg (by decide), if_pos (by decide)]
    have a3 : bigSep ((Finset.univ.erase (318 : Fin 320)).erase 319) (blkSt Pd Dn 320) = bigSep ((Finset.univ.erase (318 : Fin 320)).erase 319) Dn :=
      bigSep_congr fun b hb => by
        have h1 := (Finset.mem_erase.mp hb).1
        have h2 := (Finset.mem_erase.mp (Finset.mem_erase.mp hb).2).1
        have h1' : b.val ≠ 319 := fun e => h1 (Fin.ext e)
        have h2' : b.val ≠ 318 := fun e => h2 (Fin.ext e)
        have := b.isLt
        unfold blkSt; rw [if_neg (by omega), if_neg (by omega)]
    rw [a1, a2, a3]
  rw [e1, e2]
  iintro ⟨H1, H2, -, -, H3⟩
  isplitl [H1 H2]
  · isplitl [H1]; · iexact H1
    iexact H2
  iintro ⟨G1, G2⟩
  isplitl [G1]; · iexact G1
  isplitl [G2]; · iexact G2
  iexact H3
end Out

section Loop
variable (c : Dev nD) (HH : ℕ → FVec F S512x4096 .bf16) (W : Buf (Elt F) (wArr.view.loc (c : Thread nD τ)))
  (a1 : Memref sig .tc .vmem S512x4096 .f32) (h1 : a1.IsWhole) (a2 : Memref sig .tc .vmem S1x4096 .f32) (h2 : a2.IsWhole)
  (a4 : Memref sig .tc .vmem S128x4096 .bf16) (h4 : a4.IsWhole) (a6 : Memref sig .tc .vmem S512x128 .f32) (h6 : a6.IsWhole)
  (H : Buf (Elt F) ((Memref.whole cc0_scratch0 : Memref sig .tc _ _ _).view.loc (c : Thread nD τ)))

/-- The two rings before use `g`. -/
abbrev wSt (g : ℕ) : sProp 𝕄 := ring2 320 (wFl c W) (wFr (F := F) c) (fun b => wHome c W b) g
abbrev oSt (g : ℕ) : sProp 𝕄 := outSt (oFr (F := F) c) (oFy c HH W) (oPd (F := F) c) (oDn c HH W) g

/-- Everything the loop at grid point `t` works on, before trip `k`. -/
def loopSt (t : Fin grid0.N) (k : ℕ) (_ : Unit) : sProp 𝕄 :=
  iprop((∃ O, owes (c : Thread nD τ) 0 O) ∗ wSt c W (10 * t.val + k) ∗ oSt c HH W (10 * t.val + k) ∗ hHeld c H)

/-- One of the first two uses. -/
theorem step_first (t : Fin grid0.N) (k : Fin k0_t1_loop.trips) (hH : hRead c H = HH t.val) (hlo : 10 * t.val + k.val < 2) :
    loopSt c HH W H t k.val ⟨⟩ ⊢ wp frame (wpE (defs₀ (F := F)) 𝒱₀ (c : Thread nD τ) none) Set.univ (trip a1 h1 a2 h2 a4 h4 a6 h6 t k ⟨⟩) (loopSt c HH W H t (k.val + 1)) := by
  have ht : t.val < 32 := t.isLt
  have hk : k.val < 10 := by have := k.isLt; have e := trips_eq; omega
  have e0 : Ring.sl 2 (10 * t.val + k.val) = Ring.sl 2 k.val := Fin.ext (by show (10 * t.val + k.val) % 2 = k.val % 2; omega)
  have e1 : Ring.sl 2 (10 * t.val + k.val + 1) = Ring.sl 2 (k.val + 1) := Fin.ext (by show (10 * t.val + k.val + 1) % 2 = (k.val + 1) % 2; omega)
  have e2 : Ring.sl 10 (10 * t.val + k.val) = Ring.sl 10 k.val := Fin.ext (by show (10 * t.val + k.val) % 10 = k.val % 10; omega)
  have e3 : Ring.sl 10 (10 * t.val + k.val + 1) = Ring.sl 10 (k.val + 1) := Fin.ext (by show (10 * t.val + k.val + 1) % 10 = (k.val + 1) % 10; omega)
  have HWn := ring2_next 320 (wFl c W) (wFr (F := F) c) (fun b => wHome c W b) (by omega) (10 * t.val + k.val) (by omega)
  have HOn := out_first (oFr (F := F) c) (oFy c HH W) (oPd (F := F) c) (oDn c HH W) (10 * t.val + k.val) (by omega)
  rw [e0, e2, e1, e3] at HWn
  rw [e0] at HOn
  unfold loopSt
  rw [show 10 * t.val + (k.val + 1) = 10 * t.val + k.val + 1 from rfl]
  iintro ⟨HO, HW, HR, HG⟩
  ihave HW := HWn $$ HW
  icases HW with ⟨HW, KW⟩
  ihave HR := HOn $$ HR
  icases HR with ⟨⟨HR, HP⟩, KR⟩
  iapply (wp_wand_r Idealize.ShloMosaic.frame (wpE (defs₀ (F := F)) 𝒱₀ (c : Thread nD τ) none) Set.univ)
  isplitl [HO HW HR HP HG]
  · iapply (trip_first c HH W a1 h1 a2 h2 a4 h4 a6 h6 t k hlo H hH)
    isplitl [HO]; · iexact HO
    isplitl [HW]; · iexact HW
    isplitl [HG]; · iexact HG
    isplitl [HR]; · iexact HR
    iexact HP
  iintro %acc ⟨HO, HW, HG, HR⟩
  isplitl [HO]; · iexact HO
  isplitl [HW KW]; · iapply KW; iexact HW
  isplitl [HR KR]; · iapply KR; iexact HR
  iexact HG

/-- A use in the middle. -/
theorem step_mid (t : Fin grid0.N) (k : Fin k0_t1_loop.trips) (hH : hRead c H = HH t.val) (hlo : 2 ≤ 10 * t.val + k.val) (hhi : 10 * t.val + k.val < 319) :
    loopSt c HH W H t k.val ⟨⟩ ⊢ wp frame (wpE (defs₀ (F := F)) 𝒱₀ (c : Thread nD τ) none) Set.univ (trip a1 h1 a2 h2 a4 h4 a6 h6 t k ⟨⟩) (loopSt c HH W H t (k.val + 1)) := by
  have ht : t.val < 32 := t.isLt
  have hk : k.val < 10 := by have := k.isLt; have e := trips_eq; omega
  have e0 : Ring.sl 2 (10 * t.val + k.val) = Ring.sl 2 k.val := Fin.ext (by show (10 * t.val + k.val) % 2 = k.val % 2; omega)
  have e1 : Ring.sl 2 (10 * t.val + k.val + 1) = Ring.sl 2 (k.val + 1) := Fin.ext (by show (10 * t.val + k.val + 1) % 2 = (k.val + 1) % 2; omega)
  have e2 : Ring.sl 10 (10 * t.val + k.val) = Ring.sl 10 k.val := Fin.ext (by show (10 * t.val + k.val) % 10 = k.val % 10; omega)
  have e3 : Ring.sl 10 (10 * t.val + k.val + 1) = Ring.sl 10 (k.val + 1) := Fin.ext (by show (10 * t.val + k.val + 1) % 10 = (k.val + 1) % 10; omega)
  have HWn := ring2_next 320 (wFl c W) (wFr (F := F) c) (fun b => wHome c W b) (by omega) (10 * t.val + k.val) (by omega)
  have HOn := out_next (oFr (F := F) c) (oFy c HH W) (oPd (F := F) c) (oDn c HH W) (10 * t.val + k.val) (by omega) (by omega)
  rw [e0, e2, e1, e3] at HWn
  unfold loopSt
  rw [show 10 * t.val + (k.val + 1) = 10 * t.val + k.val + 1 from rfl]
  iintro ⟨HO, HW, HR, HG⟩
  ihave HW := HWn $$ HW
  icases HW with ⟨HW, KW⟩
  ihave HR := HOn $$ HR
  icases HR with ⟨⟨HR, HP⟩, KR⟩
  iapply (wp_wand_r Idealize.ShloMosaic.frame (wpE (defs₀ (F := F)) 𝒱₀ (c : Thread nD τ) none) Set.univ)
  isplitl [HO HW HR HP HG]
  · iapply (trip_mid c HH W a1 h1 a2 h2 a4 h4 a6 h6 t k hlo hhi H hH)
    isplitl [HO]; · iexact HO
    isplitl [HW]; · iexact HW
    isplitl [HG]; · iexact HG
    isplitl [HR]; · iexact HR
    iexact HP
  iintro %acc ⟨HO, HW, HG, HR, HD⟩
  isplitl [HO]; · iexact HO
  isplitl [HW KW]; · iapply KW; iexact HW
  isplitl [HR HD KR]
  · iapply KR
    isplitl [HR]; · iexact HR
    iexact HD
  iexact HG

/-- The last use. -/
theorem step_last (t : Fin grid0.N) (k : Fin k0_t1_loop.trips) (hH : hRead c H = HH t.val) (hhi : 10 * t.val + k.val = 319) :
    loopSt c HH W H t k.val ⟨⟩ ⊢ wp frame (wpE (defs₀ (F := F)) 𝒱₀ (c : Thread nD τ) none) Set.univ (trip a1 h1 a2 h2 a4 h4 a6 h6 t k ⟨⟩) (loopSt c HH W H t (k.val + 1)) := by
  have ht : t.val < 32 := t.isLt
  have hk : k.val < 10 := by have := k.isLt; have e := trips_eq; omega
  have e0 : Ring.sl 2 (10 * t.val + k.val) = Ring.sl 2 k.val := Fin.ext (by show (10 * t.val + k.val) % 2 = k.val % 2; omega)
  have e1 : Ring.sl 2 (10 * t.val + k.val + 1) = Ring.sl 2 (k.val + 1) := Fin.ext (by show (10 * t.val + k.val + 1) % 2 = (k.val + 1) % 2; omega)
  have e2 : Ring.sl 10 (10 * t.val + k.val) = Ring.sl 10 k.val := Fin.ext (by show (10 * t.val + k.val) % 10 = k.val % 10; omega)
  have e3 : Ring.sl 10 (10 * t.val + k.val + 1) = Ring.sl 10 (k.val + 1) := Fin.ext (by show (10 * t.val + k.val + 1) % 10 = (k.val + 1) % 10; omega)
  have HWn := ring2_last 320 (wFl c W) (wFr (F := F) c) (fun b => wHome c W b) (10 * t.val + k.val) (by omega)
  have HOn := out_next (oFr (F := F) c) (oFy c HH W) (oPd (F := F) c) (oDn c HH W) (10 * t.val + k.val) (by omega) (by omega)
  rw [e0, e2] at HWn
  unfold loopSt
  rw [show 10 * t.val + (k.val + 1) = 10 * t.val + k.val + 1 from rfl]
  iintro ⟨HO, HW, HR, HG⟩
  ihave HW := HWn $$ HW
  icases HW with ⟨HW, KW⟩
  ihave HR := HOn $$ HR
  icases HR with ⟨⟨HR, HP⟩, KR⟩
  iapply (wp_wand_r Idealize.ShloMosaic.frame (wpE (defs₀ (F := F)) 𝒱₀ (c : Thread nD τ) none) Set.univ)
  isplitl [HO HW HR HP HG]
  · iapply (trip_last c HH W a1 h1 a2 h2 a4 h4 a6 h6 t k hhi H hH)
    isplitl [HO]; · iexact HO
    isplitl [HW]; · iexact HW
    isplitl [HG]; · iexact HG
    isplitl [HR]; · iexact HR
    iexact HP
  iintro %acc ⟨HO, HW, HG, HR, HD⟩
  isplitl [HO]; · iexact HO
  isplitl [HW KW]; · iapply KW; iexact HW
  isplitl [HR HD KR]
  · iapply KR
    isplitl [HR]; · iexact HR
    iexact HD
  iexact HG

/-- Any trip. -/
theorem loop_step (t : Fin grid0.N) (hH : hRead c H = HH t.val) (k : Fin k0_t1_loop.trips) (acc : Unit) :
    loopSt c HH W H t k.val acc ⊢ wp frame (wpE (defs₀ (F := F)) 𝒱₀ (c : Thread nD τ) none) Set.univ (trip a1 h1 a2 h2 a4 h4 a6 h6 t k acc) (loopSt c HH W H t (k.val + 1)) := by
  have ht : t.val < 32 := t.isLt
  have hk : k.val < 10 := by have := k.isLt; have e := trips_eq; omega
  by_cases h : 10 * t.val + k.val < 2
  · exact step_first c HH W a1 h1 a2 h2 a4 h4 a6 h6 H t k hH h
  by_cases h' : 10 * t.val + k.val < 319
  · exact step_mid c HH W a1 h1 a2 h2 a4 h4 a6 h6 H t k hH (by omega) h'
  · exact step_last c HH W a1 h1 a2 h2 a4 h4 a6 h6 H t k hH (by omega)

/-- The loop at the head of what remains of the kernel. -/
theorem loop_run (t : Fin grid0.N) (hH : hRead c H = HH t.val) {β : Type} {kk : _ → Prog (TpuEff nD τ sig (Elt F) Λ₀ .tc) β} {Q : β → sProp 𝕄} :
    loopSt c HH W H t 0 ⟨⟩ ⊢ iprop((∀ acc, loopSt c HH W H t 10 acc -∗ wp frame (wpE (defs₀ (F := F)) 𝒱₀ (c : Thread nD τ) none) Set.univ (kk acc) Q)
      -∗ wp frame (wpE (defs₀ (F := F)) 𝒱₀ (c : Thread nD τ) none) Set.univ
        (Scf.Loop.for k0_t1_loop k0_t1_ok ⟨⟩ (fun k acc => trip a1 h1 a2 h2 a4 h4 a6 h6 t k acc) >>= kk) Q) := by
  have h := Scf.wp_for_bind frame (wpE (defs₀ (F := F)) 𝒱₀ (c : Thread nD τ) none) Set.univ k0_t1_loop.lb k0_t1_loop.ub k0_t1_loop.st k0_t1_ok ⟨⟩
    (fun k acc => trip a1 h1 a2 h2 a4 h4 a6 h6 t k acc) (loopSt c HH W H t) (fun k acc => loop_step c HH W a1 h1 a2 h2 a4 h4 a6 h6 H t hH k acc) (kk := kk) (Q := Q)
  have e : ∀ n, n = 10 → ∀ R : _ → sProp 𝕄, iprop(∀ acc, loopSt c HH W H t 10 acc -∗ R acc) ⊢ iprop(∀ acc, loopSt c HH W H t n acc -∗ R acc) := by
    intro n hn R; subst hn; exact .rfl
  iintro H HK
  iapply h $$ H
  iapply (e _ trips_eq _)
  iexact HK

end Loop
end Cert.Kernel2Ideal
-- ==== Proof.InBody.lean ====
module

public import proofs.«01_k».proof.Proof.InLoop
public import Idealize.ShloMosaic.Lib.VecWindow

@[expose] public section

/-!
# The first matmul's body

At a grid point the body norms its rows into its own buffer, computes the gates, and runs the loop; the first point
asks for the first block of the weights, and the last waits for the last two blocks of the result.
-/

noncomputable section

namespace Cert.Kernel2Ideal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Cert.KernelIdeal (ring2 ring2_next ring2_last ring2_zero ring2_end sep_erase)
local notation "𝕄" => MT nD τ sig Unit (Elt F) ℕ (UU nD τ) ℕ

theorem in_of_eq {M : Type*} [URA M] {P Q : sProp M} (e : P = Q) : P ⊢ Q := e ▸ .rfl

section Body
variable (c : Dev nD) (HH : ℕ → FVec F S512x4096 .bf16) (W : Buf (Elt F) (wArr.view.loc (c : Thread nD τ)))
  (a1 : Memref sig .tc .vmem S512x4096 .f32) (h1 : a1.IsWhole) (a2 : Memref sig .tc .vmem S1x4096 .f32) (h2 : a2.IsWhole)
  (a4 : Memref sig .tc .vmem S128x4096 .bf16) (h4 : a4.IsWhole) (a6 : Memref sig .tc .vmem S512x128 .f32) (h6 : a6.IsWhole)
  (g1 : Buf (Elt F) (a1.view.loc (c : Thread nD τ))) (g2 : Buf (Elt F) (a2.view.loc (c : Thread nD τ)))
  (g4 : Buf (Elt F) (a4.view.loc (c : Thread nD τ)))

/-- There are 32 points. -/
theorem h31 : 31 < grid0.N := by decide
/-- The kernel at grid point `t`. -/
abbrev bodyI (t : Fin grid0.N) : Prog (TpuEff nD τ sig (Elt F) Λ₀ .tc) PUnit :=
  cc0_in_proj (F := F) (grid0.coords t) a1 h1 a2 h2 wArr (Memref.isWhole_whole _) a4 h4 oArr (Memref.isWhole_whole _) a6 h6
    (Memref.whole cc0_scratch0) (Memref.isWhole_whole _) wBuf (Memref.isWhole_whole _) oBuf (Memref.isWhole_whole _) cc0_scratch3 cc0_scratch4

/-- The normed rows as they are read back. -/
theorem h_value (f) (i1 i2 i3) :
    hRead c ((Memref.whole cc0_scratch0 : Memref sig .tc _ _ _).view.writes (Elt F) f [⟨Rect.unit (s := S512x4096) ![0, 0] S512x4096.size i1,
      k0_pay2 (View.readAt (Elt F) a1.view (Rect.unit (s := S512x4096) ![0, 0] S512x4096.size i2).toLoadRect g1)
        (View.readAt (Elt F) a2.view (Rect.unit (s := S1x4096) ![0, 0] S1x4096.size i3).toLoadRect g2)⟩])
      = k0_pay2 (F := F) (a1.view.read (Elt F) g1) (a2.view.read (Elt F) g2) := by
  refine (View.readAt_writes_full (Val := Elt F) (Memref.whole cc0_scratch0 : Memref sig .tc _ _ _).view f _ i1 _ []).trans ?_
  rw [View.readAt_full, View.readAt_full]

theorem h_named (n : ℕ) (Hc : Buf (Elt F) ((Memref.whole cc0_scratch0 : Memref sig .tc _ _ _).view.loc (c : Thread nD τ))) (h : hRead c Hc = HH n) :
    hHeld c Hc ⊢ iprop(∃ H, ⌜hRead c H = HH n⌝ ∗ hHeld c H) := by
  iintro G
  iexists Hc
  isplitr; · ipureintro; exact h
  iexact G

/-- The gates as they are left. -/
theorem g_value (f) (i1 i2 i3 i4) :
    a6.view.read (Elt F) (a6.view.writes (Elt F) f [⟨Rect.unit (s := S512x128) ![0, 0] S512x128.size i1,
      k0_pay3 (View.readAt (Elt F) a1.view (Rect.unit (s := S512x4096) ![0, 0] S512x4096.size i2).toLoadRect g1)
        (View.readAt (Elt F) a2.view (Rect.unit (s := S1x4096) ![0, 0] S1x4096.size i3).toLoadRect g2)
        (View.readAt (Elt F) a4.view (Rect.unit (s := S128x4096) ![0, 0] S128x4096.size i4).toLoadRect g4)⟩])
      = k0_pay3 (F := F) (a1.view.read (Elt F) g1) (a2.view.read (Elt F) g2) (a4.view.read (Elt F) g4) := by
  rw [View.read_writes_full, View.readAt_full, View.readAt_full, View.readAt_full]

/-- The blocks the point reads, held. -/
abbrev ins : sProp 𝕄 := iprop((a1.view.loc (c : Thread nD τ) ↦[a1.view.set]{fullShare} g1) ∗ (a2.view.loc (c : Thread nD τ) ↦[a2.view.set]{fullShare} g2)
  ∗ (a4.view.loc (c : Thread nD τ) ↦[a4.view.set]{fullShare} g4))
/-- The gates' block, held at what the point computes. -/
abbrev gates : sProp 𝕄 := iprop(∃ g, ⌜a6.view.read (Elt F) g = k0_pay3 (F := F) (a1.view.read (Elt F) g1) (a2.view.read (Elt F) g2) (a4.view.read (Elt F) g4)⌝
  ∗ (a6.view.loc (c : Thread nD τ) ↦[a6.view.set]{fullShare} g))

/-- The rings idle, before the first use and after the last. -/
abbrev wIdle : sProp 𝕄 := iprop(wFr (F := F) c 0 ∗ wFr (F := F) c 1 ∗ bigSep Finset.univ (fun b => wHome c W b))
abbrev oIdle (R : Fin 320 → sProp 𝕄) : sProp 𝕄 := iprop(oFr (F := F) c 0 ∗ oFr (F := F) c 1 ∗ bigSep Finset.univ R)
theorem w_start (n : ℕ) (hn : n = 0) : iprop(wFl c W 0 0 ∗ wFr (F := F) c 1 ∗ bigSep (Finset.univ.erase 0) (fun b => wHome c W b)) ⊢ wSt c W n := by
  subst hn; exact ring2_zero 320 _ _ _ (by decide)
theorem w_stop : wSt c W 320 ⊢ wIdle c W := ring2_end 320 _ _ _ (by decide)
theorem o_start (n : ℕ) (hn : n = 0) : oIdle c (oPd (F := F) c) ⊢ oSt c HH W n := by
  subst hn; exact out_zero _ _ _ _
theorem o_stop : oSt c HH W 320 ⊢ iprop(((∃ f g, ⌜(oSlot 0).view.read (Elt F) f = outBlk c HH W 318⌝ ∗ oFlight c 0 318 f g)
      ∗ (∃ f g, ⌜(oSlot 1).view.read (Elt F) f = outBlk c HH W 319⌝ ∗ oFlight c 1 319 f g))
    ∗ ((oDn c HH W 318 ∗ oDn c HH W 319) -∗ bigSep Finset.univ (oDn c HH W))) := out_end _ _ _ _

set_option maxHeartbeats 8000000 in
/-- A point in the middle. -/
theorem body_mid (t : Fin grid0.N) (hlo : 0 < t.val) (hhi : t.val < 31) (hHH : HH t.val = k0_pay2 (F := F) (a1.view.read (Elt F) g1) (a2.view.read (Elt F) g2))
    (g6 : Buf (Elt F) (a6.view.loc (c : Thread nD τ))) (O) (Q : PUnit → sProp 𝕄) :
    iprop((owes (c : Thread nD τ) 0 O ∗ ins c a1 a2 a4 g1 g2 g4 ∗ (a6.view.loc (c : Thread nD τ) ↦[a6.view.set]{fullShare} g6)
        ∗ (∃ f, hHeld c f) ∗ wSt c W (10 * t.val) ∗ oSt c HH W (10 * t.val))
      ∗ (((∃ O, owes (c : Thread nD τ) 0 O) ∗ ins c a1 a2 a4 g1 g2 g4 ∗ gates c a1 a2 a4 a6 g1 g2 g4
        ∗ (∃ f, hHeld c f) ∗ wSt c W (10 * t.val + 10) ∗ oSt c HH W (10 * t.val + 10)) -∗ Q ⟨⟩))
    ⊢ wp frame (wpE (defs₀ (F := F)) 𝒱₀ (c : Thread nD τ) none) Set.univ (bodyI a1 h1 a2 h2 a4 h4 a6 h6 t) Q := by
  have k0_h1 := mt (cond1_iff t).mp (by omega)
  have k0_h4 := mt (cond4_iff t).mp (by omega)
  iintro ⟨⟨HW, ⟨H1, H2, H4⟩, H6, ⟨%f, Hh⟩, HR, HO⟩, Hk⟩
  sl_unfold [bodyI, cc0_in_proj]
  sl_exec
  have hH := (h_value c a1 a2 g1 g2 (Memref.whole cc0_scratch0 : Memref sig .tc _ _ _).view.junk inb_S512x4096_S512x4096_0_0 inb_S512x4096_S512x4096_0_0 inb_S1x4096_S1x4096_0_0).trans hHH.symm
  ihave Hh := (h_named c HH t.val _ hH) $$ [Hh]; · iexact Hh
  icases Hh with ⟨%Hc, %hc, Hh⟩
  ihave HS := (show iprop((∃ O, owes (c : Thread nD τ) 0 O) ∗ wSt c W (10 * t.val) ∗ oSt c HH W (10 * t.val) ∗ hHeld c Hc) ⊢ loopSt c HH W Hc t 0 ⟨⟩ from .rfl) $$ [HW HR HO Hh]
  · isplitl [HW]; · iexists _; iexact HW
    isplitl [HR]; · iexact HR
    isplitl [HO]; · iexact HO
    iexact Hh
  iapply (loop_run c HH W a1 h1 a2 h2 a4 h4 a6 h6 Hc t hc) $$ HS
  unfold loopSt
  iintro %acc ⟨⟨%O', HW⟩, HR, HO, Hh⟩
  sl_exec
  sl_step
  iapply Hk
  isplitl [HW]; · iexists _; iexact HW
  isplitl [H1 H2 H4]
  · isplitl [H1]; · iexact H1
    isplitl [H2]; · iexact H2
    iexact H4
  isplitl [H6]
  · iexists _
    isplitr; swap; · iexact H6
    ipureintro
    exact g_value c a1 a2 a4 a6 g1 g2 g4 _ inb_S512x128_S512x128_0_0 inb_S512x4096_S512x4096_0_0 inb_S1x4096_S1x4096_0_0 inb_S128x4096_S128x4096_0_0
  isplitl [Hh]; · iexists _; iexact Hh
  isplitl [HR]; · iexact HR
  iexact HO

set_option maxHeartbeats 8000000 in
/-- The first point. -/
theorem body_first (t : Fin grid0.N) (hz : t.val = 0) (hHH : HH t.val = k0_pay2 (F := F) (a1.view.read (Elt F) g1) (a2.view.read (Elt F) g2))
    (g6 : Buf (Elt F) (a6.view.loc (c : Thread nD τ))) (O) (Q : PUnit → sProp 𝕄) :
    iprop((owes (c : Thread nD τ) 0 O ∗ ins c a1 a2 a4 g1 g2 g4 ∗ (a6.view.loc (c : Thread nD τ) ↦[a6.view.set]{fullShare} g6)
        ∗ (∃ f, hHeld c f) ∗ wIdle c W ∗ oIdle c (oPd (F := F) c))
      ∗ (((∃ O, owes (c : Thread nD τ) 0 O) ∗ ins c a1 a2 a4 g1 g2 g4 ∗ gates c a1 a2 a4 a6 g1 g2 g4
        ∗ (∃ f, hHeld c f) ∗ wSt c W (10 * t.val + 10) ∗ oSt c HH W (10 * t.val + 10)) -∗ Q ⟨⟩))
    ⊢ wp frame (wpE (defs₀ (F := F)) 𝒱₀ (c : Thread nD τ) none) Set.univ (bodyI a1 h1 a2 h2 a4 h4 a6 h6 t) Q := by
  have k0_h1 := (cond1_iff t).mpr hz
  have k0_h4 := mt (cond4_iff t).mp (by omega)
  iintro ⟨⟨HW, ⟨H1, H2, H4⟩, H6, ⟨%f, Hh⟩, ⟨W0, W1, WH⟩, HO⟩, Hk⟩
  ihave WH := (in_of_eq (sep_erase (s := Finset.univ) (i := (0 : Fin 10)) (Φ := fun b => wHome c W b) (Finset.mem_univ _))) $$ WH
  icases WH with ⟨WB, WR⟩
  ihave W0 := (show wFr (F := F) c 0 ⊢ iprop((∃ f, wHeld (F := F) c 0 f) ∗ wCell (F := F) c 0) from .rfl) $$ W0
  icases W0 with ⟨⟨%w0, W0⟩, CW⟩
  sl_unfold [bodyI, cc0_in_proj]
  sl_exec
  ihave HR := (w_start c W (10 * t.val) (by omega)) $$ [CW W1 WR]
  · isplitl [CW]
    · unfold wFl; iexists _; iexact CW
    isplitl [W1]; · iexact W1
    iexact WR
  ihave HO := (o_start c HH W (10 * t.val) (by omega)) $$ HO
  have hH := (h_value c a1 a2 g1 g2 (Memref.whole cc0_scratch0 : Memref sig .tc _ _ _).view.junk inb_S512x4096_S512x4096_0_0 inb_S512x4096_S512x4096_0_0 inb_S1x4096_S1x4096_0_0).trans hHH.symm
  ihave Hh := (h_named c HH t.val _ hH) $$ [Hh]; · iexact Hh
  icases Hh with ⟨%Hc, %hc, Hh⟩
  ihave HS := (show iprop((∃ O, owes (c : Thread nD τ) 0 O) ∗ wSt c W (10 * t.val) ∗ oSt c HH W (10 * t.val) ∗ hHeld c Hc) ⊢ loopSt c HH W Hc t 0 ⟨⟩ from .rfl) $$ [HW HR HO Hh]
  · isplitl [HW]; · iexists _; iexact HW
    isplitl [HR]; · iexact HR
    isplitl [HO]; · iexact HO
    iexact Hh
  iapply (loop_run c HH W a1 h1 a2 h2 a4 h4 a6 h6 Hc t hc) $$ HS
  unfold loopSt
  iintro %acc ⟨⟨%O', HW⟩, HR, HO, Hh⟩
  sl_exec
  sl_step
  iapply Hk
  isplitl [HW]; · iexists _; iexact HW
  isplitl [H1 H2 H4]
  · isplitl [H1]; · iexact H1
    isplitl [H2]; · iexact H2
    iexact H4
  isplitl [H6]
  · iexists _
    isplitr; swap; · iexact H6
    ipureintro
    exact g_value c a1 a2 a4 a6 g1 g2 g4 _ inb_S512x128_S512x128_0_0 inb_S512x4096_S512x4096_0_0 inb_S1x4096_S1x4096_0_0 inb_S128x4096_S128x4096_0_0
  isplitl [Hh]; · iexists _; iexact Hh
  isplitl [HR]; · iexact HR
  iexact HO

set_option maxHeartbeats 8000000 in
/-- The last point. -/
theorem body_last (hHH : HH 31 = k0_pay2 (F := F) (a1.view.read (Elt F) g1) (a2.view.read (Elt F) g2))
    (g6 : Buf (Elt F) (a6.view.loc (c : Thread nD τ))) (O) (Q : PUnit → sProp 𝕄) :
    iprop((owes (c : Thread nD τ) 0 O ∗ ins c a1 a2 a4 g1 g2 g4 ∗ (a6.view.loc (c : Thread nD τ) ↦[a6.view.set]{fullShare} g6)
        ∗ (∃ f, hHeld c f) ∗ wSt c W (10 * 31) ∗ oSt c HH W (10 * 31))
      ∗ (((∃ O, owes (c : Thread nD τ) 0 O) ∗ ins c a1 a2 a4 g1 g2 g4 ∗ gates c a1 a2 a4 a6 g1 g2 g4
        ∗ (∃ f, hHeld c f) ∗ wIdle c W ∗ oIdle c (oDn c HH W)) -∗ Q ⟨⟩))
    ⊢ wp frame (wpE (defs₀ (F := F)) 𝒱₀ (c : Thread nD τ) none) Set.univ (bodyI a1 h1 a2 h2 a4 h4 a6 h6 ⟨31, h31⟩) Q := by
  have k0_h1 := mt (cond1_iff ⟨31, h31⟩).mp (by decide)
  have k0_h4 := (cond4_iff ⟨31, h31⟩).mpr rfl
  iintro ⟨⟨HW, ⟨H1, H2, H4⟩, H6, ⟨%f, Hh⟩, HR, HO⟩, Hk⟩
  sl_unfold [bodyI, cc0_in_proj]
  sl_exec
  have hH := (h_value c a1 a2 g1 g2 (Memref.whole cc0_scratch0 : Memref sig .tc _ _ _).view.junk inb_S512x4096_S512x4096_0_0 inb_S512x4096_S512x4096_0_0 inb_S1x4096_S1x4096_0_0).trans hHH.symm
  ihave Hh := (h_named c HH 31 _ hH) $$ [Hh]; · iexact Hh
  icases Hh with ⟨%Hc, %hc, Hh⟩
  ihave HS := (show iprop((∃ O, owes (c : Thread nD τ) 0 O) ∗ wSt c W (10 * 31) ∗ oSt c HH W (10 * 31) ∗ hHeld c Hc) ⊢ loopSt c HH W Hc ⟨31, h31⟩ 0 ⟨⟩ from .rfl) $$ [HW HR HO Hh]
  · isplitl [HW]; · iexists _; iexact HW
    isplitl [HR]; · iexact HR
    isplitl [HO]; · iexact HO
    iexact Hh
  iapply (loop_run c HH W a1 h1 a2 h2 a4 h4 a6 h6 Hc ⟨31, h31⟩ hc) $$ HS
  unfold loopSt
  iintro %acc ⟨⟨%O', HW⟩, HR, HO, Hh⟩
  ihave HR := (w_stop c W) $$ HR
  ihave HO := (o_stop c HH W) $$ HO
  icases HO with ⟨⟨⟨%f8, %g8, %hf8, F8⟩, ⟨%f9, %g9, %hf9, F9⟩⟩, KO⟩
  sl_exec
  sl_step
  have q8 := oBlk_wrote c HH W 318 (by decide) g8 _ hf8
  have q9 := oBlk_wrote c HH W 319 (by decide) g9 _ hf9
  iapply Hk
  isplitl [HW]; · iexists _; iexact HW
  isplitl [H1 H2 H4]
  · isplitl [H1]; · iexact H1
    isplitl [H2]; · iexact H2
    iexact H4
  isplitl [H6]
  · iexists _
    isplitr; swap; · iexact H6
    ipureintro
    exact g_value c a1 a2 a4 a6 g1 g2 g4 _ inb_S512x128_S512x128_0_0 inb_S512x4096_S512x4096_0_0 inb_S1x4096_S1x4096_0_0 inb_S128x4096_S128x4096_0_0
  isplitl [Hh]; · iexists _; iexact Hh
  isplitl [HR]; · iexact HR
  isplitl [F8_src F8]
  · unfold oFr
    isplitl [F8_src]; · iexists f8; iexact F8_src
    iexact F8
  isplitl [F9_src F9]
  · unfold oFr
    isplitl [F9_src]; · iexists f9; iexact F9_src
    iexact F9
  iapply KO
  unfold oDn
  isplitl [F8_dst]
  · iexists _
    isplitr; swap; · iexact F8_dst
    ipureintro; exact q8
  iexists _
  isplitr; swap; · iexact F9_dst
  ipureintro; exact q9

end Body
end Cert.Kernel2Ideal
-- ==== Proof.InHomes.lean ====
module

public import proofs.«01_k».proof.Proof.InBody

@[expose] public section

/-!
# Cutting the first matmul's arrays and buffers up

A ring's buffer is its two slots, the weights their ten blocks of rows, the result its 32 by 10 tiles; and the tiles,
each as computed, are one array.
-/

noncomputable section

namespace Cert.Kernel2Ideal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem sep_two {M : Type*} [URA M] (Φ : Fin 2 → sProp M) : bigSep Finset.univ Φ = iprop(Φ 0 ∗ Φ 1) := by
  rw [show (Finset.univ : Finset (Fin 2)) = insert 0 {1} from rfl, bigSep_insert (by decide), bigSep_singleton]; rfl

section Homes
variable (c : Dev nD)

/-! ## the slots -/

/-- The elements of slot `s`. -/
abbrev wSS (s : Fin 2) : Finset S2x1536x4096.Idx := (Rect.unit (s := S2x1536x4096) (wSlotOff s) S1x1536x4096.size (wSlotOff_inb s)).set
theorem wSlot_set (s : Fin 2) : (wSlot s).view.set = wSS s := by
  exact (View.set_reshape _ _).trans (View.set_slice_whole _ _)
theorem mem_wSS (s : Fin 2) (y : S2x1536x4096.Idx) : y ∈ wSS s ↔ (y 0).val = s.val := by
  rw [Rect.mem_set_unit]
  have h1 : (y 1).val < 1536 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1536; omega
    · show 0 ≤ (y 2).val ∧ (y 2).val < 0 + 4096; omega
theorem wSS_disjoint : ∀ s s' : Fin 2, s ≠ s' → Disjoint (wSS s) (wSS s') := by
  intro b b' hne; rw [Finset.disjoint_left]; intro y hy hy'; rw [mem_wSS] at hy hy'; exact hne (Fin.ext (hy.symm.trans hy'))
theorem wSS_cover : (Finset.univ : Finset (Fin 2)).biUnion wSS = Finset.univ := by
  ext y; simp only [Finset.mem_biUnion, Finset.mem_univ, true_and, iff_true]; exact ⟨⟨(y 0).val, (y 0).isLt⟩, by rw [mem_wSS]⟩
theorem wHeld_eq (s : Fin 2) (f) : wHeld (F := F) c s f = (((c : Thread nD τ).loc cc0_scratch1) ↦[wSS s]{fullShare} f : sProp 𝕄) :=
  congrArg (fun S => (_ ↦[S]{fullShare} f : sProp 𝕄)) (wSlot_set s)
/-- The buffer whole is its slots, and back. -/
theorem w_split :
    iprop(∃ f : Buf (Elt F) ((c : Thread nD τ).loc cc0_scratch1), ((c : Thread nD τ).loc cc0_scratch1) ↦{fullShare} f)
      ⊢ (iprop((∃ f, wHeld (F := F) c 0 f) ∗ (∃ f, wHeld (F := F) c 1 f)) : sProp 𝕄) := by
  iintro ⟨%f, H⟩
  ihave H2 := (in_of_eq ((Ring.pointsTo_blocks (Ix := Unit) (Name := ℕ) (U := UU nD τ) (Lvl := ℕ) (q := fullShare) (ℓ := (c : Thread nD τ).loc cc0_scratch1) wSS wSS_disjoint wSS_cover f).trans (sep_two _))) $$ H
  icases H2 with ⟨H0, H1⟩
  isplitl [H0]
  · iexists f; iapply (in_of_eq (wHeld_eq c 0 f).symm); iexact H0
  iexists f; iapply (in_of_eq (wHeld_eq c 1 f).symm); iexact H1
theorem w_join :
    (iprop((∃ f, wHeld (F := F) c 0 f) ∗ (∃ f, wHeld (F := F) c 1 f)) : sProp 𝕄)
      ⊢ iprop(∃ f : Buf (Elt F) ((c : Thread nD τ).loc cc0_scratch1), ((c : Thread nD τ).loc cc0_scratch1) ↦{fullShare} f) := by
  iintro ⟨⟨%f0, H0⟩, ⟨%f1, H1⟩⟩
  iapply (Ring.pointsTo_blocks_join_exists (ℓ := (c : Thread nD τ).loc cc0_scratch1) wSS wSS_disjoint wSS_cover f0)
  irw [sep_two]
  isplitl [H0]
  · iexists f0; iapply (in_of_eq (wHeld_eq c 0 f0)); iexact H0
  iexists f1; iapply (in_of_eq (wHeld_eq c 1 f1)); iexact H1

/-- The elements of slot `s`. -/
abbrev oSS (s : Fin 2) : Finset S2x512x1536.Idx := (Rect.unit (s := S2x512x1536) (oSlotOff s) S1x512x1536.size (oSlotOff_inb s)).set
theorem oSlot_set (s : Fin 2) : (oSlot s).view.set = oSS s := by
  exact (View.set_reshape _ _).trans (View.set_slice_whole _ _)
theorem mem_oSS (s : Fin 2) (y : S2x512x1536.Idx) : y ∈ oSS s ↔ (y 0).val = s.val := by
  rw [Rect.mem_set_unit]
  have h1 : (y 1).val < 512 := (y 1).isLt
  have h2 : (y 2).val < 1536 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1536; omega
theorem oSS_disjoint : ∀ s s' : Fin 2, s ≠ s' → Disjoint (oSS s) (oSS s') := by
  intro b b' hne; rw [Finset.disjoint_left]; intro y hy hy'; rw [mem_oSS] at hy hy'; exact hne (Fin.ext (hy.symm.trans hy'))
theorem oSS_cover : (Finset.univ : Finset (Fin 2)).biUnion oSS = Finset.univ := by
  ext y; simp only [Finset.mem_biUnion, Finset.mem_univ, true_and, iff_true]; exact ⟨⟨(y 0).val, (y 0).isLt⟩, by rw [mem_oSS]⟩
theorem oHeld_eq (s : Fin 2) (f) : oHeld (F := F) c s f = (((c : Thread nD τ).loc cc0_scratch2) ↦[oSS s]{fullShare} f : sProp 𝕄) :=
  congrArg (fun S => (_ ↦[S]{fullShare} f : sProp 𝕄)) (oSlot_set s)
/-- The buffer whole is its slots, and back. -/
theorem o_split :
    iprop(∃ f : Buf (Elt F) ((c : Thread nD τ).loc cc0_scratch2), ((c : Thread nD τ).loc cc0_scratch2) ↦{fullShare} f)
      ⊢ (iprop((∃ f, oHeld (F := F) c 0 f) ∗ (∃ f, oHeld (F := F) c 1 f)) : sProp 𝕄) := by
  iintro ⟨%f, H⟩
  ihave H2 := (in_of_eq ((Ring.pointsTo_blocks (Ix := Unit) (Name := ℕ) (U := UU nD τ) (Lvl := ℕ) (q := fullShare) (ℓ := (c : Thread nD τ).loc cc0_scratch2) oSS oSS_disjoint oSS_cover f).trans (sep_two _))) $$ H
  icases H2 with ⟨H0, H1⟩
  isplitl [H0]
  · iexists f; iapply (in_of_eq (oHeld_eq c 0 f).symm); iexact H0
  iexists f; iapply (in_of_eq (oHeld_eq c 1 f).symm); iexact H1
theorem o_join :
    (iprop((∃ f, oHeld (F := F) c 0 f) ∗ (∃ f, oHeld (F := F) c 1 f)) : sProp 𝕄)
      ⊢ iprop(∃ f : Buf (Elt F) ((c : Thread nD τ).loc cc0_scratch2), ((c : Thread nD τ).loc cc0_scratch2) ↦{fullShare} f) := by
  iintro ⟨⟨%f0, H0⟩, ⟨%f1, H1⟩⟩
  iapply (Ring.pointsTo_blocks_join_exists (ℓ := (c : Thread nD τ).loc cc0_scratch2) oSS oSS_disjoint oSS_cover f0)
  irw [sep_two]
  isplitl [H0]
  · iexists f0; iapply (in_of_eq (oHeld_eq c 0 f0)); iexact H0
  iexists f1; iapply (in_of_eq (oHeld_eq c 1 f1)); iexact H1

/-! ## the blocks -/

/-- The elements of block `b` of the weights. -/
abbrev wBS (b : Fin 10) : Finset S15360x4096.Idx := (Rect.unit (s := S15360x4096) (wBlkOff b) S1536x4096.size (wBlkOff_inb b)).set
theorem wBlk_set (b : Fin 10) : (wBlk b).view.set = wBS b := View.set_slice_whole _ _
theorem mem_wBS (b : Fin 10) (y : S15360x4096.Idx) : y ∈ wBS b ↔ (y 0).val / 1536 = b.val := by
  rw [Rect.mem_set_unit]
  have h0 : (y 0).val < 15360 := (y 0).isLt
  have h1 : (y 1).val < 4096 := (y 1).isLt
  constructor
  · intro H
    have a0 : 1536 * b.val ≤ (y 0).val ∧ (y 0).val < 1536 * b.val + 1536 := H 0
    omega
  · intro H i; fin_cases i
    · show 1536 * b.val ≤ (y 0).val ∧ (y 0).val < 1536 * b.val + 1536; omega
    · show 0 ≤ (y 1).val ∧ (y 1).val < 0 + 4096; omega
theorem wBS_disjoint : ∀ b b' : Fin 10, b ≠ b' → Disjoint (wBS b) (wBS b') := by
  intro b b' hne; rw [Finset.disjoint_left]; intro y hy hy'; rw [mem_wBS] at hy hy'; exact hne (Fin.ext (by omega))
theorem wBS_cover : (Finset.univ : Finset (Fin 10)).biUnion wBS = Finset.univ := by
  ext y; simp only [Finset.mem_biUnion, Finset.mem_univ, true_and, iff_true]
  have h0 : (y 0).val < 15360 := (y 0).isLt
  exact ⟨⟨(y 0).val / 1536, by omega⟩, by rw [mem_wBS]⟩
theorem w_homes (f : Buf (Elt F) ((c : Thread nD τ).loc main_arg2)) :
    (((c : Thread nD τ).loc main_arg2) ↦{fullShare} f : sProp 𝕄) = bigSep Finset.univ (fun b => wHome (F := F) c f b) := by
  rw [Ring.pointsTo_blocks (ℓ := (c : Thread nD τ).loc main_arg2) wBS wBS_disjoint wBS_cover]
  exact bigSep_congr fun b _ => congrArg (fun S => (_ ↦[S]{fullShare} f : sProp 𝕄)) (wBlk_set b).symm

/-- The elements of block `b` of the result. -/
abbrev oBS (b : Fin 320) : Finset S16384x15360.Idx := (Rect.unit (s := S16384x15360) (oBlkOff b) S512x1536.size (oBlkOff_inb b)).set
theorem oBlk_set (b : Fin 320) : (oBlk b).view.set = oBS b := View.set_slice_whole _ _
theorem mem_oBS (b : Fin 320) (y : S16384x15360.Idx) : y ∈ oBS b ↔ (y 0).val / 512 = b.val / 10 ∧ (y 1).val / 1536 = b.val % 10 := by
  rw [Rect.mem_set_unit]
  have h0 : (y 0).val < 16384 := (y 0).isLt
  have h1 : (y 1).val < 15360 := (y 1).isLt
  constructor
  · intro H
    have a0 : 512 * (b.val / 10) ≤ (y 0).val ∧ (y 0).val < 512 * (b.val / 10) + 512 := H 0
    have a1 : 1536 * (b.val % 10) ≤ (y 1).val ∧ (y 1).val < 1536 * (b.val % 10) + 1536 := H 1
    omega
  · intro H i; fin_cases i
    · show 512 * (b.val / 10) ≤ (y 0).val ∧ (y 0).val < 512 * (b.val / 10) + 512; omega
    · show 1536 * (b.val % 10) ≤ (y 1).val ∧ (y 1).val < 1536 * (b.val % 10) + 1536; omega
theorem oBS_disjoint : ∀ b b' : Fin 320, b ≠ b' → Disjoint (oBS b) (oBS b') := by
  intro b b' hne; rw [Finset.disjoint_left]; intro y hy hy'; rw [mem_oBS] at hy hy'; exact hne (Fin.ext (by omega))
theorem oBS_cover : (Finset.univ : Finset (Fin 320)).biUnion oBS = Finset.univ := by
  ext y; simp only [Finset.mem_biUnion, Finset.mem_univ, true_and, iff_true]
  have h0 : (y 0).val < 16384 := (y 0).isLt
  have h1 : (y 1).val < 15360 := (y 1).isLt
  exact ⟨⟨10 * ((y 0).val / 512) + (y 1).val / 1536, by omega⟩, by rw [mem_oBS]; constructor <;> (show _ = _; dsimp only; omega)⟩
theorem o_homes (f : Buf (Elt F) ((c : Thread nD τ).loc main_v2_0)) :
    (((c : Thread nD τ).loc main_v2_0) ↦{fullShare} f : sProp 𝕄) = bigSep Finset.univ (fun b => oHome (F := F) c f b) := by
  rw [Ring.pointsTo_blocks (ℓ := (c : Thread nD τ).loc main_v2_0) oBS oBS_disjoint oBS_cover]
  exact bigSep_congr fun b _ => congrArg (fun S => (_ ↦[S]{fullShare} f : sProp 𝕄)) (oBlk_set b).symm

/-! ## the result -/

variable (HH : ℕ → FVec F S512x4096 .bf16) (W : Buf (Elt F) (wArr.view.loc (c : Thread nD τ)))

/-- An element's place inside its tile. -/
def tileIx (y : S16384x15360.Idx) : S512x1536.Idx := fun a => match a with
  | ⟨0, _⟩ => ⟨(y 0).val % 512, Nat.mod_lt _ (by decide)⟩
  | ⟨1, _⟩ => ⟨(y 1).val % 1536, Nat.mod_lt _ (by decide)⟩

/-- The result's array as the kernel leaves it. -/
def outArr : Buf (Elt F) (oArr.view.loc (c : Thread nD τ)) := fun y => outBlk c HH W (10 * ((y 0).val / 512) + (y 1).val / 1536) (tileIx y)

/-- A tile that reads as computed agrees there with the array. -/
theorem blk_agrees (b : Fin 320) (g : Buf (Elt F) (oArr.view.loc (c : Thread nD τ))) (hg : (oBlk b).view.read (Elt F) g = outBlk c HH W b.val)
    (y : S16384x15360.Idx) (hy : y ∈ (oBlk b).view.set) : g y = outArr c HH W y := by
  obtain ⟨z, -, hz⟩ := Finset.mem_map.mp hy
  have hz0 : (z 0).val < 512 := (z 0).isLt
  have hz1 : (z 1).val < 1536 := (z 1).isLt
  have e : g y = outBlk c HH W b.val z := hz ▸ (congrFun hg z)
  have e0 : (y 0).val = 512 * (b.val / 10) + (z 0).val := by
    have : (y 0).val = 512 * (b.val / 10) + 1 * (z 0).val := hz ▸ rfl
    omega
  have e1 : (y 1).val = 1536 * (b.val % 10) + (z 1).val := by
    have : (y 1).val = 1536 * (b.val % 10) + 1 * (z 1).val := hz ▸ rfl
    omega
  have er : tileIx y = z := by
    funext a; fin_cases a
    · refine Fin.ext ?_
      show (y 0).val % 512 = (z 0).val
      rw [e0]; omega
    · refine Fin.ext ?_
      show (y 1).val % 1536 = (z 1).val
      rw [e1]; omega
  unfold outArr
  rw [e, er, e0, e1, show 10 * ((512 * (b.val / 10) + (z 0).val) / 512) + (1536 * (b.val % 10) + (z 1).val) / 1536 = b.val by omega]

theorem oHome_congr (b : Fin 320) (g : Buf (Elt F) (oArr.view.loc (c : Thread nD τ))) (hg : (oBlk b).view.read (Elt F) g = outBlk c HH W b.val) :
    oHome (F := F) c g b = oHome (F := F) c (outArr c HH W) b :=
  pointsTo_congr fun y hy => blk_agrees c HH W b g hg y hy
/-- A tile as computed is the array's tile. -/
theorem oDn_home (b : Fin 320) : oDn c HH W b ⊢ oHome (F := F) c (outArr c HH W) b := by
  unfold oDn
  iintro ⟨%g, %hg, H⟩
  ihave H := (in_of_eq (oHome_congr c HH W b g hg)) $$ H
  iexact H

/-- All of them are the array. -/
theorem o_done : bigSep Finset.univ (oDn c HH W) ⊢ (((c : Thread nD τ).loc main_v2_0) ↦{fullShare} outArr c HH W : sProp 𝕄) :=
  (bigSep_mono fun b _ => oDn_home c HH W b).trans (in_of_eq (o_homes c (outArr c HH W)).symm)

theorem oHome_pd (f : Buf (Elt F) ((c : Thread nD τ).loc main_v2_0)) (b : Fin 320) : oHome (F := F) c f b ⊢ oPd (F := F) c b := by
  unfold oPd
  iintro H
  iexists f
  iexact H
/-- The array at anything is the tiles at anything. -/
theorem o_pending (f : Buf (Elt F) ((c : Thread nD τ).loc main_v2_0)) : (((c : Thread nD τ).loc main_v2_0) ↦{fullShare} f : sProp 𝕄) ⊢ bigSep Finset.univ (oPd (F := F) c) :=
  (in_of_eq (o_homes c f)).trans (bigSep_mono fun b _ => oHome_pd c f b)

end Homes
end Cert.Kernel2Ideal
-- ==== Proof.InRun.lean ====
module

public import proofs.«01_k».proof.Proof.InHomes
public import proofs.«01_k».proof.Proof.Gen.Kernel2Ideal.Frame

@[expose] public section

/-!
# The first matmul's run

At every grid point the kernel leaves the gates' block as computed and its rings one point further; before the first
point and after the last every ring is idle. From that, the run of the whole program.
-/

noncomputable section

namespace Cert.Kernel2Ideal

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-! ## The kernel's own semaphores -/

/-- The four DMA semaphores of the two rings. -/
abbrev osem : Fin 4 → SemLoc sig := fun i => .dma ⟨6 + i.val, by have := i.isLt; show _ < 10; omega⟩
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = iprop(wCell (F := F) c 0 ∗ wCell (F := F) c 1 ∗ oCell (F := F) c 0 ∗ oCell (F := F) c 1) := by
  unfold Pipeline.ownSems0
  exact bigSep_univ_eq_bigSepL [(0 : Fin 4), (1 : Fin 4), (2 : Fin 4), (3 : Fin 4)] (by decide) (by decide) _

/-! ## What a point takes and leaves -/

/-- The weights, as the host operations leave them. -/
abbrev WW (c : Dev nD) : Buf (Elt F) (wArr.view.loc (c : Thread nD τ)) := V m c main_arg2
/-- Grid point `n`. -/
abbrev pt (n : ℕ) : Fin cfg0.N := ⟨n % 32, lt_of_lt_of_eq (Nat.mod_lt _ (by decide)) N_0.symm⟩
theorem pt_val (t : Fin cfg0.N) : pt t.val = t := Fin.ext (Nat.mod_eq_of_lt (lt_of_lt_of_eq t.isLt N_0))
/-- The normed rows of point `n`. -/
def HH (c : Dev nD) (n : ℕ) : FVec F S512x4096 .bf16 := k0_pay2 (F := F) (iblk m c 0 (pt n)) (iblk m c 1 (pt n))
/-- The gates' block at point `t`. -/
def gateAt (c : Dev nD) (t : Fin cfg0.N) : FVec F S512x128 .f32 := k0_pay3 (F := F) (iblk m c 0 t) (iblk m c 1 t) (iblk m c 2 t)
/-- The projection. -/
abbrev OUT (c : Dev nD) : Buf (Elt F) (oArr.view.loc (c : Thread nD τ)) := outArr c (HH m c) (WW m c)

/-- The two rings after `n` points. -/
def rings (c : Dev nD) (n : ℕ) : sProp 𝕄 :=
  if n = 0 then iprop(wIdle c (WW m c) ∗ oIdle c (oPd (F := F) c))
  else if n = 32 then iprop(wIdle c (WW m c) ∗ oIdle c (oDn c (HH m c) (WW m c)))
  else iprop(wSt c (WW m c) (10 * n) ∗ oSt c (HH m c) (WW m c) (10 * n))
/-- The region's invariant after `n` points. -/
def Φ (c : Dev nD) (n : ℕ) : sProp 𝕄 := iprop((∃ f, hHeld (F := F) c f) ∗ rings m c n)

theorem rings_zero (c : Dev nD) (n : ℕ) (h : n = 0) : rings m c n = iprop(wIdle c (WW m c) ∗ oIdle c (oPd (F := F) c)) := if_pos h
theorem rings_end (c : Dev nD) (n : ℕ) (h : n = 32) : rings m c n = iprop(wIdle c (WW m c) ∗ oIdle c (oDn c (HH m c) (WW m c))) :=
  (if_neg (by omega)).trans (if_pos h)
theorem rings_mid (c : Dev nD) (n k : ℕ) (h0 : 0 < n) (h1 : n < 32) (hk : k = 10 * n) :
    rings m c n = iprop(wSt c (WW m c) k ∗ oSt c (HH m c) (WW m c) k) := by
  subst hk; exact (if_neg (by omega)).trans (if_neg (by omega))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gateAt m c t
  Φ t := Φ m c t.val
  q _ := fullShare
  owed _ := 0

theorem after_w0 (c : Dev nD) (t : Fin cfg0.N) : (dats m 0 c).after 0 t = iblk m c 0 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem after_w1 (c : Dev nD) (t : Fin cfg0.N) : (dats m 0 c).after 1 t = iblk m c 1 t := by dsimp only [dats]
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem after_w2 (c : Dev nD) (t : Fin cfg0.N) : (dats m 0 c).after 2 t = iblk m c 2 t := by dsimp only [dats]
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)
theorem after_w3 (c : Dev nD) (t : Fin cfg0.N) : (dats m 0 c).after 3 t = gateAt m c t := by dsimp only [dats]

/-! ## The body obligation -/

section Point
variable (c : Dev nD) (a1 : Memref sig .tc .vmem S512x4096 .f32) (h1 : a1.IsWhole) (a2 : Memref sig .tc .vmem S1x4096 .f32) (h2 : a2.IsWhole)
  (a4 : Memref sig .tc .vmem S128x4096 .bf16) (h4 : a4.IsWhole) (a6 : Memref sig .tc .vmem S512x128 .f32) (h6 : a6.IsWhole)
  (g1 : Buf (Elt F) (a1.view.loc (c : Thread nD τ))) (g2 : Buf (Elt F) (a2.view.loc (c : Thread nD τ)))
  (g4 : Buf (Elt F) (a4.view.loc (c : Thread nD τ)))

/-- Any point. -/
theorem body_any (t : Fin grid0.N) (e1 : a1.view.read (Elt F) g1 = iblk m c 0 t) (e2 : a2.view.read (Elt F) g2 = iblk m c 1 t)
    (g6 : Buf (Elt F) (a6.view.loc (c : Thread nD τ))) (O) (Q : PUnit → sProp 𝕄) :
    iprop((owes (c : Thread nD τ) 0 O ∗ ins c a1 a2 a4 g1 g2 g4 ∗ (a6.view.loc (c : Thread nD τ) ↦[a6.view.set]{fullShare} g6) ∗ Φ m c t.val)
      ∗ (((∃ O, owes (c : Thread nD τ) 0 O) ∗ ins c a1 a2 a4 g1 g2 g4 ∗ gates c a1 a2 a4 a6 g1 g2 g4 ∗ Φ m c (t.val + 1)) -∗ Q ⟨⟩))
    ⊢ wp frame (wpE (defs₀ (F := F)) 𝒱₀ (c : Thread nD τ) none) Set.univ (bodyI a1 h1 a2 h2 a4 h4 a6 h6 t) Q := by
  have hN : t.val < 32 := lt_of_lt_of_eq t.isLt N_0
  have hHH : HH m c t.val = k0_pay2 (F := F) (a1.view.read (Elt F) g1) (a2.view.read (Elt F) g2) := by
    unfold HH; rw [e1, e2]
    exact congrArg (fun u : Fin cfg0.N => k0_pay2 (F := F) (iblk m c 0 u) (iblk m c 1 u)) (pt_val t)
  unfold Φ
  rcases Nat.eq_zero_or_pos t.val with hz | hlo
  · rw [rings_zero m c t.val hz, rings_mid m c (t.val + 1) (10 * t.val + 10) (by omega) (by omega) (by omega)]
    exact body_first c (HH m c) (WW m c) a1 h1 a2 h2 a4 h4 a6 h6 g1 g2 g4 t hz hHH g6 O Q
  rcases Nat.lt_or_ge t.val 31 with hhi | hge
  · rw [rings_mid m c t.val (10 * t.val) hlo (by omega) rfl, rings_mid m c (t.val + 1) (10 * t.val + 10) (by omega) (by omega) (by omega)]
    exact body_mid c (HH m c) (WW m c) a1 h1 a2 h2 a4 h4 a6 h6 g1 g2 g4 t hlo hhi hHH g6 O Q
  have ht : t = ⟨31, h31⟩ := Fin.ext (by show t.val = 31; omega)
  subst ht
  rw [rings_mid m c _ (10 * 31) hlo hN rfl, rings_end m c _ rfl]
  exact body_last c (HH m c) (WW m c) a1 h1 a2 h2 a4 h4 a6 h6 g1 g2 g4 hHH g6 O Q
end Point

theorem defs_tc : (defs₀ (F := F)) .tc cfg0.body
    = fun a => bodyI (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) a.1 := rfl
/-- The kernel at point `t`, on the point's staging buffers. -/
abbrev bodyT (t : Fin cfg0.N) := bodyI (F := F) (win0_0.stage (cfg0.slots t 0)) (hstage0_0 ((cfg0.slots t 0).cast nbuf0_0)) (win0_1.stage (cfg0.slots t 1)) (hstage0_1 ((cfg0.slots t 1).cast nbuf0_1))
        (win0_2.stage (cfg0.slots t 2)) (hstage0_2 ((cfg0.slots t 2).cast nbuf0_2)) (win0_3.stage (cfg0.slots t 3)) (hstage0_3 ((cfg0.slots t 3).cast nbuf0_3)) t
theorem prog_eq (t : Fin cfg0.N) : (defs₀ (F := F)) .tc cfg0.body (cfg0.bodyArgs t (cfg0.slots t)) = bodyT t :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns
  iintro ⟨HB, ⟨%O, -, HW⟩, ⟨%d0, %g1, %e1, H1⟩, ⟨%d1, %g2, %e2, H2⟩, ⟨%d2, %g4, %e4, H4⟩, ⟨%d3, %g6, -, H6⟩⟩
  sl_rw [prog_eq t]
  iapply (body_any m c (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3)) g1 g2 g4 t e1 e2 g6 O _)
  isplitl [HB HW H1 H2 H4 H6]
  · isplitl [HW]; · iexact HW
    isplitl [H1 H2 H4]
    · isplitl [H1]; · iexact H1
      isplitl [H2]; · iexact H2
      iexact H4
    isplitl [H6]; · iexact H6
    iexact HB
  iintro ⟨⟨%O', HW⟩, ⟨H1, H2, H4⟩, ⟨%g, %hg, H6⟩, HB⟩
  isplitl [HB]; · iexact HB
  isplitl [HW]
  · iexists O'; isplitr; · ipureintro; exact fun _ _ => Or.inl trivial
    iexact HW
  isplitl [H1]
  · iexists g1; isplitr; · ipureintro; exact e1
    iexact H1
  isplitl [H2]
  · iexists g2; isplitr; · ipureintro; exact e2
    iexact H2
  isplitl [H4]
  · iexists g4; isplitr; · ipureintro; exact e4
    iexact H4
  iexists g; isplitr
  · ipureintro
    refine hg.trans ?_
    rw [e1, e2, e4]; rfl
  iexact H6

/-! ## The run -/

/-- The weights and the projection's array at anything, and the semaphores at rest. -/
def intoΦ (c : Dev nD) : sProp 𝕄 :=
  iprop((((c : Thread nD τ).loc main_arg2) ↦{fullShare} V m c main_arg2) ∗ (((c : Thread nD τ).loc main_v2_0) ↦{fullShare} V m c main_v2_0)
    ∗ Pipeline.ownSems0 osem c)
/-- The weights and the projection. -/
def outOfΦ (c : Dev nD) : sProp 𝕄 :=
  iprop((((c : Thread nD τ).loc main_arg2) ↦{fullShare} V m c main_arg2) ∗ (((c : Thread nD τ).loc main_v2_0) ↦{fullShare} OUT m c))
/-- The arguments only the host operations read. -/
def aside (c : Dev nD) : sProp 𝕄 :=
  iprop((((c : Thread nD τ).loc main_arg0) ↦{fullShare} V m c main_arg0) ∗ (((c : Thread nD τ).loc main_arg1) ↦{fullShare} V m c main_arg1))

/-- Cutting everything up. -/
theorem into_Φ (c : Dev nD) : iprop(intoΦ m c ∗ Pipeline.scopedRest spec0 c) ⊢ Φ m c 0 := by
  rw [scopedRest0_eq]
  unfold intoΦ Φ
  rw [rings_zero m c 0 rfl, ownSems0_eq]
  unfold wIdle oIdle wFr oFr
  iintro ⟨⟨A2, O0, Cw0, Cw1, Co0, Co1⟩, Bh, Bw, Bo⟩
  ihave Aw := (in_of_eq (w_homes c (V m c main_arg2))) $$ A2
  ihave Ao := (o_pending c (V m c main_v2_0)) $$ O0
  ihave Bw := (w_split c) $$ Bw
  icases Bw with ⟨Hw0, Hw1⟩
  ihave Bo := (o_split c) $$ Bo
  icases Bo with ⟨Ho0, Ho1⟩
  isplitl [Bh]; · iexact Bh
  isplitl [Hw0 Cw0 Hw1 Cw1 Aw]
  · isplitl [Hw0 Cw0]
    · isplitl [Hw0]; · iexact Hw0
      iexact Cw0
    isplitl [Hw1 Cw1]
    · isplitl [Hw1]; · iexact Hw1
      iexact Cw1
    iexact Aw
  isplitl [Ho0 Co0]
  · isplitl [Ho0]; · iexact Ho0
    iexact Co0
  isplitl [Ho1 Co1]
  · isplitl [Ho1]; · iexact Ho1
    iexact Co1
  iexact Ao

/-- Putting it together again. -/
theorem of_Φ (c : Dev nD) : Φ m c 32 ⊢ iprop(outOfΦ m c ∗ Pipeline.ownSems0 osem c ∗ Pipeline.scopedRest spec0 c) := by
  rw [scopedRest0_eq, ownSems0_eq]
  unfold outOfΦ Φ
  rw [rings_end m c 32 rfl]
  unfold wIdle oIdle wFr oFr
  iintro ⟨Bh, ⟨⟨Hw0, Cw0⟩, ⟨Hw1, Cw1⟩, Aw⟩, ⟨Ho0, Co0⟩, ⟨Ho1, Co1⟩, Ao⟩
  isplitl [Aw Ao]
  · isplitl [Aw]; · iapply (in_of_eq (w_homes c (V m c main_arg2)).symm); iexact Aw
    iapply (o_done c (HH m c) (WW m c)); iexact Ao
  isplitl [Cw0 Cw1 Co0 Co1]
  · isplitl [Cw0]; · iexact Cw0
    isplitl [Cw1]; · iexact Cw1
    isplitl [Co0]; · iexact Co0
    iexact Co1
  isplitl [Bh]; · iexact Bh
  isplitl [Hw0 Hw1]
  · iapply (w_join c)
    isplitl [Hw0]; · iexact Hw0
    iexact Hw1
  iapply (o_join c)
  isplitl [Ho0]; · iexact Ho0
  iexact Ho1

def u₀ : UU nD τ := (initOf (Pipeline.cells cfgs cellOf_inj) (Pipeline.launchToks cfgs cellOf_inj), 1)
/-- The end, but for the windows' arrays. -/
def QY (c : Dev nD) (s : MemSt nD τ sig (Elt F)) : Prop :=
  s.mem ((c : Thread nD τ).loc main_v2_0) = OUT m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
/-- The gates as the run leaves them. -/
def GATES (c : Dev nD) : Buf (Elt F) ((c : Thread nD τ).loc main_v2_1) := (dats m 0 c).arrAt 3 cfg0.N
/-- The end: the two results as computed, the arguments as launched. -/
def QE (c : Dev nD) (s : MemSt nD τ sig (Elt F)) : Prop :=
  s.mem ((c : Thread nD τ).loc main_v2_0) = OUT m c
    ∧ s.mem ((c : Thread nD τ).loc main_v2_1) = GATES m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem read_end (c : Dev nD) (s' : Phys nD τ sig (Elt F)) :
    iprop(outOfΦ m c ∗ aside m c ∗ SI s') ⊢ |={Set.univ}=> (iprop(⌜QY m c s'.mem⌝ ∗ SI s') : sProp 𝕄) := by
  unfold outOfΦ aside
  iintro ⟨⟨H2, H5⟩, ⟨H0, H1⟩, HSI⟩
  icombine HSI H0 gives %h0
  icombine HSI H1 gives %h1
  icombine HSI H2 gives %h2
  icombine HSI H5 gives %h5
  imodintro
  isplitr
  · ipureintro
    exact ⟨Buf.eq_of_forall_mem_univ h5, (Buf.eq_of_forall_mem_univ h0).trans (V_main_arg0 m c), (Buf.eq_of_forall_mem_univ h1).trans (V_main_arg1 m c),
      (Buf.eq_of_forall_mem_univ h2).trans (V_main_arg2 m c)⟩
  iexact HSI

/-- From what the launch gives of the windows' arrays and the rest. -/
theorem at_end (c : Dev nD) (s : MemSt nD τ sig (Elt F)) (hw : ∀ w : Fin cfg0.W, s.mem ((cfg0.win w).arr.view.loc (c : Thread nD τ)) = (dats m 0 c).arrAt w cfg0.N)
    (h : QY m c s) : QE m c s :=
  ⟨h.1, hw 3, h.2.1, h.2.2.1, h.2.2.2, (hw 2).trans (((dats m 0 c).arrAt_in 2 rfl _).trans (V_main_arg3 m c))⟩

set_option backward.isDefEq.respectTransparency.types false in
/-- For any float values, from any memory with zero counters: every weakly fair execution of the program terminates,
    and every final state has both results as computed, the arguments as launched and every counter at zero. -/
theorem run_main : θ_run defs (onTc (τ := τ) (main (F := F))) ⟨m, fun _ => 0, ρ⟩ (fun r => (∀ c : Dev nD, QE m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := aside m)
    (hX := fun c => by
      rw [unscopedRest0_eq]
      unfold intoΦ aside
      iintro ⟨⟨H0, H1, H2, H3⟩, HS, -, -, -⟩; imodintro
      isplitl [H2 H3 HS]
      · isplitl [H2]; · iexact H2
        isplitl [H3]; · iexact H3
        iexact HS
      isplitl [H0]; · iexact H0
      iexact H1)
    (hin := into_Φ m)
    (hout := fun c => by
      rw [show (dats m 0 c).Φ (Fin.last cfg0.N) = Φ m c 32 from congrArg (Φ m c) N_0]
      exact of_Φ m c)
    (QY := QY m)
    (hY := read_end m)
    (hQ := fun _ hh hz => ⟨fun c => at_end m c _ (hh c).1 (hh c).2, hz⟩)

end Launch
end Cert.Kernel2Ideal
-- ==== Proof.InFrames.lean ====
module

public import proofs.«01_k».proof.Defs
public import proofs.«01_k».proof.Proof.InRun
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import Idealize.ShloMosaic.Lib.Quiescent

@[expose] public section

/-!
# The frames of the first matmul

One run, over any float values, read twice; and the reference's.
-/

noncomputable section

namespace Cert.Proof

open Idealize.ShloMosaic Idealize.SL.Sem

/-- The arguments as launched and every counter at zero, over any float values. -/
theorem in_frame {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) :
    θ_run (Cert.Kernel2Ideal.defs (F := F)) (onTc (τ := Cert.Kernel2Ideal.τ) (Cert.Kernel2Ideal.main (F := F))) ⟨m, fun _ => 0, ρ⟩ (fun r =>
      (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0) :=
  (θ_run Cert.Kernel2Ideal.defs _ _).mono (fun _ h => ⟨fun c => (h.1 c).2.2, h.2⟩) (Cert.Kernel2Ideal.run_main (F := F) m ρ)

/-- The idealized kernel ends with its arguments as launched and every counter at zero. -/
theorem frame_in_ideal : Cert.quiescent_Kernel2Ideal (hKernel2Ideal := Cert.Kernel2Ideal.Gen.facts) := fun m ρ _ => in_frame m ρ

/-- The two readings have one table of bodies. -/
theorem in_bodies : Cert.Kernel2.defs₀ (F := Bits) = Cert.Kernel2Ideal.defs₀ (F := Bits) :=
  congrArg Defs.onTc (funext fun ℓ => funext fun a => match ℓ, a with
    | 0, (t, s) => rfl
    | ⟨_ + 1, h⟩, _ => absurd h (Nat.not_lt.2 (Nat.le_add_left _ _)))
theorem in_defs : Cert.Kernel2.defs (F := Bits) = Cert.Kernel2Ideal.defs (F := Bits) := congrArg (Pipeline.defs _) in_bodies

/-- And so does the kernel on bit patterns. -/
theorem frame_in_kernel : Cert.quiescent_Kernel2 (hKernel2 := Cert.Kernel2.Gen.facts) := fun m ρ _ => by
  exact Eq.mpr (congrArg (fun D => θ_run D (onTc (τ := Cert.Kernel2.τ) (Cert.Kernel2.main (F := Bits))) ⟨m, fun _ => 0, ρ⟩ _) in_defs) (in_frame (F := Bits) m ρ)

/-- The reference halts, faults nowhere and leaves its arguments and semaphores as they were. -/
theorem frame_in_reference : Cert.quiescent_Reference2Ideal (hReference2Ideal := Cert.Reference2Ideal.Gen.facts) := by
  intro m g _
  exact (θ_run Cert.Reference2Ideal.defs _ _).mono
    (fun r h => ⟨fun c => (h c).2.2, sem_eq_zero_of_no_sems (by decide) r.2⟩)
    (Cert.Reference2Ideal.Value.run (F := Ideal) m g)

end Cert.Proof

end
-- ==== Proof.InValue.lean ====
module

public import proofs.«01_k».proof.Proof.InRun
public import Idealize.ShloMosaic.Lib.Pointwise
public import Idealize.ShloMosaic.Lib.Pipeline.ValueKit
public import Idealize.ShloMosaic.Lib.Claim

@[expose] public section

/-!
# The first matmul's arrays at an element, over the extended reals

A point's rows are normed rows of the whole; a tile of the projection, and a block of the gates, is at each element the
sum of products of one such row and one row of the weights.
-/

set_option maxRecDepth 16384

noncomputable section

namespace Cert.Kernel2Ideal.Value

open Cert.Kernel2Ideal Cert.Kernel2Ideal.Gen
open Idealize.ShloMosaic Idealize.ShloMosaic.TcCoe
open Idealize.ShloMosaic.Pipeline (Dat Cfg Window)

/-- One element of the normed rows. -/
def normed (X : FVec Ideal S16384x4096 .f32) (G : FVec Ideal S1x4096 .f32) (r : Fin 16384) (s : Fin 4096) : EReal :=
  X (ix2 r s) * Ideal.rsqrt (Ideal.div (∑ t : Fin 4096, X (ix2 r t) * X (ix2 r t)) (Ideal.ofBits .f32 0x45800000#32) + Ideal.ofBits .f32 0x358637BD#32) * G (ix2 0 s)

/-- What the kernel computes of a block of rows, at an element. -/
theorem pay1_at (x : FVec Ideal S512x4096 .f32) (g : FVec Ideal S1x4096 .f32) (p : Fin 512) (s : Fin 4096) :
    k0_pay1 (F := Ideal) x g (ix2 p s)
      = x (ix2 p s) * Ideal.rsqrt (Ideal.div (∑ t : Fin 4096, x (ix2 p t) * x (ix2 p t)) (Ideal.ofBits .f32 0x45800000#32) + Ideal.ofBits .f32 0x358637BD#32) * g (ix2 0 s) := by
  pointwise [k0_pay1]
theorem pay2_at (x : FVec Ideal S512x4096 .f32) (g : FVec Ideal S1x4096 .f32) (p : Fin 512) (s : Fin 4096) :
    k0_pay2 (F := Ideal) x g (ix2 p s)
      = x (ix2 p s) * Ideal.rsqrt (Ideal.div (∑ t : Fin 4096, x (ix2 p t) * x (ix2 p t)) (Ideal.ofBits .f32 0x45800000#32) + Ideal.ofBits .f32 0x358637BD#32) * g (ix2 0 s) := by
  pointwise [k0_pay2, k0_pay1]
/-- A tile's element. -/
theorem tile_at (h : FVec Ideal S512x4096 .bf16) (w : FVec Ideal S1536x4096 .bf16) (p : Fin 512) (q : Fin 1536) :
    tile (F := Ideal) h w (ix2 p q) = ∑ k : Fin 4096, h (ix2 p k) * w (ix2 q k) := by
  pointwise [tile]
/-- A gate's. -/
theorem pay3_at (x : FVec Ideal S512x4096 .f32) (g : FVec Ideal S1x4096 .f32) (w : FVec Ideal S128x4096 .bf16) (p : Fin 512) (q : Fin 128) :
    k0_pay3 (F := Ideal) x g w (ix2 p q) = ∑ k : Fin 4096, k0_pay1 (F := Ideal) x g (ix2 p k) * w (ix2 q k) := by
  pointwise [k0_pay3]

/-- If a block's rows are rows of the whole, so are they normed. -/
theorem pay1_rows (X : FVec Ideal S16384x4096 .f32) (G : FVec Ideal S1x4096 .f32) (x : FVec Ideal S512x4096 .f32) (g : FVec Ideal S1x4096 .f32)
    (p : Fin 512) (r : Fin 16384) (hx : ∀ s : Fin 4096, x (ix2 p s) = X (ix2 r s)) (hg : g = G) (s : Fin 4096) :
    k0_pay1 (F := Ideal) x g (ix2 p s) = normed X G r s := by
  rw [pay1_at]; unfold normed; simp only [hx, hg]
theorem pay2_rows (X : FVec Ideal S16384x4096 .f32) (G : FVec Ideal S1x4096 .f32) (x : FVec Ideal S512x4096 .f32) (g : FVec Ideal S1x4096 .f32)
    (p : Fin 512) (r : Fin 16384) (hx : ∀ s : Fin 4096, x (ix2 p s) = X (ix2 r s)) (hg : g = G) (s : Fin 4096) :
    k0_pay2 (F := Ideal) x g (ix2 p s) = normed X G r s := by
  rw [pay2_at]; unfold normed; simp only [hx, hg]

/-! ## The blocks -/

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

section Blocks
variable (m : (ℓ : Loc nD τ sig) → Buf (Elt Ideal) ℓ) (c : Dev nD)

theorem t_lt (t : Fin cfg0.N) : t.val < 32 := lt_of_lt_of_eq t.isLt N_0

/-- The arrays the call is given, as arrays of numbers. -/
abbrev xs : FVec Ideal S16384x4096 .f32 := V m c main_v0
abbrev gs : FVec Ideal S1x4096 .f32 := V m c main_v1
abbrev wm : FVec Ideal S15360x4096 .bf16 := V m c main_arg2
abbrev wg : FVec Ideal S128x4096 .bf16 := V m c main_arg3

theorem x_at (t : Fin cfg0.N) (p : Fin 512) (s : Fin 4096) :
    (iblk m c 0 t : FVec Ideal S512x4096 .f32) (ix2 p s) = xs m c (ix2 (⟨512 * t.val + p.val, by have := t_lt t; omega⟩ : Fin 16384) s) := by
  have h := (idx t).1
  blk_point [iblk, h]
theorem g_at (t : Fin cfg0.N) : (iblk m c 1 t : FVec Ideal S1x4096 .f32) = gs m c := by
  have h := (idx t).2.1
  funext y
  blk_point [iblk, h]
theorem wg_at (t : Fin cfg0.N) : (iblk m c 2 t : FVec Ideal S128x4096 .bf16) = wg m c := by
  have h := (idx t).2.2.1
  funext y
  blk_point [iblk, h]
theorem wm_at (W : FVec Ideal S15360x4096 .bf16) (b : Fin 10) (q : Fin 1536) (s : Fin 4096) :
    (wBlk b).view.read (Elt Ideal) W (ix2 q s) = W (ix2 (⟨1536 * b.val + q.val, by omega⟩ : Fin 15360) s) := by
  refine congrArg W (funext fun a => ?_)
  fin_cases a
  · refine Fin.ext ?_; show 1536 * b.val + 1 * q.val = 1536 * b.val + q.val; omega
  · refine Fin.ext ?_; show 0 + 1 * s.val = s.val; omega

/-- The projection's array at an element is a tile's. -/
theorem arr_at (H : ℕ → FVec Ideal S512x4096 .bf16) (W : FVec Ideal S15360x4096 .bf16) (r : Fin 16384) (s : Fin 15360) :
    (outArr (F := Ideal) c H W : FVec Ideal S16384x15360 .bf16) (ix2 r s)
      = outBlk (F := Ideal) c H W (10 * (r.val / 512) + s.val / 1536) (ix2 (⟨r.val % 512, Nat.mod_lt _ (by decide)⟩ : Fin 512) (⟨s.val % 1536, Nat.mod_lt _ (by decide)⟩ : Fin 1536)) := by
  have e : tileIx (ix2 r s) = ix2 (⟨r.val % 512, Nat.mod_lt _ (by decide)⟩ : Fin 512) (⟨s.val % 1536, Nat.mod_lt _ (by decide)⟩ : Fin 1536) := by
    funext a
    fin_cases a <;> rfl
  exact congrArg (outBlk (F := Ideal) c H W (10 * (r.val / 512) + s.val / 1536)) e

/-- It, of blocks of rows of one matrix `N`. -/
theorem arr_sum (H : ℕ → FVec Ideal S512x4096 .bf16) (W : FVec Ideal S15360x4096 .bf16) (N : Fin 16384 → Fin 4096 → EReal)
    (hH : ∀ (n : ℕ) (hn : n < 32) (p : Fin 512) (k : Fin 4096), H n (ix2 p k) = N ⟨512 * n + p.val, by omega⟩ k) (r : Fin 16384) (s : Fin 15360) :
    (outArr (F := Ideal) c H W : FVec Ideal S16384x15360 .bf16) (ix2 r s) = ∑ k : Fin 4096, N r k * W (ix2 s k) := by
  have hr : r.val < 16384 := r.isLt
  have hs : s.val < 15360 := s.isLt
  have hb : (10 * (r.val / 512) + s.val / 1536) / 10 = r.val / 512 := by omega
  have hb' : (Ring.sl 10 (10 * (r.val / 512) + s.val / 1536)).val = s.val / 1536 := by
    show (10 * (r.val / 512) + s.val / 1536) % 10 = _
    omega
  refine (arr_at c H W r s).trans ((tile_at _ _ _ _).trans ?_)
  refine Finset.sum_congr rfl fun k _ => congrArg₂ _ ?_ ?_
  · rw [hb, hH _ (by omega)]
    refine congrArg (fun z => N z k) (Fin.ext ?_)
    show 512 * (r.val / 512) + r.val % 512 = r.val
    omega
  · refine (wm_at W _ _ k).trans (congrArg (fun z : Fin 15360 => W (ix2 z k)) (Fin.ext ?_))
    show 1536 * (Ring.sl 10 (10 * (r.val / 512) + s.val / 1536)).val + s.val % 1536 = s.val
    rw [hb']; omega

/-- A point's rows. -/
theorem rows_at (n : ℕ) (hn : n < 32) (p : Fin 512) (k : Fin 4096) :
    HH (F := Ideal) m c n (ix2 p k) = normed (xs m c) (gs m c) ⟨512 * n + p.val, by omega⟩ k := by
  unfold HH
  refine pay2_rows (xs m c) (gs m c) _ _ p _ (fun s => ?_) (g_at m c _) k
  refine (x_at m c _ p s).trans (congrArg (fun z : Fin 16384 => xs m c (ix2 z s)) (Fin.ext ?_))
  show 512 * (n % 32) + p.val = 512 * n + p.val
  omega

/-- The projection at row `r`, column `s`. -/
theorem out_at (r : Fin 16384) (s : Fin 15360) :
    (OUT m c : FVec Ideal S16384x15360 .bf16) (ix2 r s) = ∑ k : Fin 4096, normed (xs m c) (gs m c) r k * wm m c (ix2 s k) :=
  arr_sum c (HH m c) (wm m c) (normed (xs m c) (gs m c)) (rows_at m c) r s

/-- The gates' array. -/
def gateArr : FVec Ideal S16384x128 .f32 := fun y => ∑ k : Fin 4096, normed (xs m c) (gs m c) (y 0) k * wg m c (ix2 (y 1) k)

/-- A point's block of it. -/
theorem gate_point (t : Fin cfg0.N) (y : S512x128.Idx) :
    gateAt m c t y = gateArr m c (ix2 (⟨512 * t.val + (y 0).val, by have := t_lt t; have h : (y 0).val < 512 := (y 0).isLt; omega⟩ : Fin 16384) (y 1)) := by
  obtain ⟨p, q, rfl⟩ : ∃ (p : Fin 512) (q : Fin 128), y = ix2 p q := ⟨y 0, y 1, eq_ix2 y⟩
  unfold gateAt gateArr
  rw [pay3_at]
  refine Finset.sum_congr rfl fun k _ => congrArg₂ _ ?_ ?_
  · exact pay1_rows (xs m c) (gs m c) _ _ _ _ (fun s => x_at m c t p s) (g_at m c t) k
  · exact congrFun (wg_at m c t) _

/-- The gates as the run leaves them. -/
theorem gates_value : GATES m c = gateArr m c := by
  unfold GATES
  refine (dats m 0 c).arrAt_eq_of_covers 3 _ (by decide +kernel) fun t _ y => ?_
  have h := (idx t).2.2.2
  blk_simp
  rw [after_w3]
  refine (gate_point m c t y).trans (congrArg (gateArr m c) ?_)
  funext a
  fin_cases a
  · refine Fin.ext ?_
    blk_simp [h]
    show 512 * t.val + (y 0).val = t.val * 512 + (y 0).val
    omega
  · refine Fin.ext ?_
    blk_simp [h]
    rfl

end Blocks
end Cert.Kernel2Ideal.Value
-- ==== Proof.InRefValue.lean ====
module

public import proofs.«01_k».proof.Defs
public import proofs.«01_k».proof.Proof.Gen.Reference2Ideal
public import Idealize.ShloMosaic.Lib.Pointwise

@[expose] public section

/-!
# The first matmul's reference at an element, over the extended reals

The rows are normed and scaled; each result is one sum of products over a row's columns.
-/

set_option maxRecDepth 16384

noncomputable section

namespace Cert.Reference2Ideal.Ref

open Cert.Reference2Ideal Cert.Reference2Ideal.Facts Cert.Reference2Ideal.Gen
open Idealize.ShloMosaic

variable (X : FVec Ideal S16384x4096 .f32) (G : FVec Ideal S4096 .f32)

/-- The normed rows. -/
def rows : FVec Ideal S16384x4096 .f32 :=
  mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 G))
/-- They at an element. -/
theorem rows_at (r : Fin 16384) (s : Fin 4096) : rows X G (ix2 r s)
    = X (ix2 r s) * Ideal.rsqrt (Ideal.div (∑ t : Fin 4096, X (ix2 r t) * X (ix2 r t)) (Ideal.ofBits .f32 0x45800000#32) + Ideal.ofBits .f32 0x358637BD#32) * G (ix1 s) := by
  pointwise [rows]

/-- The projection of rows. -/
def proj (H : FVec Ideal S16384x4096 .f32) (W : FVec Ideal S15360x4096 .bf16) : FVec Ideal S16384x15360 .bf16 :=
  truncf .bf16 (Host.dotGeneral dot_S16384x4096_S4096x15360_S16384x15360_1_0_0_1_n_n none H
    (transpose S4096x15360 [1, 0] (extf .f32 W bitsLt_bf16_f32) transposes_S15360x4096_S4096x15360_1_0)) bitsLt_bf16_f32
/-- It at an element. -/
theorem proj_at (H : FVec Ideal S16384x4096 .f32) (W : FVec Ideal S15360x4096 .bf16) (r : Fin 16384) (s : Fin 15360) :
    proj H W (ix2 r s) = ∑ k : Fin 4096, H (ix2 r k) * W (ix2 s k) := by
  pointwise [proj]

/-- The gates of rows. -/
def gates (H : FVec Ideal S16384x4096 .f32) (W : FVec Ideal S128x4096 .bf16) : FVec Ideal S16384x128 .f32 :=
  Host.dotGeneral dot_S16384x4096_S4096x128_S16384x128_1_0_0_1_n_n none H
    (transpose S4096x128 [1, 0] (extf .f32 W bitsLt_bf16_f32) transposes_S128x4096_S4096x128_1_0)
/-- They at an element. -/
theorem gates_at (H : FVec Ideal S16384x4096 .f32) (W : FVec Ideal S128x4096 .bf16) (r : Fin 16384) (s : Fin 128) :
    gates H W (ix2 r s) = ∑ k : Fin 4096, H (ix2 r k) * W (ix2 s k) := by
  pointwise [gates]

end Cert.Reference2Ideal.Ref
-- ==== Proof.InAlgebraic.lean ====
module

public import proofs.«01_k».proof.Proof.InValue
public import proofs.«01_k».proof.Proof.InRefValue
public import proofs.«01_k».proof.Proof.Gen.Reference2Ideal.Run
public import Idealize.ShloMosaic.Lib.Claim

@[expose] public section

/-!
# The first matmul's two results are the reference's

Element by element each is the same sum of products of normed rows and weights; the runs then agree.
-/

set_option maxRecDepth 16384

noncomputable section

namespace Cert.Kernel2Ideal.Value

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- What the call's operands hold: the input laid out as rows, -/
theorem entry_x : xs m c = shapeCast S16384x4096 (m ((c.tc : Thread nD τ).loc main_arg0)) shapeCasts_S4x4096x4096_S16384x4096 := by
  unfold xs
  entry_read
  rfl
/-- the gain as one row, -/
theorem entry_g : gs m c = shapeCast S1x4096 (m ((c.tc : Thread nD τ).loc main_arg1)) shapeCasts_S4096_S1x4096 := by
  unfold gs
  entry_read
  rfl
/-- and the two weights. -/
theorem entry_wm : wm m c = m ((c.tc : Thread nD τ).loc main_arg2) := V_main_arg2 m c
theorem entry_wg : wg m c = m ((c.tc : Thread nD τ).loc main_arg3) := V_main_arg3 m c

/-- The gain's row at a column. -/
theorem gain_row (g : FVec Ideal S4096 .f32) (s : Fin 4096) :
    (shapeCast S1x4096 g shapeCasts_S4096_S1x4096 : FVec Ideal S1x4096 .f32) (ix2 0 s) = g (ix1 s) := by
  pointwise []

/-- The kernel's normed rows are the reference's. -/
theorem normed_eq (x : FVec Ideal S16384x4096 .f32) (g : FVec Ideal S4096 .f32) (r : Fin 16384) (s : Fin 4096) :
    normed x (shapeCast S1x4096 g shapeCasts_S4096_S1x4096) r s = Cert.Reference2Ideal.Ref.rows x g (ix2 r s) := by
  refine Eq.trans ?_ (Cert.Reference2Ideal.Ref.rows_at x g r s).symm
  unfold normed
  rw [gain_row]

/-- An array of sums over the kernel's rows is the reference's projection, or its gates. -/
theorem proj_eq (x : FVec Ideal S16384x4096 .f32) (g : FVec Ideal S4096 .f32) (w : FVec Ideal S15360x4096 .bf16) (A : FVec Ideal S16384x15360 .bf16)
    (h : ∀ (r : Fin 16384) (s : Fin 15360), A (ix2 r s) = ∑ k : Fin 4096, normed x (shapeCast S1x4096 g shapeCasts_S4096_S1x4096) r k * w (ix2 s k)) :
    A = Cert.Reference2Ideal.Ref.proj (Cert.Reference2Ideal.Ref.rows x g) w := by
  funext y
  obtain ⟨r, s, rfl⟩ : ∃ (r : Fin 16384) (s : Fin 15360), y = ix2 r s := ⟨y 0, y 1, eq_ix2 y⟩
  refine (h r s).trans (Eq.trans ?_ (Cert.Reference2Ideal.Ref.proj_at _ w r s).symm)
  simp only [normed_eq]
theorem gates_eq (x : FVec Ideal S16384x4096 .f32) (g : FVec Ideal S4096 .f32) (w : FVec Ideal S128x4096 .bf16) (A : FVec Ideal S16384x128 .f32)
    (h : ∀ (r : Fin 16384) (s : Fin 128), A (ix2 r s) = ∑ k : Fin 4096, normed x (shapeCast S1x4096 g shapeCasts_S4096_S1x4096) r k * w (ix2 s k)) :
    A = Cert.Reference2Ideal.Ref.gates (Cert.Reference2Ideal.Ref.rows x g) w := by
  funext y
  obtain ⟨r, s, rfl⟩ : ∃ (r : Fin 16384) (s : Fin 128), y = ix2 r s := ⟨y 0, y 1, eq_ix2 y⟩
  refine (h r s).trans (Eq.trans ?_ (Cert.Reference2Ideal.Ref.gates_at _ w r s).symm)
  simp only [normed_eq]

/-- The kernel's projection. -/
theorem value_proj : OUT m c = Cert.Reference2Ideal.Ref.proj
    (Cert.Reference2Ideal.Ref.rows (shapeCast S16384x4096 (m ((c.tc : Thread nD τ).loc main_arg0)) shapeCasts_S4x4096x4096_S16384x4096) (m ((c.tc : Thread nD τ).loc main_arg1)))
    (m ((c.tc : Thread nD τ).loc main_arg2)) := by
  refine proj_eq _ _ _ _ fun r s => ?_
  have h := out_at m c r s
  rw [entry_x, entry_g, entry_wm] at h
  exact h

/-- The kernel's gates. -/
theorem value_gates : GATES m c = Cert.Reference2Ideal.Ref.gates
    (Cert.Reference2Ideal.Ref.rows (shapeCast S16384x4096 (m ((c.tc : Thread nD τ).loc main_arg0)) shapeCasts_S4x4096x4096_S16384x4096) (m ((c.tc : Thread nD τ).loc main_arg1)))
    (m ((c.tc : Thread nD τ).loc main_arg3)) := by
  refine gates_eq _ _ _ _ fun r s => ?_
  have h : (GATES m c : FVec Ideal S16384x128 .f32) (ix2 r s) = ∑ k : Fin 4096, normed (xs m c) (gs m c) r k * wg m c (ix2 s k) :=
    congrFun (gates_value m c) (ix2 r s)
  rw [entry_x, entry_g, entry_wg] at h
  exact h

end Cert.Kernel2Ideal.Value

namespace Cert.Proof

open Idealize.ShloMosaic Idealize.SL.Sem

/-- From memories agreeing on the arguments, the kernel and the reference end with the same two results. -/
theorem in_algebraic : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.OUT m c, fun c => Cert.Kernel2Ideal.GATES m c,
    (θ_run Cert.Kernel2Ideal.defs _ _).mono (fun r h c => h.1 c) (Cert.Kernel2Ideal.run_main (F := Ideal) m g),
    (θ_run Cert.Reference2Ideal.defs _ _).mono (fun r h c => ⟨(h c).1.trans ?_, (h c).2.1.trans ?_, (h c).2.2⟩) (Cert.Reference2Ideal.Value.run (F := Ideal) m' g')⟩
  · obtain ⟨h0, h1, h2, h3⟩ := hagree c
    rw [h0, h1, h2]
    exact (Cert.Kernel2Ideal.Value.value_proj m c).symm
  · obtain ⟨h0, h1, h2, h3⟩ := hagree c
    rw [h0, h1, h3]
    exact (Cert.Kernel2Ideal.Value.value_gates m c).symm

end Cert.Proof
-- ==== Proof.PrepRun.lean ====
module

public import proofs.«01_k».proof.Proof.Gen.Kernel3Ideal.Skeleton
public import proofs.«01_k».proof.Proof.Gen.Kernel3Ideal.Frame
public import Idealize.ShloMosaic.Lib.Pipeline.TableIdle
public import Idealize.ShloMosaic.Lib.VecWindow

@[expose] public section

/-!
# The weights' layout: the run

Every grid point rounds its own block of rows; the first one also lays the gates' rows together, and their buffer keeps
that until it is written back after the last point. From what a point does, the run of the whole program.
-/

noncomputable section

namespace Cert.Kernel3Ideal

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- No loop of the program needs a measure. -/
abbrev 𝒱₀ : Variants := Variants.none

/-! ## A point -/

theorem cond1_iff : ∀ t : Fin grid0.N, k0_cond1 (grid0.coords t) = 1#1 ↔ t.val = 0 := by decide +kernel
/-- The gates' buffer is stored into at the first point only, and written back after the last. -/
theorem idle_w4 : ∀ t : Fin cfg0.N, cfg0.idle 4 (cfg0.grid.coords t) = !decide (t.val = 0) :=
  (by decide +kernel : ∀ t : Fin grid0.N, idle0 4 (grid0.coords t) = !decide (t.val = 0))
theorem flush_w4 : ∀ t : Fin cfg0.N, (cfg0.win 4).flush t = decide (t.val = 29) :=
  (by decide +kernel : ∀ t : Fin grid0.N, win0_4.flush t = decide (t.val = 29))
/-- So once it is past the first point, what it holds has been stored. -/
theorem fresh_w4 (n : ℕ) (h : n < 29) : cfg0.fresh 4 (n + 1) = false := by
  have hN : n < cfg0.N := lt_of_lt_of_eq (by omega) N_0.symm
  rw [Cfg.fresh_succ cfg0 4 n hN, flush_w4, idle_w4]
  have h29 : decide (n = 29) = false := decide_eq_false (by omega)
  cases n with
  | zero => rfl
  | succ n =>
    rw [fresh_w4 n (by omega)]
    simp only [h29, Bool.and_false, Bool.or_false]

section Body
variable (c : Dev nD)
  (a1 : Memref sig .tc .vmem S512x4096 .f32) (h1 : a1.IsWhole) (a2 : Memref sig .tc .vmem S8x4096 .f32) (h2 : a2.IsWhole)
  (a3 : Memref sig .tc .vmem S48x4096 .f32) (h3 : a3.IsWhole) (a4 : Memref sig .tc .vmem S512x4096 .bf16) (h4 : a4.IsWhole)
  (a5 : Memref sig .tc .vmem S128x4096 .bf16) (h5 : a5.IsWhole)
  (g1 : Buf (Elt F) (a1.view.loc (c : Thread nD τ))) (g2 : Buf (Elt F) (a2.view.loc (c : Thread nD τ)))
  (g3 : Buf (Elt F) (a3.view.loc (c : Thread nD τ)))

/-- The kernel at grid point `t`. -/
abbrev bodyW (t : Fin grid0.N) : Prog (TpuEff nD τ sig (Elt F) Λ₀ .tc) PUnit :=
  cc0_w_prep (F := F) (grid0.coords t) a1 h1 a2 h2 a3 h3 a4 h4 a5 h5

/-- The rounded block as it is left. -/
theorem rows_value (f) (i1 i2) :
    a4.view.read (Elt F) (a4.view.writes (Elt F) f [⟨Rect.unit (s := S512x4096) ![0, 0] S512x4096.size i1,
      k0_pay1 (View.readAt (Elt F) a1.view (Rect.unit (s := S512x4096) ![0, 0] S512x4096.size i2).toLoadRect g1)⟩])
      = k0_pay1 (F := F) (a1.view.read (Elt F) g1) := by
  rw [View.read_writes_full, View.readAt_full]
/-- The gates' rows as they are left. -/
theorem gates_value (f) (i1 i2 i3) :
    a5.view.read (Elt F) (a5.view.writes (Elt F) f [⟨Rect.unit (s := S128x4096) ![0, 0] S128x4096.size i1,
      k0_pay2 (View.readAt (Elt F) a2.view (Rect.unit (s := S8x4096) ![0, 0] S8x4096.size i2).toLoadRect g2)
        (View.readAt (Elt F) a3.view (Rect.unit (s := S48x4096) ![0, 0] S48x4096.size i3).toLoadRect g3)⟩])
      = k0_pay2 (F := F) (a2.view.read (Elt F) g2) (a3.view.read (Elt F) g3) := by
  rw [View.read_writes_full, View.readAt_full, View.readAt_full]

/-- The blocks a point reads, held. -/
abbrev ins : sProp 𝕄 := iprop((a1.view.loc (c : Thread nD τ) ↦[a1.view.set]{fullShare} g1) ∗ (a2.view.loc (c : Thread nD τ) ↦[a2.view.set]{fullShare} g2)
  ∗ (a3.view.loc (c : Thread nD τ) ↦[a3.view.set]{fullShare} g3))
/-- The point's block of the result, rounded. -/
abbrev rows : sProp 𝕄 := iprop(∃ g, ⌜a4.view.read (Elt F) g = k0_pay1 (F := F) (a1.view.read (Elt F) g1)⌝ ∗ (a4.view.loc (c : Thread nD τ) ↦[a4.view.set]{fullShare} g))

/-- A later point. -/
theorem body_later (t : Fin grid0.N) (ht : t.val ≠ 0) (g4 : Buf (Elt F) (a4.view.loc (c : Thread nD τ))) (O) (Q : PUnit → sProp 𝕄) :
    iprop((owes (c : Thread nD τ) 0 O ∗ ins c a1 a2 a3 g1 g2 g3 ∗ (a4.view.loc (c : Thread nD τ) ↦[a4.view.set]{fullShare} g4))
      ∗ (((∃ O, owes (c : Thread nD τ) 0 O) ∗ ins c a1 a2 a3 g1 g2 g3 ∗ rows c a1 a4 g1) -∗ Q ⟨⟩))
    ⊢ wp frame (wpE (defs₀ (F := F)) 𝒱₀ (c : Thread nD τ) none) Set.univ (bodyW a1 h1 a2 h2 a3 h3 a4 h4 a5 h5 t) Q := by
  have k0_h1 := mt (cond1_iff t).mp ht
  iintro ⟨⟨HW, ⟨H1, H2, H3⟩, H4⟩, Hk⟩
  sl_unfold [bodyW, cc0_w_prep]
  sl_exec
  sl_step
  iapply Hk
  isplitl [HW]; · iexists _; iexact HW
  isplitl [H1 H2 H3]
  · isplitl [H1]; · iexact H1
    isplitl [H2]; · iexact H2
    iexact H3
  iexists _
  isplitr; swap; · iexact H4
  ipureintro
  exact rows_value c a1 a4 g1 _ inb_S512x4096_S512x4096_0_0 inb_S512x4096_S512x4096_0_0

/-- The first point. -/
theorem body_first (t : Fin grid0.N) (ht : t.val = 0) (g4 : Buf (Elt F) (a4.view.loc (c : Thread nD τ))) (g5 : Buf (Elt F) (a5.view.loc (c : Thread nD τ)))
    (O) (Q : PUnit → sProp 𝕄) :
    iprop((owes (c : Thread nD τ) 0 O ∗ ins c a1 a2 a3 g1 g2 g3 ∗ (a4.view.loc (c : Thread nD τ) ↦[a4.view.set]{fullShare} g4)
        ∗ (a5.view.loc (c : Thread nD τ) ↦[a5.view.set]{fullShare} g5))
      ∗ (((∃ O, owes (c : Thread nD τ) 0 O) ∗ ins c a1 a2 a3 g1 g2 g3 ∗ rows c a1 a4 g1
        ∗ ∃ g, ⌜a5.view.read (Elt F) g = k0_pay2 (F := F) (a2.view.read (Elt F) g2) (a3.view.read (Elt F) g3)⌝ ∗ (a5.view.loc (c : Thread nD τ) ↦[a5.view.set]{fullShare} g)) -∗ Q ⟨⟩))
    ⊢ wp frame (wpE (defs₀ (F := F)) 𝒱₀ (c : Thread nD τ) none) Set.univ (bodyW a1 h1 a2 h2 a3 h3 a4 h4 a5 h5 t) Q := by
  have k0_h1 := (cond1_iff t).mpr ht
  iintro ⟨⟨HW, ⟨H1, H2, H3⟩, H4, H5⟩, Hk⟩
  sl_unfold [bodyW, cc0_w_prep]
  sl_exec
  sl_step
  iapply Hk
  isplitl [HW]; · iexists _; iexact HW
  isplitl [H1 H2 H3]
  · isplitl [H1]; · iexact H1
    isplitl [H2]; · iexact H2
    iexact H3
  isplitl [H4]
  · iexists _
    isplitr; swap; · iexact H4
    ipureintro
    exact rows_value c a1 a4 g1 _ inb_S512x4096_S512x4096_0_0 inb_S512x4096_S512x4096_0_0
  iexists _
  isplitr; swap; · iexact H5
  ipureintro
  exact gates_value c a2 a3 a5 g2 g3 _ inb_S128x4096_S128x4096_0_0 inb_S8x4096_S8x4096_0_0 inb_S48x4096_S48x4096_0_0

end Body

section Launch
variable (m : (ℓ : Loc nD τ sig) → Buf (Elt F) ℓ) (ρ : Dev nD → PrngReg)

/-! ## What a point leaves -/

/-- The first point. -/
abbrev p0 : Fin cfg0.N := ⟨0, lt_of_lt_of_eq (by decide) N_0.symm⟩
/-- The rounded block of point `t`. -/
def rowsAt (c : Dev nD) (t : Fin cfg0.N) : FVec F S512x4096 .bf16 := k0_pay1 (F := F) (iblk m c 0 t)
/-- The gates' rows. -/
def gateRows (c : Dev nD) : FVec F S128x4096 .bf16 := k0_pay2 (F := F) (iblk m c 1 p0) (iblk m c 2 p0)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowsAt m c t
    | ⟨4, _⟩ => gateRows m c
  Φ _ := Pipeline.ΦA spec0 c
  q w := Pipeline.shareOf spec0 w
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = rowsAt m c t := by dsimp only [dats]
theorem after_w4 (c : Dev nD) (t : Fin cfg0.N) : (dats m 0 c).after 4 t = gateRows m c := by dsimp only [dats]
theorem before_w0 (c : Dev nD) (t : Fin cfg0.N) (d) : (dats m 0 c).before 0 t d = iblk m c 0 t :=
  before0_0_of m (dats m 0 c) rfl (after_w0 m c) t d
theorem before_w1 (c : Dev nD) (t : Fin cfg0.N) (d) : (dats m 0 c).before 1 t d = iblk m c 1 t :=
  before0_1_of m (dats m 0 c) rfl (after_w1 m c) t d
theorem before_w2 (c : Dev nD) (t : Fin cfg0.N) (d) : (dats m 0 c).before 2 t d = iblk m c 2 t :=
  before0_2_of m (dats m 0 c) rfl (after_w2 m c) t d
/-- After the first point the gates' buffer holds the gates' rows. -/
theorem before_w4 (c : Dev nD) (t : Fin cfg0.N) (ht : t.val ≠ 0) (d) : (dats m 0 c).before 4 t d = gateRows m c := by
  have hN : t.val < 30 := lt_of_lt_of_eq t.isLt N_0
  have hf : cfg0.fresh 4 t.val = false := by
    obtain ⟨k, hk⟩ := Nat.exists_eq_succ_of_ne_zero ht
    rw [hk]; exact fresh_w4 k (by omega)
  rw [(dats m 0 c).before_out_traj 4 rfl (fun _ _ => rfl) (fun t h0 _ _ => by rw [after_w4, after_w4]) t.val t rfl d, hf]
  exact (if_neg Bool.false_ne_true).trans (after_w4 m c _)

/-! ## The body obligation -/

theorem defs_row (t : Fin cfg0.N) : (defs₀ (F := F)) .tc cfg0.body (cfg0.bodyArgs t (cfg0.slots t)) = bodyAt0 t := by
  unfold defs₀; rw [Defs.onTc_tc]

set_option backward.isDefEq.respectTransparency.types false in
theorem body_obligation (c : Dev nD) : BodyObligation (dats (F := F) m 0 c) (defs₀ (F := F)) 𝒱₀ () Set.univ := fun t => by
  have hN : t.val < 30 := lt_of_lt_of_eq t.isLt N_0
  rw [bigSep_W0, bigSep_W0, idle_w4, flush_w4]
  dsimp only
  simp only [before_w0, before_w1, before_w2, after_w0, after_w1, after_w2, after_w3, after_w4]
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  unfold owns
  rcases eq_or_ne t.val 0 with ht | ht
  · rw [decide_eq_true ht, Bool.not_true]
    dsimp only
    iintro ⟨HB, ⟨%O, -, HW⟩, ⟨%d0, %g1, %e1, H1⟩, ⟨%d1, %g2, %e2, H2⟩, ⟨%d2, %g3, %e3, H3⟩, ⟨%d3, %g4, -, H4⟩, ⟨%d4, %g5, -, H5⟩⟩
    sl_rw [defs_row t]
    iapply (body_first c (st0_0 t) _ (st0_1 t) _ (st0_2 t) _ (st0_3 t) _ (st0_4 t) _ g1 g2 g3 t ht g4 g5 O _)
    isplitl [HW H1 H2 H3 H4 H5]
    · isplitl [HW]; · iexact HW
      isplitl [H1 H2 H3]
      · isplitl [H1]; · iexact H1
        isplitl [H2]; · iexact H2
        iexact H3
      isplitl [H4]; · iexact H4
      iexact H5
    iintro ⟨⟨%O', HW⟩, ⟨H1, H2, H3⟩, ⟨%f4, %hf4, H4⟩, ⟨%f5, %hf5, H5⟩⟩
    isplitl [HB]; · iexact HB
    isplitl [HW]
    · iexists O'; isplitr; · ipureintro; exact fun _ _ => Or.inl trivial
      iexact HW
    isplitl [H1]
    · iexists g1; isplitr; · ipureintro; exact e1
      iexact H1
    isplitl [H2]
    · iexists g2; isplitr; · ipureintro; exact e2
      iexact H2
    isplitl [H3]
    · iexists g3; isplitr; · ipureintro; exact e3
      iexact H3
    isplitl [H4]
    · iexists f4; isplitr
      · ipureintro
        refine hf4.trans ?_
        rw [e1]; rfl
      iexact H4
    iexists f5; isplitr
    · ipureintro
      refine hf5.trans ?_
      have : t = p0 := Fin.ext ht
      rw [e2, e3, this]; rfl
    iexact H5
  rw [decide_eq_false ht, Bool.not_false]
  dsimp only
  simp only [before_w4 m c t ht]
  iintro ⟨HB, ⟨%O, -, HW⟩, ⟨%d0, %g1, %e1, H1⟩, ⟨%d1, %g2, %e2, H2⟩, ⟨%d2, %g3, %e3, H3⟩, ⟨%d3, %g4, -, H4⟩, H5⟩
  sl_rw [defs_row t]
  iapply (body_later c (st0_0 t) _ (st0_1 t) _ (st0_2 t) _ (st0_3 t) _ (st0_4 t) _ g1 g2 g3 t ht g4 O _)
  isplitl [HW H1 H2 H3 H4]
  · isplitl [HW]; · iexact HW
    isplitl [H1 H2 H3]
    · isplitl [H1]; · iexact H1
      isplitl [H2]; · iexact H2
      iexact H3
    iexact H4
  iintro ⟨⟨%O', HW⟩, ⟨H1, H2, H3⟩, ⟨%f4, %hf4, H4⟩⟩
  isplitl [HB]; · iexact HB
  isplitl [HW]
  · iexists O'; isplitr; · ipureintro; exact fun _ _ => Or.inl trivial
    iexact HW
  isplitl [H1]
  · iexists g1; isplitr; · ipureintro; exact e1
    iexact H1
  isplitl [H2]
  · iexists g2; isplitr; · ipureintro; exact e2
    iexact H2
  isplitl [H3]
  · iexists g3; isplitr; · ipureintro; exact e3
    iexact H3
  isplitl [H4]
  · iexists f4; isplitr
    · ipureintro
      refine hf4.trans ?_
      rw [e1]; rfl
    iexact H4
  rcases eq_or_ne t.val 29 with h29 | h29
  · rw [decide_eq_true h29]
    icases H5 with ⟨%d4, %g5, %e5, H5⟩
    iexists g5; isplitr; · ipureintro; exact e5
    iexact H5
  · rw [decide_eq_false h29]
    iexact H5

/-! ## The run -/

/-- The two results as the run leaves them. -/
def MAIN (c : Dev nD) : Buf (Elt F) ((c : Thread nD τ).loc main_v1_0) := (dats m 0 c).arrAt 3 cfg0.N
def GATES (c : Dev nD) : Buf (Elt F) ((c : Thread nD τ).loc main_v1_1) := (dats m 0 c).arrAt 4 cfg0.N
/-- The end: the results, and the argument as launched. -/
def QE (c : Dev nD) (s : MemSt nD τ sig (Elt F)) : Prop :=
  s.mem ((c : Thread nD τ).loc main_v1_0) = MAIN m c
    ∧ s.mem ((c : Thread nD τ).loc main_v1_1) = GATES m c
    ∧ s.mem ((c : Thread nD τ).loc main_arg0) = m ((c : Thread nD τ).loc main_arg0)

/-- For any float values, from any memory with zero counters: every weakly fair execution of the program terminates,
    and every final state has both results as laid out, the argument as launched and every counter at zero. -/
theorem run_main : θ_run defs (onTc (τ := τ) (main (F := F))) ⟨m, fun _ => 0, ρ⟩ (fun r => (∀ c : Dev nD, QE m c r.2) ∧ r.2.sem = fun _ => 0) :=
  Pipeline.θ_run_frame_shared cfgs (dats m) 0 launch₀0 defs₀ 𝒱₀ m ρ main
    (hbody := fun c => (body_obligation m c).loose) (hq := fun _ _ _ => rfl) (howed := fun _ _ => rfl)
    (V := V m) (hmain := hmain m 𝒱₀) (hA := fun _ _ => rfl) (hΦ := fun _ _ => rfl)
    (Q' := fun r => (∀ c : Dev nD, QE m c r.2) ∧ r.2.sem = fun _ => 0)
    (hQ' := fun r h => ⟨fun c => ⟨((h.1 : Pipeline.FramePost cfgs (dats m) 0 (V m) r) c).1 3, (h.1 c).1 4,
      ((h.1 c).2 main_arg0 (Pipeline.mem_restRefs_of main_arg0 (by decide) (by decide))).trans (V_main_arg0 m c)⟩, h.2⟩)

end Launch
end Cert.Kernel3Ideal
-- ==== Proof.PrepFrames.lean ====
module

public import proofs.«01_k».proof.Defs
public import proofs.«01_k».proof.Proof.PrepRun
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Lib.Quiescent

@[expose] public section

/-!
# The frames of the weights' layout

One run, over any float values, read twice; and the reference's.
-/

noncomputable section

namespace Cert.Proof

open Idealize.ShloMosaic Idealize.SL.Sem

/-- The argument as launched and every counter at zero, over any float values. -/
theorem prep_frame {F : FTy → Type} [FloatOps F] (m : (ℓ : Loc Cert.Kernel3Ideal.nD Cert.Kernel3Ideal.τ Cert.Kernel3Ideal.sig) → Buf (Elt F) ℓ)
    (ρ : Dev Cert.Kernel3Ideal.nD → PrngReg) :
    θ_run (Cert.Kernel3Ideal.defs (F := F)) (onTc (τ := Cert.Kernel3Ideal.τ) (Cert.Kernel3Ideal.main (F := F))) ⟨m, fun _ => 0, ρ⟩ (fun r =>
      (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0) :=
  (θ_run Cert.Kernel3Ideal.defs _ _).mono (fun _ h => ⟨fun c => (h.1 c).2.2, h.2⟩) (Cert.Kernel3Ideal.run_main (F := F) m ρ)

/-- The idealized kernel ends with its argument as launched and every counter at zero. -/
theorem frame_prep_ideal : Cert.quiescent_Kernel3Ideal (hKernel3Ideal := Cert.Kernel3Ideal.Gen.facts) := fun m ρ _ => prep_frame m ρ

/-- The two readings have one table of bodies. -/
theorem prep_bodies : Cert.Kernel3.defs₀ (F := Bits) = Cert.Kernel3Ideal.defs₀ (F := Bits) :=
  congrArg Defs.onTc (funext fun ℓ => funext fun a => match ℓ, a with
    | 0, (t, s) => rfl
    | ⟨_ + 1, h⟩, _ => absurd h (Nat.not_lt.2 (Nat.le_add_left _ _)))
theorem prep_defs : Cert.Kernel3.defs (F := Bits) = Cert.Kernel3Ideal.defs (F := Bits) := congrArg (Pipeline.defs _) prep_bodies

/-- And so does the kernel on bit patterns. -/
theorem frame_prep_kernel : Cert.quiescent_Kernel3 (hKernel3 := Cert.Kernel3.Gen.facts) := fun m ρ _ => by
  exact Eq.mpr (congrArg (fun D => θ_run D (onTc (τ := Cert.Kernel3.τ) (Cert.Kernel3.main (F := Bits))) ⟨m, fun _ => 0, ρ⟩ _) prep_defs) (prep_frame (F := Bits) m ρ)

/-- The reference halts, faults nowhere and leaves its argument and semaphores as they were. -/
theorem frame_prep_reference : Cert.quiescent_Reference3Ideal (hReference3Ideal := Cert.Reference3Ideal.Gen.facts) := by
  intro m g _
  exact (θ_run Cert.Reference3Ideal.defs _ _).mono
    (fun r h => ⟨fun c => (h c).2.2, sem_eq_zero_of_no_sems (by decide) r.2⟩)
    (Cert.Reference3Ideal.Value.run (F := Ideal) m g)

end Cert.Proof

end
-- ==== Proof.PrepValue.lean ====
module

public import proofs.«01_k».proof.Proof.PrepRun
public import Idealize.ShloMosaic.Lib.Pointwise
public import Idealize.ShloMosaic.Lib.Pipeline.ValueKit
public import Idealize.ShloMosaic.Lib.Claim

@[expose] public section

/-!
# The laid-out weights at an element, over the extended reals

Rounding is the identity there: each result's row is a row of the transposed weights, or zero.
-/

set_option maxRecDepth 16384

noncomputable section

namespace Cert.Kernel3Ideal.Value

open Cert.Kernel3Ideal Cert.Kernel3Ideal.Gen
open Idealize.ShloMosaic Idealize.ShloMosaic.TcCoe
open Idealize.ShloMosaic.Pipeline (Dat Cfg Window)

/-- The row of the weights that row `r` of the first result is. -/
def src (r : ℕ) : ℕ := r + (if 8192 ≤ r then 8 else 0) + (if 13312 ≤ r then 48 else 0)
theorem src_lt (r : ℕ) (h : r < 15360) : src r < 15416 := by unfold src; split <;> split <;> omega
/-- The two results, of the transposed weights. -/
def mainArr (X : FVec Ideal S15416x4096 .f32) : FVec Ideal S15360x4096 .bf16 := fun y => X (ix2 ⟨src (y 0).val, src_lt _ (y 0).isLt⟩ (y 1))
def gateArr (X : FVec Ideal S15416x4096 .f32) : FVec Ideal S128x4096 .bf16 := fun y =>
  if h : (y 0).val < 8 then X (ix2 ⟨8192 + (y 0).val, by omega⟩ (y 1))
  else if h' : (y 0).val - 8 < 48 then X (ix2 ⟨13320 + ((y 0).val - 8), by omega⟩ (y 1)) else 0

/-! ## The blocks -/

theorem idx_rows : ∀ t : Fin cfg0.N, cc0_transform_0 (cfg0.grid.coords t) = ![512 * t.val + (if 16 ≤ t.val then 8 else 0) + (if 26 ≤ t.val then 48 else 0), 0] :=
  (by decide +kernel : ∀ t : Fin grid0.N, cc0_transform_0 (grid0.coords t) = ![512 * t.val + (if 16 ≤ t.val then 8 else 0) + (if 26 ≤ t.val then 48 else 0), 0])
theorem idx_gates : ∀ t : Fin cfg0.N, cc0_transform_1 (cfg0.grid.coords t) = ![8192, 0] ∧ cc0_transform_2 (cfg0.grid.coords t) = ![13320, 0] :=
  (by decide +kernel : ∀ t : Fin grid0.N, cc0_transform_1 (grid0.coords t) = ![8192, 0] ∧ cc0_transform_2 (grid0.coords t) = ![13320, 0])
theorem idx_out : ∀ t : Fin cfg0.N, win0_3.index t = ![t.val, 0] ∧ win0_4.index t = ![0, 0] :=
  (by decide +kernel : ∀ t : Fin grid0.N, _)

/-- What the kernel makes of the two blocks of gates. -/
theorem pay2_at (a : FVec Ideal S8x4096 .f32) (b : FVec Ideal S48x4096 .f32) (p : Fin 128) (s : Fin 4096) :
    k0_pay2 (F := Ideal) a b (ix2 p s)
      = if h : p.val < 8 then a (ix2 ⟨p.val, h⟩ s) else if h' : p.val - 8 < 48 then b (ix2 ⟨p.val - 8, h'⟩ s) else 0 := by
  pointwise [k0_pay2]
theorem pay1_at (a : FVec Ideal S512x4096 .f32) (p : Fin 512) (s : Fin 4096) : k0_pay1 (F := Ideal) a (ix2 p s) = a (ix2 p s) := by
  pointwise [k0_pay1]

section Blocks
variable (m : (ℓ : Loc nD τ sig) → Buf (Elt Ideal) ℓ) (c : Dev nD)

theorem t_lt (t : Fin cfg0.N) : t.val < 30 := lt_of_lt_of_eq t.isLt N_0

/-- The transposed weights, as an array of numbers. -/
abbrev xs : FVec Ideal S15416x4096 .f32 := V m c main_v0
/-- They hold the argument's columns as rows. -/
theorem entry_x : xs m c = transpose S15416x4096 [1, 0] (m ((c.tc : Thread nD τ).loc main_arg0)) transposes_S4096x15416_S15416x4096_1_0 := by
  unfold xs
  entry_read
  rfl

theorem rows_at (t : Fin cfg0.N) (p : Fin 512) (s : Fin 4096) :
    (iblk m c 0 t : FVec Ideal S512x4096 .f32) (ix2 p s)
      = xs m c (ix2 (⟨src (512 * t.val + p.val), src_lt _ (by have := t_lt t; omega)⟩ : Fin 15416) s) := by
  refine congrArg (xs m c) (funext fun a => ?_)
  have h := idx_rows t
  fin_cases a
  · refine Fin.ext ?_
    show cc0_transform_0 (cfg0.grid.coords t) 0 + 1 * p.val = src (512 * t.val + p.val)
    rw [h]
    show 512 * t.val + (if 16 ≤ t.val then 8 else 0) + (if 26 ≤ t.val then 48 else 0) + 1 * p.val = src (512 * t.val + p.val)
    unfold src
    have := p.isLt
    split <;> split <;> split <;> split <;> omega
  · refine Fin.ext ?_
    show cc0_transform_0 (cfg0.grid.coords t) 1 + 1 * s.val = s.val
    rw [h]
    show 0 + 1 * s.val = s.val
    omega
theorem gate8_at (t : Fin cfg0.N) (p : Fin 8) (s : Fin 4096) :
    (iblk m c 1 t : FVec Ideal S8x4096 .f32) (ix2 p s) = xs m c (ix2 (⟨8192 + p.val, by omega⟩ : Fin 15416) s) := by
  refine congrArg (xs m c) (funext fun a => ?_)
  have h := (idx_gates t).1
  fin_cases a
  · refine Fin.ext ?_
    show cc0_transform_1 (cfg0.grid.coords t) 0 + 1 * p.val = 8192 + p.val
    rw [h]
    show 8192 + 1 * p.val = 8192 + p.val
    omega
  · refine Fin.ext ?_
    show cc0_transform_1 (cfg0.grid.coords t) 1 + 1 * s.val = s.val
    rw [h]
    show 0 + 1 * s.val = s.val
    omega
theorem gate48_at (t : Fin cfg0.N) (p : Fin 48) (s : Fin 4096) :
    (iblk m c 2 t : FVec Ideal S48x4096 .f32) (ix2 p s) = xs m c (ix2 (⟨13320 + p.val, by omega⟩ : Fin 15416) s) := by
  refine congrArg (xs m c) (funext fun a => ?_)
  have h := (idx_gates t).2
  fin_cases a
  · refine Fin.ext ?_
    show cc0_transform_2 (cfg0.grid.coords t) 0 + 1 * p.val = 13320 + p.val
    rw [h]
    show 13320 + 1 * p.val = 13320 + p.val
    omega
  · refine Fin.ext ?_
    show cc0_transform_2 (cfg0.grid.coords t) 1 + 1 * s.val = s.val
    rw [h]
    show 0 + 1 * s.val = s.val
    omega

/-- A point's block of the first result. -/
theorem rows_point (t : Fin cfg0.N) (y : S512x4096.Idx) :
    rowsAt m c t y = mainArr (xs m c) (ix2 (⟨512 * t.val + (y 0).val, by have := t_lt t; have h : (y 0).val < 512 := (y 0).isLt; omega⟩ : Fin 15360) (y 1)) := by
  obtain ⟨p, q, rfl⟩ : ∃ (p : Fin 512) (q : Fin 4096), y = ix2 p q := ⟨y 0, y 1, eq_ix2 y⟩
  unfold rowsAt
  exact (pay1_at _ p q).trans (rows_at m c t p q)
/-- The gates' rows. -/
theorem gates_point (y : S128x4096.Idx) : gateRows m c y = gateArr (xs m c) y := by
  obtain ⟨p, q, rfl⟩ : ∃ (p : Fin 128) (q : Fin 4096), y = ix2 p q := ⟨y 0, y 1, eq_ix2 y⟩
  unfold gateRows
  refine (pay2_at _ _ p q).trans ?_
  simp only [gate8_at, gate48_at]
  rfl

/-- The results as the run leaves them. -/
theorem main_value : MAIN m c = mainArr (xs m c) := by
  unfold MAIN
  refine (dats m 0 c).arrAt_eq_of_covers 3 _ (by decide +kernel) fun t _ y => ?_
  have h := (idx_out t).1
  blk_simp
  rw [after_w3]
  refine (rows_point m c t y).trans (congrArg (mainArr (xs m c)) ?_)
  funext a
  fin_cases a
  · refine Fin.ext ?_
    blk_simp [h]
    show 512 * t.val + (y 0).val = t.val * 512 + (y 0).val
    omega
  · refine Fin.ext ?_
    blk_simp [h]
    rfl
theorem gates_value : GATES m c = gateArr (xs m c) := by
  unfold GATES
  refine (dats m 0 c).arrAt_eq_of_covers 4 _ (by decide +kernel) fun t _ y => ?_
  have h := (idx_out t).2
  blk_simp
  rw [after_w4]
  refine (gates_point m c y).trans (congrArg (gateArr (xs m c)) ?_)
  funext a
  fin_cases a
  · refine Fin.ext ?_
    blk_simp [h]
  · refine Fin.ext ?_
    blk_simp [h]

end Blocks
end Cert.Kernel3Ideal.Value
-- ==== Proof.PrepRefValue.lean ====
module

public import proofs.«01_k».proof.Defs
public import proofs.«01_k».proof.Proof.Gen.Reference3Ideal
public import Idealize.ShloMosaic.Lib.Pointwise

@[expose] public section

/-!
# The weights' reference at an element, over the extended reals

Each result's row is a row of the transposed weights, or zero.
-/

set_option maxRecDepth 16384

noncomputable section

namespace Cert.Reference3Ideal.Ref

open Cert.Reference3Ideal Cert.Reference3Ideal.Facts Cert.Reference3Ideal.Gen
open Idealize.ShloMosaic

variable (X : FVec Ideal S15416x4096 .f32)

/-- The projections' rows together. -/
def main : FVec Ideal S15360x4096 .bf16 :=
  concatenate S15360x4096 0 [⟨S8192x4096, extractStridedSlice S8192x4096 ![0, 0] (truncf .bf16 X bitsLt_bf16_f32) slices_S15416x4096_S8192x4096_0_0⟩,
    ⟨S5120x4096, extractStridedSlice S5120x4096 ![8200, 0] (truncf .bf16 X bitsLt_bf16_f32) slices_S15416x4096_S5120x4096_8200_0⟩,
    ⟨S2048x4096, extractStridedSlice S2048x4096 ![13368, 0] (truncf .bf16 X bitsLt_bf16_f32) slices_S15416x4096_S2048x4096_13368_0⟩]
    concatenates_S8192x4096_S5120x4096_S2048x4096_S15360x4096_d0
theorem main_at (r : Fin 15360) (s : Fin 4096) : main X (ix2 r s)
    = if h : r.val < 8192 then X (ix2 ⟨r.val, by omega⟩ s) else if h' : r.val - 8192 < 5120 then X (ix2 ⟨8200 + (r.val - 8192), by omega⟩ s)
      else X (ix2 ⟨13368 + (r.val - 8192 - 5120), by omega⟩ s) := by
  pointwise [main]

/-- The gates' rows together, and zeros. -/
def gates : FVec Ideal S128x4096 .bf16 :=
  concatenate S128x4096 0 [⟨S8x4096, extractStridedSlice S8x4096 ![8192, 0] (truncf .bf16 X bitsLt_bf16_f32) slices_S15416x4096_S8x4096_8192_0⟩,
    ⟨S48x4096, extractStridedSlice S48x4096 ![13320, 0] (truncf .bf16 X bitsLt_bf16_f32) slices_S15416x4096_S48x4096_13320_0⟩,
    ⟨S72x4096, broadcastInDim S72x4096 ![] bcast_S_S72x4096 (constant S_ .bf16 0x0000#16)⟩] concatenates_S8x4096_S48x4096_S72x4096_S128x4096_d0
theorem gates_at (r : Fin 128) (s : Fin 4096) : gates X (ix2 r s)
    = if h : r.val < 8 then X (ix2 ⟨8192 + r.val, by omega⟩ s) else if h' : r.val - 8 < 48 then X (ix2 ⟨13320 + (r.val - 8), by omega⟩ s) else 0 := by
  pointwise [gates]

end Cert.Reference3Ideal.Ref
-- ==== Proof.PrepAlgebraic.lean ====
module

public import proofs.«01_k».proof.Proof.PrepValue
public import proofs.«01_k».proof.Proof.PrepRefValue
public import proofs.«01_k».proof.Proof.Gen.Reference3Ideal.Run
public import Idealize.ShloMosaic.Lib.Claim

@[expose] public section

/-!
# The laid-out weights are the reference's

Row by row each result is the same row of the transposed weights; the runs then agree.
-/

set_option maxRecDepth 16384

noncomputable section

namespace Cert.Kernel3Ideal.Value

open Cert.Kernel3Ideal Cert.Kernel3Ideal.Gen
open Idealize.ShloMosaic Idealize.ShloMosaic.TcCoe

/-- The kernel's rows are the reference's, -/
theorem main_eq_ref (X : FVec Ideal S15416x4096 .f32) : mainArr X = Cert.Reference3Ideal.Ref.main X := by
  funext y
  obtain ⟨r, s, rfl⟩ : ∃ (r : Fin 15360) (s : Fin 4096), y = ix2 r s := ⟨y 0, y 1, eq_ix2 y⟩
  refine Eq.trans ?_ (Cert.Reference3Ideal.Ref.main_at X r s).symm
  have e : ∀ (n : ℕ) (hn : n < 15416), src r.val = n → mainArr X (ix2 r s) = X (ix2 ⟨n, hn⟩ s) := fun n hn h =>
    congrArg (fun z : Fin 15416 => X (ix2 z s)) (Fin.ext h)
  have hr := r.isLt
  split
  · exact e _ _ (by unfold src; split <;> split <;> omega)
  · split
    · exact e _ _ (by unfold src; split <;> split <;> omega)
    · exact e _ _ (by unfold src; split <;> split <;> omega)
/-- and so are the gates'. -/
theorem gates_eq_ref (X : FVec Ideal S15416x4096 .f32) : gateArr X = Cert.Reference3Ideal.Ref.gates X := by
  funext y
  obtain ⟨r, s, rfl⟩ : ∃ (r : Fin 128) (s : Fin 4096), y = ix2 r s := ⟨y 0, y 1, eq_ix2 y⟩
  exact (Cert.Reference3Ideal.Ref.gates_at X r s).symm

variable (m : (ℓ : Loc nD τ sig) → Buf (Elt Ideal) ℓ) (c : Dev nD)

/-- The kernel's two results. -/
theorem value_main : MAIN m c = Cert.Reference3Ideal.Ref.main (transpose S15416x4096 [1, 0] (m ((c.tc : Thread nD τ).loc main_arg0)) transposes_S4096x15416_S15416x4096_1_0) := by
  refine (main_value m c).trans ((main_eq_ref _).trans ?_)
  rw [entry_x]
theorem value_gates : GATES m c = Cert.Reference3Ideal.Ref.gates (transpose S15416x4096 [1, 0] (m ((c.tc : Thread nD τ).loc main_arg0)) transposes_S4096x15416_S15416x4096_1_0) := by
  refine (gates_value m c).trans ((gates_eq_ref _).trans ?_)
  rw [entry_x]

end Cert.Kernel3Ideal.Value

namespace Cert.Proof

open Idealize.ShloMosaic Idealize.SL.Sem

/-- From memories agreeing on the argument, the kernel and the reference end with the same two results. -/
theorem prep_algebraic : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.MAIN m c, fun c => Cert.Kernel3Ideal.GATES m c,
    (θ_run Cert.Kernel3Ideal.defs _ _).mono (fun r h c => h.1 c) (Cert.Kernel3Ideal.run_main (F := Ideal) m g),
    (θ_run Cert.Reference3Ideal.defs _ _).mono (fun r h c => ⟨(h c).1.trans ?_, (h c).2.1.trans ?_, (h c).2.2⟩) (Cert.Reference3Ideal.Value.run (F := Ideal) m' g')⟩
  · rw [hagree c]
    exact (Cert.Kernel3Ideal.Value.value_main m c).symm
  · rw [hagree c]
    exact (Cert.Kernel3Ideal.Value.value_gates m c).symm

end Cert.Proof
-- ==== Proof.lean ====
module

public import proofs.«01_k».proof.Defs
public import proofs.«01_k».proof.Proof.Frames
public import proofs.«01_k».proof.Proof.FrameRef
public import proofs.«01_k».proof.Proof.Algebraic
public import proofs.«01_k».proof.Proof.InFrames
public import proofs.«01_k».proof.Proof.InAlgebraic
public import proofs.«01_k».proof.Proof.PrepFrames
public import proofs.«01_k».proof.Proof.PrepAlgebraic
public import proofs.«01_k».proof.Proof.Gen.Kernel3
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Kernel2
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Reference2Ideal.Run

@[expose] public section

namespace Cert.Proof

open Idealize.ShloMosaic Idealize.SL.Sem

/-- For each of the three calls: the three frames, the idealization (which rewrites nothing) and the equality of results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_ideal, frame_reference, frame_in_kernel, frame_in_ideal, frame_in_reference,
  frame_prep_kernel, frame_prep_ideal, frame_prep_reference,
  trivial, algebraic, trivial, in_algebraic, trivial, prep_algebraic⟩

end Cert.Proof

end
